-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_OddInDw (m : (ℓ : Loc Cert.OddInDw.nD Cert.OddInDw.τ Cert.OddInDw.sig) → Buf (Elt Bits) ℓ) : Prop :=
  True

def Pre_OddInDwIdeal (m : (ℓ : Loc Cert.OddInDwIdeal.nD Cert.OddInDwIdeal.τ Cert.OddInDwIdeal.sig) → Buf (Elt Ideal) ℓ) : Prop :=
  True

def Pre_OddInDwReferenceIdeal (m : (ℓ : Loc Cert.OddInDwReferenceIdeal.nD Cert.OddInDwReferenceIdeal.τ Cert.OddInDwReferenceIdeal.sig) → Buf (Elt Ideal) ℓ) : Prop :=
  True

def Pre_EvenInDw (m : (ℓ : Loc Cert.EvenInDw.nD Cert.EvenInDw.τ Cert.EvenInDw.sig) → Buf (Elt Bits) ℓ) : Prop :=
  True

def Pre_EvenInDwIdeal (m : (ℓ : Loc Cert.EvenInDwIdeal.nD Cert.EvenInDwIdeal.τ Cert.EvenInDwIdeal.sig) → Buf (Elt Ideal) ℓ) : Prop :=
  True

def Pre_EvenInDwReferenceIdeal (m : (ℓ : Loc Cert.EvenInDwReferenceIdeal.nD Cert.EvenInDwReferenceIdeal.τ Cert.EvenInDwReferenceIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwReferenceIdeal (m : (ℓ : Loc Cert.OutDwReferenceIdeal.nD Cert.OutDwReferenceIdeal.τ Cert.OutDwReferenceIdeal.sig) → Buf (Elt Ideal) ℓ) : Prop :=
  True

def Pre_OutDy (m : (ℓ : Loc Cert.OutDy.nD Cert.OutDy.τ Cert.OutDy.sig) → Buf (Elt Bits) ℓ) : Prop :=
  True

def Pre_OutDyIdeal (m : (ℓ : Loc Cert.OutDyIdeal.nD Cert.OutDyIdeal.τ Cert.OutDyIdeal.sig) → Buf (Elt Ideal) ℓ) : Prop :=
  True

def Pre_OutDyReferenceIdeal (m : (ℓ : Loc Cert.OutDyReferenceIdeal.nD Cert.OutDyReferenceIdeal.τ Cert.OutDyReferenceIdeal.sig) → Buf (Elt Ideal) ℓ) : Prop :=
  True

def Pre_OddIn (m : (ℓ : Loc Cert.OddIn.nD Cert.OddIn.τ Cert.OddIn.sig) → Buf (Elt Bits) ℓ) : Prop :=
  True

def Pre_OddInIdeal (m : (ℓ : Loc Cert.OddInIdeal.nD Cert.OddInIdeal.τ Cert.OddInIdeal.sig) → Buf (Elt Ideal) ℓ) : Prop :=
  True

def Pre_OddInReferenceIdeal (m : (ℓ : Loc Cert.OddInReferenceIdeal.nD Cert.OddInReferenceIdeal.τ Cert.OddInReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdReferenceIdeal (m : (ℓ : Loc Cert.NormBwdReferenceIdeal.nD Cert.NormBwdReferenceIdeal.τ Cert.NormBwdReferenceIdeal.sig) → Buf (Elt Ideal) ℓ) : Prop :=
  True

def Pre_SconvBwd (m : (ℓ : Loc Cert.SconvBwd.nD Cert.SconvBwd.τ Cert.SconvBwd.sig) → Buf (Elt Bits) ℓ) : Prop :=
  True

def Pre_SconvBwdIdeal (m : (ℓ : Loc Cert.SconvBwdIdeal.nD Cert.SconvBwdIdeal.τ Cert.SconvBwdIdeal.sig) → Buf (Elt Ideal) ℓ) : Prop :=
  True

def Pre_SconvBwdIdeal_finite [hPre_finite : Cert.Pre_finite.Facts] (m : (ℓ : Loc Cert.SconvBwdIdeal.nD Cert.SconvBwdIdeal.τ Cert.SconvBwdIdeal.sig) → Buf (Elt Ideal) ℓ) : Prop :=
  ∀ c : Dev Cert.SconvBwdIdeal.nD,
    (Cert.Pre_finite.fn (F := Ideal) (m ((c.tc : Thread Cert.SconvBwdIdeal.nD Cert.SconvBwdIdeal.τ).loc Cert.SconvBwdIdeal.main_arg0)) (m ((c.tc : Thread Cert.SconvBwdIdeal.nD Cert.SconvBwdIdeal.τ).loc Cert.SconvBwdIdeal.main_arg1)) (m ((c.tc : Thread Cert.SconvBwdIdeal.nD Cert.SconvBwdIdeal.τ).loc Cert.SconvBwdIdeal.main_arg2))).1 = (fun _ => 1#1)
    ∧ (Cert.Pre_finite.fn (F := Ideal) (m ((c.tc : Thread Cert.SconvBwdIdeal.nD Cert.SconvBwdIdeal.τ).loc Cert.SconvBwdIdeal.main_arg0)) (m ((c.tc : Thread Cert.SconvBwdIdeal.nD Cert.SconvBwdIdeal.τ).loc Cert.SconvBwdIdeal.main_arg1)) (m ((c.tc : Thread Cert.SconvBwdIdeal.nD Cert.SconvBwdIdeal.τ).loc Cert.SconvBwdIdeal.main_arg2))).2.1 = (fun _ => 1#1)
    ∧ (Cert.Pre_finite.fn (F := Ideal) (m ((c.tc : Thread Cert.SconvBwdIdeal.nD Cert.SconvBwdIdeal.τ).loc Cert.SconvBwdIdeal.main_arg0)) (m ((c.tc : Thread Cert.SconvBwdIdeal.nD Cert.SconvBwdIdeal.τ).loc Cert.SconvBwdIdeal.main_arg1)) (m ((c.tc : Thread Cert.SconvBwdIdeal.nD Cert.SconvBwdIdeal.τ).loc Cert.SconvBwdIdeal.main_arg2))).2.2 = (fun _ => 1#1)

def Pre_SconvBwdReferenceIdeal (m : (ℓ : Loc Cert.SconvBwdReferenceIdeal.nD Cert.SconvBwdReferenceIdeal.τ Cert.SconvBwdReferenceIdeal.sig) → Buf (Elt Ideal) ℓ) : Prop :=
  True

def Pre_SconvBwdReferenceIdeal_finite [hPre_finite : Cert.Pre_finite.Facts] (m : (ℓ : Loc Cert.SconvBwdReferenceIdeal.nD Cert.SconvBwdReferenceIdeal.τ Cert.SconvBwdReferenceIdeal.sig) → Buf (Elt Ideal) ℓ) : Prop :=
  ∀ c : Dev Cert.SconvBwdReferenceIdeal.nD,
    (Cert.Pre_finite.fn (F := Ideal) (m ((c.tc : Thread Cert.SconvBwdReferenceIdeal.nD Cert.SconvBwdReferenceIdeal.τ).loc Cert.SconvBwdReferenceIdeal.main_arg0)) (m ((c.tc : Thread Cert.SconvBwdReferenceIdeal.nD Cert.SconvBwdReferenceIdeal.τ).loc Cert.SconvBwdReferenceIdeal.main_arg1)) (m ((c.tc : Thread Cert.SconvBwdReferenceIdeal.nD Cert.SconvBwdReferenceIdeal.τ).loc Cert.SconvBwdReferenceIdeal.main_arg2))).1 = (fun _ => 1#1)
    ∧ (Cert.Pre_finite.fn (F := Ideal) (m ((c.tc : Thread Cert.SconvBwdReferenceIdeal.nD Cert.SconvBwdReferenceIdeal.τ).loc Cert.SconvBwdReferenceIdeal.main_arg0)) (m ((c.tc : Thread Cert.SconvBwdReferenceIdeal.nD Cert.SconvBwdReferenceIdeal.τ).loc Cert.SconvBwdReferenceIdeal.main_arg1)) (m ((c.tc : Thread Cert.SconvBwdReferenceIdeal.nD Cert.SconvBwdReferenceIdeal.τ).loc Cert.SconvBwdReferenceIdeal.main_arg2))).2.1 = (fun _ => 1#1)
    ∧ (Cert.Pre_finite.fn (F := Ideal) (m ((c.tc : Thread Cert.SconvBwdReferenceIdeal.nD Cert.SconvBwdReferenceIdeal.τ).loc Cert.SconvBwdReferenceIdeal.main_arg0)) (m ((c.tc : Thread Cert.SconvBwdReferenceIdeal.nD Cert.SconvBwdReferenceIdeal.τ).loc Cert.SconvBwdReferenceIdeal.main_arg1)) (m ((c.tc : Thread Cert.SconvBwdReferenceIdeal.nD Cert.SconvBwdReferenceIdeal.τ).loc Cert.SconvBwdReferenceIdeal.main_arg2))).2.2 = (fun _ => 1#1)

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdReferenceIdeal (m : (ℓ : Loc Cert.NormFwdReferenceIdeal.nD Cert.NormFwdReferenceIdeal.τ Cert.NormFwdReferenceIdeal.sig) → Buf (Elt Ideal) ℓ) : Prop :=
  True

def Pre_SconvFwd (m : (ℓ : Loc Cert.SconvFwd.nD Cert.SconvFwd.τ Cert.SconvFwd.sig) → Buf (Elt Bits) ℓ) : Prop :=
  True

def Pre_SconvFwdIdeal (m : (ℓ : Loc Cert.SconvFwdIdeal.nD Cert.SconvFwdIdeal.τ Cert.SconvFwdIdeal.sig) → Buf (Elt Ideal) ℓ) : Prop :=
  True

def Pre_SconvFwdReferenceIdeal (m : (ℓ : Loc Cert.SconvFwdReferenceIdeal.nD Cert.SconvFwdReferenceIdeal.τ Cert.SconvFwdReferenceIdeal.sig) → Buf (Elt Ideal) ℓ) : Prop :=
  True

def Pre_GmlpFwd (m : (ℓ : Loc Cert.GmlpFwd.nD Cert.GmlpFwd.τ Cert.GmlpFwd.sig) → Buf (Elt Bits) ℓ) : Prop :=
  True

def Pre_GmlpFwdIdeal (m : (ℓ : Loc Cert.GmlpFwdIdeal.nD Cert.GmlpFwdIdeal.τ Cert.GmlpFwdIdeal.sig) → Buf (Elt Ideal) ℓ) : Prop :=
  True

def Pre_GmlpFwdReferenceIdeal (m : (ℓ : Loc Cert.GmlpFwdReferenceIdeal.nD Cert.GmlpFwdReferenceIdeal.τ Cert.GmlpFwdReferenceIdeal.sig) → Buf (Elt Ideal) ℓ) : Prop :=
  True

def Pre_SsdConvFwd (m : (ℓ : Loc Cert.SsdConvFwd.nD Cert.SsdConvFwd.τ Cert.SsdConvFwd.sig) → Buf (Elt Bits) ℓ) : Prop :=
  True

def Pre_SsdConvFwdIdeal (m : (ℓ : Loc Cert.SsdConvFwdIdeal.nD Cert.SsdConvFwdIdeal.τ Cert.SsdConvFwdIdeal.sig) → Buf (Elt Ideal) ℓ) : Prop :=
  True

def Pre_SsdConvFwdReferenceIdeal (m : (ℓ : Loc Cert.SsdConvFwdReferenceIdeal.nD Cert.SsdConvFwdReferenceIdeal.τ Cert.SsdConvFwdReferenceIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutReferenceIdeal (m : (ℓ : Loc Cert.AdamOutReferenceIdeal.nD Cert.AdamOutReferenceIdeal.τ Cert.AdamOutReferenceIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInReferenceIdeal (m : (ℓ : Loc Cert.AdamInReferenceIdeal.nD Cert.AdamInReferenceIdeal.τ Cert.AdamInReferenceIdeal.sig) → Buf (Elt Ideal) ℓ) : Prop :=
  True

def Pre_AdamRow (m : (ℓ : Loc Cert.AdamRow.nD Cert.AdamRow.τ Cert.AdamRow.sig) → Buf (Elt Bits) ℓ) : Prop :=
  True

def Pre_AdamRowIdeal (m : (ℓ : Loc Cert.AdamRowIdeal.nD Cert.AdamRowIdeal.τ Cert.AdamRowIdeal.sig) → Buf (Elt Ideal) ℓ) : Prop :=
  True

def Pre_AdamRowReferenceIdeal (m : (ℓ : Loc Cert.AdamRowReferenceIdeal.nD Cert.AdamRowReferenceIdeal.τ Cert.AdamRowReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_OddInDw [hOddInDw : Cert.OddInDw.Facts] : Prop :=
  ∀ (m : (ℓ : Loc Cert.OddInDw.nD Cert.OddInDw.τ Cert.OddInDw.sig) → Buf (Elt Bits) ℓ) (g : Dev Cert.OddInDw.nD → PrngReg), Pre_OddInDw m →
    θ_run (Cert.OddInDw.defs (F := Bits)) (onTc (τ := Cert.OddInDw.τ) (Cert.OddInDw.main (F := Bits))) ⟨m, fun _ => 0, g⟩ (fun r => (∀ c : Dev Cert.OddInDw.nD,
      r.2.mem ((c.tc : Thread Cert.OddInDw.nD Cert.OddInDw.τ).loc Cert.OddInDw.main_arg0) = m ((c.tc : Thread Cert.OddInDw.nD Cert.OddInDw.τ).loc Cert.OddInDw.main_arg0)
      ∧ r.2.mem ((c.tc : Thread Cert.OddInDw.nD Cert.OddInDw.τ).loc Cert.OddInDw.main_arg1) = m ((c.tc : Thread Cert.OddInDw.nD Cert.OddInDw.τ).loc Cert.OddInDw.main_arg1))
      ∧ r.2.sem = fun _ => 0)

def quiescent_OddInDwIdeal [hOddInDwIdeal : Cert.OddInDwIdeal.Facts] : Prop :=
  ∀ (m : (ℓ : Loc Cert.OddInDwIdeal.nD Cert.OddInDwIdeal.τ Cert.OddInDwIdeal.sig) → Buf (Elt Ideal) ℓ) (g : Dev Cert.OddInDwIdeal.nD → PrngReg), Pre_OddInDwIdeal m →
    θ_run (Cert.OddInDwIdeal.defs (F := Ideal)) (onTc (τ := Cert.OddInDwIdeal.τ) (Cert.OddInDwIdeal.main (F := Ideal))) ⟨m, fun _ => 0, g⟩ (fun r => (∀ c : Dev Cert.OddInDwIdeal.nD,
      r.2.mem ((c.tc : Thread Cert.OddInDwIdeal.nD Cert.OddInDwIdeal.τ).loc Cert.OddInDwIdeal.main_arg0) = m ((c.tc : Thread Cert.OddInDwIdeal.nD Cert.OddInDwIdeal.τ).loc Cert.OddInDwIdeal.main_arg0)
      ∧ r.2.mem ((c.tc : Thread Cert.OddInDwIdeal.nD Cert.OddInDwIdeal.τ).loc Cert.OddInDwIdeal.main_arg1) = m ((c.tc : Thread Cert.OddInDwIdeal.nD Cert.OddInDwIdeal.τ).loc Cert.OddInDwIdeal.main_arg1))
      ∧ r.2.sem = fun _ => 0)

def quiescent_OddInDwReferenceIdeal [hOddInDwReferenceIdeal : Cert.OddInDwReferenceIdeal.Facts] : Prop :=
  ∀ (m : (ℓ : Loc Cert.OddInDwReferenceIdeal.nD Cert.OddInDwReferenceIdeal.τ Cert.OddInDwReferenceIdeal.sig) → Buf (Elt Ideal) ℓ) (g : Dev Cert.OddInDwReferenceIdeal.nD → PrngReg), Pre_OddInDwReferenceIdeal m →
    θ_run (Cert.OddInDwReferenceIdeal.defs (F := Ideal)) (onTc (τ := Cert.OddInDwReferenceIdeal.τ) (Cert.OddInDwReferenceIdeal.main (F := Ideal))) ⟨m, fun _ => 0, g⟩ (fun r => (∀ c : Dev Cert.OddInDwReferenceIdeal.nD,
      r.2.mem ((c.tc : Thread Cert.OddInDwReferenceIdeal.nD Cert.OddInDwReferenceIdeal.τ).loc Cert.OddInDwReferenceIdeal.main_arg0) = m ((c.tc : Thread Cert.OddInDwReferenceIdeal.nD Cert.OddInDwReferenceIdeal.τ).loc Cert.OddInDwReferenceIdeal.main_arg0)
      ∧ r.2.mem ((c.tc : Thread Cert.OddInDwReferenceIdeal.nD Cert.OddInDwReferenceIdeal.τ).loc Cert.OddInDwReferenceIdeal.main_arg1) = m ((c.tc : Thread Cert.OddInDwReferenceIdeal.nD Cert.OddInDwReferenceIdeal.τ).loc Cert.OddInDwReferenceIdeal.main_arg1))
      ∧ r.2.sem = fun _ => 0)

def quiescent_EvenInDw [hEvenInDw : Cert.EvenInDw.Facts] : Prop :=
  ∀ (m : (ℓ : Loc Cert.EvenInDw.nD Cert.EvenInDw.τ Cert.EvenInDw.sig) → Buf (Elt Bits) ℓ) (g : Dev Cert.EvenInDw.nD → PrngReg), Pre_EvenInDw m →
    θ_run (Cert.EvenInDw.defs (F := Bits)) (onTc (τ := Cert.EvenInDw.τ) (Cert.EvenInDw.main (F := Bits))) ⟨m, fun _ => 0, g⟩ (fun r => (∀ c : Dev Cert.EvenInDw.nD,
      r.2.mem ((c.tc : Thread Cert.EvenInDw.nD Cert.EvenInDw.τ).loc Cert.EvenInDw.main_arg0) = m ((c.tc : Thread Cert.EvenInDw.nD Cert.EvenInDw.τ).loc Cert.EvenInDw.main_arg0)
      ∧ r.2.mem ((c.tc : Thread Cert.EvenInDw.nD Cert.EvenInDw.τ).loc Cert.EvenInDw.main_arg1) = m ((c.tc : Thread Cert.EvenInDw.nD Cert.EvenInDw.τ).loc Cert.EvenInDw.main_arg1))
      ∧ r.2.sem = fun _ => 0)

def quiescent_EvenInDwIdeal [hEvenInDwIdeal : Cert.EvenInDwIdeal.Facts] : Prop :=
  ∀ (m : (ℓ : Loc Cert.EvenInDwIdeal.nD Cert.EvenInDwIdeal.τ Cert.EvenInDwIdeal.sig) → Buf (Elt Ideal) ℓ) (g : Dev Cert.EvenInDwIdeal.nD → PrngReg), Pre_EvenInDwIdeal m →
    θ_run (Cert.EvenInDwIdeal.defs (F := Ideal)) (onTc (τ := Cert.EvenInDwIdeal.τ) (Cert.EvenInDwIdeal.main (F := Ideal))) ⟨m, fun _ => 0, g⟩ (fun r => (∀ c : Dev Cert.EvenInDwIdeal.nD,
      r.2.mem ((c.tc : Thread Cert.EvenInDwIdeal.nD Cert.EvenInDwIdeal.τ).loc Cert.EvenInDwIdeal.main_arg0) = m ((c.tc : Thread Cert.EvenInDwIdeal.nD Cert.EvenInDwIdeal.τ).loc Cert.EvenInDwIdeal.main_arg0)
      ∧ r.2.mem ((c.tc : Thread Cert.EvenInDwIdeal.nD Cert.EvenInDwIdeal.τ).loc Cert.EvenInDwIdeal.main_arg1) = m ((c.tc : Thread Cert.EvenInDwIdeal.nD Cert.EvenInDwIdeal.τ).loc Cert.EvenInDwIdeal.main_arg1))
      ∧ r.2.sem = fun _ => 0)

def quiescent_EvenInDwReferenceIdeal [hEvenInDwReferenceIdeal : Cert.EvenInDwReferenceIdeal.Facts] : Prop :=
  ∀ (m : (ℓ : Loc Cert.EvenInDwReferenceIdeal.nD Cert.EvenInDwReferenceIdeal.τ Cert.EvenInDwReferenceIdeal.sig) → Buf (Elt Ideal) ℓ) (g : Dev Cert.EvenInDwReferenceIdeal.nD → PrngReg), Pre_EvenInDwReferenceIdeal m →
    θ_run (Cert.EvenInDwReferenceIdeal.defs (F := Ideal)) (onTc (τ := Cert.EvenInDwReferenceIdeal.τ) (Cert.EvenInDwReferenceIdeal.main (F := Ideal))) ⟨m, fun _ => 0, g⟩ (fun r => (∀ c : Dev Cert.EvenInDwReferenceIdeal.nD,
      r.2.mem ((c.tc : Thread Cert.EvenInDwReferenceIdeal.nD Cert.EvenInDwReferenceIdeal.τ).loc Cert.EvenInDwReferenceIdeal.main_arg0) = m ((c.tc : Thread Cert.EvenInDwReferenceIdeal.nD Cert.EvenInDwReferenceIdeal.τ).loc Cert.EvenInDwReferenceIdeal.main_arg0)
      ∧ r.2.mem ((c.tc : Thread Cert.EvenInDwReferenceIdeal.nD Cert.EvenInDwReferenceIdeal.τ).loc Cert.EvenInDwReferenceIdeal.main_arg1) = m ((c.tc : Thread Cert.EvenInDwReferenceIdeal.nD Cert.EvenInDwReferenceIdeal.τ).loc Cert.EvenInDwReferenceIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1)
      ∧ r.2.mem ((c.tc : Thread Cert.OutDw.nD Cert.OutDw.τ).loc Cert.OutDw.main_arg2) = m ((c.tc : Thread Cert.OutDw.nD Cert.OutDw.τ).loc Cert.OutDw.main_arg2))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1)
      ∧ r.2.mem ((c.tc : Thread Cert.OutDwIdeal.nD Cert.OutDwIdeal.τ).loc Cert.OutDwIdeal.main_arg2) = m ((c.tc : Thread Cert.OutDwIdeal.nD Cert.OutDwIdeal.τ).loc Cert.OutDwIdeal.main_arg2))
      ∧ r.2.sem = fun _ => 0)

def quiescent_OutDwReferenceIdeal [hOutDwReferenceIdeal : Cert.OutDwReferenceIdeal.Facts] : Prop :=
  ∀ (m : (ℓ : Loc Cert.OutDwReferenceIdeal.nD Cert.OutDwReferenceIdeal.τ Cert.OutDwReferenceIdeal.sig) → Buf (Elt Ideal) ℓ) (g : Dev Cert.OutDwReferenceIdeal.nD → PrngReg), Pre_OutDwReferenceIdeal m →
    θ_run (Cert.OutDwReferenceIdeal.defs (F := Ideal)) (onTc (τ := Cert.OutDwReferenceIdeal.τ) (Cert.OutDwReferenceIdeal.main (F := Ideal))) ⟨m, fun _ => 0, g⟩ (fun r => (∀ c : Dev Cert.OutDwReferenceIdeal.nD,
      r.2.mem ((c.tc : Thread Cert.OutDwReferenceIdeal.nD Cert.OutDwReferenceIdeal.τ).loc Cert.OutDwReferenceIdeal.main_arg0) = m ((c.tc : Thread Cert.OutDwReferenceIdeal.nD Cert.OutDwReferenceIdeal.τ).loc Cert.OutDwReferenceIdeal.main_arg0)
      ∧ r.2.mem ((c.tc : Thread Cert.OutDwReferenceIdeal.nD Cert.OutDwReferenceIdeal.τ).loc Cert.OutDwReferenceIdeal.main_arg1) = m ((c.tc : Thread Cert.OutDwReferenceIdeal.nD Cert.OutDwReferenceIdeal.τ).loc Cert.OutDwReferenceIdeal.main_arg1)
      ∧ r.2.mem ((c.tc : Thread Cert.OutDwReferenceIdeal.nD Cert.OutDwReferenceIdeal.τ).loc Cert.OutDwReferenceIdeal.main_arg2) = m ((c.tc : Thread Cert.OutDwReferenceIdeal.nD Cert.OutDwReferenceIdeal.τ).loc Cert.OutDwReferenceIdeal.main_arg2))
      ∧ r.2.sem = fun _ => 0)

def quiescent_OutDy [hOutDy : Cert.OutDy.Facts] : Prop :=
  ∀ (m : (ℓ : Loc Cert.OutDy.nD Cert.OutDy.τ Cert.OutDy.sig) → Buf (Elt Bits) ℓ) (g : Dev Cert.OutDy.nD → PrngReg), Pre_OutDy m →
    θ_run (Cert.OutDy.defs (F := Bits)) (onTc (τ := Cert.OutDy.τ) (Cert.OutDy.main (F := Bits))) ⟨m, fun _ => 0, g⟩ (fun r => (∀ c : Dev Cert.OutDy.nD,
      r.2.mem ((c.tc : Thread Cert.OutDy.nD Cert.OutDy.τ).loc Cert.OutDy.main_arg0) = m ((c.tc : Thread Cert.OutDy.nD Cert.OutDy.τ).loc Cert.OutDy.main_arg0)
      ∧ r.2.mem ((c.tc : Thread Cert.OutDy.nD Cert.OutDy.τ).loc Cert.OutDy.main_arg1) = m ((c.tc : Thread Cert.OutDy.nD Cert.OutDy.τ).loc Cert.OutDy.main_arg1))
      ∧ r.2.sem = fun _ => 0)

def quiescent_OutDyIdeal [hOutDyIdeal : Cert.OutDyIdeal.Facts] : Prop :=
  ∀ (m : (ℓ : Loc Cert.OutDyIdeal.nD Cert.OutDyIdeal.τ Cert.OutDyIdeal.sig) → Buf (Elt Ideal) ℓ) (g : Dev Cert.OutDyIdeal.nD → PrngReg), Pre_OutDyIdeal m →
    θ_run (Cert.OutDyIdeal.defs (F := Ideal)) (onTc (τ := Cert.OutDyIdeal.τ) (Cert.OutDyIdeal.main (F := Ideal))) ⟨m, fun _ => 0, g⟩ (fun r => (∀ c : Dev Cert.OutDyIdeal.nD,
      r.2.mem ((c.tc : Thread Cert.OutDyIdeal.nD Cert.OutDyIdeal.τ).loc Cert.OutDyIdeal.main_arg0) = m ((c.tc : Thread Cert.OutDyIdeal.nD Cert.OutDyIdeal.τ).loc Cert.OutDyIdeal.main_arg0)
      ∧ r.2.mem ((c.tc : Thread Cert.OutDyIdeal.nD Cert.OutDyIdeal.τ).loc Cert.OutDyIdeal.main_arg1) = m ((c.tc : Thread Cert.OutDyIdeal.nD Cert.OutDyIdeal.τ).loc Cert.OutDyIdeal.main_arg1))
      ∧ r.2.sem = fun _ => 0)

def quiescent_OutDyReferenceIdeal [hOutDyReferenceIdeal : Cert.OutDyReferenceIdeal.Facts] : Prop :=
  ∀ (m : (ℓ : Loc Cert.OutDyReferenceIdeal.nD Cert.OutDyReferenceIdeal.τ Cert.OutDyReferenceIdeal.sig) → Buf (Elt Ideal) ℓ) (g : Dev Cert.OutDyReferenceIdeal.nD → PrngReg), Pre_OutDyReferenceIdeal m →
    θ_run (Cert.OutDyReferenceIdeal.defs (F := Ideal)) (onTc (τ := Cert.OutDyReferenceIdeal.τ) (Cert.OutDyReferenceIdeal.main (F := Ideal))) ⟨m, fun _ => 0, g⟩ (fun r => (∀ c : Dev Cert.OutDyReferenceIdeal.nD,
      r.2.mem ((c.tc : Thread Cert.OutDyReferenceIdeal.nD Cert.OutDyReferenceIdeal.τ).loc Cert.OutDyReferenceIdeal.main_arg0) = m ((c.tc : Thread Cert.OutDyReferenceIdeal.nD Cert.OutDyReferenceIdeal.τ).loc Cert.OutDyReferenceIdeal.main_arg0)
      ∧ r.2.mem ((c.tc : Thread Cert.OutDyReferenceIdeal.nD Cert.OutDyReferenceIdeal.τ).loc Cert.OutDyReferenceIdeal.main_arg1) = m ((c.tc : Thread Cert.OutDyReferenceIdeal.nD Cert.OutDyReferenceIdeal.τ).loc Cert.OutDyReferenceIdeal.main_arg1))
      ∧ r.2.sem = fun _ => 0)

def quiescent_OddIn [hOddIn : Cert.OddIn.Facts] : Prop :=
  ∀ (m : (ℓ : Loc Cert.OddIn.nD Cert.OddIn.τ Cert.OddIn.sig) → Buf (Elt Bits) ℓ) (g : Dev Cert.OddIn.nD → PrngReg), Pre_OddIn m →
    θ_run (Cert.OddIn.defs (F := Bits)) (onTc (τ := Cert.OddIn.τ) (Cert.OddIn.main (F := Bits))) ⟨m, fun _ => 0, g⟩ (fun r => (∀ c : Dev Cert.OddIn.nD,
      r.2.mem ((c.tc : Thread Cert.OddIn.nD Cert.OddIn.τ).loc Cert.OddIn.main_arg0) = m ((c.tc : Thread Cert.OddIn.nD Cert.OddIn.τ).loc Cert.OddIn.main_arg0)
      ∧ r.2.mem ((c.tc : Thread Cert.OddIn.nD Cert.OddIn.τ).loc Cert.OddIn.main_arg1) = m ((c.tc : Thread Cert.OddIn.nD Cert.OddIn.τ).loc Cert.OddIn.main_arg1))
      ∧ r.2.sem = fun _ => 0)

def quiescent_OddInIdeal [hOddInIdeal : Cert.OddInIdeal.Facts] : Prop :=
  ∀ (m : (ℓ : Loc Cert.OddInIdeal.nD Cert.OddInIdeal.τ Cert.OddInIdeal.sig) → Buf (Elt Ideal) ℓ) (g : Dev Cert.OddInIdeal.nD → PrngReg), Pre_OddInIdeal m →
    θ_run (Cert.OddInIdeal.defs (F := Ideal)) (onTc (τ := Cert.OddInIdeal.τ) (Cert.OddInIdeal.main (F := Ideal))) ⟨m, fun _ => 0, g⟩ (fun r => (∀ c : Dev Cert.OddInIdeal.nD,
      r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
      ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1))
      ∧ r.2.sem = fun _ => 0)

def quiescent_OddInReferenceIdeal [hOddInReferenceIdeal : Cert.OddInReferenceIdeal.Facts] : Prop :=
  ∀ (m : (ℓ : Loc Cert.OddInReferenceIdeal.nD Cert.OddInReferenceIdeal.τ Cert.OddInReferenceIdeal.sig) → Buf (Elt Ideal) ℓ) (g : Dev Cert.OddInReferenceIdeal.nD → PrngReg), Pre_OddInReferenceIdeal m →
    θ_run (Cert.OddInReferenceIdeal.defs (F := Ideal)) (onTc (τ := Cert.OddInReferenceIdeal.τ) (Cert.OddInReferenceIdeal.main (F := Ideal))) ⟨m, fun _ => 0, g⟩ (fun r => (∀ c : Dev Cert.OddInReferenceIdeal.nD,
      r.2.mem ((c.tc : Thread Cert.OddInReferenceIdeal.nD Cert.OddInReferenceIdeal.τ).loc Cert.OddInReferenceIdeal.main_arg0) = m ((c.tc : Thread Cert.OddInReferenceIdeal.nD Cert.OddInReferenceIdeal.τ).loc Cert.OddInReferenceIdeal.main_arg0)
      ∧ r.2.mem ((c.tc : Thread Cert.OddInReferenceIdeal.nD Cert.OddInReferenceIdeal.τ).loc Cert.OddInReferenceIdeal.main_arg1) = m ((c.tc : Thread Cert.OddInReferenceIdeal.nD Cert.OddInReferenceIdeal.τ).loc Cert.OddInReferenceIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ r.2.sem = fun _ => 0)

def quiescent_NormBwdReferenceIdeal [hNormBwdReferenceIdeal : Cert.NormBwdReferenceIdeal.Facts] : Prop :=
  ∀ (m : (ℓ : Loc Cert.NormBwdReferenceIdeal.nD Cert.NormBwdReferenceIdeal.τ Cert.NormBwdReferenceIdeal.sig) → Buf (Elt Ideal) ℓ) (g : Dev Cert.NormBwdReferenceIdeal.nD → PrngReg), Pre_NormBwdReferenceIdeal m →
    θ_run (Cert.NormBwdReferenceIdeal.defs (F := Ideal)) (onTc (τ := Cert.NormBwdReferenceIdeal.τ) (Cert.NormBwdReferenceIdeal.main (F := Ideal))) ⟨m, fun _ => 0, g⟩ (fun r => (∀ c : Dev Cert.NormBwdReferenceIdeal.nD,
      r.2.mem ((c.tc : Thread Cert.NormBwdReferenceIdeal.nD Cert.NormBwdReferenceIdeal.τ).loc Cert.NormBwdReferenceIdeal.main_arg0) = m ((c.tc : Thread Cert.NormBwdReferenceIdeal.nD Cert.NormBwdReferenceIdeal.τ).loc Cert.NormBwdReferenceIdeal.main_arg0)
      ∧ r.2.mem ((c.tc : Thread Cert.NormBwdReferenceIdeal.nD Cert.NormBwdReferenceIdeal.τ).loc Cert.NormBwdReferenceIdeal.main_arg1) = m ((c.tc : Thread Cert.NormBwdReferenceIdeal.nD Cert.NormBwdReferenceIdeal.τ).loc Cert.NormBwdReferenceIdeal.main_arg1)
      ∧ r.2.mem ((c.tc : Thread Cert.NormBwdReferenceIdeal.nD Cert.NormBwdReferenceIdeal.τ).loc Cert.NormBwdReferenceIdeal.main_arg2) = m ((c.tc : Thread Cert.NormBwdReferenceIdeal.nD Cert.NormBwdReferenceIdeal.τ).loc Cert.NormBwdReferenceIdeal.main_arg2)
      ∧ r.2.mem ((c.tc : Thread Cert.NormBwdReferenceIdeal.nD Cert.NormBwdReferenceIdeal.τ).loc Cert.NormBwdReferenceIdeal.main_arg3) = m ((c.tc : Thread Cert.NormBwdReferenceIdeal.nD Cert.NormBwdReferenceIdeal.τ).loc Cert.NormBwdReferenceIdeal.main_arg3))
      ∧ r.2.sem = fun _ => 0)

def quiescent_SconvBwd [hSconvBwd : Cert.SconvBwd.Facts] : Prop :=
  ∀ (m : (ℓ : Loc Cert.SconvBwd.nD Cert.SconvBwd.τ Cert.SconvBwd.sig) → Buf (Elt Bits) ℓ) (g : Dev Cert.SconvBwd.nD → PrngReg), Pre_SconvBwd m →
    θ_run (Cert.SconvBwd.defs (F := Bits)) (onTc (τ := Cert.SconvBwd.τ) (Cert.SconvBwd.main (F := Bits))) ⟨m, fun _ => 0, g⟩ (fun r => (∀ c : Dev Cert.SconvBwd.nD,
      r.2.mem ((c.tc : Thread Cert.SconvBwd.nD Cert.SconvBwd.τ).loc Cert.SconvBwd.main_arg0) = m ((c.tc : Thread Cert.SconvBwd.nD Cert.SconvBwd.τ).loc Cert.SconvBwd.main_arg0)
      ∧ r.2.mem ((c.tc : Thread Cert.SconvBwd.nD Cert.SconvBwd.τ).loc Cert.SconvBwd.main_arg1) = m ((c.tc : Thread Cert.SconvBwd.nD Cert.SconvBwd.τ).loc Cert.SconvBwd.main_arg1)
      ∧ r.2.mem ((c.tc : Thread Cert.SconvBwd.nD Cert.SconvBwd.τ).loc Cert.SconvBwd.main_arg2) = m ((c.tc : Thread Cert.SconvBwd.nD Cert.SconvBwd.τ).loc Cert.SconvBwd.main_arg2))
      ∧ r.2.sem = fun _ => 0)

def quiescent_SconvBwdIdeal [hSconvBwdIdeal : Cert.SconvBwdIdeal.Facts] : Prop :=
  ∀ (m : (ℓ : Loc Cert.SconvBwdIdeal.nD Cert.SconvBwdIdeal.τ Cert.SconvBwdIdeal.sig) → Buf (Elt Ideal) ℓ) (g : Dev Cert.SconvBwdIdeal.nD → PrngReg), Pre_SconvBwdIdeal m →
    θ_run (Cert.SconvBwdIdeal.defs (F := Ideal)) (onTc (τ := Cert.SconvBwdIdeal.τ) (Cert.SconvBwdIdeal.main (F := Ideal))) ⟨m, fun _ => 0, g⟩ (fun r => (∀ c : Dev Cert.SconvBwdIdeal.nD,
      r.2.mem ((c.tc : Thread Cert.SconvBwdIdeal.nD Cert.SconvBwdIdeal.τ).loc Cert.SconvBwdIdeal.main_arg0) = m ((c.tc : Thread Cert.SconvBwdIdeal.nD Cert.SconvBwdIdeal.τ).loc Cert.SconvBwdIdeal.main_arg0)
      ∧ r.2.mem ((c.tc : Thread Cert.SconvBwdIdeal.nD Cert.SconvBwdIdeal.τ).loc Cert.SconvBwdIdeal.main_arg1) = m ((c.tc : Thread Cert.SconvBwdIdeal.nD Cert.SconvBwdIdeal.τ).loc Cert.SconvBwdIdeal.main_arg1)
      ∧ r.2.mem ((c.tc : Thread Cert.SconvBwdIdeal.nD Cert.SconvBwdIdeal.τ).loc Cert.SconvBwdIdeal.main_arg2) = m ((c.tc : Thread Cert.SconvBwdIdeal.nD Cert.SconvBwdIdeal.τ).loc Cert.SconvBwdIdeal.main_arg2))
      ∧ r.2.sem = fun _ => 0)

def quiescent_SconvBwdIdeal_pre_finite [hSconvBwdIdeal : Cert.SconvBwdIdeal.Facts] [hPre_finite : Cert.Pre_finite.Facts] : Prop :=
  ∀ (m : (ℓ : Loc Cert.SconvBwdIdeal.nD Cert.SconvBwdIdeal.τ Cert.SconvBwdIdeal.sig) → Buf (Elt Ideal) ℓ) (g : Dev Cert.SconvBwdIdeal.nD → PrngReg), Pre_SconvBwdIdeal_finite m →
    θ_run (Cert.SconvBwdIdeal.defs (F := Ideal)) (onTc (τ := Cert.SconvBwdIdeal.τ) (Cert.SconvBwdIdeal.main (F := Ideal))) ⟨m, fun _ => 0, g⟩ (fun r => (∀ c : Dev Cert.SconvBwdIdeal.nD,
      r.2.mem ((c.tc : Thread Cert.SconvBwdIdeal.nD Cert.SconvBwdIdeal.τ).loc Cert.SconvBwdIdeal.main_arg0) = m ((c.tc : Thread Cert.SconvBwdIdeal.nD Cert.SconvBwdIdeal.τ).loc Cert.SconvBwdIdeal.main_arg0)
      ∧ r.2.mem ((c.tc : Thread Cert.SconvBwdIdeal.nD Cert.SconvBwdIdeal.τ).loc Cert.SconvBwdIdeal.main_arg1) = m ((c.tc : Thread Cert.SconvBwdIdeal.nD Cert.SconvBwdIdeal.τ).loc Cert.SconvBwdIdeal.main_arg1)
      ∧ r.2.mem ((c.tc : Thread Cert.SconvBwdIdeal.nD Cert.SconvBwdIdeal.τ).loc Cert.SconvBwdIdeal.main_arg2) = m ((c.tc : Thread Cert.SconvBwdIdeal.nD Cert.SconvBwdIdeal.τ).loc Cert.SconvBwdIdeal.main_arg2))
      ∧ r.2.sem = fun _ => 0)

def quiescent_SconvBwdReferenceIdeal [hSconvBwdReferenceIdeal : Cert.SconvBwdReferenceIdeal.Facts] : Prop :=
  ∀ (m : (ℓ : Loc Cert.SconvBwdReferenceIdeal.nD Cert.SconvBwdReferenceIdeal.τ Cert.SconvBwdReferenceIdeal.sig) → Buf (Elt Ideal) ℓ) (g : Dev Cert.SconvBwdReferenceIdeal.nD → PrngReg), Pre_SconvBwdReferenceIdeal m →
    θ_run (Cert.SconvBwdReferenceIdeal.defs (F := Ideal)) (onTc (τ := Cert.SconvBwdReferenceIdeal.τ) (Cert.SconvBwdReferenceIdeal.main (F := Ideal))) ⟨m, fun _ => 0, g⟩ (fun r => (∀ c : Dev Cert.SconvBwdReferenceIdeal.nD,
      r.2.mem ((c.tc : Thread Cert.SconvBwdReferenceIdeal.nD Cert.SconvBwdReferenceIdeal.τ).loc Cert.SconvBwdReferenceIdeal.main_arg0) = m ((c.tc : Thread Cert.SconvBwdReferenceIdeal.nD Cert.SconvBwdReferenceIdeal.τ).loc Cert.SconvBwdReferenceIdeal.main_arg0)
      ∧ r.2.mem ((c.tc : Thread Cert.SconvBwdReferenceIdeal.nD Cert.SconvBwdReferenceIdeal.τ).loc Cert.SconvBwdReferenceIdeal.main_arg1) = m ((c.tc : Thread Cert.SconvBwdReferenceIdeal.nD Cert.SconvBwdReferenceIdeal.τ).loc Cert.SconvBwdReferenceIdeal.main_arg1)
      ∧ r.2.mem ((c.tc : Thread Cert.SconvBwdReferenceIdeal.nD Cert.SconvBwdReferenceIdeal.τ).loc Cert.SconvBwdReferenceIdeal.main_arg2) = m ((c.tc : Thread Cert.SconvBwdReferenceIdeal.nD Cert.SconvBwdReferenceIdeal.τ).loc Cert.SconvBwdReferenceIdeal.main_arg2))
      ∧ r.2.sem = fun _ => 0)

def quiescent_SconvBwdReferenceIdeal_pre_finite [hSconvBwdReferenceIdeal : Cert.SconvBwdReferenceIdeal.Facts] [hPre_finite : Cert.Pre_finite.Facts] : Prop :=
  ∀ (m : (ℓ : Loc Cert.SconvBwdReferenceIdeal.nD Cert.SconvBwdReferenceIdeal.τ Cert.SconvBwdReferenceIdeal.sig) → Buf (Elt Ideal) ℓ) (g : Dev Cert.SconvBwdReferenceIdeal.nD → PrngReg), Pre_SconvBwdReferenceIdeal_finite m →
    θ_run (Cert.SconvBwdReferenceIdeal.defs (F := Ideal)) (onTc (τ := Cert.SconvBwdReferenceIdeal.τ) (Cert.SconvBwdReferenceIdeal.main (F := Ideal))) ⟨m, fun _ => 0, g⟩ (fun r => (∀ c : Dev Cert.SconvBwdReferenceIdeal.nD,
      r.2.mem ((c.tc : Thread Cert.SconvBwdReferenceIdeal.nD Cert.SconvBwdReferenceIdeal.τ).loc Cert.SconvBwdReferenceIdeal.main_arg0) = m ((c.tc : Thread Cert.SconvBwdReferenceIdeal.nD Cert.SconvBwdReferenceIdeal.τ).loc Cert.SconvBwdReferenceIdeal.main_arg0)
      ∧ r.2.mem ((c.tc : Thread Cert.SconvBwdReferenceIdeal.nD Cert.SconvBwdReferenceIdeal.τ).loc Cert.SconvBwdReferenceIdeal.main_arg1) = m ((c.tc : Thread Cert.SconvBwdReferenceIdeal.nD Cert.SconvBwdReferenceIdeal.τ).loc Cert.SconvBwdReferenceIdeal.main_arg1)
      ∧ r.2.mem ((c.tc : Thread Cert.SconvBwdReferenceIdeal.nD Cert.SconvBwdReferenceIdeal.τ).loc Cert.SconvBwdReferenceIdeal.main_arg2) = m ((c.tc : Thread Cert.SconvBwdReferenceIdeal.nD Cert.SconvBwdReferenceIdeal.τ).loc Cert.SconvBwdReferenceIdeal.main_arg2))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ r.2.sem = fun _ => 0)

def quiescent_NormFwdReferenceIdeal [hNormFwdReferenceIdeal : Cert.NormFwdReferenceIdeal.Facts] : Prop :=
  ∀ (m : (ℓ : Loc Cert.NormFwdReferenceIdeal.nD Cert.NormFwdReferenceIdeal.τ Cert.NormFwdReferenceIdeal.sig) → Buf (Elt Ideal) ℓ) (g : Dev Cert.NormFwdReferenceIdeal.nD → PrngReg), Pre_NormFwdReferenceIdeal m →
    θ_run (Cert.NormFwdReferenceIdeal.defs (F := Ideal)) (onTc (τ := Cert.NormFwdReferenceIdeal.τ) (Cert.NormFwdReferenceIdeal.main (F := Ideal))) ⟨m, fun _ => 0, g⟩ (fun r => (∀ c : Dev Cert.NormFwdReferenceIdeal.nD,
      r.2.mem ((c.tc : Thread Cert.NormFwdReferenceIdeal.nD Cert.NormFwdReferenceIdeal.τ).loc Cert.NormFwdReferenceIdeal.main_arg0) = m ((c.tc : Thread Cert.NormFwdReferenceIdeal.nD Cert.NormFwdReferenceIdeal.τ).loc Cert.NormFwdReferenceIdeal.main_arg0)
      ∧ r.2.mem ((c.tc : Thread Cert.NormFwdReferenceIdeal.nD Cert.NormFwdReferenceIdeal.τ).loc Cert.NormFwdReferenceIdeal.main_arg1) = m ((c.tc : Thread Cert.NormFwdReferenceIdeal.nD Cert.NormFwdReferenceIdeal.τ).loc Cert.NormFwdReferenceIdeal.main_arg1))
      ∧ r.2.sem = fun _ => 0)

def quiescent_SconvFwd [hSconvFwd : Cert.SconvFwd.Facts] : Prop :=
  ∀ (m : (ℓ : Loc Cert.SconvFwd.nD Cert.SconvFwd.τ Cert.SconvFwd.sig) → Buf (Elt Bits) ℓ) (g : Dev Cert.SconvFwd.nD → PrngReg), Pre_SconvFwd m →
    θ_run (Cert.SconvFwd.defs (F := Bits)) (onTc (τ := Cert.SconvFwd.τ) (Cert.SconvFwd.main (F := Bits))) ⟨m, fun _ => 0, g⟩ (fun r => (∀ c : Dev Cert.SconvFwd.nD,
      r.2.mem ((c.tc : Thread Cert.SconvFwd.nD Cert.SconvFwd.τ).loc Cert.SconvFwd.main_arg0) = m ((c.tc : Thread Cert.SconvFwd.nD Cert.SconvFwd.τ).loc Cert.SconvFwd.main_arg0)
      ∧ r.2.mem ((c.tc : Thread Cert.SconvFwd.nD Cert.SconvFwd.τ).loc Cert.SconvFwd.main_arg1) = m ((c.tc : Thread Cert.SconvFwd.nD Cert.SconvFwd.τ).loc Cert.SconvFwd.main_arg1))
      ∧ r.2.sem = fun _ => 0)

def quiescent_SconvFwdIdeal [hSconvFwdIdeal : Cert.SconvFwdIdeal.Facts] : Prop :=
  ∀ (m : (ℓ : Loc Cert.SconvFwdIdeal.nD Cert.SconvFwdIdeal.τ Cert.SconvFwdIdeal.sig) → Buf (Elt Ideal) ℓ) (g : Dev Cert.SconvFwdIdeal.nD → PrngReg), Pre_SconvFwdIdeal m →
    θ_run (Cert.SconvFwdIdeal.defs (F := Ideal)) (onTc (τ := Cert.SconvFwdIdeal.τ) (Cert.SconvFwdIdeal.main (F := Ideal))) ⟨m, fun _ => 0, g⟩ (fun r => (∀ c : Dev Cert.SconvFwdIdeal.nD,
      r.2.mem ((c.tc : Thread Cert.SconvFwdIdeal.nD Cert.SconvFwdIdeal.τ).loc Cert.SconvFwdIdeal.main_arg0) = m ((c.tc : Thread Cert.SconvFwdIdeal.nD Cert.SconvFwdIdeal.τ).loc Cert.SconvFwdIdeal.main_arg0)
      ∧ r.2.mem ((c.tc : Thread Cert.SconvFwdIdeal.nD Cert.SconvFwdIdeal.τ).loc Cert.SconvFwdIdeal.main_arg1) = m ((c.tc : Thread Cert.SconvFwdIdeal.nD Cert.SconvFwdIdeal.τ).loc Cert.SconvFwdIdeal.main_arg1))
      ∧ r.2.sem = fun _ => 0)

def quiescent_SconvFwdReferenceIdeal [hSconvFwdReferenceIdeal : Cert.SconvFwdReferenceIdeal.Facts] : Prop :=
  ∀ (m : (ℓ : Loc Cert.SconvFwdReferenceIdeal.nD Cert.SconvFwdReferenceIdeal.τ Cert.SconvFwdReferenceIdeal.sig) → Buf (Elt Ideal) ℓ) (g : Dev Cert.SconvFwdReferenceIdeal.nD → PrngReg), Pre_SconvFwdReferenceIdeal m →
    θ_run (Cert.SconvFwdReferenceIdeal.defs (F := Ideal)) (onTc (τ := Cert.SconvFwdReferenceIdeal.τ) (Cert.SconvFwdReferenceIdeal.main (F := Ideal))) ⟨m, fun _ => 0, g⟩ (fun r => (∀ c : Dev Cert.SconvFwdReferenceIdeal.nD,
      r.2.mem ((c.tc : Thread Cert.SconvFwdReferenceIdeal.nD Cert.SconvFwdReferenceIdeal.τ).loc Cert.SconvFwdReferenceIdeal.main_arg0) = m ((c.tc : Thread Cert.SconvFwdReferenceIdeal.nD Cert.SconvFwdReferenceIdeal.τ).loc Cert.SconvFwdReferenceIdeal.main_arg0)
      ∧ r.2.mem ((c.tc : Thread Cert.SconvFwdReferenceIdeal.nD Cert.SconvFwdReferenceIdeal.τ).loc Cert.SconvFwdReferenceIdeal.main_arg1) = m ((c.tc : Thread Cert.SconvFwdReferenceIdeal.nD Cert.SconvFwdReferenceIdeal.τ).loc Cert.SconvFwdReferenceIdeal.main_arg1))
      ∧ r.2.sem = fun _ => 0)

def quiescent_GmlpFwd [hGmlpFwd : Cert.GmlpFwd.Facts] : Prop :=
  ∀ (m : (ℓ : Loc Cert.GmlpFwd.nD Cert.GmlpFwd.τ Cert.GmlpFwd.sig) → Buf (Elt Bits) ℓ) (g : Dev Cert.GmlpFwd.nD → PrngReg), Pre_GmlpFwd m →
    θ_run (Cert.GmlpFwd.defs (F := Bits)) (onTc (τ := Cert.GmlpFwd.τ) (Cert.GmlpFwd.main (F := Bits))) ⟨m, fun _ => 0, g⟩ (fun r => (∀ c : Dev Cert.GmlpFwd.nD,
      r.2.mem ((c.tc : Thread Cert.GmlpFwd.nD Cert.GmlpFwd.τ).loc Cert.GmlpFwd.main_arg0) = m ((c.tc : Thread Cert.GmlpFwd.nD Cert.GmlpFwd.τ).loc Cert.GmlpFwd.main_arg0)
      ∧ r.2.mem ((c.tc : Thread Cert.GmlpFwd.nD Cert.GmlpFwd.τ).loc Cert.GmlpFwd.main_arg1) = m ((c.tc : Thread Cert.GmlpFwd.nD Cert.GmlpFwd.τ).loc Cert.GmlpFwd.main_arg1)
      ∧ r.2.mem ((c.tc : Thread Cert.GmlpFwd.nD Cert.GmlpFwd.τ).loc Cert.GmlpFwd.main_arg2) = m ((c.tc : Thread Cert.GmlpFwd.nD Cert.GmlpFwd.τ).loc Cert.GmlpFwd.main_arg2)
      ∧ r.2.mem ((c.tc : Thread Cert.GmlpFwd.nD Cert.GmlpFwd.τ).loc Cert.GmlpFwd.main_arg3) = m ((c.tc : Thread Cert.GmlpFwd.nD Cert.GmlpFwd.τ).loc Cert.GmlpFwd.main_arg3)
      ∧ r.2.mem ((c.tc : Thread Cert.GmlpFwd.nD Cert.GmlpFwd.τ).loc Cert.GmlpFwd.main_arg4) = m ((c.tc : Thread Cert.GmlpFwd.nD Cert.GmlpFwd.τ).loc Cert.GmlpFwd.main_arg4))
      ∧ r.2.sem = fun _ => 0)

def quiescent_GmlpFwdIdeal [hGmlpFwdIdeal : Cert.GmlpFwdIdeal.Facts] : Prop :=
  ∀ (m : (ℓ : Loc Cert.GmlpFwdIdeal.nD Cert.GmlpFwdIdeal.τ Cert.GmlpFwdIdeal.sig) → Buf (Elt Ideal) ℓ) (g : Dev Cert.GmlpFwdIdeal.nD → PrngReg), Pre_GmlpFwdIdeal m →
    θ_run (Cert.GmlpFwdIdeal.defs (F := Ideal)) (onTc (τ := Cert.GmlpFwdIdeal.τ) (Cert.GmlpFwdIdeal.main (F := Ideal))) ⟨m, fun _ => 0, g⟩ (fun r => (∀ c : Dev Cert.GmlpFwdIdeal.nD,
      r.2.mem ((c.tc : Thread Cert.GmlpFwdIdeal.nD Cert.GmlpFwdIdeal.τ).loc Cert.GmlpFwdIdeal.main_arg0) = m ((c.tc : Thread Cert.GmlpFwdIdeal.nD Cert.GmlpFwdIdeal.τ).loc Cert.GmlpFwdIdeal.main_arg0)
      ∧ r.2.mem ((c.tc : Thread Cert.GmlpFwdIdeal.nD Cert.GmlpFwdIdeal.τ).loc Cert.GmlpFwdIdeal.main_arg1) = m ((c.tc : Thread Cert.GmlpFwdIdeal.nD Cert.GmlpFwdIdeal.τ).loc Cert.GmlpFwdIdeal.main_arg1)
      ∧ r.2.mem ((c.tc : Thread Cert.GmlpFwdIdeal.nD Cert.GmlpFwdIdeal.τ).loc Cert.GmlpFwdIdeal.main_arg2) = m ((c.tc : Thread Cert.GmlpFwdIdeal.nD Cert.GmlpFwdIdeal.τ).loc Cert.GmlpFwdIdeal.main_arg2)
      ∧ r.2.mem ((c.tc : Thread Cert.GmlpFwdIdeal.nD Cert.GmlpFwdIdeal.τ).loc Cert.GmlpFwdIdeal.main_arg3) = m ((c.tc : Thread Cert.GmlpFwdIdeal.nD Cert.GmlpFwdIdeal.τ).loc Cert.GmlpFwdIdeal.main_arg3)
      ∧ r.2.mem ((c.tc : Thread Cert.GmlpFwdIdeal.nD Cert.GmlpFwdIdeal.τ).loc Cert.GmlpFwdIdeal.main_arg4) = m ((c.tc : Thread Cert.GmlpFwdIdeal.nD Cert.GmlpFwdIdeal.τ).loc Cert.GmlpFwdIdeal.main_arg4))
      ∧ r.2.sem = fun _ => 0)

def quiescent_GmlpFwdReferenceIdeal [hGmlpFwdReferenceIdeal : Cert.GmlpFwdReferenceIdeal.Facts] : Prop :=
  ∀ (m : (ℓ : Loc Cert.GmlpFwdReferenceIdeal.nD Cert.GmlpFwdReferenceIdeal.τ Cert.GmlpFwdReferenceIdeal.sig) → Buf (Elt Ideal) ℓ) (g : Dev Cert.GmlpFwdReferenceIdeal.nD → PrngReg), Pre_GmlpFwdReferenceIdeal m →
    θ_run (Cert.GmlpFwdReferenceIdeal.defs (F := Ideal)) (onTc (τ := Cert.GmlpFwdReferenceIdeal.τ) (Cert.GmlpFwdReferenceIdeal.main (F := Ideal))) ⟨m, fun _ => 0, g⟩ (fun r => (∀ c : Dev Cert.GmlpFwdReferenceIdeal.nD,
      r.2.mem ((c.tc : Thread Cert.GmlpFwdReferenceIdeal.nD Cert.GmlpFwdReferenceIdeal.τ).loc Cert.GmlpFwdReferenceIdeal.main_arg0) = m ((c.tc : Thread Cert.GmlpFwdReferenceIdeal.nD Cert.GmlpFwdReferenceIdeal.τ).loc Cert.GmlpFwdReferenceIdeal.main_arg0)
      ∧ r.2.mem ((c.tc : Thread Cert.GmlpFwdReferenceIdeal.nD Cert.GmlpFwdReferenceIdeal.τ).loc Cert.GmlpFwdReferenceIdeal.main_arg1) = m ((c.tc : Thread Cert.GmlpFwdReferenceIdeal.nD Cert.GmlpFwdReferenceIdeal.τ).loc Cert.GmlpFwdReferenceIdeal.main_arg1)
      ∧ r.2.mem ((c.tc : Thread Cert.GmlpFwdReferenceIdeal.nD Cert.GmlpFwdReferenceIdeal.τ).loc Cert.GmlpFwdReferenceIdeal.main_arg2) = m ((c.tc : Thread Cert.GmlpFwdReferenceIdeal.nD Cert.GmlpFwdReferenceIdeal.τ).loc Cert.GmlpFwdReferenceIdeal.main_arg2)
      ∧ r.2.mem ((c.tc : Thread Cert.GmlpFwdReferenceIdeal.nD Cert.GmlpFwdReferenceIdeal.τ).loc Cert.GmlpFwdReferenceIdeal.main_arg3) = m ((c.tc : Thread Cert.GmlpFwdReferenceIdeal.nD Cert.GmlpFwdReferenceIdeal.τ).loc Cert.GmlpFwdReferenceIdeal.main_arg3)
      ∧ r.2.mem ((c.tc : Thread Cert.GmlpFwdReferenceIdeal.nD Cert.GmlpFwdReferenceIdeal.τ).loc Cert.GmlpFwdReferenceIdeal.main_arg4) = m ((c.tc : Thread Cert.GmlpFwdReferenceIdeal.nD Cert.GmlpFwdReferenceIdeal.τ).loc Cert.GmlpFwdReferenceIdeal.main_arg4))
      ∧ r.2.sem = fun _ => 0)

def quiescent_SsdConvFwd [hSsdConvFwd : Cert.SsdConvFwd.Facts] : Prop :=
  ∀ (m : (ℓ : Loc Cert.SsdConvFwd.nD Cert.SsdConvFwd.τ Cert.SsdConvFwd.sig) → Buf (Elt Bits) ℓ) (g : Dev Cert.SsdConvFwd.nD → PrngReg), Pre_SsdConvFwd m →
    θ_run (Cert.SsdConvFwd.defs (F := Bits)) (onTc (τ := Cert.SsdConvFwd.τ) (Cert.SsdConvFwd.main (F := Bits))) ⟨m, fun _ => 0, g⟩ (fun r => (∀ c : Dev Cert.SsdConvFwd.nD,
      r.2.mem ((c.tc : Thread Cert.SsdConvFwd.nD Cert.SsdConvFwd.τ).loc Cert.SsdConvFwd.main_arg0) = m ((c.tc : Thread Cert.SsdConvFwd.nD Cert.SsdConvFwd.τ).loc Cert.SsdConvFwd.main_arg0)
      ∧ r.2.mem ((c.tc : Thread Cert.SsdConvFwd.nD Cert.SsdConvFwd.τ).loc Cert.SsdConvFwd.main_arg1) = m ((c.tc : Thread Cert.SsdConvFwd.nD Cert.SsdConvFwd.τ).loc Cert.SsdConvFwd.main_arg1)
      ∧ r.2.mem ((c.tc : Thread Cert.SsdConvFwd.nD Cert.SsdConvFwd.τ).loc Cert.SsdConvFwd.main_arg2) = m ((c.tc : Thread Cert.SsdConvFwd.nD Cert.SsdConvFwd.τ).loc Cert.SsdConvFwd.main_arg2))
      ∧ r.2.sem = fun _ => 0)

def quiescent_SsdConvFwdIdeal [hSsdConvFwdIdeal : Cert.SsdConvFwdIdeal.Facts] : Prop :=
  ∀ (m : (ℓ : Loc Cert.SsdConvFwdIdeal.nD Cert.SsdConvFwdIdeal.τ Cert.SsdConvFwdIdeal.sig) → Buf (Elt Ideal) ℓ) (g : Dev Cert.SsdConvFwdIdeal.nD → PrngReg), Pre_SsdConvFwdIdeal m →
    θ_run (Cert.SsdConvFwdIdeal.defs (F := Ideal)) (onTc (τ := Cert.SsdConvFwdIdeal.τ) (Cert.SsdConvFwdIdeal.main (F := Ideal))) ⟨m, fun _ => 0, g⟩ (fun r => (∀ c : Dev Cert.SsdConvFwdIdeal.nD,
      r.2.mem ((c.tc : Thread Cert.SsdConvFwdIdeal.nD Cert.SsdConvFwdIdeal.τ).loc Cert.SsdConvFwdIdeal.main_arg0) = m ((c.tc : Thread Cert.SsdConvFwdIdeal.nD Cert.SsdConvFwdIdeal.τ).loc Cert.SsdConvFwdIdeal.main_arg0)
      ∧ r.2.mem ((c.tc : Thread Cert.SsdConvFwdIdeal.nD Cert.SsdConvFwdIdeal.τ).loc Cert.SsdConvFwdIdeal.main_arg1) = m ((c.tc : Thread Cert.SsdConvFwdIdeal.nD Cert.SsdConvFwdIdeal.τ).loc Cert.SsdConvFwdIdeal.main_arg1)
      ∧ r.2.mem ((c.tc : Thread Cert.SsdConvFwdIdeal.nD Cert.SsdConvFwdIdeal.τ).loc Cert.SsdConvFwdIdeal.main_arg2) = m ((c.tc : Thread Cert.SsdConvFwdIdeal.nD Cert.SsdConvFwdIdeal.τ).loc Cert.SsdConvFwdIdeal.main_arg2))
      ∧ r.2.sem = fun _ => 0)

def quiescent_SsdConvFwdReferenceIdeal [hSsdConvFwdReferenceIdeal : Cert.SsdConvFwdReferenceIdeal.Facts] : Prop :=
  ∀ (m : (ℓ : Loc Cert.SsdConvFwdReferenceIdeal.nD Cert.SsdConvFwdReferenceIdeal.τ Cert.SsdConvFwdReferenceIdeal.sig) → Buf (Elt Ideal) ℓ) (g : Dev Cert.SsdConvFwdReferenceIdeal.nD → PrngReg), Pre_SsdConvFwdReferenceIdeal m →
    θ_run (Cert.SsdConvFwdReferenceIdeal.defs (F := Ideal)) (onTc (τ := Cert.SsdConvFwdReferenceIdeal.τ) (Cert.SsdConvFwdReferenceIdeal.main (F := Ideal))) ⟨m, fun _ => 0, g⟩ (fun r => (∀ c : Dev Cert.SsdConvFwdReferenceIdeal.nD,
      r.2.mem ((c.tc : Thread Cert.SsdConvFwdReferenceIdeal.nD Cert.SsdConvFwdReferenceIdeal.τ).loc Cert.SsdConvFwdReferenceIdeal.main_arg0) = m ((c.tc : Thread Cert.SsdConvFwdReferenceIdeal.nD Cert.SsdConvFwdReferenceIdeal.τ).loc Cert.SsdConvFwdReferenceIdeal.main_arg0)
      ∧ r.2.mem ((c.tc : Thread Cert.SsdConvFwdReferenceIdeal.nD Cert.SsdConvFwdReferenceIdeal.τ).loc Cert.SsdConvFwdReferenceIdeal.main_arg1) = m ((c.tc : Thread Cert.SsdConvFwdReferenceIdeal.nD Cert.SsdConvFwdReferenceIdeal.τ).loc Cert.SsdConvFwdReferenceIdeal.main_arg1)
      ∧ r.2.mem ((c.tc : Thread Cert.SsdConvFwdReferenceIdeal.nD Cert.SsdConvFwdReferenceIdeal.τ).loc Cert.SsdConvFwdReferenceIdeal.main_arg2) = m ((c.tc : Thread Cert.SsdConvFwdReferenceIdeal.nD Cert.SsdConvFwdReferenceIdeal.τ).loc Cert.SsdConvFwdReferenceIdeal.main_arg2))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutReferenceIdeal [hAdamOutReferenceIdeal : Cert.AdamOutReferenceIdeal.Facts] : Prop :=
  ∀ (m : (ℓ : Loc Cert.AdamOutReferenceIdeal.nD Cert.AdamOutReferenceIdeal.τ Cert.AdamOutReferenceIdeal.sig) → Buf (Elt Ideal) ℓ) (g : Dev Cert.AdamOutReferenceIdeal.nD → PrngReg), Pre_AdamOutReferenceIdeal m →
    θ_run (Cert.AdamOutReferenceIdeal.defs (F := Ideal)) (onTc (τ := Cert.AdamOutReferenceIdeal.τ) (Cert.AdamOutReferenceIdeal.main (F := Ideal))) ⟨m, fun _ => 0, g⟩ (fun r => (∀ c : Dev Cert.AdamOutReferenceIdeal.nD,
      r.2.mem ((c.tc : Thread Cert.AdamOutReferenceIdeal.nD Cert.AdamOutReferenceIdeal.τ).loc Cert.AdamOutReferenceIdeal.main_arg0) = m ((c.tc : Thread Cert.AdamOutReferenceIdeal.nD Cert.AdamOutReferenceIdeal.τ).loc Cert.AdamOutReferenceIdeal.main_arg0)
      ∧ r.2.mem ((c.tc : Thread Cert.AdamOutReferenceIdeal.nD Cert.AdamOutReferenceIdeal.τ).loc Cert.AdamOutReferenceIdeal.main_arg1) = m ((c.tc : Thread Cert.AdamOutReferenceIdeal.nD Cert.AdamOutReferenceIdeal.τ).loc Cert.AdamOutReferenceIdeal.main_arg1)
      ∧ r.2.mem ((c.tc : Thread Cert.AdamOutReferenceIdeal.nD Cert.AdamOutReferenceIdeal.τ).loc Cert.AdamOutReferenceIdeal.main_arg2) = m ((c.tc : Thread Cert.AdamOutReferenceIdeal.nD Cert.AdamOutReferenceIdeal.τ).loc Cert.AdamOutReferenceIdeal.main_arg2)
      ∧ r.2.mem ((c.tc : Thread Cert.AdamOutReferenceIdeal.nD Cert.AdamOutReferenceIdeal.τ).loc Cert.AdamOutReferenceIdeal.main_arg3) = m ((c.tc : Thread Cert.AdamOutReferenceIdeal.nD Cert.AdamOutReferenceIdeal.τ).loc Cert.AdamOutReferenceIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInReferenceIdeal [hAdamInReferenceIdeal : Cert.AdamInReferenceIdeal.Facts] : Prop :=
  ∀ (m : (ℓ : Loc Cert.AdamInReferenceIdeal.nD Cert.AdamInReferenceIdeal.τ Cert.AdamInReferenceIdeal.sig) → Buf (Elt Ideal) ℓ) (g : Dev Cert.AdamInReferenceIdeal.nD → PrngReg), Pre_AdamInReferenceIdeal m →
    θ_run (Cert.AdamInReferenceIdeal.defs (F := Ideal)) (onTc (τ := Cert.AdamInReferenceIdeal.τ) (Cert.AdamInReferenceIdeal.main (F := Ideal))) ⟨m, fun _ => 0, g⟩ (fun r => (∀ c : Dev Cert.AdamInReferenceIdeal.nD,
      r.2.mem ((c.tc : Thread Cert.AdamInReferenceIdeal.nD Cert.AdamInReferenceIdeal.τ).loc Cert.AdamInReferenceIdeal.main_arg0) = m ((c.tc : Thread Cert.AdamInReferenceIdeal.nD Cert.AdamInReferenceIdeal.τ).loc Cert.AdamInReferenceIdeal.main_arg0)
      ∧ r.2.mem ((c.tc : Thread Cert.AdamInReferenceIdeal.nD Cert.AdamInReferenceIdeal.τ).loc Cert.AdamInReferenceIdeal.main_arg1) = m ((c.tc : Thread Cert.AdamInReferenceIdeal.nD Cert.AdamInReferenceIdeal.τ).loc Cert.AdamInReferenceIdeal.main_arg1)
      ∧ r.2.mem ((c.tc : Thread Cert.AdamInReferenceIdeal.nD Cert.AdamInReferenceIdeal.τ).loc Cert.AdamInReferenceIdeal.main_arg2) = m ((c.tc : Thread Cert.AdamInReferenceIdeal.nD Cert.AdamInReferenceIdeal.τ).loc Cert.AdamInReferenceIdeal.main_arg2)
      ∧ r.2.mem ((c.tc : Thread Cert.AdamInReferenceIdeal.nD Cert.AdamInReferenceIdeal.τ).loc Cert.AdamInReferenceIdeal.main_arg3) = m ((c.tc : Thread Cert.AdamInReferenceIdeal.nD Cert.AdamInReferenceIdeal.τ).loc Cert.AdamInReferenceIdeal.main_arg3))
      ∧ r.2.sem = fun _ => 0)

def quiescent_AdamRow [hAdamRow : Cert.AdamRow.Facts] : Prop :=
  ∀ (m : (ℓ : Loc Cert.AdamRow.nD Cert.AdamRow.τ Cert.AdamRow.sig) → Buf (Elt Bits) ℓ) (g : Dev Cert.AdamRow.nD → PrngReg), Pre_AdamRow m →
    θ_run (Cert.AdamRow.defs (F := Bits)) (onTc (τ := Cert.AdamRow.τ) (Cert.AdamRow.main (F := Bits))) ⟨m, fun _ => 0, g⟩ (fun r => (∀ c : Dev Cert.AdamRow.nD,
      r.2.mem ((c.tc : Thread Cert.AdamRow.nD Cert.AdamRow.τ).loc Cert.AdamRow.main_arg0) = m ((c.tc : Thread Cert.AdamRow.nD Cert.AdamRow.τ).loc Cert.AdamRow.main_arg0)
      ∧ r.2.mem ((c.tc : Thread Cert.AdamRow.nD Cert.AdamRow.τ).loc Cert.AdamRow.main_arg1) = m ((c.tc : Thread Cert.AdamRow.nD Cert.AdamRow.τ).loc Cert.AdamRow.main_arg1)
      ∧ r.2.mem ((c.tc : Thread Cert.AdamRow.nD Cert.AdamRow.τ).loc Cert.AdamRow.main_arg2) = m ((c.tc : Thread Cert.AdamRow.nD Cert.AdamRow.τ).loc Cert.AdamRow.main_arg2)
      ∧ r.2.mem ((c.tc : Thread Cert.AdamRow.nD Cert.AdamRow.τ).loc Cert.AdamRow.main_arg3) = m ((c.tc : Thread Cert.AdamRow.nD Cert.AdamRow.τ).loc Cert.AdamRow.main_arg3))
      ∧ r.2.sem = fun _ => 0)

def quiescent_AdamRowIdeal [hAdamRowIdeal : Cert.AdamRowIdeal.Facts] : Prop :=
  ∀ (m : (ℓ : Loc Cert.AdamRowIdeal.nD Cert.AdamRowIdeal.τ Cert.AdamRowIdeal.sig) → Buf (Elt Ideal) ℓ) (g : Dev Cert.AdamRowIdeal.nD → PrngReg), Pre_AdamRowIdeal m →
    θ_run (Cert.AdamRowIdeal.defs (F := Ideal)) (onTc (τ := Cert.AdamRowIdeal.τ) (Cert.AdamRowIdeal.main (F := Ideal))) ⟨m, fun _ => 0, g⟩ (fun r => (∀ c : Dev Cert.AdamRowIdeal.nD,
      r.2.mem ((c.tc : Thread Cert.AdamRowIdeal.nD Cert.AdamRowIdeal.τ).loc Cert.AdamRowIdeal.main_arg0) = m ((c.tc : Thread Cert.AdamRowIdeal.nD Cert.AdamRowIdeal.τ).loc Cert.AdamRowIdeal.main_arg0)
      ∧ r.2.mem ((c.tc : Thread Cert.AdamRowIdeal.nD Cert.AdamRowIdeal.τ).loc Cert.AdamRowIdeal.main_arg1) = m ((c.tc : Thread Cert.AdamRowIdeal.nD Cert.AdamRowIdeal.τ).loc Cert.AdamRowIdeal.main_arg1)
      ∧ r.2.mem ((c.tc : Thread Cert.AdamRowIdeal.nD Cert.AdamRowIdeal.τ).loc Cert.AdamRowIdeal.main_arg2) = m ((c.tc : Thread Cert.AdamRowIdeal.nD Cert.AdamRowIdeal.τ).loc Cert.AdamRowIdeal.main_arg2)
      ∧ r.2.mem ((c.tc : Thread Cert.AdamRowIdeal.nD Cert.AdamRowIdeal.τ).loc Cert.AdamRowIdeal.main_arg3) = m ((c.tc : Thread Cert.AdamRowIdeal.nD Cert.AdamRowIdeal.τ).loc Cert.AdamRowIdeal.main_arg3))
      ∧ r.2.sem = fun _ => 0)

def quiescent_AdamRowReferenceIdeal [hAdamRowReferenceIdeal : Cert.AdamRowReferenceIdeal.Facts] : Prop :=
  ∀ (m : (ℓ : Loc Cert.AdamRowReferenceIdeal.nD Cert.AdamRowReferenceIdeal.τ Cert.AdamRowReferenceIdeal.sig) → Buf (Elt Ideal) ℓ) (g : Dev Cert.AdamRowReferenceIdeal.nD → PrngReg), Pre_AdamRowReferenceIdeal m →
    θ_run (Cert.AdamRowReferenceIdeal.defs (F := Ideal)) (onTc (τ := Cert.AdamRowReferenceIdeal.τ) (Cert.AdamRowReferenceIdeal.main (F := Ideal))) ⟨m, fun _ => 0, g⟩ (fun r => (∀ c : Dev Cert.AdamRowReferenceIdeal.nD,
      r.2.mem ((c.tc : Thread Cert.AdamRowReferenceIdeal.nD Cert.AdamRowReferenceIdeal.τ).loc Cert.AdamRowReferenceIdeal.main_arg0) = m ((c.tc : Thread Cert.AdamRowReferenceIdeal.nD Cert.AdamRowReferenceIdeal.τ).loc Cert.AdamRowReferenceIdeal.main_arg0)
      ∧ r.2.mem ((c.tc : Thread Cert.AdamRowReferenceIdeal.nD Cert.AdamRowReferenceIdeal.τ).loc Cert.AdamRowReferenceIdeal.main_arg1) = m ((c.tc : Thread Cert.AdamRowReferenceIdeal.nD Cert.AdamRowReferenceIdeal.τ).loc Cert.AdamRowReferenceIdeal.main_arg1)
      ∧ r.2.mem ((c.tc : Thread Cert.AdamRowReferenceIdeal.nD Cert.AdamRowReferenceIdeal.τ).loc Cert.AdamRowReferenceIdeal.main_arg2) = m ((c.tc : Thread Cert.AdamRowReferenceIdeal.nD Cert.AdamRowReferenceIdeal.τ).loc Cert.AdamRowReferenceIdeal.main_arg2)
      ∧ r.2.mem ((c.tc : Thread Cert.AdamRowReferenceIdeal.nD Cert.AdamRowReferenceIdeal.τ).loc Cert.AdamRowReferenceIdeal.main_arg3) = m ((c.tc : Thread Cert.AdamRowReferenceIdeal.nD Cert.AdamRowReferenceIdeal.τ).loc Cert.AdamRowReferenceIdeal.main_arg3))
      ∧ r.2.sem = fun _ => 0)

def preserves_Kernel_KernelIdeal : Prop :=
  True

def algebraic_KernelIdeal_ReferenceIdeal_on_uvz_columns [hKernelIdeal : Cert.KernelIdeal.Facts] [hReferenceIdeal : Cert.ReferenceIdeal.Facts] [hOn_uvz_columns : Cert.On_uvz_columns.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![8192, 12288]⟩ : Shape).Idx, (Cert.On_uvz_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 i = 1#1 → r.2.mem ((c.tc : Thread Cert.KernelIdeal.nD Cert.KernelIdeal.τ).loc Cert.KernelIdeal.main_v3_0) i = v0 c i)
          ∧ (∀ i : (⟨2, ![1, 2048]⟩ : Shape).Idx, (Cert.On_uvz_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 i = 1#1 → r.2.mem ((c.tc : Thread Cert.KernelIdeal.nD Cert.KernelIdeal.τ).loc Cert.KernelIdeal.main_v3_1) i = v1 c i)
          ∧ (∀ i : (⟨2, ![1, 2048]⟩ : Shape).Idx, (Cert.On_uvz_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 i = 1#1 → r.2.mem ((c.tc : Thread Cert.KernelIdeal.nD Cert.KernelIdeal.τ).loc Cert.KernelIdeal.main_v3_2) i = v2 c i)
          ∧ (∀ i : (⟨3, ![8, 128, 128]⟩ : Shape).Idx, (Cert.On_uvz_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 i = 1#1 → r.2.mem ((c.tc : Thread Cert.KernelIdeal.nD Cert.KernelIdeal.τ).loc Cert.KernelIdeal.main_v3_3) i = v3 c i)
          ∧ (∀ i : (⟨2, ![128, 8]⟩ : Shape).Idx, (Cert.On_uvz_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2 i = 1#1 → r.2.mem ((c.tc : Thread Cert.KernelIdeal.nD Cert.KernelIdeal.τ).loc Cert.KernelIdeal.main_v3_4) i = v4 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![8192, 12288]⟩ : Shape).Idx, (Cert.On_uvz_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 i = 1#1 → r.2.mem ((c.tc : Thread Cert.ReferenceIdeal.nD Cert.ReferenceIdeal.τ).loc Cert.ReferenceIdeal.main_v92) i = v0 c i)
          ∧ (∀ i : (⟨2, ![1, 2048]⟩ : Shape).Idx, (Cert.On_uvz_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 i = 1#1 → r.2.mem ((c.tc : Thread Cert.ReferenceIdeal.nD Cert.ReferenceIdeal.τ).loc Cert.ReferenceIdeal.main_v65) i = v1 c i)
          ∧ (∀ i : (⟨2, ![1, 2048]⟩ : Shape).Idx, (Cert.On_uvz_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 i = 1#1 → r.2.mem ((c.tc : Thread Cert.ReferenceIdeal.nD Cert.ReferenceIdeal.τ).loc Cert.ReferenceIdeal.main_v62) i = v2 c i)
          ∧ (∀ i : (⟨3, ![8, 128, 128]⟩ : Shape).Idx, (Cert.On_uvz_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 i = 1#1 → r.2.mem ((c.tc : Thread Cert.ReferenceIdeal.nD Cert.ReferenceIdeal.τ).loc Cert.ReferenceIdeal.main_v60) i = v3 c i)
          ∧ (∀ i : (⟨2, ![128, 8]⟩ : Shape).Idx, (Cert.On_uvz_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2 i = 1#1 → r.2.mem ((c.tc : Thread Cert.ReferenceIdeal.nD Cert.ReferenceIdeal.τ).loc Cert.ReferenceIdeal.main_v93) i = v4 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_OddInDw_OddInDwIdeal : Prop :=
  True

def algebraic_OddInDwIdeal_OddInDwReferenceIdeal [hOddInDwIdeal : Cert.OddInDwIdeal.Facts] [hOddInDwReferenceIdeal : Cert.OddInDwReferenceIdeal.Facts] : Prop :=
  ∀ (m : (ℓ : Loc Cert.OddInDwIdeal.nD Cert.OddInDwIdeal.τ Cert.OddInDwIdeal.sig) → Buf (Elt Ideal) ℓ) (g : Dev Cert.OddInDwIdeal.nD → PrngReg)
    (m' : (ℓ : Loc Cert.OddInDwReferenceIdeal.nD Cert.OddInDwReferenceIdeal.τ Cert.OddInDwReferenceIdeal.sig) → Buf (Elt Ideal) ℓ) (g' : Dev Cert.OddInDwReferenceIdeal.nD → PrngReg), Pre_OddInDwIdeal m →
    (∀ c : Dev Cert.OddInDwIdeal.nD,
      m' ((c.tc : Thread Cert.OddInDwReferenceIdeal.nD Cert.OddInDwReferenceIdeal.τ).loc Cert.OddInDwReferenceIdeal.main_arg0) = m ((c.tc : Thread Cert.OddInDwIdeal.nD Cert.OddInDwIdeal.τ).loc Cert.OddInDwIdeal.main_arg0)
      ∧ m' ((c.tc : Thread Cert.OddInDwReferenceIdeal.nD Cert.OddInDwReferenceIdeal.τ).loc Cert.OddInDwReferenceIdeal.main_arg1) = m ((c.tc : Thread Cert.OddInDwIdeal.nD Cert.OddInDwIdeal.τ).loc Cert.OddInDwIdeal.main_arg1)) →
    ∃ (v0 : (c : Dev Cert.OddInDwIdeal.nD) → Buf (Elt Ideal) ((c.tc : Thread Cert.OddInDwIdeal.nD Cert.OddInDwIdeal.τ).loc Cert.OddInDwIdeal.main_v0)),
      θ_run (Cert.OddInDwIdeal.defs (F := Ideal)) (onTc (τ := Cert.OddInDwIdeal.τ) (Cert.OddInDwIdeal.main (F := Ideal))) ⟨m, fun _ => 0, g⟩ (fun r => ∀ c : Dev Cert.OddInDwIdeal.nD,
          r.2.mem ((c.tc : Thread Cert.OddInDwIdeal.nD Cert.OddInDwIdeal.τ).loc Cert.OddInDwIdeal.main_v0) = v0 c
          ∧ r.2.mem ((c.tc : Thread Cert.OddInDwIdeal.nD Cert.OddInDwIdeal.τ).loc Cert.OddInDwIdeal.main_arg0) = m ((c.tc : Thread Cert.OddInDwIdeal.nD Cert.OddInDwIdeal.τ).loc Cert.OddInDwIdeal.main_arg0)
          ∧ r.2.mem ((c.tc : Thread Cert.OddInDwIdeal.nD Cert.OddInDwIdeal.τ).loc Cert.OddInDwIdeal.main_arg1) = m ((c.tc : Thread Cert.OddInDwIdeal.nD Cert.OddInDwIdeal.τ).loc Cert.OddInDwIdeal.main_arg1))
      ∧ θ_run (Cert.OddInDwReferenceIdeal.defs (F := Ideal)) (onTc (τ := Cert.OddInDwReferenceIdeal.τ) (Cert.OddInDwReferenceIdeal.main (F := Ideal))) ⟨m', fun _ => 0, g'⟩ (fun r => ∀ c : Dev Cert.OddInDwReferenceIdeal.nD,
          r.2.mem ((c.tc : Thread Cert.OddInDwReferenceIdeal.nD Cert.OddInDwReferenceIdeal.τ).loc Cert.OddInDwReferenceIdeal.main_v7) = v0 c
          ∧ r.2.mem ((c.tc : Thread Cert.OddInDwReferenceIdeal.nD Cert.OddInDwReferenceIdeal.τ).loc Cert.OddInDwReferenceIdeal.main_arg0) = m' ((c.tc : Thread Cert.OddInDwReferenceIdeal.nD Cert.OddInDwReferenceIdeal.τ).loc Cert.OddInDwReferenceIdeal.main_arg0)
          ∧ r.2.mem ((c.tc : Thread Cert.OddInDwReferenceIdeal.nD Cert.OddInDwReferenceIdeal.τ).loc Cert.OddInDwReferenceIdeal.main_arg1) = m' ((c.tc : Thread Cert.OddInDwReferenceIdeal.nD Cert.OddInDwReferenceIdeal.τ).loc Cert.OddInDwReferenceIdeal.main_arg1))

def preserves_EvenInDw_EvenInDwIdeal : Prop :=
  True

def algebraic_EvenInDwIdeal_EvenInDwReferenceIdeal [hEvenInDwIdeal : Cert.EvenInDwIdeal.Facts] [hEvenInDwReferenceIdeal : Cert.EvenInDwReferenceIdeal.Facts] : Prop :=
  ∀ (m : (ℓ : Loc Cert.EvenInDwIdeal.nD Cert.EvenInDwIdeal.τ Cert.EvenInDwIdeal.sig) → Buf (Elt Ideal) ℓ) (g : Dev Cert.EvenInDwIdeal.nD → PrngReg)
    (m' : (ℓ : Loc Cert.EvenInDwReferenceIdeal.nD Cert.EvenInDwReferenceIdeal.τ Cert.EvenInDwReferenceIdeal.sig) → Buf (Elt Ideal) ℓ) (g' : Dev Cert.EvenInDwReferenceIdeal.nD → PrngReg), Pre_EvenInDwIdeal m →
    (∀ c : Dev Cert.EvenInDwIdeal.nD,
      m' ((c.tc : Thread Cert.EvenInDwReferenceIdeal.nD Cert.EvenInDwReferenceIdeal.τ).loc Cert.EvenInDwReferenceIdeal.main_arg0) = m ((c.tc : Thread Cert.EvenInDwIdeal.nD Cert.EvenInDwIdeal.τ).loc Cert.EvenInDwIdeal.main_arg0)
      ∧ m' ((c.tc : Thread Cert.EvenInDwReferenceIdeal.nD Cert.EvenInDwReferenceIdeal.τ).loc Cert.EvenInDwReferenceIdeal.main_arg1) = m ((c.tc : Thread Cert.EvenInDwIdeal.nD Cert.EvenInDwIdeal.τ).loc Cert.EvenInDwIdeal.main_arg1)) →
    ∃ (v0 : (c : Dev Cert.EvenInDwIdeal.nD) → Buf (Elt Ideal) ((c.tc : Thread Cert.EvenInDwIdeal.nD Cert.EvenInDwIdeal.τ).loc Cert.EvenInDwIdeal.main_v0)),
      θ_run (Cert.EvenInDwIdeal.defs (F := Ideal)) (onTc (τ := Cert.EvenInDwIdeal.τ) (Cert.EvenInDwIdeal.main (F := Ideal))) ⟨m, fun _ => 0, g⟩ (fun r => ∀ c : Dev Cert.EvenInDwIdeal.nD,
          r.2.mem ((c.tc : Thread Cert.EvenInDwIdeal.nD Cert.EvenInDwIdeal.τ).loc Cert.EvenInDwIdeal.main_v0) = v0 c
          ∧ r.2.mem ((c.tc : Thread Cert.EvenInDwIdeal.nD Cert.EvenInDwIdeal.τ).loc Cert.EvenInDwIdeal.main_arg0) = m ((c.tc : Thread Cert.EvenInDwIdeal.nD Cert.EvenInDwIdeal.τ).loc Cert.EvenInDwIdeal.main_arg0)
          ∧ r.2.mem ((c.tc : Thread Cert.EvenInDwIdeal.nD Cert.EvenInDwIdeal.τ).loc Cert.EvenInDwIdeal.main_arg1) = m ((c.tc : Thread Cert.EvenInDwIdeal.nD Cert.EvenInDwIdeal.τ).loc Cert.EvenInDwIdeal.main_arg1))
      ∧ θ_run (Cert.EvenInDwReferenceIdeal.defs (F := Ideal)) (onTc (τ := Cert.EvenInDwReferenceIdeal.τ) (Cert.EvenInDwReferenceIdeal.main (F := Ideal))) ⟨m', fun _ => 0, g'⟩ (fun r => ∀ c : Dev Cert.EvenInDwReferenceIdeal.nD,
          r.2.mem ((c.tc : Thread Cert.EvenInDwReferenceIdeal.nD Cert.EvenInDwReferenceIdeal.τ).loc Cert.EvenInDwReferenceIdeal.main_v5) = v0 c
          ∧ r.2.mem ((c.tc : Thread Cert.EvenInDwReferenceIdeal.nD Cert.EvenInDwReferenceIdeal.τ).loc Cert.EvenInDwReferenceIdeal.main_arg0) = m' ((c.tc : Thread Cert.EvenInDwReferenceIdeal.nD Cert.EvenInDwReferenceIdeal.τ).loc Cert.EvenInDwReferenceIdeal.main_arg0)
          ∧ r.2.mem ((c.tc : Thread Cert.EvenInDwReferenceIdeal.nD Cert.EvenInDwReferenceIdeal.τ).loc Cert.EvenInDwReferenceIdeal.main_arg1) = m' ((c.tc : Thread Cert.EvenInDwReferenceIdeal.nD Cert.EvenInDwReferenceIdeal.τ).loc Cert.EvenInDwReferenceIdeal.main_arg1))

def preserves_OutDw_OutDwIdeal : Prop :=
  True

def algebraic_OutDwIdeal_OutDwReferenceIdeal [hOutDwIdeal : Cert.OutDwIdeal.Facts] [hOutDwReferenceIdeal : Cert.OutDwReferenceIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwReferenceIdeal.nD Cert.OutDwReferenceIdeal.τ Cert.OutDwReferenceIdeal.sig) → Buf (Elt Ideal) ℓ) (g' : Dev Cert.OutDwReferenceIdeal.nD → PrngReg), Pre_OutDwIdeal m →
    (∀ c : Dev Cert.OutDwIdeal.nD,
      m' ((c.tc : Thread Cert.OutDwReferenceIdeal.nD Cert.OutDwReferenceIdeal.τ).loc Cert.OutDwReferenceIdeal.main_arg0) = m ((c.tc : Thread Cert.OutDwIdeal.nD Cert.OutDwIdeal.τ).loc Cert.OutDwIdeal.main_arg0)
      ∧ m' ((c.tc : Thread Cert.OutDwReferenceIdeal.nD Cert.OutDwReferenceIdeal.τ).loc Cert.OutDwReferenceIdeal.main_arg1) = m ((c.tc : Thread Cert.OutDwIdeal.nD Cert.OutDwIdeal.τ).loc Cert.OutDwIdeal.main_arg1)
      ∧ m' ((c.tc : Thread Cert.OutDwReferenceIdeal.nD Cert.OutDwReferenceIdeal.τ).loc Cert.OutDwReferenceIdeal.main_arg2) = m ((c.tc : Thread Cert.OutDwIdeal.nD Cert.OutDwIdeal.τ).loc Cert.OutDwIdeal.main_arg2)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1)
          ∧ r.2.mem ((c.tc : Thread Cert.OutDwIdeal.nD Cert.OutDwIdeal.τ).loc Cert.OutDwIdeal.main_arg2) = m ((c.tc : Thread Cert.OutDwIdeal.nD Cert.OutDwIdeal.τ).loc Cert.OutDwIdeal.main_arg2))
      ∧ θ_run (Cert.OutDwReferenceIdeal.defs (F := Ideal)) (onTc (τ := Cert.OutDwReferenceIdeal.τ) (Cert.OutDwReferenceIdeal.main (F := Ideal))) ⟨m', fun _ => 0, g'⟩ (fun r => ∀ c : Dev Cert.OutDwReferenceIdeal.nD,
          r.2.mem ((c.tc : Thread Cert.OutDwReferenceIdeal.nD Cert.OutDwReferenceIdeal.τ).loc Cert.OutDwReferenceIdeal.main_v8) = v0 c
          ∧ r.2.mem ((c.tc : Thread Cert.OutDwReferenceIdeal.nD Cert.OutDwReferenceIdeal.τ).loc Cert.OutDwReferenceIdeal.main_arg0) = m' ((c.tc : Thread Cert.OutDwReferenceIdeal.nD Cert.OutDwReferenceIdeal.τ).loc Cert.OutDwReferenceIdeal.main_arg0)
          ∧ r.2.mem ((c.tc : Thread Cert.OutDwReferenceIdeal.nD Cert.OutDwReferenceIdeal.τ).loc Cert.OutDwReferenceIdeal.main_arg1) = m' ((c.tc : Thread Cert.OutDwReferenceIdeal.nD Cert.OutDwReferenceIdeal.τ).loc Cert.OutDwReferenceIdeal.main_arg1)
          ∧ r.2.mem ((c.tc : Thread Cert.OutDwReferenceIdeal.nD Cert.OutDwReferenceIdeal.τ).loc Cert.OutDwReferenceIdeal.main_arg2) = m' ((c.tc : Thread Cert.OutDwReferenceIdeal.nD Cert.OutDwReferenceIdeal.τ).loc Cert.OutDwReferenceIdeal.main_arg2))

def preserves_OutDy_OutDyIdeal : Prop :=
  True

def algebraic_OutDyIdeal_OutDyReferenceIdeal [hOutDyIdeal : Cert.OutDyIdeal.Facts] [hOutDyReferenceIdeal : Cert.OutDyReferenceIdeal.Facts] : Prop :=
  ∀ (m : (ℓ : Loc Cert.OutDyIdeal.nD Cert.OutDyIdeal.τ Cert.OutDyIdeal.sig) → Buf (Elt Ideal) ℓ) (g : Dev Cert.OutDyIdeal.nD → PrngReg)
    (m' : (ℓ : Loc Cert.OutDyReferenceIdeal.nD Cert.OutDyReferenceIdeal.τ Cert.OutDyReferenceIdeal.sig) → Buf (Elt Ideal) ℓ) (g' : Dev Cert.OutDyReferenceIdeal.nD → PrngReg), Pre_OutDyIdeal m →
    (∀ c : Dev Cert.OutDyIdeal.nD,
      m' ((c.tc : Thread Cert.OutDyReferenceIdeal.nD Cert.OutDyReferenceIdeal.τ).loc Cert.OutDyReferenceIdeal.main_arg0) = m ((c.tc : Thread Cert.OutDyIdeal.nD Cert.OutDyIdeal.τ).loc Cert.OutDyIdeal.main_arg0)
      ∧ m' ((c.tc : Thread Cert.OutDyReferenceIdeal.nD Cert.OutDyReferenceIdeal.τ).loc Cert.OutDyReferenceIdeal.main_arg1) = m ((c.tc : Thread Cert.OutDyIdeal.nD Cert.OutDyIdeal.τ).loc Cert.OutDyIdeal.main_arg1)) →
    ∃ (v0 : (c : Dev Cert.OutDyIdeal.nD) → Buf (Elt Ideal) ((c.tc : Thread Cert.OutDyIdeal.nD Cert.OutDyIdeal.τ).loc Cert.OutDyIdeal.main_v0)),
      θ_run (Cert.OutDyIdeal.defs (F := Ideal)) (onTc (τ := Cert.OutDyIdeal.τ) (Cert.OutDyIdeal.main (F := Ideal))) ⟨m, fun _ => 0, g⟩ (fun r => ∀ c : Dev Cert.OutDyIdeal.nD,
          r.2.mem ((c.tc : Thread Cert.OutDyIdeal.nD Cert.OutDyIdeal.τ).loc Cert.OutDyIdeal.main_v0) = v0 c
          ∧ r.2.mem ((c.tc : Thread Cert.OutDyIdeal.nD Cert.OutDyIdeal.τ).loc Cert.OutDyIdeal.main_arg0) = m ((c.tc : Thread Cert.OutDyIdeal.nD Cert.OutDyIdeal.τ).loc Cert.OutDyIdeal.main_arg0)
          ∧ r.2.mem ((c.tc : Thread Cert.OutDyIdeal.nD Cert.OutDyIdeal.τ).loc Cert.OutDyIdeal.main_arg1) = m ((c.tc : Thread Cert.OutDyIdeal.nD Cert.OutDyIdeal.τ).loc Cert.OutDyIdeal.main_arg1))
      ∧ θ_run (Cert.OutDyReferenceIdeal.defs (F := Ideal)) (onTc (τ := Cert.OutDyReferenceIdeal.τ) (Cert.OutDyReferenceIdeal.main (F := Ideal))) ⟨m', fun _ => 0, g'⟩ (fun r => ∀ c : Dev Cert.OutDyReferenceIdeal.nD,
          r.2.mem ((c.tc : Thread Cert.OutDyReferenceIdeal.nD Cert.OutDyReferenceIdeal.τ).loc Cert.OutDyReferenceIdeal.main_v4) = v0 c
          ∧ r.2.mem ((c.tc : Thread Cert.OutDyReferenceIdeal.nD Cert.OutDyReferenceIdeal.τ).loc Cert.OutDyReferenceIdeal.main_arg0) = m' ((c.tc : Thread Cert.OutDyReferenceIdeal.nD Cert.OutDyReferenceIdeal.τ).loc Cert.OutDyReferenceIdeal.main_arg0)
          ∧ r.2.mem ((c.tc : Thread Cert.OutDyReferenceIdeal.nD Cert.OutDyReferenceIdeal.τ).loc Cert.OutDyReferenceIdeal.main_arg1) = m' ((c.tc : Thread Cert.OutDyReferenceIdeal.nD Cert.OutDyReferenceIdeal.τ).loc Cert.OutDyReferenceIdeal.main_arg1))

def preserves_OddIn_OddInIdeal : Prop :=
  True

def algebraic_OddInIdeal_OddInReferenceIdeal [hOddInIdeal : Cert.OddInIdeal.Facts] [hOddInReferenceIdeal : Cert.OddInReferenceIdeal.Facts] : Prop :=
  ∀ (m : (ℓ : Loc Cert.OddInIdeal.nD Cert.OddInIdeal.τ Cert.OddInIdeal.sig) → Buf (Elt Ideal) ℓ) (g : Dev Cert.OddInIdeal.nD → PrngReg)
    (m' : (ℓ : Loc Cert.OddInReferenceIdeal.nD Cert.OddInReferenceIdeal.τ Cert.OddInReferenceIdeal.sig) → Buf (Elt Ideal) ℓ) (g' : Dev Cert.OddInReferenceIdeal.nD → PrngReg), Pre_OddInIdeal m →
    (∀ c : Dev Cert.OddInIdeal.nD,
      m' ((c.tc : Thread Cert.OddInReferenceIdeal.nD Cert.OddInReferenceIdeal.τ).loc Cert.OddInReferenceIdeal.main_arg0) = m ((c.tc : Thread Cert.OddInIdeal.nD Cert.OddInIdeal.τ).loc Cert.OddInIdeal.main_arg0)
      ∧ m' ((c.tc : Thread Cert.OddInReferenceIdeal.nD Cert.OddInReferenceIdeal.τ).loc Cert.OddInReferenceIdeal.main_arg1) = m ((c.tc : Thread Cert.OddInIdeal.nD Cert.OddInIdeal.τ).loc Cert.OddInIdeal.main_arg1)) →
    ∃ (v0 : (c : Dev Cert.OddInIdeal.nD) → Buf (Elt Ideal) ((c.tc : Thread Cert.OddInIdeal.nD Cert.OddInIdeal.τ).loc Cert.OddInIdeal.main_v0)),
      θ_run (Cert.OddInIdeal.defs (F := Ideal)) (onTc (τ := Cert.OddInIdeal.τ) (Cert.OddInIdeal.main (F := Ideal))) ⟨m, fun _ => 0, g⟩ (fun r => ∀ c : Dev Cert.OddInIdeal.nD,
          r.2.mem ((c.tc : Thread Cert.OddInIdeal.nD Cert.OddInIdeal.τ).loc Cert.OddInIdeal.main_v0) = v0 c
          ∧ r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
          ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1))
      ∧ θ_run (Cert.OddInReferenceIdeal.defs (F := Ideal)) (onTc (τ := Cert.OddInReferenceIdeal.τ) (Cert.OddInReferenceIdeal.main (F := Ideal))) ⟨m', fun _ => 0, g'⟩ (fun r => ∀ c : Dev Cert.OddInReferenceIdeal.nD,
          r.2.mem ((c.tc : Thread Cert.OddInReferenceIdeal.nD Cert.OddInReferenceIdeal.τ).loc Cert.OddInReferenceIdeal.main_v4) = v0 c
          ∧ r.2.mem ((c.tc : Thread Cert.OddInReferenceIdeal.nD Cert.OddInReferenceIdeal.τ).loc Cert.OddInReferenceIdeal.main_arg0) = m' ((c.tc : Thread Cert.OddInReferenceIdeal.nD Cert.OddInReferenceIdeal.τ).loc Cert.OddInReferenceIdeal.main_arg0)
          ∧ r.2.mem ((c.tc : Thread Cert.OddInReferenceIdeal.nD Cert.OddInReferenceIdeal.τ).loc Cert.OddInReferenceIdeal.main_arg1) = m' ((c.tc : Thread Cert.OddInReferenceIdeal.nD Cert.OddInReferenceIdeal.τ).loc Cert.OddInReferenceIdeal.main_arg1))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)
      ∧ m' ((c.tc : Thread Cert.OutReferenceIdeal.nD Cert.OutReferenceIdeal.τ).loc Cert.OutReferenceIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v4) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3))

def preserves_NormBwd_NormBwdIdeal : Prop :=
  True

def algebraic_NormBwdIdeal_NormBwdReferenceIdeal [hNormBwdIdeal : Cert.NormBwdIdeal.Facts] [hNormBwdReferenceIdeal : Cert.NormBwdReferenceIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdReferenceIdeal.nD Cert.NormBwdReferenceIdeal.τ Cert.NormBwdReferenceIdeal.sig) → Buf (Elt Ideal) ℓ) (g' : Dev Cert.NormBwdReferenceIdeal.nD → PrngReg), Pre_NormBwdIdeal m →
    (∀ c : Dev Cert.NormBwdIdeal.nD,
      m' ((c.tc : Thread Cert.NormBwdReferenceIdeal.nD Cert.NormBwdReferenceIdeal.τ).loc Cert.NormBwdReferenceIdeal.main_arg0) = m ((c.tc : Thread Cert.NormBwdIdeal.nD Cert.NormBwdIdeal.τ).loc Cert.NormBwdIdeal.main_arg0)
      ∧ m' ((c.tc : Thread Cert.NormBwdReferenceIdeal.nD Cert.NormBwdReferenceIdeal.τ).loc Cert.NormBwdReferenceIdeal.main_arg1) = m ((c.tc : Thread Cert.NormBwdIdeal.nD Cert.NormBwdIdeal.τ).loc Cert.NormBwdIdeal.main_arg1)
      ∧ m' ((c.tc : Thread Cert.NormBwdReferenceIdeal.nD Cert.NormBwdReferenceIdeal.τ).loc Cert.NormBwdReferenceIdeal.main_arg2) = m ((c.tc : Thread Cert.NormBwdIdeal.nD Cert.NormBwdIdeal.τ).loc Cert.NormBwdIdeal.main_arg2)
      ∧ m' ((c.tc : Thread Cert.NormBwdReferenceIdeal.nD Cert.NormBwdReferenceIdeal.τ).loc Cert.NormBwdReferenceIdeal.main_arg3) = m ((c.tc : Thread Cert.NormBwdIdeal.nD Cert.NormBwdIdeal.τ).loc Cert.NormBwdIdeal.main_arg3)) →
    ∃ (v0 : (c : Dev Cert.NormBwdIdeal.nD) → Buf (Elt Ideal) ((c.tc : Thread Cert.NormBwdIdeal.nD Cert.NormBwdIdeal.τ).loc Cert.NormBwdIdeal.main_v0_0)) (v1 : (c : Dev Cert.NormBwdIdeal.nD) → Buf (Elt Ideal) ((c.tc : Thread Cert.NormBwdIdeal.nD Cert.NormBwdIdeal.τ).loc Cert.NormBwdIdeal.main_v0_1)) (v2 : (c : Dev Cert.NormBwdIdeal.nD) → Buf (Elt Ideal) ((c.tc : Thread Cert.NormBwdIdeal.nD Cert.NormBwdIdeal.τ).loc Cert.NormBwdIdeal.main_v0_2)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v0_0) = v0 c
          ∧ r.2.mem ((c.tc : Thread Cert.NormBwdIdeal.nD Cert.NormBwdIdeal.τ).loc Cert.NormBwdIdeal.main_v0_1) = v1 c
          ∧ r.2.mem ((c.tc : Thread Cert.NormBwdIdeal.nD Cert.NormBwdIdeal.τ).loc Cert.NormBwdIdeal.main_v0_2) = v2 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ θ_run (Cert.NormBwdReferenceIdeal.defs (F := Ideal)) (onTc (τ := Cert.NormBwdReferenceIdeal.τ) (Cert.NormBwdReferenceIdeal.main (F := Ideal))) ⟨m', fun _ => 0, g'⟩ (fun r => ∀ c : Dev Cert.NormBwdReferenceIdeal.nD,
          r.2.mem ((c.tc : Thread Cert.NormBwdReferenceIdeal.nD Cert.NormBwdReferenceIdeal.τ).loc Cert.NormBwdReferenceIdeal.main_v34) = v0 c
          ∧ r.2.mem ((c.tc : Thread Cert.NormBwdReferenceIdeal.nD Cert.NormBwdReferenceIdeal.τ).loc Cert.NormBwdReferenceIdeal.main_v35) = v1 c
          ∧ r.2.mem ((c.tc : Thread Cert.NormBwdReferenceIdeal.nD Cert.NormBwdReferenceIdeal.τ).loc Cert.NormBwdReferenceIdeal.main_v17) = v2 c
          ∧ r.2.mem ((c.tc : Thread Cert.NormBwdReferenceIdeal.nD Cert.NormBwdReferenceIdeal.τ).loc Cert.NormBwdReferenceIdeal.main_arg0) = m' ((c.tc : Thread Cert.NormBwdReferenceIdeal.nD Cert.NormBwdReferenceIdeal.τ).loc Cert.NormBwdReferenceIdeal.main_arg0)
          ∧ r.2.mem ((c.tc : Thread Cert.NormBwdReferenceIdeal.nD Cert.NormBwdReferenceIdeal.τ).loc Cert.NormBwdReferenceIdeal.main_arg1) = m' ((c.tc : Thread Cert.NormBwdReferenceIdeal.nD Cert.NormBwdReferenceIdeal.τ).loc Cert.NormBwdReferenceIdeal.main_arg1)
          ∧ r.2.mem ((c.tc : Thread Cert.NormBwdReferenceIdeal.nD Cert.NormBwdReferenceIdeal.τ).loc Cert.NormBwdReferenceIdeal.main_arg2) = m' ((c.tc : Thread Cert.NormBwdReferenceIdeal.nD Cert.NormBwdReferenceIdeal.τ).loc Cert.NormBwdReferenceIdeal.main_arg2)
          ∧ r.2.mem ((c.tc : Thread Cert.NormBwdReferenceIdeal.nD Cert.NormBwdReferenceIdeal.τ).loc Cert.NormBwdReferenceIdeal.main_arg3) = m' ((c.tc : Thread Cert.NormBwdReferenceIdeal.nD Cert.NormBwdReferenceIdeal.τ).loc Cert.NormBwdReferenceIdeal.main_arg3))

def preserves_SconvBwd_SconvBwdIdeal : Prop :=
  True

def algebraic_SconvBwdIdeal_SconvBwdReferenceIdeal_on_all_but_dz [hSconvBwdIdeal : Cert.SconvBwdIdeal.Facts] [hSconvBwdReferenceIdeal : Cert.SconvBwdReferenceIdeal.Facts] [hOn_all_but_dz : Cert.On_all_but_dz.Facts] : Prop :=
  ∀ (m : (ℓ : Loc Cert.SconvBwdIdeal.nD Cert.SconvBwdIdeal.τ Cert.SconvBwdIdeal.sig) → Buf (Elt Ideal) ℓ) (g : Dev Cert.SconvBwdIdeal.nD → PrngReg)
    (m' : (ℓ : Loc Cert.SconvBwdReferenceIdeal.nD Cert.SconvBwdReferenceIdeal.τ Cert.SconvBwdReferenceIdeal.sig) → Buf (Elt Ideal) ℓ) (g' : Dev Cert.SconvBwdReferenceIdeal.nD → PrngReg), Pre_SconvBwdIdeal m →
    (∀ c : Dev Cert.SconvBwdIdeal.nD,
      m' ((c.tc : Thread Cert.SconvBwdReferenceIdeal.nD Cert.SconvBwdReferenceIdeal.τ).loc Cert.SconvBwdReferenceIdeal.main_arg0) = m ((c.tc : Thread Cert.SconvBwdIdeal.nD Cert.SconvBwdIdeal.τ).loc Cert.SconvBwdIdeal.main_arg0)
      ∧ m' ((c.tc : Thread Cert.SconvBwdReferenceIdeal.nD Cert.SconvBwdReferenceIdeal.τ).loc Cert.SconvBwdReferenceIdeal.main_arg1) = m ((c.tc : Thread Cert.SconvBwdIdeal.nD Cert.SconvBwdIdeal.τ).loc Cert.SconvBwdIdeal.main_arg1)
      ∧ m' ((c.tc : Thread Cert.SconvBwdReferenceIdeal.nD Cert.SconvBwdReferenceIdeal.τ).loc Cert.SconvBwdReferenceIdeal.main_arg2) = m ((c.tc : Thread Cert.SconvBwdIdeal.nD Cert.SconvBwdIdeal.τ).loc Cert.SconvBwdIdeal.main_arg2)) →
    ∃ (v0 : (c : Dev Cert.SconvBwdIdeal.nD) → Buf (Elt Ideal) ((c.tc : Thread Cert.SconvBwdIdeal.nD Cert.SconvBwdIdeal.τ).loc Cert.SconvBwdIdeal.main_v0_0)) (v1 : (c : Dev Cert.SconvBwdIdeal.nD) → Buf (Elt Ideal) ((c.tc : Thread Cert.SconvBwdIdeal.nD Cert.SconvBwdIdeal.τ).loc Cert.SconvBwdIdeal.main_v0_1)) (v2 : (c : Dev Cert.SconvBwdIdeal.nD) → Buf (Elt Ideal) ((c.tc : Thread Cert.SconvBwdIdeal.nD Cert.SconvBwdIdeal.τ).loc Cert.SconvBwdIdeal.main_v0_2)) (v3 : (c : Dev Cert.SconvBwdIdeal.nD) → Buf (Elt Ideal) ((c.tc : Thread Cert.SconvBwdIdeal.nD Cert.SconvBwdIdeal.τ).loc Cert.SconvBwdIdeal.main_v0_3)) (v4 : (c : Dev Cert.SconvBwdIdeal.nD) → Buf (Elt Ideal) ((c.tc : Thread Cert.SconvBwdIdeal.nD Cert.SconvBwdIdeal.τ).loc Cert.SconvBwdIdeal.main_v0_4)),
      θ_run (Cert.SconvBwdIdeal.defs (F := Ideal)) (onTc (τ := Cert.SconvBwdIdeal.τ) (Cert.SconvBwdIdeal.main (F := Ideal))) ⟨m, fun _ => 0, g⟩ (fun r => ∀ c : Dev Cert.SconvBwdIdeal.nD,
          (∀ i : (⟨2, ![8192, 2048]⟩ : Shape).Idx, (Cert.On_all_but_dz.fn (F := Ideal) (m ((c.tc : Thread Cert.SconvBwdIdeal.nD Cert.SconvBwdIdeal.τ).loc Cert.SconvBwdIdeal.main_arg0)) (m ((c.tc : Thread Cert.SconvBwdIdeal.nD Cert.SconvBwdIdeal.τ).loc Cert.SconvBwdIdeal.main_arg1)) (m ((c.tc : Thread Cert.SconvBwdIdeal.nD Cert.SconvBwdIdeal.τ).loc Cert.SconvBwdIdeal.main_arg2))).1 i = 1#1 → r.2.mem ((c.tc : Thread Cert.SconvBwdIdeal.nD Cert.SconvBwdIdeal.τ).loc Cert.SconvBwdIdeal.main_v0_0) i = v0 c i)
          ∧ (∀ i : (⟨2, ![8192, 2048]⟩ : Shape).Idx, (Cert.On_all_but_dz.fn (F := Ideal) (m ((c.tc : Thread Cert.SconvBwdIdeal.nD Cert.SconvBwdIdeal.τ).loc Cert.SconvBwdIdeal.main_arg0)) (m ((c.tc : Thread Cert.SconvBwdIdeal.nD Cert.SconvBwdIdeal.τ).loc Cert.SconvBwdIdeal.main_arg1)) (m ((c.tc : Thread Cert.SconvBwdIdeal.nD Cert.SconvBwdIdeal.τ).loc Cert.SconvBwdIdeal.main_arg2))).2.1 i = 1#1 → r.2.mem ((c.tc : Thread Cert.SconvBwdIdeal.nD Cert.SconvBwdIdeal.τ).loc Cert.SconvBwdIdeal.main_v0_1) i = v1 c i)
          ∧ (∀ i : (⟨2, ![8192, 2048]⟩ : Shape).Idx, (Cert.On_all_but_dz.fn (F := Ideal) (m ((c.tc : Thread Cert.SconvBwdIdeal.nD Cert.SconvBwdIdeal.τ).loc Cert.SconvBwdIdeal.main_arg0)) (m ((c.tc : Thread Cert.SconvBwdIdeal.nD Cert.SconvBwdIdeal.τ).loc Cert.SconvBwdIdeal.main_arg1)) (m ((c.tc : Thread Cert.SconvBwdIdeal.nD Cert.SconvBwdIdeal.τ).loc Cert.SconvBwdIdeal.main_arg2))).2.2.1 i = 1#1 → r.2.mem ((c.tc : Thread Cert.SconvBwdIdeal.nD Cert.SconvBwdIdeal.τ).loc Cert.SconvBwdIdeal.main_v0_2) i = v2 c i)
          ∧ (∀ i : (⟨2, ![8192, 2048]⟩ : Shape).Idx, (Cert.On_all_but_dz.fn (F := Ideal) (m ((c.tc : Thread Cert.SconvBwdIdeal.nD Cert.SconvBwdIdeal.τ).loc Cert.SconvBwdIdeal.main_arg0)) (m ((c.tc : Thread Cert.SconvBwdIdeal.nD Cert.SconvBwdIdeal.τ).loc Cert.SconvBwdIdeal.main_arg1)) (m ((c.tc : Thread Cert.SconvBwdIdeal.nD Cert.SconvBwdIdeal.τ).loc Cert.SconvBwdIdeal.main_arg2))).2.2.2.1 i = 1#1 → r.2.mem ((c.tc : Thread Cert.SconvBwdIdeal.nD Cert.SconvBwdIdeal.τ).loc Cert.SconvBwdIdeal.main_v0_3) i = v3 c i)
          ∧ (∀ i : (⟨2, ![3, 2048]⟩ : Shape).Idx, (Cert.On_all_but_dz.fn (F := Ideal) (m ((c.tc : Thread Cert.SconvBwdIdeal.nD Cert.SconvBwdIdeal.τ).loc Cert.SconvBwdIdeal.main_arg0)) (m ((c.tc : Thread Cert.SconvBwdIdeal.nD Cert.SconvBwdIdeal.τ).loc Cert.SconvBwdIdeal.main_arg1)) (m ((c.tc : Thread Cert.SconvBwdIdeal.nD Cert.SconvBwdIdeal.τ).loc Cert.SconvBwdIdeal.main_arg2))).2.2.2.2 i = 1#1 → r.2.mem ((c.tc : Thread Cert.SconvBwdIdeal.nD Cert.SconvBwdIdeal.τ).loc Cert.SconvBwdIdeal.main_v0_4) i = v4 c i)
          ∧ r.2.mem ((c.tc : Thread Cert.SconvBwdIdeal.nD Cert.SconvBwdIdeal.τ).loc Cert.SconvBwdIdeal.main_arg0) = m ((c.tc : Thread Cert.SconvBwdIdeal.nD Cert.SconvBwdIdeal.τ).loc Cert.SconvBwdIdeal.main_arg0)
          ∧ r.2.mem ((c.tc : Thread Cert.SconvBwdIdeal.nD Cert.SconvBwdIdeal.τ).loc Cert.SconvBwdIdeal.main_arg1) = m ((c.tc : Thread Cert.SconvBwdIdeal.nD Cert.SconvBwdIdeal.τ).loc Cert.SconvBwdIdeal.main_arg1)
          ∧ r.2.mem ((c.tc : Thread Cert.SconvBwdIdeal.nD Cert.SconvBwdIdeal.τ).loc Cert.SconvBwdIdeal.main_arg2) = m ((c.tc : Thread Cert.SconvBwdIdeal.nD Cert.SconvBwdIdeal.τ).loc Cert.SconvBwdIdeal.main_arg2))
      ∧ θ_run (Cert.SconvBwdReferenceIdeal.defs (F := Ideal)) (onTc (τ := Cert.SconvBwdReferenceIdeal.τ) (Cert.SconvBwdReferenceIdeal.main (F := Ideal))) ⟨m', fun _ => 0, g'⟩ (fun r => ∀ c : Dev Cert.SconvBwdReferenceIdeal.nD,
          (∀ i : (⟨2, ![8192, 2048]⟩ : Shape).Idx, (Cert.On_all_but_dz.fn (F := Ideal) (m ((c.tc : Thread Cert.SconvBwdIdeal.nD Cert.SconvBwdIdeal.τ).loc Cert.SconvBwdIdeal.main_arg0)) (m ((c.tc : Thread Cert.SconvBwdIdeal.nD Cert.SconvBwdIdeal.τ).loc Cert.SconvBwdIdeal.main_arg1)) (m ((c.tc : Thread Cert.SconvBwdIdeal.nD Cert.SconvBwdIdeal.τ).loc Cert.SconvBwdIdeal.main_arg2))).1 i = 1#1 → r.2.mem ((c.tc : Thread Cert.SconvBwdReferenceIdeal.nD Cert.SconvBwdReferenceIdeal.τ).loc Cert.SconvBwdReferenceIdeal.main_v63) i = v0 c i)
          ∧ (∀ i : (⟨2, ![8192, 2048]⟩ : Shape).Idx, (Cert.On_all_but_dz.fn (F := Ideal) (m ((c.tc : Thread Cert.SconvBwdIdeal.nD Cert.SconvBwdIdeal.τ).loc Cert.SconvBwdIdeal.main_arg0)) (m ((c.tc : Thread Cert.SconvBwdIdeal.nD Cert.SconvBwdIdeal.τ).loc Cert.SconvBwdIdeal.main_arg1)) (m ((c.tc : Thread Cert.SconvBwdIdeal.nD Cert.SconvBwdIdeal.τ).loc Cert.SconvBwdIdeal.main_arg2))).2.1 i = 1#1 → r.2.mem ((c.tc : Thread Cert.SconvBwdReferenceIdeal.nD Cert.SconvBwdReferenceIdeal.τ).loc Cert.SconvBwdReferenceIdeal.main_v64) i = v1 c i)
          ∧ (∀ i : (⟨2, ![8192, 2048]⟩ : Shape).Idx, (Cert.On_all_but_dz.fn (F := Ideal) (m ((c.tc : Thread Cert.SconvBwdIdeal.nD Cert.SconvBwdIdeal.τ).loc Cert.SconvBwdIdeal.main_arg0)) (m ((c.tc : Thread Cert.SconvBwdIdeal.nD Cert.SconvBwdIdeal.τ).loc Cert.SconvBwdIdeal.main_arg1)) (m ((c.tc : Thread Cert.SconvBwdIdeal.nD Cert.SconvBwdIdeal.τ).loc Cert.SconvBwdIdeal.main_arg2))).2.2.1 i = 1#1 → r.2.mem ((c.tc : Thread Cert.SconvBwdReferenceIdeal.nD Cert.SconvBwdReferenceIdeal.τ).loc Cert.SconvBwdReferenceIdeal.main_v65) i = v2 c i)
          ∧ (∀ i : (⟨2, ![8192, 2048]⟩ : Shape).Idx, (Cert.On_all_but_dz.fn (F := Ideal) (m ((c.tc : Thread Cert.SconvBwdIdeal.nD Cert.SconvBwdIdeal.τ).loc Cert.SconvBwdIdeal.main_arg0)) (m ((c.tc : Thread Cert.SconvBwdIdeal.nD Cert.SconvBwdIdeal.τ).loc Cert.SconvBwdIdeal.main_arg1)) (m ((c.tc : Thread Cert.SconvBwdIdeal.nD Cert.SconvBwdIdeal.τ).loc Cert.SconvBwdIdeal.main_arg2))).2.2.2.1 i = 1#1 → r.2.mem ((c.tc : Thread Cert.SconvBwdReferenceIdeal.nD Cert.SconvBwdReferenceIdeal.τ).loc Cert.SconvBwdReferenceIdeal.main_v66) i = v3 c i)
          ∧ (∀ i : (⟨2, ![3, 2048]⟩ : Shape).Idx, (Cert.On_all_but_dz.fn (F := Ideal) (m ((c.tc : Thread Cert.SconvBwdIdeal.nD Cert.SconvBwdIdeal.τ).loc Cert.SconvBwdIdeal.main_arg0)) (m ((c.tc : Thread Cert.SconvBwdIdeal.nD Cert.SconvBwdIdeal.τ).loc Cert.SconvBwdIdeal.main_arg1)) (m ((c.tc : Thread Cert.SconvBwdIdeal.nD Cert.SconvBwdIdeal.τ).loc Cert.SconvBwdIdeal.main_arg2))).2.2.2.2 i = 1#1 → r.2.mem ((c.tc : Thread Cert.SconvBwdReferenceIdeal.nD Cert.SconvBwdReferenceIdeal.τ).loc Cert.SconvBwdReferenceIdeal.main_v55) i = v4 c i)
          ∧ r.2.mem ((c.tc : Thread Cert.SconvBwdReferenceIdeal.nD Cert.SconvBwdReferenceIdeal.τ).loc Cert.SconvBwdReferenceIdeal.main_arg0) = m' ((c.tc : Thread Cert.SconvBwdReferenceIdeal.nD Cert.SconvBwdReferenceIdeal.τ).loc Cert.SconvBwdReferenceIdeal.main_arg0)
          ∧ r.2.mem ((c.tc : Thread Cert.SconvBwdReferenceIdeal.nD Cert.SconvBwdReferenceIdeal.τ).loc Cert.SconvBwdReferenceIdeal.main_arg1) = m' ((c.tc : Thread Cert.SconvBwdReferenceIdeal.nD Cert.SconvBwdReferenceIdeal.τ).loc Cert.SconvBwdReferenceIdeal.main_arg1)
          ∧ r.2.mem ((c.tc : Thread Cert.SconvBwdReferenceIdeal.nD Cert.SconvBwdReferenceIdeal.τ).loc Cert.SconvBwdReferenceIdeal.main_arg2) = m' ((c.tc : Thread Cert.SconvBwdReferenceIdeal.nD Cert.SconvBwdReferenceIdeal.τ).loc Cert.SconvBwdReferenceIdeal.main_arg2))

def algebraic_SconvBwdIdeal_SconvBwdReferenceIdeal_pre_finite [hSconvBwdIdeal : Cert.SconvBwdIdeal.Facts] [hSconvBwdReferenceIdeal : Cert.SconvBwdReferenceIdeal.Facts] [hPre_finite : Cert.Pre_finite.Facts] : Prop :=
  ∀ (m : (ℓ : Loc Cert.SconvBwdIdeal.nD Cert.SconvBwdIdeal.τ Cert.SconvBwdIdeal.sig) → Buf (Elt Ideal) ℓ) (g : Dev Cert.SconvBwdIdeal.nD → PrngReg)
    (m' : (ℓ : Loc Cert.SconvBwdReferenceIdeal.nD Cert.SconvBwdReferenceIdeal.τ Cert.SconvBwdReferenceIdeal.sig) → Buf (Elt Ideal) ℓ) (g' : Dev Cert.SconvBwdReferenceIdeal.nD → PrngReg), Pre_SconvBwdIdeal_finite m →
    (∀ c : Dev Cert.SconvBwdIdeal.nD,
      m' ((c.tc : Thread Cert.SconvBwdReferenceIdeal.nD Cert.SconvBwdReferenceIdeal.τ).loc Cert.SconvBwdReferenceIdeal.main_arg0) = m ((c.tc : Thread Cert.SconvBwdIdeal.nD Cert.SconvBwdIdeal.τ).loc Cert.SconvBwdIdeal.main_arg0)
      ∧ m' ((c.tc : Thread Cert.SconvBwdReferenceIdeal.nD Cert.SconvBwdReferenceIdeal.τ).loc Cert.SconvBwdReferenceIdeal.main_arg1) = m ((c.tc : Thread Cert.SconvBwdIdeal.nD Cert.SconvBwdIdeal.τ).loc Cert.SconvBwdIdeal.main_arg1)
      ∧ m' ((c.tc : Thread Cert.SconvBwdReferenceIdeal.nD Cert.SconvBwdReferenceIdeal.τ).loc Cert.SconvBwdReferenceIdeal.main_arg2) = m ((c.tc : Thread Cert.SconvBwdIdeal.nD Cert.SconvBwdIdeal.τ).loc Cert.SconvBwdIdeal.main_arg2)) →
    ∃ (v0 : (c : Dev Cert.SconvBwdIdeal.nD) → Buf (Elt Ideal) ((c.tc : Thread Cert.SconvBwdIdeal.nD Cert.SconvBwdIdeal.τ).loc Cert.SconvBwdIdeal.main_v0_0)) (v1 : (c : Dev Cert.SconvBwdIdeal.nD) → Buf (Elt Ideal) ((c.tc : Thread Cert.SconvBwdIdeal.nD Cert.SconvBwdIdeal.τ).loc Cert.SconvBwdIdeal.main_v0_1)) (v2 : (c : Dev Cert.SconvBwdIdeal.nD) → Buf (Elt Ideal) ((c.tc : Thread Cert.SconvBwdIdeal.nD Cert.SconvBwdIdeal.τ).loc Cert.SconvBwdIdeal.main_v0_2)) (v3 : (c : Dev Cert.SconvBwdIdeal.nD) → Buf (Elt Ideal) ((c.tc : Thread Cert.SconvBwdIdeal.nD Cert.SconvBwdIdeal.τ).loc Cert.SconvBwdIdeal.main_v0_3)) (v4 : (c : Dev Cert.SconvBwdIdeal.nD) → Buf (Elt Ideal) ((c.tc : Thread Cert.SconvBwdIdeal.nD Cert.SconvBwdIdeal.τ).loc Cert.SconvBwdIdeal.main_v0_4)),
      θ_run (Cert.SconvBwdIdeal.defs (F := Ideal)) (onTc (τ := Cert.SconvBwdIdeal.τ) (Cert.SconvBwdIdeal.main (F := Ideal))) ⟨m, fun _ => 0, g⟩ (fun r => ∀ c : Dev Cert.SconvBwdIdeal.nD,
          r.2.mem ((c.tc : Thread Cert.SconvBwdIdeal.nD Cert.SconvBwdIdeal.τ).loc Cert.SconvBwdIdeal.main_v0_0) = v0 c
          ∧ r.2.mem ((c.tc : Thread Cert.SconvBwdIdeal.nD Cert.SconvBwdIdeal.τ).loc Cert.SconvBwdIdeal.main_v0_1) = v1 c
          ∧ r.2.mem ((c.tc : Thread Cert.SconvBwdIdeal.nD Cert.SconvBwdIdeal.τ).loc Cert.SconvBwdIdeal.main_v0_2) = v2 c
          ∧ r.2.mem ((c.tc : Thread Cert.SconvBwdIdeal.nD Cert.SconvBwdIdeal.τ).loc Cert.SconvBwdIdeal.main_v0_3) = v3 c
          ∧ r.2.mem ((c.tc : Thread Cert.SconvBwdIdeal.nD Cert.SconvBwdIdeal.τ).loc Cert.SconvBwdIdeal.main_v0_4) = v4 c
          ∧ r.2.mem ((c.tc : Thread Cert.SconvBwdIdeal.nD Cert.SconvBwdIdeal.τ).loc Cert.SconvBwdIdeal.main_arg0) = m ((c.tc : Thread Cert.SconvBwdIdeal.nD Cert.SconvBwdIdeal.τ).loc Cert.SconvBwdIdeal.main_arg0)
          ∧ r.2.mem ((c.tc : Thread Cert.SconvBwdIdeal.nD Cert.SconvBwdIdeal.τ).loc Cert.SconvBwdIdeal.main_arg1) = m ((c.tc : Thread Cert.SconvBwdIdeal.nD Cert.SconvBwdIdeal.τ).loc Cert.SconvBwdIdeal.main_arg1)
          ∧ r.2.mem ((c.tc : Thread Cert.SconvBwdIdeal.nD Cert.SconvBwdIdeal.τ).loc Cert.SconvBwdIdeal.main_arg2) = m ((c.tc : Thread Cert.SconvBwdIdeal.nD Cert.SconvBwdIdeal.τ).loc Cert.SconvBwdIdeal.main_arg2))
      ∧ θ_run (Cert.SconvBwdReferenceIdeal.defs (F := Ideal)) (onTc (τ := Cert.SconvBwdReferenceIdeal.τ) (Cert.SconvBwdReferenceIdeal.main (F := Ideal))) ⟨m', fun _ => 0, g'⟩ (fun r => ∀ c : Dev Cert.SconvBwdReferenceIdeal.nD,
          r.2.mem ((c.tc : Thread Cert.SconvBwdReferenceIdeal.nD Cert.SconvBwdReferenceIdeal.τ).loc Cert.SconvBwdReferenceIdeal.main_v63) = v0 c
          ∧ r.2.mem ((c.tc : Thread Cert.SconvBwdReferenceIdeal.nD Cert.SconvBwdReferenceIdeal.τ).loc Cert.SconvBwdReferenceIdeal.main_v64) = v1 c
          ∧ r.2.mem ((c.tc : Thread Cert.SconvBwdReferenceIdeal.nD Cert.SconvBwdReferenceIdeal.τ).loc Cert.SconvBwdReferenceIdeal.main_v65) = v2 c
          ∧ r.2.mem ((c.tc : Thread Cert.SconvBwdReferenceIdeal.nD Cert.SconvBwdReferenceIdeal.τ).loc Cert.SconvBwdReferenceIdeal.main_v66) = v3 c
          ∧ r.2.mem ((c.tc : Thread Cert.SconvBwdReferenceIdeal.nD Cert.SconvBwdReferenceIdeal.τ).loc Cert.SconvBwdReferenceIdeal.main_v55) = v4 c
          ∧ r.2.mem ((c.tc : Thread Cert.SconvBwdReferenceIdeal.nD Cert.SconvBwdReferenceIdeal.τ).loc Cert.SconvBwdReferenceIdeal.main_arg0) = m' ((c.tc : Thread Cert.SconvBwdReferenceIdeal.nD Cert.SconvBwdReferenceIdeal.τ).loc Cert.SconvBwdReferenceIdeal.main_arg0)
          ∧ r.2.mem ((c.tc : Thread Cert.SconvBwdReferenceIdeal.nD Cert.SconvBwdReferenceIdeal.τ).loc Cert.SconvBwdReferenceIdeal.main_arg1) = m' ((c.tc : Thread Cert.SconvBwdReferenceIdeal.nD Cert.SconvBwdReferenceIdeal.τ).loc Cert.SconvBwdReferenceIdeal.main_arg1)
          ∧ r.2.mem ((c.tc : Thread Cert.SconvBwdReferenceIdeal.nD Cert.SconvBwdReferenceIdeal.τ).loc Cert.SconvBwdReferenceIdeal.main_arg2) = m' ((c.tc : Thread Cert.SconvBwdReferenceIdeal.nD Cert.SconvBwdReferenceIdeal.τ).loc Cert.SconvBwdReferenceIdeal.main_arg2))

def preserves_NormFwd_NormFwdIdeal : Prop :=
  True

def algebraic_NormFwdIdeal_NormFwdReferenceIdeal [hNormFwdIdeal : Cert.NormFwdIdeal.Facts] [hNormFwdReferenceIdeal : Cert.NormFwdReferenceIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdReferenceIdeal.nD Cert.NormFwdReferenceIdeal.τ Cert.NormFwdReferenceIdeal.sig) → Buf (Elt Ideal) ℓ) (g' : Dev Cert.NormFwdReferenceIdeal.nD → PrngReg), Pre_NormFwdIdeal m →
    (∀ c : Dev Cert.NormFwdIdeal.nD,
      m' ((c.tc : Thread Cert.NormFwdReferenceIdeal.nD Cert.NormFwdReferenceIdeal.τ).loc Cert.NormFwdReferenceIdeal.main_arg0) = m ((c.tc : Thread Cert.NormFwdIdeal.nD Cert.NormFwdIdeal.τ).loc Cert.NormFwdIdeal.main_arg0)
      ∧ m' ((c.tc : Thread Cert.NormFwdReferenceIdeal.nD Cert.NormFwdReferenceIdeal.τ).loc Cert.NormFwdReferenceIdeal.main_arg1) = m ((c.tc : Thread Cert.NormFwdIdeal.nD Cert.NormFwdIdeal.τ).loc Cert.NormFwdIdeal.main_arg1)) →
    ∃ (v0 : (c : Dev Cert.NormFwdIdeal.nD) → Buf (Elt Ideal) ((c.tc : Thread Cert.NormFwdIdeal.nD Cert.NormFwdIdeal.τ).loc Cert.NormFwdIdeal.main_v0)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v0) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ θ_run (Cert.NormFwdReferenceIdeal.defs (F := Ideal)) (onTc (τ := Cert.NormFwdReferenceIdeal.τ) (Cert.NormFwdReferenceIdeal.main (F := Ideal))) ⟨m', fun _ => 0, g'⟩ (fun r => ∀ c : Dev Cert.NormFwdReferenceIdeal.nD,
          r.2.mem ((c.tc : Thread Cert.NormFwdReferenceIdeal.nD Cert.NormFwdReferenceIdeal.τ).loc Cert.NormFwdReferenceIdeal.main_v12) = v0 c
          ∧ r.2.mem ((c.tc : Thread Cert.NormFwdReferenceIdeal.nD Cert.NormFwdReferenceIdeal.τ).loc Cert.NormFwdReferenceIdeal.main_arg0) = m' ((c.tc : Thread Cert.NormFwdReferenceIdeal.nD Cert.NormFwdReferenceIdeal.τ).loc Cert.NormFwdReferenceIdeal.main_arg0)
          ∧ r.2.mem ((c.tc : Thread Cert.NormFwdReferenceIdeal.nD Cert.NormFwdReferenceIdeal.τ).loc Cert.NormFwdReferenceIdeal.main_arg1) = m' ((c.tc : Thread Cert.NormFwdReferenceIdeal.nD Cert.NormFwdReferenceIdeal.τ).loc Cert.NormFwdReferenceIdeal.main_arg1))

def preserves_SconvFwd_SconvFwdIdeal : Prop :=
  True

def algebraic_SconvFwdIdeal_SconvFwdReferenceIdeal [hSconvFwdIdeal : Cert.SconvFwdIdeal.Facts] [hSconvFwdReferenceIdeal : Cert.SconvFwdReferenceIdeal.Facts] : Prop :=
  ∀ (m : (ℓ : Loc Cert.SconvFwdIdeal.nD Cert.SconvFwdIdeal.τ Cert.SconvFwdIdeal.sig) → Buf (Elt Ideal) ℓ) (g : Dev Cert.SconvFwdIdeal.nD → PrngReg)
    (m' : (ℓ : Loc Cert.SconvFwdReferenceIdeal.nD Cert.SconvFwdReferenceIdeal.τ Cert.SconvFwdReferenceIdeal.sig) → Buf (Elt Ideal) ℓ) (g' : Dev Cert.SconvFwdReferenceIdeal.nD → PrngReg), Pre_SconvFwdIdeal m →
    (∀ c : Dev Cert.SconvFwdIdeal.nD,
      m' ((c.tc : Thread Cert.SconvFwdReferenceIdeal.nD Cert.SconvFwdReferenceIdeal.τ).loc Cert.SconvFwdReferenceIdeal.main_arg0) = m ((c.tc : Thread Cert.SconvFwdIdeal.nD Cert.SconvFwdIdeal.τ).loc Cert.SconvFwdIdeal.main_arg0)
      ∧ m' ((c.tc : Thread Cert.SconvFwdReferenceIdeal.nD Cert.SconvFwdReferenceIdeal.τ).loc Cert.SconvFwdReferenceIdeal.main_arg1) = m ((c.tc : Thread Cert.SconvFwdIdeal.nD Cert.SconvFwdIdeal.τ).loc Cert.SconvFwdIdeal.main_arg1)) →
    ∃ (v0 : (c : Dev Cert.SconvFwdIdeal.nD) → Buf (Elt Ideal) ((c.tc : Thread Cert.SconvFwdIdeal.nD Cert.SconvFwdIdeal.τ).loc Cert.SconvFwdIdeal.main_v0)),
      θ_run (Cert.SconvFwdIdeal.defs (F := Ideal)) (onTc (τ := Cert.SconvFwdIdeal.τ) (Cert.SconvFwdIdeal.main (F := Ideal))) ⟨m, fun _ => 0, g⟩ (fun r => ∀ c : Dev Cert.SconvFwdIdeal.nD,
          r.2.mem ((c.tc : Thread Cert.SconvFwdIdeal.nD Cert.SconvFwdIdeal.τ).loc Cert.SconvFwdIdeal.main_v0) = v0 c
          ∧ r.2.mem ((c.tc : Thread Cert.SconvFwdIdeal.nD Cert.SconvFwdIdeal.τ).loc Cert.SconvFwdIdeal.main_arg0) = m ((c.tc : Thread Cert.SconvFwdIdeal.nD Cert.SconvFwdIdeal.τ).loc Cert.SconvFwdIdeal.main_arg0)
          ∧ r.2.mem ((c.tc : Thread Cert.SconvFwdIdeal.nD Cert.SconvFwdIdeal.τ).loc Cert.SconvFwdIdeal.main_arg1) = m ((c.tc : Thread Cert.SconvFwdIdeal.nD Cert.SconvFwdIdeal.τ).loc Cert.SconvFwdIdeal.main_arg1))
      ∧ θ_run (Cert.SconvFwdReferenceIdeal.defs (F := Ideal)) (onTc (τ := Cert.SconvFwdReferenceIdeal.τ) (Cert.SconvFwdReferenceIdeal.main (F := Ideal))) ⟨m', fun _ => 0, g'⟩ (fun r => ∀ c : Dev Cert.SconvFwdReferenceIdeal.nD,
          r.2.mem ((c.tc : Thread Cert.SconvFwdReferenceIdeal.nD Cert.SconvFwdReferenceIdeal.τ).loc Cert.SconvFwdReferenceIdeal.main_v25) = v0 c
          ∧ r.2.mem ((c.tc : Thread Cert.SconvFwdReferenceIdeal.nD Cert.SconvFwdReferenceIdeal.τ).loc Cert.SconvFwdReferenceIdeal.main_arg0) = m' ((c.tc : Thread Cert.SconvFwdReferenceIdeal.nD Cert.SconvFwdReferenceIdeal.τ).loc Cert.SconvFwdReferenceIdeal.main_arg0)
          ∧ r.2.mem ((c.tc : Thread Cert.SconvFwdReferenceIdeal.nD Cert.SconvFwdReferenceIdeal.τ).loc Cert.SconvFwdReferenceIdeal.main_arg1) = m' ((c.tc : Thread Cert.SconvFwdReferenceIdeal.nD Cert.SconvFwdReferenceIdeal.τ).loc Cert.SconvFwdReferenceIdeal.main_arg1))

def preserves_GmlpFwd_GmlpFwdIdeal : Prop :=
  True

def algebraic_GmlpFwdIdeal_GmlpFwdReferenceIdeal [hGmlpFwdIdeal : Cert.GmlpFwdIdeal.Facts] [hGmlpFwdReferenceIdeal : Cert.GmlpFwdReferenceIdeal.Facts] : Prop :=
  ∀ (m : (ℓ : Loc Cert.GmlpFwdIdeal.nD Cert.GmlpFwdIdeal.τ Cert.GmlpFwdIdeal.sig) → Buf (Elt Ideal) ℓ) (g : Dev Cert.GmlpFwdIdeal.nD → PrngReg)
    (m' : (ℓ : Loc Cert.GmlpFwdReferenceIdeal.nD Cert.GmlpFwdReferenceIdeal.τ Cert.GmlpFwdReferenceIdeal.sig) → Buf (Elt Ideal) ℓ) (g' : Dev Cert.GmlpFwdReferenceIdeal.nD → PrngReg), Pre_GmlpFwdIdeal m →
    (∀ c : Dev Cert.GmlpFwdIdeal.nD,
      m' ((c.tc : Thread Cert.GmlpFwdReferenceIdeal.nD Cert.GmlpFwdReferenceIdeal.τ).loc Cert.GmlpFwdReferenceIdeal.main_arg0) = m ((c.tc : Thread Cert.GmlpFwdIdeal.nD Cert.GmlpFwdIdeal.τ).loc Cert.GmlpFwdIdeal.main_arg0)
      ∧ m' ((c.tc : Thread Cert.GmlpFwdReferenceIdeal.nD Cert.GmlpFwdReferenceIdeal.τ).loc Cert.GmlpFwdReferenceIdeal.main_arg1) = m ((c.tc : Thread Cert.GmlpFwdIdeal.nD Cert.GmlpFwdIdeal.τ).loc Cert.GmlpFwdIdeal.main_arg1)
      ∧ m' ((c.tc : Thread Cert.GmlpFwdReferenceIdeal.nD Cert.GmlpFwdReferenceIdeal.τ).loc Cert.GmlpFwdReferenceIdeal.main_arg2) = m ((c.tc : Thread Cert.GmlpFwdIdeal.nD Cert.GmlpFwdIdeal.τ).loc Cert.GmlpFwdIdeal.main_arg2)
      ∧ m' ((c.tc : Thread Cert.GmlpFwdReferenceIdeal.nD Cert.GmlpFwdReferenceIdeal.τ).loc Cert.GmlpFwdReferenceIdeal.main_arg3) = m ((c.tc : Thread Cert.GmlpFwdIdeal.nD Cert.GmlpFwdIdeal.τ).loc Cert.GmlpFwdIdeal.main_arg3)
      ∧ m' ((c.tc : Thread Cert.GmlpFwdReferenceIdeal.nD Cert.GmlpFwdReferenceIdeal.τ).loc Cert.GmlpFwdReferenceIdeal.main_arg4) = m ((c.tc : Thread Cert.GmlpFwdIdeal.nD Cert.GmlpFwdIdeal.τ).loc Cert.GmlpFwdIdeal.main_arg4)) →
    ∃ (v0 : (c : Dev Cert.GmlpFwdIdeal.nD) → Buf (Elt Ideal) ((c.tc : Thread Cert.GmlpFwdIdeal.nD Cert.GmlpFwdIdeal.τ).loc Cert.GmlpFwdIdeal.main_v3)),
      θ_run (Cert.GmlpFwdIdeal.defs (F := Ideal)) (onTc (τ := Cert.GmlpFwdIdeal.τ) (Cert.GmlpFwdIdeal.main (F := Ideal))) ⟨m, fun _ => 0, g⟩ (fun r => ∀ c : Dev Cert.GmlpFwdIdeal.nD,
          r.2.mem ((c.tc : Thread Cert.GmlpFwdIdeal.nD Cert.GmlpFwdIdeal.τ).loc Cert.GmlpFwdIdeal.main_v3) = v0 c
          ∧ r.2.mem ((c.tc : Thread Cert.GmlpFwdIdeal.nD Cert.GmlpFwdIdeal.τ).loc Cert.GmlpFwdIdeal.main_arg0) = m ((c.tc : Thread Cert.GmlpFwdIdeal.nD Cert.GmlpFwdIdeal.τ).loc Cert.GmlpFwdIdeal.main_arg0)
          ∧ r.2.mem ((c.tc : Thread Cert.GmlpFwdIdeal.nD Cert.GmlpFwdIdeal.τ).loc Cert.GmlpFwdIdeal.main_arg1) = m ((c.tc : Thread Cert.GmlpFwdIdeal.nD Cert.GmlpFwdIdeal.τ).loc Cert.GmlpFwdIdeal.main_arg1)
          ∧ r.2.mem ((c.tc : Thread Cert.GmlpFwdIdeal.nD Cert.GmlpFwdIdeal.τ).loc Cert.GmlpFwdIdeal.main_arg2) = m ((c.tc : Thread Cert.GmlpFwdIdeal.nD Cert.GmlpFwdIdeal.τ).loc Cert.GmlpFwdIdeal.main_arg2)
          ∧ r.2.mem ((c.tc : Thread Cert.GmlpFwdIdeal.nD Cert.GmlpFwdIdeal.τ).loc Cert.GmlpFwdIdeal.main_arg3) = m ((c.tc : Thread Cert.GmlpFwdIdeal.nD Cert.GmlpFwdIdeal.τ).loc Cert.GmlpFwdIdeal.main_arg3)
          ∧ r.2.mem ((c.tc : Thread Cert.GmlpFwdIdeal.nD Cert.GmlpFwdIdeal.τ).loc Cert.GmlpFwdIdeal.main_arg4) = m ((c.tc : Thread Cert.GmlpFwdIdeal.nD Cert.GmlpFwdIdeal.τ).loc Cert.GmlpFwdIdeal.main_arg4))
      ∧ θ_run (Cert.GmlpFwdReferenceIdeal.defs (F := Ideal)) (onTc (τ := Cert.GmlpFwdReferenceIdeal.τ) (Cert.GmlpFwdReferenceIdeal.main (F := Ideal))) ⟨m', fun _ => 0, g'⟩ (fun r => ∀ c : Dev Cert.GmlpFwdReferenceIdeal.nD,
          r.2.mem ((c.tc : Thread Cert.GmlpFwdReferenceIdeal.nD Cert.GmlpFwdReferenceIdeal.τ).loc Cert.GmlpFwdReferenceIdeal.main_v41) = v0 c
          ∧ r.2.mem ((c.tc : Thread Cert.GmlpFwdReferenceIdeal.nD Cert.GmlpFwdReferenceIdeal.τ).loc Cert.GmlpFwdReferenceIdeal.main_arg0) = m' ((c.tc : Thread Cert.GmlpFwdReferenceIdeal.nD Cert.GmlpFwdReferenceIdeal.τ).loc Cert.GmlpFwdReferenceIdeal.main_arg0)
          ∧ r.2.mem ((c.tc : Thread Cert.GmlpFwdReferenceIdeal.nD Cert.GmlpFwdReferenceIdeal.τ).loc Cert.GmlpFwdReferenceIdeal.main_arg1) = m' ((c.tc : Thread Cert.GmlpFwdReferenceIdeal.nD Cert.GmlpFwdReferenceIdeal.τ).loc Cert.GmlpFwdReferenceIdeal.main_arg1)
          ∧ r.2.mem ((c.tc : Thread Cert.GmlpFwdReferenceIdeal.nD Cert.GmlpFwdReferenceIdeal.τ).loc Cert.GmlpFwdReferenceIdeal.main_arg2) = m' ((c.tc : Thread Cert.GmlpFwdReferenceIdeal.nD Cert.GmlpFwdReferenceIdeal.τ).loc Cert.GmlpFwdReferenceIdeal.main_arg2)
          ∧ r.2.mem ((c.tc : Thread Cert.GmlpFwdReferenceIdeal.nD Cert.GmlpFwdReferenceIdeal.τ).loc Cert.GmlpFwdReferenceIdeal.main_arg3) = m' ((c.tc : Thread Cert.GmlpFwdReferenceIdeal.nD Cert.GmlpFwdReferenceIdeal.τ).loc Cert.GmlpFwdReferenceIdeal.main_arg3)
          ∧ r.2.mem ((c.tc : Thread Cert.GmlpFwdReferenceIdeal.nD Cert.GmlpFwdReferenceIdeal.τ).loc Cert.GmlpFwdReferenceIdeal.main_arg4) = m' ((c.tc : Thread Cert.GmlpFwdReferenceIdeal.nD Cert.GmlpFwdReferenceIdeal.τ).loc Cert.GmlpFwdReferenceIdeal.main_arg4))

def preserves_SsdConvFwd_SsdConvFwdIdeal : Prop :=
  True

def algebraic_SsdConvFwdIdeal_SsdConvFwdReferenceIdeal [hSsdConvFwdIdeal : Cert.SsdConvFwdIdeal.Facts] [hSsdConvFwdReferenceIdeal : Cert.SsdConvFwdReferenceIdeal.Facts] : Prop :=
  ∀ (m : (ℓ : Loc Cert.SsdConvFwdIdeal.nD Cert.SsdConvFwdIdeal.τ Cert.SsdConvFwdIdeal.sig) → Buf (Elt Ideal) ℓ) (g : Dev Cert.SsdConvFwdIdeal.nD → PrngReg)
    (m' : (ℓ : Loc Cert.SsdConvFwdReferenceIdeal.nD Cert.SsdConvFwdReferenceIdeal.τ Cert.SsdConvFwdReferenceIdeal.sig) → Buf (Elt Ideal) ℓ) (g' : Dev Cert.SsdConvFwdReferenceIdeal.nD → PrngReg), Pre_SsdConvFwdIdeal m →
    (∀ c : Dev Cert.SsdConvFwdIdeal.nD,
      m' ((c.tc : Thread Cert.SsdConvFwdReferenceIdeal.nD Cert.SsdConvFwdReferenceIdeal.τ).loc Cert.SsdConvFwdReferenceIdeal.main_arg0) = m ((c.tc : Thread Cert.SsdConvFwdIdeal.nD Cert.SsdConvFwdIdeal.τ).loc Cert.SsdConvFwdIdeal.main_arg0)
      ∧ m' ((c.tc : Thread Cert.SsdConvFwdReferenceIdeal.nD Cert.SsdConvFwdReferenceIdeal.τ).loc Cert.SsdConvFwdReferenceIdeal.main_arg1) = m ((c.tc : Thread Cert.SsdConvFwdIdeal.nD Cert.SsdConvFwdIdeal.τ).loc Cert.SsdConvFwdIdeal.main_arg1)
      ∧ m' ((c.tc : Thread Cert.SsdConvFwdReferenceIdeal.nD Cert.SsdConvFwdReferenceIdeal.τ).loc Cert.SsdConvFwdReferenceIdeal.main_arg2) = m ((c.tc : Thread Cert.SsdConvFwdIdeal.nD Cert.SsdConvFwdIdeal.τ).loc Cert.SsdConvFwdIdeal.main_arg2)) →
    ∃ (v0 : (c : Dev Cert.SsdConvFwdIdeal.nD) → Buf (Elt Ideal) ((c.tc : Thread Cert.SsdConvFwdIdeal.nD Cert.SsdConvFwdIdeal.τ).loc Cert.SsdConvFwdIdeal.main_v0)),
      θ_run (Cert.SsdConvFwdIdeal.defs (F := Ideal)) (onTc (τ := Cert.SsdConvFwdIdeal.τ) (Cert.SsdConvFwdIdeal.main (F := Ideal))) ⟨m, fun _ => 0, g⟩ (fun r => ∀ c : Dev Cert.SsdConvFwdIdeal.nD,
          r.2.mem ((c.tc : Thread Cert.SsdConvFwdIdeal.nD Cert.SsdConvFwdIdeal.τ).loc Cert.SsdConvFwdIdeal.main_v0) = v0 c
          ∧ r.2.mem ((c.tc : Thread Cert.SsdConvFwdIdeal.nD Cert.SsdConvFwdIdeal.τ).loc Cert.SsdConvFwdIdeal.main_arg0) = m ((c.tc : Thread Cert.SsdConvFwdIdeal.nD Cert.SsdConvFwdIdeal.τ).loc Cert.SsdConvFwdIdeal.main_arg0)
          ∧ r.2.mem ((c.tc : Thread Cert.SsdConvFwdIdeal.nD Cert.SsdConvFwdIdeal.τ).loc Cert.SsdConvFwdIdeal.main_arg1) = m ((c.tc : Thread Cert.SsdConvFwdIdeal.nD Cert.SsdConvFwdIdeal.τ).loc Cert.SsdConvFwdIdeal.main_arg1)
          ∧ r.2.mem ((c.tc : Thread Cert.SsdConvFwdIdeal.nD Cert.SsdConvFwdIdeal.τ).loc Cert.SsdConvFwdIdeal.main_arg2) = m ((c.tc : Thread Cert.SsdConvFwdIdeal.nD Cert.SsdConvFwdIdeal.τ).loc Cert.SsdConvFwdIdeal.main_arg2))
      ∧ θ_run (Cert.SsdConvFwdReferenceIdeal.defs (F := Ideal)) (onTc (τ := Cert.SsdConvFwdReferenceIdeal.τ) (Cert.SsdConvFwdReferenceIdeal.main (F := Ideal))) ⟨m', fun _ => 0, g'⟩ (fun r => ∀ c : Dev Cert.SsdConvFwdReferenceIdeal.nD,
          r.2.mem ((c.tc : Thread Cert.SsdConvFwdReferenceIdeal.nD Cert.SsdConvFwdReferenceIdeal.τ).loc Cert.SsdConvFwdReferenceIdeal.main_v24) = v0 c
          ∧ r.2.mem ((c.tc : Thread Cert.SsdConvFwdReferenceIdeal.nD Cert.SsdConvFwdReferenceIdeal.τ).loc Cert.SsdConvFwdReferenceIdeal.main_arg0) = m' ((c.tc : Thread Cert.SsdConvFwdReferenceIdeal.nD Cert.SsdConvFwdReferenceIdeal.τ).loc Cert.SsdConvFwdReferenceIdeal.main_arg0)
          ∧ r.2.mem ((c.tc : Thread Cert.SsdConvFwdReferenceIdeal.nD Cert.SsdConvFwdReferenceIdeal.τ).loc Cert.SsdConvFwdReferenceIdeal.main_arg1) = m' ((c.tc : Thread Cert.SsdConvFwdReferenceIdeal.nD Cert.SsdConvFwdReferenceIdeal.τ).loc Cert.SsdConvFwdReferenceIdeal.main_arg1)
          ∧ r.2.mem ((c.tc : Thread Cert.SsdConvFwdReferenceIdeal.nD Cert.SsdConvFwdReferenceIdeal.τ).loc Cert.SsdConvFwdReferenceIdeal.main_arg2) = m' ((c.tc : Thread Cert.SsdConvFwdReferenceIdeal.nD Cert.SsdConvFwdReferenceIdeal.τ).loc Cert.SsdConvFwdReferenceIdeal.main_arg2))

def preserves_AdamOut_AdamOutIdeal : Prop :=
  True

def algebraic_AdamOutIdeal_AdamOutReferenceIdeal [hAdamOutIdeal : Cert.AdamOutIdeal.Facts] [hAdamOutReferenceIdeal : Cert.AdamOutReferenceIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutReferenceIdeal.nD Cert.AdamOutReferenceIdeal.τ Cert.AdamOutReferenceIdeal.sig) → Buf (Elt Ideal) ℓ) (g' : Dev Cert.AdamOutReferenceIdeal.nD → PrngReg), Pre_AdamOutIdeal m →
    (∀ c : Dev Cert.AdamOutIdeal.nD,
      m' ((c.tc : Thread Cert.AdamOutReferenceIdeal.nD Cert.AdamOutReferenceIdeal.τ).loc Cert.AdamOutReferenceIdeal.main_arg0) = m ((c.tc : Thread Cert.AdamOutIdeal.nD Cert.AdamOutIdeal.τ).loc Cert.AdamOutIdeal.main_arg0)
      ∧ m' ((c.tc : Thread Cert.AdamOutReferenceIdeal.nD Cert.AdamOutReferenceIdeal.τ).loc Cert.AdamOutReferenceIdeal.main_arg1) = m ((c.tc : Thread Cert.AdamOutIdeal.nD Cert.AdamOutIdeal.τ).loc Cert.AdamOutIdeal.main_arg1)
      ∧ m' ((c.tc : Thread Cert.AdamOutReferenceIdeal.nD Cert.AdamOutReferenceIdeal.τ).loc Cert.AdamOutReferenceIdeal.main_arg2) = m ((c.tc : Thread Cert.AdamOutIdeal.nD Cert.AdamOutIdeal.τ).loc Cert.AdamOutIdeal.main_arg2)
      ∧ m' ((c.tc : Thread Cert.AdamOutReferenceIdeal.nD Cert.AdamOutReferenceIdeal.τ).loc Cert.AdamOutReferenceIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutReferenceIdeal.defs (F := Ideal)) (onTc (τ := Cert.AdamOutReferenceIdeal.τ) (Cert.AdamOutReferenceIdeal.main (F := Ideal))) ⟨m', fun _ => 0, g'⟩ (fun r => ∀ c : Dev Cert.AdamOutReferenceIdeal.nD,
          r.2.mem ((c.tc : Thread Cert.AdamOutReferenceIdeal.nD Cert.AdamOutReferenceIdeal.τ).loc Cert.AdamOutReferenceIdeal.main_v23) = v0 c
          ∧ r.2.mem ((c.tc : Thread Cert.AdamOutReferenceIdeal.nD Cert.AdamOutReferenceIdeal.τ).loc Cert.AdamOutReferenceIdeal.main_v4) = v1 c
          ∧ r.2.mem ((c.tc : Thread Cert.AdamOutReferenceIdeal.nD Cert.AdamOutReferenceIdeal.τ).loc Cert.AdamOutReferenceIdeal.main_v10) = v2 c
          ∧ r.2.mem ((c.tc : Thread Cert.AdamOutReferenceIdeal.nD Cert.AdamOutReferenceIdeal.τ).loc Cert.AdamOutReferenceIdeal.main_arg0) = m' ((c.tc : Thread Cert.AdamOutReferenceIdeal.nD Cert.AdamOutReferenceIdeal.τ).loc Cert.AdamOutReferenceIdeal.main_arg0)
          ∧ r.2.mem ((c.tc : Thread Cert.AdamOutReferenceIdeal.nD Cert.AdamOutReferenceIdeal.τ).loc Cert.AdamOutReferenceIdeal.main_arg1) = m' ((c.tc : Thread Cert.AdamOutReferenceIdeal.nD Cert.AdamOutReferenceIdeal.τ).loc Cert.AdamOutReferenceIdeal.main_arg1)
          ∧ r.2.mem ((c.tc : Thread Cert.AdamOutReferenceIdeal.nD Cert.AdamOutReferenceIdeal.τ).loc Cert.AdamOutReferenceIdeal.main_arg2) = m' ((c.tc : Thread Cert.AdamOutReferenceIdeal.nD Cert.AdamOutReferenceIdeal.τ).loc Cert.AdamOutReferenceIdeal.main_arg2)
          ∧ r.2.mem ((c.tc : Thread Cert.AdamOutReferenceIdeal.nD Cert.AdamOutReferenceIdeal.τ).loc Cert.AdamOutReferenceIdeal.main_arg3) = m' ((c.tc : Thread Cert.AdamOutReferenceIdeal.nD Cert.AdamOutReferenceIdeal.τ).loc Cert.AdamOutReferenceIdeal.main_arg3))

def preserves_AdamIn_AdamInIdeal : Prop :=
  True

def algebraic_AdamInIdeal_AdamInReferenceIdeal [hAdamInIdeal : Cert.AdamInIdeal.Facts] [hAdamInReferenceIdeal : Cert.AdamInReferenceIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInReferenceIdeal.nD Cert.AdamInReferenceIdeal.τ Cert.AdamInReferenceIdeal.sig) → Buf (Elt Ideal) ℓ) (g' : Dev Cert.AdamInReferenceIdeal.nD → PrngReg), Pre_AdamInIdeal m →
    (∀ c : Dev Cert.AdamInIdeal.nD,
      m' ((c.tc : Thread Cert.AdamInReferenceIdeal.nD Cert.AdamInReferenceIdeal.τ).loc Cert.AdamInReferenceIdeal.main_arg0) = m ((c.tc : Thread Cert.AdamInIdeal.nD Cert.AdamInIdeal.τ).loc Cert.AdamInIdeal.main_arg0)
      ∧ m' ((c.tc : Thread Cert.AdamInReferenceIdeal.nD Cert.AdamInReferenceIdeal.τ).loc Cert.AdamInReferenceIdeal.main_arg1) = m ((c.tc : Thread Cert.AdamInIdeal.nD Cert.AdamInIdeal.τ).loc Cert.AdamInIdeal.main_arg1)
      ∧ m' ((c.tc : Thread Cert.AdamInReferenceIdeal.nD Cert.AdamInReferenceIdeal.τ).loc Cert.AdamInReferenceIdeal.main_arg2) = m ((c.tc : Thread Cert.AdamInIdeal.nD Cert.AdamInIdeal.τ).loc Cert.AdamInIdeal.main_arg2)
      ∧ m' ((c.tc : Thread Cert.AdamInReferenceIdeal.nD Cert.AdamInReferenceIdeal.τ).loc Cert.AdamInReferenceIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInReferenceIdeal.defs (F := Ideal)) (onTc (τ := Cert.AdamInReferenceIdeal.τ) (Cert.AdamInReferenceIdeal.main (F := Ideal))) ⟨m', fun _ => 0, g'⟩ (fun r => ∀ c : Dev Cert.AdamInReferenceIdeal.nD,
          r.2.mem ((c.tc : Thread Cert.AdamInReferenceIdeal.nD Cert.AdamInReferenceIdeal.τ).loc Cert.AdamInReferenceIdeal.main_v23) = v0 c
          ∧ r.2.mem ((c.tc : Thread Cert.AdamInReferenceIdeal.nD Cert.AdamInReferenceIdeal.τ).loc Cert.AdamInReferenceIdeal.main_v4) = v1 c
          ∧ r.2.mem ((c.tc : Thread Cert.AdamInReferenceIdeal.nD Cert.AdamInReferenceIdeal.τ).loc Cert.AdamInReferenceIdeal.main_v10) = v2 c
          ∧ r.2.mem ((c.tc : Thread Cert.AdamInReferenceIdeal.nD Cert.AdamInReferenceIdeal.τ).loc Cert.AdamInReferenceIdeal.main_arg0) = m' ((c.tc : Thread Cert.AdamInReferenceIdeal.nD Cert.AdamInReferenceIdeal.τ).loc Cert.AdamInReferenceIdeal.main_arg0)
          ∧ r.2.mem ((c.tc : Thread Cert.AdamInReferenceIdeal.nD Cert.AdamInReferenceIdeal.τ).loc Cert.AdamInReferenceIdeal.main_arg1) = m' ((c.tc : Thread Cert.AdamInReferenceIdeal.nD Cert.AdamInReferenceIdeal.τ).loc Cert.AdamInReferenceIdeal.main_arg1)
          ∧ r.2.mem ((c.tc : Thread Cert.AdamInReferenceIdeal.nD Cert.AdamInReferenceIdeal.τ).loc Cert.AdamInReferenceIdeal.main_arg2) = m' ((c.tc : Thread Cert.AdamInReferenceIdeal.nD Cert.AdamInReferenceIdeal.τ).loc Cert.AdamInReferenceIdeal.main_arg2)
          ∧ r.2.mem ((c.tc : Thread Cert.AdamInReferenceIdeal.nD Cert.AdamInReferenceIdeal.τ).loc Cert.AdamInReferenceIdeal.main_arg3) = m' ((c.tc : Thread Cert.AdamInReferenceIdeal.nD Cert.AdamInReferenceIdeal.τ).loc Cert.AdamInReferenceIdeal.main_arg3))

def preserves_AdamRow_AdamRowIdeal : Prop :=
  True

def algebraic_AdamRowIdeal_AdamRowReferenceIdeal [hAdamRowIdeal : Cert.AdamRowIdeal.Facts] [hAdamRowReferenceIdeal : Cert.AdamRowReferenceIdeal.Facts] : Prop :=
  ∀ (m : (ℓ : Loc Cert.AdamRowIdeal.nD Cert.AdamRowIdeal.τ Cert.AdamRowIdeal.sig) → Buf (Elt Ideal) ℓ) (g : Dev Cert.AdamRowIdeal.nD → PrngReg)
    (m' : (ℓ : Loc Cert.AdamRowReferenceIdeal.nD Cert.AdamRowReferenceIdeal.τ Cert.AdamRowReferenceIdeal.sig) → Buf (Elt Ideal) ℓ) (g' : Dev Cert.AdamRowReferenceIdeal.nD → PrngReg), Pre_AdamRowIdeal m →
    (∀ c : Dev Cert.AdamRowIdeal.nD,
      m' ((c.tc : Thread Cert.AdamRowReferenceIdeal.nD Cert.AdamRowReferenceIdeal.τ).loc Cert.AdamRowReferenceIdeal.main_arg0) = m ((c.tc : Thread Cert.AdamRowIdeal.nD Cert.AdamRowIdeal.τ).loc Cert.AdamRowIdeal.main_arg0)
      ∧ m' ((c.tc : Thread Cert.AdamRowReferenceIdeal.nD Cert.AdamRowReferenceIdeal.τ).loc Cert.AdamRowReferenceIdeal.main_arg1) = m ((c.tc : Thread Cert.AdamRowIdeal.nD Cert.AdamRowIdeal.τ).loc Cert.AdamRowIdeal.main_arg1)
      ∧ m' ((c.tc : Thread Cert.AdamRowReferenceIdeal.nD Cert.AdamRowReferenceIdeal.τ).loc Cert.AdamRowReferenceIdeal.main_arg2) = m ((c.tc : Thread Cert.AdamRowIdeal.nD Cert.AdamRowIdeal.τ).loc Cert.AdamRowIdeal.main_arg2)
      ∧ m' ((c.tc : Thread Cert.AdamRowReferenceIdeal.nD Cert.AdamRowReferenceIdeal.τ).loc Cert.AdamRowReferenceIdeal.main_arg3) = m ((c.tc : Thread Cert.AdamRowIdeal.nD Cert.AdamRowIdeal.τ).loc Cert.AdamRowIdeal.main_arg3)) →
    ∃ (v0 : (c : Dev Cert.AdamRowIdeal.nD) → Buf (Elt Ideal) ((c.tc : Thread Cert.AdamRowIdeal.nD Cert.AdamRowIdeal.τ).loc Cert.AdamRowIdeal.main_v0_0)) (v1 : (c : Dev Cert.AdamRowIdeal.nD) → Buf (Elt Ideal) ((c.tc : Thread Cert.AdamRowIdeal.nD Cert.AdamRowIdeal.τ).loc Cert.AdamRowIdeal.main_v0_1)) (v2 : (c : Dev Cert.AdamRowIdeal.nD) → Buf (Elt Ideal) ((c.tc : Thread Cert.AdamRowIdeal.nD Cert.AdamRowIdeal.τ).loc Cert.AdamRowIdeal.main_v0_2)),
      θ_run (Cert.AdamRowIdeal.defs (F := Ideal)) (onTc (τ := Cert.AdamRowIdeal.τ) (Cert.AdamRowIdeal.main (F := Ideal))) ⟨m, fun _ => 0, g⟩ (fun r => ∀ c : Dev Cert.AdamRowIdeal.nD,
          r.2.mem ((c.tc : Thread Cert.AdamRowIdeal.nD Cert.AdamRowIdeal.τ).loc Cert.AdamRowIdeal.main_v0_0) = v0 c
          ∧ r.2.mem ((c.tc : Thread Cert.AdamRowIdeal.nD Cert.AdamRowIdeal.τ).loc Cert.AdamRowIdeal.main_v0_1) = v1 c
          ∧ r.2.mem ((c.tc : Thread Cert.AdamRowIdeal.nD Cert.AdamRowIdeal.τ).loc Cert.AdamRowIdeal.main_v0_2) = v2 c
          ∧ r.2.mem ((c.tc : Thread Cert.AdamRowIdeal.nD Cert.AdamRowIdeal.τ).loc Cert.AdamRowIdeal.main_arg0) = m ((c.tc : Thread Cert.AdamRowIdeal.nD Cert.AdamRowIdeal.τ).loc Cert.AdamRowIdeal.main_arg0)
          ∧ r.2.mem ((c.tc : Thread Cert.AdamRowIdeal.nD Cert.AdamRowIdeal.τ).loc Cert.AdamRowIdeal.main_arg1) = m ((c.tc : Thread Cert.AdamRowIdeal.nD Cert.AdamRowIdeal.τ).loc Cert.AdamRowIdeal.main_arg1)
          ∧ r.2.mem ((c.tc : Thread Cert.AdamRowIdeal.nD Cert.AdamRowIdeal.τ).loc Cert.AdamRowIdeal.main_arg2) = m ((c.tc : Thread Cert.AdamRowIdeal.nD Cert.AdamRowIdeal.τ).loc Cert.AdamRowIdeal.main_arg2)
          ∧ r.2.mem ((c.tc : Thread Cert.AdamRowIdeal.nD Cert.AdamRowIdeal.τ).loc Cert.AdamRowIdeal.main_arg3) = m ((c.tc : Thread Cert.AdamRowIdeal.nD Cert.AdamRowIdeal.τ).loc Cert.AdamRowIdeal.main_arg3))
      ∧ θ_run (Cert.AdamRowReferenceIdeal.defs (F := Ideal)) (onTc (τ := Cert.AdamRowReferenceIdeal.τ) (Cert.AdamRowReferenceIdeal.main (F := Ideal))) ⟨m', fun _ => 0, g'⟩ (fun r => ∀ c : Dev Cert.AdamRowReferenceIdeal.nD,
          r.2.mem ((c.tc : Thread Cert.AdamRowReferenceIdeal.nD Cert.AdamRowReferenceIdeal.τ).loc Cert.AdamRowReferenceIdeal.main_v23) = v0 c
          ∧ r.2.mem ((c.tc : Thread Cert.AdamRowReferenceIdeal.nD Cert.AdamRowReferenceIdeal.τ).loc Cert.AdamRowReferenceIdeal.main_v4) = v1 c
          ∧ r.2.mem ((c.tc : Thread Cert.AdamRowReferenceIdeal.nD Cert.AdamRowReferenceIdeal.τ).loc Cert.AdamRowReferenceIdeal.main_v10) = v2 c
          ∧ r.2.mem ((c.tc : Thread Cert.AdamRowReferenceIdeal.nD Cert.AdamRowReferenceIdeal.τ).loc Cert.AdamRowReferenceIdeal.main_arg0) = m' ((c.tc : Thread Cert.AdamRowReferenceIdeal.nD Cert.AdamRowReferenceIdeal.τ).loc Cert.AdamRowReferenceIdeal.main_arg0)
          ∧ r.2.mem ((c.tc : Thread Cert.AdamRowReferenceIdeal.nD Cert.AdamRowReferenceIdeal.τ).loc Cert.AdamRowReferenceIdeal.main_arg1) = m' ((c.tc : Thread Cert.AdamRowReferenceIdeal.nD Cert.AdamRowReferenceIdeal.τ).loc Cert.AdamRowReferenceIdeal.main_arg1)
          ∧ r.2.mem ((c.tc : Thread Cert.AdamRowReferenceIdeal.nD Cert.AdamRowReferenceIdeal.τ).loc Cert.AdamRowReferenceIdeal.main_arg2) = m' ((c.tc : Thread Cert.AdamRowReferenceIdeal.nD Cert.AdamRowReferenceIdeal.τ).loc Cert.AdamRowReferenceIdeal.main_arg2)
          ∧ r.2.mem ((c.tc : Thread Cert.AdamRowReferenceIdeal.nD Cert.AdamRowReferenceIdeal.τ).loc Cert.AdamRowReferenceIdeal.main_arg3) = m' ((c.tc : Thread Cert.AdamRowReferenceIdeal.nD Cert.AdamRowReferenceIdeal.τ).loc Cert.AdamRowReferenceIdeal.main_arg3))

def Claim : Prop :=
  ∃ (hKernel : Cert.Kernel.Facts) (hKernelIdeal : Cert.KernelIdeal.Facts) (hReferenceIdeal : Cert.ReferenceIdeal.Facts) (hOddInDw : Cert.OddInDw.Facts) (hOddInDwIdeal : Cert.OddInDwIdeal.Facts) (hOddInDwReferenceIdeal : Cert.OddInDwReferenceIdeal.Facts) (hEvenInDw : Cert.EvenInDw.Facts) (hEvenInDwIdeal : Cert.EvenInDwIdeal.Facts) (hEvenInDwReferenceIdeal : Cert.EvenInDwReferenceIdeal.Facts) (hOutDw : Cert.OutDw.Facts) (hOutDwIdeal : Cert.OutDwIdeal.Facts) (hOutDwReferenceIdeal : Cert.OutDwReferenceIdeal.Facts) (hOutDy : Cert.OutDy.Facts) (hOutDyIdeal : Cert.OutDyIdeal.Facts) (hOutDyReferenceIdeal : Cert.OutDyReferenceIdeal.Facts) (hOddIn : Cert.OddIn.Facts) (hOddInIdeal : Cert.OddInIdeal.Facts) (hOddInReferenceIdeal : Cert.OddInReferenceIdeal.Facts) (hOut : Cert.Out.Facts) (hOutIdeal : Cert.OutIdeal.Facts) (hOutReferenceIdeal : Cert.OutReferenceIdeal.Facts) (hNormBwd : Cert.NormBwd.Facts) (hNormBwdIdeal : Cert.NormBwdIdeal.Facts) (hNormBwdReferenceIdeal : Cert.NormBwdReferenceIdeal.Facts) (hSconvBwd : Cert.SconvBwd.Facts) (hSconvBwdIdeal : Cert.SconvBwdIdeal.Facts) (hSconvBwdReferenceIdeal : Cert.SconvBwdReferenceIdeal.Facts) (hNormFwd : Cert.NormFwd.Facts) (hNormFwdIdeal : Cert.NormFwdIdeal.Facts) (hNormFwdReferenceIdeal : Cert.NormFwdReferenceIdeal.Facts) (hSconvFwd : Cert.SconvFwd.Facts) (hSconvFwdIdeal : Cert.SconvFwdIdeal.Facts) (hSconvFwdReferenceIdeal : Cert.SconvFwdReferenceIdeal.Facts) (hGmlpFwd : Cert.GmlpFwd.Facts) (hGmlpFwdIdeal : Cert.GmlpFwdIdeal.Facts) (hGmlpFwdReferenceIdeal : Cert.GmlpFwdReferenceIdeal.Facts) (hSsdConvFwd : Cert.SsdConvFwd.Facts) (hSsdConvFwdIdeal : Cert.SsdConvFwdIdeal.Facts) (hSsdConvFwdReferenceIdeal : Cert.SsdConvFwdReferenceIdeal.Facts) (hAdamOut : Cert.AdamOut.Facts) (hAdamOutIdeal : Cert.AdamOutIdeal.Facts) (hAdamOutReferenceIdeal : Cert.AdamOutReferenceIdeal.Facts) (hAdamIn : Cert.AdamIn.Facts) (hAdamInIdeal : Cert.AdamInIdeal.Facts) (hAdamInReferenceIdeal : Cert.AdamInReferenceIdeal.Facts) (hAdamRow : Cert.AdamRow.Facts) (hAdamRowIdeal : Cert.AdamRowIdeal.Facts) (hAdamRowReferenceIdeal : Cert.AdamRowReferenceIdeal.Facts) (hPre_finite : Cert.Pre_finite.Facts) (hOn_uvz_columns : Cert.On_uvz_columns.Facts) (hOn_all_but_dz : Cert.On_all_but_dz.Facts),
    quiescent_Kernel (hKernel := hKernel)
    ∧ quiescent_KernelIdeal (hKernelIdeal := hKernelIdeal)
    ∧ quiescent_ReferenceIdeal (hReferenceIdeal := hReferenceIdeal)
    ∧ quiescent_OddInDw (hOddInDw := hOddInDw)
    ∧ quiescent_OddInDwIdeal (hOddInDwIdeal := hOddInDwIdeal)
    ∧ quiescent_OddInDwReferenceIdeal (hOddInDwReferenceIdeal := hOddInDwReferenceIdeal)
    ∧ quiescent_EvenInDw (hEvenInDw := hEvenInDw)
    ∧ quiescent_EvenInDwIdeal (hEvenInDwIdeal := hEvenInDwIdeal)
    ∧ quiescent_EvenInDwReferenceIdeal (hEvenInDwReferenceIdeal := hEvenInDwReferenceIdeal)
    ∧ quiescent_OutDw (hOutDw := hOutDw)
    ∧ quiescent_OutDwIdeal (hOutDwIdeal := hOutDwIdeal)
    ∧ quiescent_OutDwReferenceIdeal (hOutDwReferenceIdeal := hOutDwReferenceIdeal)
    ∧ quiescent_OutDy (hOutDy := hOutDy)
    ∧ quiescent_OutDyIdeal (hOutDyIdeal := hOutDyIdeal)
    ∧ quiescent_OutDyReferenceIdeal (hOutDyReferenceIdeal := hOutDyReferenceIdeal)
    ∧ quiescent_OddIn (hOddIn := hOddIn)
    ∧ quiescent_OddInIdeal (hOddInIdeal := hOddInIdeal)
    ∧ quiescent_OddInReferenceIdeal (hOddInReferenceIdeal := hOddInReferenceIdeal)
    ∧ quiescent_Out (hOut := hOut)
    ∧ quiescent_OutIdeal (hOutIdeal := hOutIdeal)
    ∧ quiescent_OutReferenceIdeal (hOutReferenceIdeal := hOutReferenceIdeal)
    ∧ quiescent_NormBwd (hNormBwd := hNormBwd)
    ∧ quiescent_NormBwdIdeal (hNormBwdIdeal := hNormBwdIdeal)
    ∧ quiescent_NormBwdReferenceIdeal (hNormBwdReferenceIdeal := hNormBwdReferenceIdeal)
    ∧ quiescent_SconvBwd (hSconvBwd := hSconvBwd)
    ∧ quiescent_SconvBwdIdeal (hSconvBwdIdeal := hSconvBwdIdeal)
    ∧ quiescent_SconvBwdIdeal_pre_finite (hSconvBwdIdeal := hSconvBwdIdeal) (hPre_finite := hPre_finite)
    ∧ quiescent_SconvBwdReferenceIdeal (hSconvBwdReferenceIdeal := hSconvBwdReferenceIdeal)
    ∧ quiescent_SconvBwdReferenceIdeal_pre_finite (hSconvBwdReferenceIdeal := hSconvBwdReferenceIdeal) (hPre_finite := hPre_finite)
    ∧ quiescent_NormFwd (hNormFwd := hNormFwd)
    ∧ quiescent_NormFwdIdeal (hNormFwdIdeal := hNormFwdIdeal)
    ∧ quiescent_NormFwdReferenceIdeal (hNormFwdReferenceIdeal := hNormFwdReferenceIdeal)
    ∧ quiescent_SconvFwd (hSconvFwd := hSconvFwd)
    ∧ quiescent_SconvFwdIdeal (hSconvFwdIdeal := hSconvFwdIdeal)
    ∧ quiescent_SconvFwdReferenceIdeal (hSconvFwdReferenceIdeal := hSconvFwdReferenceIdeal)
    ∧ quiescent_GmlpFwd (hGmlpFwd := hGmlpFwd)
    ∧ quiescent_GmlpFwdIdeal (hGmlpFwdIdeal := hGmlpFwdIdeal)
    ∧ quiescent_GmlpFwdReferenceIdeal (hGmlpFwdReferenceIdeal := hGmlpFwdReferenceIdeal)
    ∧ quiescent_SsdConvFwd (hSsdConvFwd := hSsdConvFwd)
    ∧ quiescent_SsdConvFwdIdeal (hSsdConvFwdIdeal := hSsdConvFwdIdeal)
    ∧ quiescent_SsdConvFwdReferenceIdeal (hSsdConvFwdReferenceIdeal := hSsdConvFwdReferenceIdeal)
    ∧ quiescent_AdamOut (hAdamOut := hAdamOut)
    ∧ quiescent_AdamOutIdeal (hAdamOutIdeal := hAdamOutIdeal)
    ∧ quiescent_AdamOutReferenceIdeal (hAdamOutReferenceIdeal := hAdamOutReferenceIdeal)
    ∧ quiescent_AdamIn (hAdamIn := hAdamIn)
    ∧ quiescent_AdamInIdeal (hAdamInIdeal := hAdamInIdeal)
    ∧ quiescent_AdamInReferenceIdeal (hAdamInReferenceIdeal := hAdamInReferenceIdeal)
    ∧ quiescent_AdamRow (hAdamRow := hAdamRow)
    ∧ quiescent_AdamRowIdeal (hAdamRowIdeal := hAdamRowIdeal)
    ∧ quiescent_AdamRowReferenceIdeal (hAdamRowReferenceIdeal := hAdamRowReferenceIdeal)
    ∧ preserves_Kernel_KernelIdeal
    ∧ algebraic_KernelIdeal_ReferenceIdeal_on_uvz_columns (hKernelIdeal := hKernelIdeal) (hReferenceIdeal := hReferenceIdeal) (hOn_uvz_columns := hOn_uvz_columns)
    ∧ preserves_OddInDw_OddInDwIdeal
    ∧ algebraic_OddInDwIdeal_OddInDwReferenceIdeal (hOddInDwIdeal := hOddInDwIdeal) (hOddInDwReferenceIdeal := hOddInDwReferenceIdeal)
    ∧ preserves_EvenInDw_EvenInDwIdeal
    ∧ algebraic_EvenInDwIdeal_EvenInDwReferenceIdeal (hEvenInDwIdeal := hEvenInDwIdeal) (hEvenInDwReferenceIdeal := hEvenInDwReferenceIdeal)
    ∧ preserves_OutDw_OutDwIdeal
    ∧ algebraic_OutDwIdeal_OutDwReferenceIdeal (hOutDwIdeal := hOutDwIdeal) (hOutDwReferenceIdeal := hOutDwReferenceIdeal)
    ∧ preserves_OutDy_OutDyIdeal
    ∧ algebraic_OutDyIdeal_OutDyReferenceIdeal (hOutDyIdeal := hOutDyIdeal) (hOutDyReferenceIdeal := hOutDyReferenceIdeal)
    ∧ preserves_OddIn_OddInIdeal
    ∧ algebraic_OddInIdeal_OddInReferenceIdeal (hOddInIdeal := hOddInIdeal) (hOddInReferenceIdeal := hOddInReferenceIdeal)
    ∧ preserves_Out_OutIdeal
    ∧ algebraic_OutIdeal_OutReferenceIdeal (hOutIdeal := hOutIdeal) (hOutReferenceIdeal := hOutReferenceIdeal)
    ∧ preserves_NormBwd_NormBwdIdeal
    ∧ algebraic_NormBwdIdeal_NormBwdReferenceIdeal (hNormBwdIdeal := hNormBwdIdeal) (hNormBwdReferenceIdeal := hNormBwdReferenceIdeal)
    ∧ preserves_SconvBwd_SconvBwdIdeal
    ∧ algebraic_SconvBwdIdeal_SconvBwdReferenceIdeal_on_all_but_dz (hSconvBwdIdeal := hSconvBwdIdeal) (hSconvBwdReferenceIdeal := hSconvBwdReferenceIdeal) (hOn_all_but_dz := hOn_all_but_dz)
    ∧ algebraic_SconvBwdIdeal_SconvBwdReferenceIdeal_pre_finite (hSconvBwdIdeal := hSconvBwdIdeal) (hSconvBwdReferenceIdeal := hSconvBwdReferenceIdeal) (hPre_finite := hPre_finite)
    ∧ preserves_NormFwd_NormFwdIdeal
    ∧ algebraic_NormFwdIdeal_NormFwdReferenceIdeal (hNormFwdIdeal := hNormFwdIdeal) (hNormFwdReferenceIdeal := hNormFwdReferenceIdeal)
    ∧ preserves_SconvFwd_SconvFwdIdeal
    ∧ algebraic_SconvFwdIdeal_SconvFwdReferenceIdeal (hSconvFwdIdeal := hSconvFwdIdeal) (hSconvFwdReferenceIdeal := hSconvFwdReferenceIdeal)
    ∧ preserves_GmlpFwd_GmlpFwdIdeal
    ∧ algebraic_GmlpFwdIdeal_GmlpFwdReferenceIdeal (hGmlpFwdIdeal := hGmlpFwdIdeal) (hGmlpFwdReferenceIdeal := hGmlpFwdReferenceIdeal)
    ∧ preserves_SsdConvFwd_SsdConvFwdIdeal
    ∧ algebraic_SsdConvFwdIdeal_SsdConvFwdReferenceIdeal (hSsdConvFwdIdeal := hSsdConvFwdIdeal) (hSsdConvFwdReferenceIdeal := hSsdConvFwdReferenceIdeal)
    ∧ preserves_AdamOut_AdamOutIdeal
    ∧ algebraic_AdamOutIdeal_AdamOutReferenceIdeal (hAdamOutIdeal := hAdamOutIdeal) (hAdamOutReferenceIdeal := hAdamOutReferenceIdeal)
    ∧ preserves_AdamIn_AdamInIdeal
    ∧ algebraic_AdamInIdeal_AdamInReferenceIdeal (hAdamInIdeal := hAdamInIdeal) (hAdamInReferenceIdeal := hAdamInReferenceIdeal)
    ∧ preserves_AdamRow_AdamRowIdeal
    ∧ algebraic_AdamRowIdeal_AdamRowReferenceIdeal (hAdamRowIdeal := hAdamRowIdeal) (hAdamRowReferenceIdeal := hAdamRowReferenceIdeal)
-- ==== On_all_but_dz.lean ====
abbrev S8192x16384 : Shape := ⟨2, ![8192, 16384]⟩
abbrev S8192x4096 : Shape := ⟨2, ![8192, 4096]⟩
abbrev S3x2048 : Shape := ⟨2, ![3, 2048]⟩
abbrev S_ : Shape := ⟨0, ![]⟩
abbrev S8192x2048 : Shape := ⟨2, ![8192, 2048]⟩

class Facts : Prop where
  bcast_S_S8192x2048 : S_.BroadcastsInDim S8192x2048 (![] : Fin 0 → Fin S8192x2048.rank)
  bcast_S_S3x2048 : S_.BroadcastsInDim S3x2048 (![] : Fin 0 → Fin S3x2048.rank)

variable [Facts]

def fn {F : FTy → Type} [FloatOps F] (main_arg0 : FVec F S8192x16384 .f32) (main_arg1 : FVec F S8192x4096 .f32) (main_arg2 : FVec F S3x2048 .f32) : IVec S8192x2048 1 × IVec S8192x2048 1 × IVec S8192x2048 1 × IVec S8192x2048 1 × IVec S3x2048 1 :=
  let main_c : IVec S_ 1 := constantI S_ 1 1#1
  let main_v0 : IVec S8192x2048 1 := broadcastInDim S8192x2048 ![] bcast_S_S8192x2048 main_c
  let main_c_0 : IVec S_ 1 := constantI S_ 1 0#1
  let main_v1 : IVec S8192x2048 1 := broadcastInDim S8192x2048 ![] bcast_S_S8192x2048 main_c_0
  let main_c_1 : IVec S_ 1 := constantI S_ 1 1#1
  let main_v2 : IVec S3x2048 1 := broadcastInDim S3x2048 ![] bcast_S_S3x2048 main_c_1
  (main_v0, main_v0, main_v0, main_v1, main_v2)
-- ==== On_uvz_columns.lean ====
abbrev S8192x12288 : Shape := ⟨2, ![8192, 12288]⟩
abbrev S8192x4096 : Shape := ⟨2, ![8192, 4096]⟩
abbrev S1x2048 : Shape := ⟨2, ![1, 2048]⟩
abbrev S1x8x128x128 : Shape := ⟨4, ![1, 8, 128, 128]⟩
abbrev S1x8x128 : Shape := ⟨3, ![1, 8, 128]⟩
abbrev S_ : Shape := ⟨0, ![]⟩
abbrev S8x128x128 : Shape := ⟨3, ![8, 128, 128]⟩
abbrev S128x8 : Shape := ⟨2, ![128, 8]⟩

class Facts : Prop where
  bcast_S_S8192x12288 : S_.BroadcastsInDim S8192x12288 (![] : Fin 0 → Fin S8192x12288.rank)
  bcast_S_S1x2048 : S_.BroadcastsInDim S1x2048 (![] : Fin 0 → Fin S1x2048.rank)
  bcast_S_S8x128x128 : S_.BroadcastsInDim S8x128x128 (![] : Fin 0 → Fin S8x128x128.rank)
  bcast_S_S128x8 : S_.BroadcastsInDim S128x8 (![] : Fin 0 → Fin S128x8.rank)

variable [Facts]

def fn {F : FTy → Type} [FloatOps F] (main_arg0 : FVec F S8192x12288 .f32) (main_arg1 : FVec F S8192x4096 .f32) (main_arg2 : FVec F S1x2048 .f32) (main_arg3 : FVec F S1x2048 .f32) (main_arg4 : FVec F S1x8x128x128 .f32) (main_arg5 : FVec F S1x8x128 .f32) : IVec S8192x12288 1 × IVec S1x2048 1 × IVec S1x2048 1 × IVec S8x128x128 1 × IVec S128x8 1 :=
  let main_v0 : IVec S8192x12288 32 := iotaInDim S8192x12288 32 1
  let main_c : IVec S_ 32 := constantI S_ 32 6144#32
  let main_v1 : IVec S8192x12288 32 := broadcastInDim S8192x12288 ![] bcast_S_S8192x12288 main_c
  let main_v2 : IVec S8192x12288 1 := cmpi .slt main_v0 main_v1
  let main_c_0 : IVec S_ 1 := constantI S_ 1 1#1
  let main_v3 : IVec S1x2048 1 := broadcastInDim S1x2048 ![] bcast_S_S1x2048 main_c_0
  let main_c_1 : IVec S_ 1 := constantI S_ 1 1#1
  let main_v4 : IVec S1x2048 1 := broadcastInDim S1x2048 ![] bcast_S_S1x2048 main_c_1
  let main_c_2 : IVec S_ 1 := constantI S_ 1 1#1
  let main_v5 : IVec S8x128x128 1 := broadcastInDim S8x128x128 ![] bcast_S_S8x128x128 main_c_2
  let main_c_3 : IVec S_ 1 := constantI S_ 1 1#1
  let main_v6 : IVec S128x8 1 := broadcastInDim S128x8 ![] bcast_S_S128x8 main_c_3
  (main_v2, main_v3, main_v4, main_v5, main_v6)
-- ==== Pre_finite.lean ====
abbrev S8192x16384 : Shape := ⟨2, ![8192, 16384]⟩
abbrev S8192x4096 : Shape := ⟨2, ![8192, 4096]⟩
abbrev S3x2048 : Shape := ⟨2, ![3, 2048]⟩
abbrev S_ : Shape := ⟨0, ![]⟩

class Facts : Prop where
  bcast_S_S8192x16384 : S_.BroadcastsInDim S8192x16384 (![] : Fin 0 → Fin S8192x16384.rank)
  bcast_S_S8192x4096 : S_.BroadcastsInDim S8192x4096 (![] : Fin 0 → Fin S8192x4096.rank)
  bcast_S_S3x2048 : S_.BroadcastsInDim S3x2048 (![] : Fin 0 → Fin S3x2048.rank)

variable [Facts]

def fn {F : FTy → Type} [FloatOps F] (main_arg0 : FVec F S8192x16384 .f32) (main_arg1 : FVec F S8192x4096 .f32) (main_arg2 : FVec F S3x2048 .f32) : IVec S8192x16384 1 × IVec S8192x4096 1 × IVec S3x2048 1 :=
  let main_v0 : FVec F S8192x16384 .f32 := Host.absf main_arg0
  let main_cst : FVec F S_ .f32 := constant S_ .f32 0x7F800000#32
  let main_v1 : FVec F S8192x16384 .f32 := broadcastInDim S8192x16384 ![] bcast_S_S8192x16384 main_cst
  let main_v2 : IVec S8192x16384 1 := cmpf .olt main_v0 main_v1
  let main_v3 : FVec F S8192x4096 .f32 := Host.absf main_arg1
  let main_cst_0 : FVec F S_ .f32 := constant S_ .f32 0x7F800000#32
  let main_v4 : FVec F S8192x4096 .f32 := broadcastInDim S8192x4096 ![] bcast_S_S8192x4096 main_cst_0
  let main_v5 : IVec S8192x4096 1 := cmpf .olt main_v3 main_v4
  let main_v6 : FVec F S3x2048 .f32 := Host.absf main_arg2
  let main_cst_1 : FVec F S_ .f32 := constant S_ .f32 0x7F800000#32
  let main_v7 : FVec F S3x2048 .f32 := broadcastInDim S3x2048 ![] bcast_S_S3x2048 main_cst_1
  let main_v8 : IVec S3x2048 1 := cmpf .olt main_v6 main_v7
  (main_v2, main_v5, main_v8)
-- ==== Kernel.lean ====
abbrev S8192x12288 : Shape := ⟨2, ![8192, 12288]⟩
abbrev S8192x4096 : Shape := ⟨2, ![8192, 4096]⟩
abbrev S1x2048 : Shape := ⟨2, ![1, 2048]⟩
abbrev S1x8x128x128 : Shape := ⟨4, ![1, 8, 128, 128]⟩
abbrev S1x8x128 : Shape := ⟨3, ![1, 8, 128]⟩
abbrev S8x128x128 : Shape := ⟨3, ![8, 128, 128]⟩
abbrev S8x128 : Shape := ⟨2, ![8, 128]⟩
abbrev S128x8 : Shape := ⟨2, ![128, 8]⟩
abbrev S128x2048 : Shape := ⟨2, ![128, 2048]⟩
abbrev S128x6144 : Shape := ⟨2, ![128, 6144]⟩
abbrev S128x128 : Shape := ⟨2, ![128, 128]⟩
abbrev S1x128x128 : Shape := ⟨3, ![1, 128, 128]⟩
abbrev S128 : Shape := ⟨1, ![128]⟩
abbrev S128x1 : Shape := ⟨2, ![128, 1]⟩
abbrev S128x256 : Shape := ⟨2, ![128, 256]⟩
abbrev S128x7 : Shape := ⟨2, ![128, 7]⟩
abbrev S256x128 : Shape := ⟨2, ![256, 128]⟩
abbrev S128x1792 : Shape := ⟨2, ![128, 1792]⟩
abbrev S7x128x128 : Shape := ⟨3, ![7, 128, 128]⟩
abbrev S128x6 : Shape := ⟨2, ![128, 6]⟩
abbrev S128x1536 : Shape := ⟨2, ![128, 1536]⟩
abbrev S6x128x128 : Shape := ⟨3, ![6, 128, 128]⟩
abbrev S128x5 : Shape := ⟨2, ![128, 5]⟩
abbrev S128x2 : Shape := ⟨2, ![128, 2]⟩
abbrev S128x1280 : Shape := ⟨2, ![128, 1280]⟩
abbrev S128x512 : Shape := ⟨2, ![128, 512]⟩
abbrev S5x128x128 : Shape := ⟨3, ![5, 128, 128]⟩
abbrev S2x128x128 : Shape := ⟨3, ![2, 128, 128]⟩
abbrev S128x4 : Shape := ⟨2, ![128, 4]⟩
abbrev S128x3 : Shape := ⟨2, ![128, 3]⟩
abbrev S128x1024 : Shape := ⟨2, ![128, 1024]⟩
abbrev S128x768 : Shape := ⟨2, ![128, 768]⟩
abbrev S4x128x128 : Shape := ⟨3, ![4, 128, 128]⟩
abbrev S3x128x128 : Shape := ⟨3, ![3, 128, 128]⟩
abbrev S2048 : Shape := ⟨1, ![2048]⟩

abbrev nBuf : Space → Nat
  | .hbm => 14
  | .vmem => 18
  | .smem => 0
  | _ => 0

abbrev bufTy : (tb : Table) → Fin (tcTables nBuf tb) → BufTy
  | .hbm, ⟨0, _⟩ => ⟨S8192x12288, .f32⟩
  | .hbm, ⟨1, _⟩ => ⟨S8192x4096, .f32⟩
  | .hbm, ⟨2, _⟩ => ⟨S1x2048, .f32⟩
  | .hbm, ⟨3, _⟩ => ⟨S1x2048, .f32⟩
  | .hbm, ⟨4, _⟩ => ⟨S1x8x128x128, .f32⟩
  | .hbm, ⟨5, _⟩ => ⟨S1x8x128, .f32⟩
  | .hbm, ⟨6, _⟩ => ⟨S8x128x128, .f32⟩
  | .hbm, ⟨7, _⟩ => ⟨S8x128, .f32⟩
  | .hbm, ⟨8, _⟩ => ⟨S128x8, .f32⟩
  | .hbm, ⟨9, _⟩ => ⟨S8192x12288, .bf16⟩
  | .hbm, ⟨10, _⟩ => ⟨S1x2048, .f32⟩
  | .hbm, ⟨11, _⟩ => ⟨S1x2048, .f32⟩
  | .hbm, ⟨12, _⟩ => ⟨S8x128x128, .f32⟩
  | .hbm, ⟨13, _⟩ => ⟨S128x8, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S1x2048, .f32⟩
  | .local _ .vmem, ⟨9, _⟩ => ⟨S1x2048, .f32⟩
  | .local _ .vmem, ⟨10, _⟩ => ⟨S8x128x128, .f32⟩
  | .local _ .vmem, ⟨11, _⟩ => ⟨S128x8, .f32⟩
  | .local _ .vmem, ⟨12, _⟩ => ⟨S128x6144, .bf16⟩
  | .local _ .vmem, ⟨13, _⟩ => ⟨S128x6144, .bf16⟩
  | .local _ .vmem, ⟨14, _⟩ => ⟨S1x2048, .f32⟩
  | .local _ .vmem, ⟨15, _⟩ => ⟨S1x2048, .f32⟩
  | .local _ .vmem, ⟨16, _⟩ => ⟨S8x128x128, .f32⟩
  | .local _ .vmem, ⟨17, _⟩ => ⟨S128x8, .f32⟩
  | _, _ => ⟨S8192x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem12_0 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x6144 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x8 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S8192x12288 : Shape := ⟨2, ![8192, 12288]⟩
abbrev S8192x4096 : Shape := ⟨2, ![8192, 4096]⟩
abbrev S1x2048 : Shape := ⟨2, ![1, 2048]⟩
abbrev S1x8x128x128 : Shape := ⟨4, ![1, 8, 128, 128]⟩
abbrev S1x8x128 : Shape := ⟨3, ![1, 8, 128]⟩
abbrev S8192x6144 : Shape := ⟨2, ![8192, 6144]⟩
abbrev S8x128x128 : Shape := ⟨3, ![8, 128, 128]⟩
abbrev S8x128 : Shape := ⟨2, ![8, 128]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S128x128 : Shape := ⟨2, ![128, 128]⟩
abbrev S64x128x8x256 : Shape := ⟨4, ![64, 128, 8, 256]⟩
abbrev S8x64x256x128 : Shape := ⟨4, ![8, 64, 256, 128]⟩
abbrev S128x8 : Shape := ⟨2, ![128, 8]⟩
abbrev S1x128x8x1 : Shape := ⟨4, ![1, 128, 8, 1]⟩
abbrev S2048 : Shape := ⟨1, ![2048]⟩

abbrev nBuf : Space → Nat
  | .hbm => 148
  | .vmem => 0
  | .smem => 0
  | _ => 0

abbrev hbmTy0_0 (i : Nat) : BufTy := match i % 128 with
  | 0 => ⟨S8192x12288, .f32⟩
  | 1 => ⟨S8192x4096, .f32⟩
  | 2 => ⟨S1x2048, .f32⟩
  | 3 => ⟨S1x2048, .f32⟩
  | 4 => ⟨S1x8x128x128, .f32⟩
  | 5 => ⟨S1x8x128, .f32⟩
  | 6 => ⟨S8192x6144, .f32⟩
  | 7 => ⟨S8x128x128, .f32⟩
  | 8 => ⟨S8x128, .f32⟩
  | 9 => ⟨S8192x2048, .f32⟩
  | 10 => ⟨S8192x2048, .f32⟩
  | 11 => ⟨S8192x2048, .f32⟩
  | 12 => ⟨S_, .f32⟩
  | 13 => ⟨S8192, .f32⟩
  | 14 => ⟨S8192x1, .f32⟩
  | 15 => ⟨S_, .f32⟩
  | 16 => ⟨S8192x1, .f32⟩
  | 17 => ⟨S8192x1, .f32⟩
  | 18 => ⟨S8192x2048, .f32⟩
  | 19 => ⟨S8192x2048, .f32⟩
  | 20 => ⟨S8192x2048, .f32⟩
  | 21 => ⟨S_, .f32⟩
  | 22 => ⟨S8192, .f32⟩
  | 23 => ⟨S8192x1, .f32⟩
  | 24 => ⟨S_, .f32⟩
  | 25 => ⟨S8192x1, .f32⟩
  | 26 => ⟨S8192x1, .f32⟩
  | 27 => ⟨S_, .f32⟩
  | 28 => ⟨S8192x1, .f32⟩
  | 29 => ⟨S8192x1, .f32⟩
  | 30 => ⟨S8192x1, .f32⟩
  | 31 => ⟨S8192x1, .f32⟩
  | 32 => ⟨S_, .f32⟩
  | 33 => ⟨S8192x1, .f32⟩
  | 34 => ⟨S8192x1, .f32⟩
  | 35 => ⟨S8192x2048, .f32⟩
  | 36 => ⟨S8192x2048, .f32⟩
  | 37 => ⟨S8192x2048, .f32⟩
  | 38 => ⟨S8192x2048, .f32⟩
  | 39 => ⟨S8192x2048, .f32⟩
  | 40 => ⟨S8192x2048, .f32⟩
  | 41 => ⟨S_, .i1⟩
  | 42 => ⟨S128x128, .i1⟩
  | 43 => ⟨S128x128, .i32⟩
  | 44 => ⟨S_, .i32⟩
  | 45 => ⟨S128x128, .i32⟩
  | 46 => ⟨S128x128, .i32⟩
  | 47 => ⟨S128x128, .i32⟩
  | 48 => ⟨S128x128, .i1⟩
  | 49 => ⟨S_, .i1⟩
  | 50 => ⟨S128x128, .i1⟩
  | 51 => ⟨S128x128, .i1⟩
  | 52 => ⟨S_, .f32⟩
  | 53 => ⟨S8x128x128, .f32⟩
  | 54 => ⟨S8x128x128, .i1⟩
  | 55 => ⟨S8x128x128, .f32⟩
  | 56 => ⟨S_, .f32⟩
  | 57 => ⟨S8x128x128, .f32⟩
  | 58 => ⟨S64x128x8x256, .f32⟩
  | 59 => ⟨S8x64x256x128, .f32⟩
  | 60 => ⟨S64x128x8x256, .f32⟩
  | 61 => ⟨S128x8, .f32⟩
  | 62 => ⟨S1x128x8x1, .f32⟩
  | 63 => ⟨S64x128x8x256, .f32⟩
  | 64 => ⟨S64x128x8x256, .f32⟩
  | 65 => ⟨S8192x2048, .f32⟩
  | 66 => ⟨S8192x2048, .f32⟩
  | 67 => ⟨S_, .f32⟩
  | 68 => ⟨S8192x2048, .f32⟩
  | 69 => ⟨S8192x2048, .f32⟩
  | 70 => ⟨S_, .f32⟩
  | 71 => ⟨S8192x2048, .f32⟩
  | 72 => ⟨S8192x2048, .f32⟩
  | 73 => ⟨S_, .f32⟩
  | 74 => ⟨S8192x2048, .f32⟩
  | 75 => ⟨S8192x2048, .f32⟩
  | 76 => ⟨S8192x2048, .f32⟩
  | 77 => ⟨S8192x2048, .f32⟩
  | 78 => ⟨S8192x2048, .f32⟩
  | 79 => ⟨S8192x2048, .f32⟩
  | 80 => ⟨S8192x2048, .f32⟩
  | 81 => ⟨S8192x2048, .f32⟩
  | 82 => ⟨S8192x2048, .f32⟩
  | 83 => ⟨S8192x2048, .f32⟩
  | 84 => ⟨S8192x2048, .f32⟩
  | 85 => ⟨S8192x2048, .f32⟩
  | 86 => ⟨S64x128x8x256, .f32⟩
  | 87 => ⟨S8192x2048, .f32⟩
  | 88 => ⟨S8192x2048, .f32⟩
  | 89 => ⟨S8192x2048, .f32⟩
  | 90 => ⟨S8192x2048, .f32⟩
  | 91 => ⟨S_, .f32⟩
  | 92 => ⟨S128x8, .f32⟩
  | 93 => ⟨S1x128x8x1, .f32⟩
  | 94 => ⟨S_, .f32⟩
  | 95 => ⟨S128x8, .f32⟩
  | 96 => ⟨S8x128, .f32⟩
  | 97 => ⟨S8x64x256x128, .f32⟩
  | 98 => ⟨S8x128x128, .f32⟩
  | 99 => ⟨S8x64x256x128, .f32⟩
  | 100 => ⟨S64x128x8x256, .f32⟩
  | 101 => ⟨S8192x2048, .f32⟩
  | 102 => ⟨S_, .f32⟩
  | 103 => ⟨S8x128x128, .f32⟩
  | 104 => ⟨S8x128x128, .f32⟩
  | 105 => ⟨S_, .f32⟩
  | 106 => ⟨S2048, .f32⟩
  | 107 => ⟨S1x2048, .f32⟩
  | 108 => ⟨S8192x2048, .f32⟩
  | 109 => ⟨S_, .f32⟩
  | 110 => ⟨S2048, .f32⟩
  | 111 => ⟨S1x2048, .f32⟩
  | 112 => ⟨S8192x2048, .f32⟩
  | 113 => ⟨S8192x2048, .f32⟩
  | 114 => ⟨S8192x2048, .f32⟩
  | 115 => ⟨S_, .f32⟩
  | 116 => ⟨S8192, .f32⟩
  | 117 => ⟨S8192x1, .f32⟩
  | 118 => ⟨S8192x2048, .f32⟩
  | 119 => ⟨S8192x2048, .f32⟩
  | 120 => ⟨S8192x1, .f32⟩
  | 121 => ⟨S_, .f32⟩
  | 122 => ⟨S8192x1, .f32⟩
  | 123 => ⟨S8192x1, .f32⟩
  | 124 => ⟨S_, .f32⟩
  | 125 => ⟨S8192, .f32⟩
  | 126 => ⟨S8192x2048, .f32⟩
  | 127 => ⟨S8192x2048, .f32⟩
  | _ => ⟨S8192x12288, .f32⟩

abbrev hbmTy0_1 (i : Nat) : BufTy := match i % 128 with
  | 0 => ⟨S8192x2048, .f32⟩
  | 1 => ⟨S8192x2048, .f32⟩
  | 2 => ⟨S8192x2048, .f32⟩
  | 3 => ⟨S8192x2048, .f32⟩
  | 4 => ⟨S_, .f32⟩
  | 5 => ⟨S8192, .f32⟩
  | 6 => ⟨S8192x1, .f32⟩
  | 7 => ⟨S_, .f32⟩
  | 8 => ⟨S8192x1, .f32⟩
  | 9 => ⟨S8192x1, .f32⟩
  | 10 => ⟨S_, .f32⟩
  | 11 => ⟨S8192, .f32⟩
  | 12 => ⟨S8192x2048, .f32⟩
  | 13 => ⟨S8192x2048, .f32⟩
  | 14 => ⟨S8192x6144, .f32⟩
  | 15 => ⟨S_, .i32⟩
  | 16 => ⟨S_, .f32⟩
  | 17 => ⟨S8192x12288, .f32⟩
  | 18 => ⟨S8192x12288, .bf16⟩
  | 19 => ⟨S128x8, .f32⟩
  | _ => ⟨S8192x12288, .f32⟩

abbrev hbmTy (i : Nat) : BufTy := match i / 128 with
  | 0 => hbmTy0_0 i
  | 1 => hbmTy0_1 i
  | _ => ⟨S8192x12288, .f32⟩

abbrev bufTy : (tb : Table) → Fin (tcTables nBuf tb) → BufTy
  | .hbm, ⟨i, _⟩ => hbmTy i
  | _, _ => ⟨S8192x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c : Ref sig .tc := ⟨.hbm, 41, rfl⟩
abbrev main_v29 : Ref sig .tc := ⟨.hbm, 42, rfl⟩
abbrev main_call0_v0 : Ref sig .tc := ⟨.hbm, 43, rfl⟩
abbrev main_call0_c : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_call0_c_0 : Ref sig .tc := ⟨.hbm, 49, rfl⟩
abbrev main_call0_v5 : Ref sig .tc := ⟨.hbm, 50, rfl⟩
abbrev main_v30 : Ref sig .tc := ⟨.hbm, 51, rfl⟩
abbrev main_cst_5 : Ref sig .tc := ⟨.hbm, 52, rfl⟩
abbrev main_v31 : Ref sig .tc := ⟨.hbm, 53, rfl⟩
abbrev main_v32_1 : Ref sig .tc := ⟨.hbm, 54, rfl⟩
abbrev main_v32_0 : Ref sig .tc := ⟨.hbm, 55, rfl⟩
abbrev main_call1_cst : Ref sig .tc := ⟨.hbm, 56, rfl⟩
abbrev main_v32_2 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_call2_v0 : Ref sig .tc := ⟨.hbm, 65, rfl⟩
abbrev main_call2_v1 : Ref sig .tc := ⟨.hbm, 66, rfl⟩
abbrev main_call2_cst : Ref sig .tc := ⟨.hbm, 67, rfl⟩
abbrev main_call2_v2 : Ref sig .tc := ⟨.hbm, 68, rfl⟩
abbrev main_call2_v3 : Ref sig .tc := ⟨.hbm, 69, rfl⟩
abbrev main_call2_cst_0 : Ref sig .tc := ⟨.hbm, 70, rfl⟩
abbrev main_call2_v4 : Ref sig .tc := ⟨.hbm, 71, rfl⟩
abbrev main_v40_2 : Ref sig .tc := ⟨.hbm, 72, rfl⟩
abbrev main_call2_cst_1 : Ref sig .tc := ⟨.hbm, 73, rfl⟩
abbrev main_call2_v6 : Ref sig .tc := ⟨.hbm, 74, rfl⟩
abbrev main_call2_v7 : Ref sig .tc := ⟨.hbm, 75, rfl⟩
abbrev main_v40_1 : Ref sig .tc := ⟨.hbm, 76, rfl⟩
abbrev main_v40_0 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_call3_v0 : Ref sig .tc := ⟨.hbm, 87, rfl⟩
abbrev main_call3_v1 : Ref sig .tc := ⟨.hbm, 88, rfl⟩
abbrev main_call3_v2 : Ref sig .tc := ⟨.hbm, 89, rfl⟩
abbrev main_v50 : Ref sig .tc := ⟨.hbm, 90, rfl⟩
abbrev main_cst_6 : Ref sig .tc := ⟨.hbm, 91, rfl⟩
abbrev main_v51 : Ref sig .tc := ⟨.hbm, 92, rfl⟩
abbrev main_v52 : Ref sig .tc := ⟨.hbm, 93, rfl⟩
abbrev main_cst_7 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_call4_cst : Ref sig .tc := ⟨.hbm, 102, rfl⟩
abbrev main_call4_v0 : Ref sig .tc := ⟨.hbm, 103, rfl⟩
abbrev main_v60 : Ref sig .tc := ⟨.hbm, 104, rfl⟩
abbrev main_cst_8 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_cst_9 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_cst_10 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_cst_11 : Ref sig .tc := ⟨.hbm, 121, rfl⟩
abbrev main_v74 : Ref sig .tc := ⟨.hbm, 122, rfl⟩
abbrev main_v75 : Ref sig .tc := ⟨.hbm, 123, rfl⟩
abbrev main_cst_12 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_cst_13 : Ref sig .tc := ⟨.hbm, 132, rfl⟩
abbrev main_v83 : Ref sig .tc := ⟨.hbm, 133, rfl⟩
abbrev main_v84 : Ref sig .tc := ⟨.hbm, 134, rfl⟩
abbrev main_cst_14 : Ref sig .tc := ⟨.hbm, 135, rfl⟩
abbrev main_v85 : Ref sig .tc := ⟨.hbm, 136, rfl⟩
abbrev main_v86 : Ref sig .tc := ⟨.hbm, 137, rfl⟩
abbrev main_cst_15 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_c_16 : Ref sig .tc := ⟨.hbm, 143, rfl⟩
abbrev main_call5_v0 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩

abbrev nD : Nat := 1
abbrev τ : Topo := Topo.v7x

variable {F : FTy → Type} [FloatOps F]
-- ==== OddInDw.lean ====
abbrev S8192x2048 : Shape := ⟨2, ![8192, 2048]⟩
abbrev S8192x16384 : Shape := ⟨2, ![8192, 16384]⟩
abbrev S2x4x1024x4096 : Shape := ⟨4, ![2, 4, 1024, 4096]⟩
abbrev S2048x1024 : Shape := ⟨2, ![2048, 1024]⟩
abbrev S1x1x1024x1024 : Shape := ⟨4, ![1, 1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x16384, .bf16⟩
  | .hbm, ⟨2, _⟩ => ⟨S2x4x1024x4096, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1x1024x1024, .f32⟩
  | .local _ .vmem, ⟨5, _⟩ => ⟨S1x1x1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 16, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![arg0.toNat, v16.toNat, c0_i32_10.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OddInDwReferenceIdeal.lean ====
abbrev S8192x2048 : Shape := ⟨2, ![8192, 2048]⟩
abbrev S8192x16384 : Shape := ⟨2, ![8192, 16384]⟩
abbrev S_ : Shape := ⟨0, ![]⟩
abbrev S2048x16384 : Shape := ⟨2, ![2048, 16384]⟩
abbrev S16384x2048 : Shape := ⟨2, ![16384, 2048]⟩
abbrev S2x1024x4x4096 : Shape := ⟨4, ![2, 1024, 4, 4096]⟩
abbrev S2x4x1024x4096 : Shape := ⟨4, ![2, 4, 1024, 4096]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x16384, .bf16⟩
  | .hbm, ⟨2, _⟩ => ⟨S_, .f32⟩
  | .hbm, ⟨3, _⟩ => ⟨S2048x16384, .f32⟩
  | .hbm, ⟨4, _⟩ => ⟨S8192x2048, .f32⟩
  | .hbm, ⟨5, _⟩ => ⟨S8192x16384, .f32⟩
  | .hbm, ⟨6, _⟩ => ⟨S8192x16384, .f32⟩
  | .hbm, ⟨7, _⟩ => ⟨S16384x2048, .f32⟩
  | .hbm, ⟨8, _⟩ => ⟨S2048x16384, .f32⟩
  | .hbm, ⟨9, _⟩ => ⟨S2x1024x4x4096, .f32⟩
  | .hbm, ⟨10, _⟩ => ⟨S2x4x1024x4096, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== EvenInDw.lean ====
abbrev S8192x2048 : Shape := ⟨2, ![8192, 2048]⟩
abbrev S8192x12288 : Shape := ⟨2, ![8192, 12288]⟩
abbrev S2048x12288 : Shape := ⟨2, ![2048, 12288]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x12288, .bf16⟩
  | .hbm, ⟨2, _⟩ => ⟨S2048x12288, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 12, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvenInDwReferenceIdeal.lean ====
abbrev S8192x2048 : Shape := ⟨2, ![8192, 2048]⟩
abbrev S8192x12288 : Shape := ⟨2, ![8192, 12288]⟩
abbrev S_ : Shape := ⟨0, ![]⟩
abbrev S2048x12288 : Shape := ⟨2, ![2048, 12288]⟩
abbrev S12288x2048 : Shape := ⟨2, ![12288, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x12288, .bf16⟩
  | .hbm, ⟨2, _⟩ => ⟨S_, .f32⟩
  | .hbm, ⟨3, _⟩ => ⟨S2048x12288, .f32⟩
  | .hbm, ⟨4, _⟩ => ⟨S8192x2048, .f32⟩
  | .hbm, ⟨5, _⟩ => ⟨S8192x12288, .f32⟩
  | .hbm, ⟨6, _⟩ => ⟨S8192x12288, .f32⟩
  | .hbm, ⟨7, _⟩ => ⟨S12288x2048, .f32⟩
  | .hbm, ⟨8, _⟩ => ⟨S2048x12288, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutDw.lean ====
abbrev S8192x2048 : Shape := ⟨2, ![8192, 2048]⟩
abbrev S2x4x512x2048 : Shape := ⟨4, ![2, 4, 512, 2048]⟩
abbrev S2048x512 : Shape := ⟨2, ![2048, 512]⟩
abbrev S2048x1024 : Shape := ⟨2, ![2048, 1024]⟩
abbrev S1x1x512x1024 : Shape := ⟨4, ![1, 1, 512, 1024]⟩
abbrev S512x1024 : Shape := ⟨2, ![512, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .bf16⟩
  | .hbm, ⟨3, _⟩ => ⟨S2x4x512x2048, .f32⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x1024, .bf16⟩
  | .local _ .vmem, ⟨5, _⟩ => ⟨S2048x1024, .bf16⟩
  | .local _ .vmem, ⟨6, _⟩ => ⟨S1x1x512x1024, .f32⟩
  | .local _ .vmem, ⟨7, _⟩ => ⟨S1x1x512x1024, .f32⟩
  | .local _ .vmem, ⟨8, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg0 : BitVec 32 := BitVec.ofNat 32 (i 0).val
  let c0_i32 : BitVec 32 := 0#32
  let v0 : BitVec 1 := Scalar.cmpi .sge arg0 c0_i32
  let c4_i32 : BitVec 32 := 4#32
  let v1 : BitVec 1 := Scalar.cmpi .slt arg0 c4_i32
  let v2 : BitVec 1 := Scalar.andi v0 v1
  let arg2 : BitVec 32 := BitVec.ofNat 32 (i 2).val
  let c3_i32_4 : BitVec 32 := 3#32
  let v13 : BitVec 1 := Scalar.cmpi .eq arg2 c3_i32_4
  let v14 : BitVec 1 := Scalar.andi v2 v13
  let v15 : BitVec 32 := Scalar.extui v14
  let c0_i32_5 : BitVec 32 := 0#32
  let v16 : BitVec 1 := Scalar.cmpi .ne v15 c0_i32_5
  v16

def k0_cond6 (i : grid0.Coords) : BitVec 1 :=
  let arg0 : BitVec 32 := BitVec.ofNat 32 (i 0).val
  let c4_i32_6 : BitVec 32 := 4#32
  let v17 : BitVec 1 := Scalar.cmpi .sge arg0 c4_i32_6
  let c8_i32 : BitVec 32 := 8#32
  let v18 : BitVec 1 := Scalar.cmpi .slt arg0 c8_i32
  let v19 : BitVec 1 := Scalar.andi v17 v18
  let arg2 : BitVec 32 := BitVec.ofNat 32 (i 2).val
  let c3_i32_12 : BitVec 32 := 3#32
  let v30 : BitVec 1 := Scalar.cmpi .eq arg2 c3_i32_12
  let v31 : BitVec 1 := Scalar.andi v19 v30
  let v32 : BitVec 32 := Scalar.extui v31
  let c0_i32_13 : BitVec 32 := 0#32
  let v33 : BitVec 1 := Scalar.cmpi .ne v32 c0_i32_13
  v33

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .sge arg0 c0_i32
  let c4_i32 : BitVec 32 := 4#32
  let v1 : BitVec 1 := Scalar.cmpi .slt arg0 c4_i32
  let v2 : BitVec 1 := Scalar.andi v0 v1
  let c0_i32_0 : BitVec 32 := 0#32
  let v3 : BitVec 32 := Scalar.select v2 arg2 c0_i32_0
  let c0_i32_1 : BitVec 32 := 0#32
  let v4 : BitVec 32 := Scalar.subi arg0 c0_i32_1
  let c0_i32_2 : BitVec 32 := 0#32
  let c3_i32 : BitVec 32 := 3#32
  let v5 : BitVec 32 := Scalar.maxsi c0_i32_2 v4
  let v6 : BitVec 32 := Scalar.minsi c3_i32 v5
  let c0_i32_3 : BitVec 32 := 0#32
  ![v3.toNat, v6.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 1 := Scalar.cmpi .sge arg0 c4_i32
  let c8_i32 : BitVec 32 := 8#32
  let v1 : BitVec 1 := Scalar.cmpi .slt arg0 c8_i32
  let v2 : BitVec 1 := Scalar.andi v0 v1
  let c0_i32 : BitVec 32 := 0#32
  let v3 : BitVec 32 := Scalar.select v2 arg2 c0_i32
  let c4_i32_0 : BitVec 32 := 4#32
  let v4 : BitVec 32 := Scalar.subi arg0 c4_i32_0
  let c0_i32_1 : BitVec 32 := 0#32
  let c3_i32 : BitVec 32 := 3#32
  let v5 : BitVec 32 := Scalar.maxsi c0_i32_1 v4
  let v6 : BitVec 32 := Scalar.minsi c3_i32 v5
  let c0_i32_2 : BitVec 32 := 0#32
  ![v3.toNat, v6.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.divsi arg0 c2_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg0 c2_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  ![v9.toNat, v26.toNat, c0_i32_10.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutDwReferenceIdeal.lean ====
abbrev S8192x2048 : Shape := ⟨2, ![8192, 2048]⟩
abbrev S8192x4096 : Shape := ⟨2, ![8192, 4096]⟩
abbrev S_ : Shape := ⟨0, ![]⟩
abbrev S4096x2048 : Shape := ⟨2, ![4096, 2048]⟩
abbrev S2048x4096 : Shape := ⟨2, ![2048, 4096]⟩
abbrev S4x2x512x2048 : Shape := ⟨4, ![4, 2, 512, 2048]⟩
abbrev S2x4x512x2048 : Shape := ⟨4, ![2, 4, 512, 2048]⟩

abbrev nBuf : Space → Nat
  | .hbm => 13
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .bf16⟩
  | .hbm, ⟨3, _⟩ => ⟨S8192x4096, .bf16⟩
  | .hbm, ⟨4, _⟩ => ⟨S_, .f32⟩
  | .hbm, ⟨5, _⟩ => ⟨S4096x2048, .f32⟩
  | .hbm, ⟨6, _⟩ => ⟨S8192x4096, .f32⟩
  | .hbm, ⟨7, _⟩ => ⟨S8192x2048, .f32⟩
  | .hbm, ⟨8, _⟩ => ⟨S8192x2048, .f32⟩
  | .hbm, ⟨9, _⟩ => ⟨S2048x4096, .f32⟩
  | .hbm, ⟨10, _⟩ => ⟨S4096x2048, .f32⟩
  | .hbm, ⟨11, _⟩ => ⟨S4x2x512x2048, .f32⟩
  | .hbm, ⟨12, _⟩ => ⟨S2x4x512x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== OutDy.lean ====
abbrev S8192x2048 : Shape := ⟨2, ![8192, 2048]⟩
abbrev S4096x2048 : Shape := ⟨2, ![4096, 2048]⟩
abbrev S8192x4096 : Shape := ⟨2, ![8192, 4096]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S4096x2048, .bf16⟩
  | .hbm, ⟨2, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDyReferenceIdeal.lean ====
abbrev S8192x2048 : Shape := ⟨2, ![8192, 2048]⟩
abbrev S4096x2048 : Shape := ⟨2, ![4096, 2048]⟩
abbrev S_ : Shape := ⟨0, ![]⟩
abbrev S8192x4096 : Shape := ⟨2, ![8192, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4096x2048, .bf16⟩
  | .hbm, ⟨2, _⟩ => ⟨S_, .f32⟩
  | .hbm, ⟨3, _⟩ => ⟨S8192x4096, .f32⟩
  | .hbm, ⟨4, _⟩ => ⟨S4096x2048, .f32⟩
  | .hbm, ⟨5, _⟩ => ⟨S8192x2048, .f32⟩
  | .hbm, ⟨6, _⟩ => ⟨S8192x2048, .f32⟩
  | .hbm, ⟨7, _⟩ => ⟨S8192x4096, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OddIn.lean ====
abbrev S8192x2048 : Shape := ⟨2, ![8192, 2048]⟩
abbrev S4x2048x4096 : Shape := ⟨3, ![4, 2048, 4096]⟩
abbrev S8192x16384 : Shape := ⟨2, ![8192, 16384]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S4x2048x4096, .bf16⟩
  | .hbm, ⟨2, _⟩ => ⟨S8192x16384, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OddInReferenceIdeal.lean ====
abbrev S8192x2048 : Shape := ⟨2, ![8192, 2048]⟩
abbrev S4x2048x4096 : Shape := ⟨3, ![4, 2048, 4096]⟩
abbrev S2048x4x4096 : Shape := ⟨3, ![2048, 4, 4096]⟩
abbrev S2048x16384 : Shape := ⟨2, ![2048, 16384]⟩
abbrev S8192x16384 : Shape := ⟨2, ![8192, 16384]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x4096, .bf16⟩
  | .hbm, ⟨2, _⟩ => ⟨S8192x2048, .f32⟩
  | .hbm, ⟨3, _⟩ => ⟨S4x2048x4096, .f32⟩
  | .hbm, ⟨4, _⟩ => ⟨S2048x4x4096, .f32⟩
  | .hbm, ⟨5, _⟩ => ⟨S2048x16384, .f32⟩
  | .hbm, ⟨6, _⟩ => ⟨S8192x16384, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Out.lean ====
abbrev S8192x2048 : Shape := ⟨2, ![8192, 2048]⟩
abbrev S4096x2048 : Shape := ⟨2, ![4096, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 11
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S4096x2048, .bf16⟩
  | .hbm, ⟨3, _⟩ => ⟨S8192x2048, .f32⟩
  | .hbm, ⟨4, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x1024, .bf16⟩
  | .local _ .vmem, ⟨5, _⟩ => ⟨S2048x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32_2 : BitVec 32 := 1#32
  let v7 : BitVec 1 := Scalar.cmpi .sge arg2 c1_i32_2
  let c2_i32 : BitVec 32 := 2#32
  let v8 : BitVec 1 := Scalar.cmpi .slt arg2 c2_i32
  let v9 : BitVec 1 := Scalar.andi v7 v8
  let c1_i32_3 : BitVec 32 := 1#32
  let v10 : BitVec 1 := Scalar.cmpi .eq arg2 c1_i32_3
  let v11 : BitVec 1 := Scalar.andi v9 v10
  let v12 : BitVec 32 := Scalar.extui v11
  let c0_i32_4 : BitVec 32 := 0#32
  let v13 : BitVec 1 := Scalar.cmpi .ne v12 c0_i32_4
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== OutReferenceIdeal.lean ====
abbrev S8192x2048 : Shape := ⟨2, ![8192, 2048]⟩
abbrev S4096x2048 : Shape := ⟨2, ![4096, 2048]⟩
abbrev S8192x4096 : Shape := ⟨2, ![8192, 4096]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S4096x2048, .bf16⟩
  | .hbm, ⟨3, _⟩ => ⟨S8192x2048, .f32⟩
  | .hbm, ⟨4, _⟩ => ⟨S8192x4096, .bf16⟩
  | .hbm, ⟨5, _⟩ => ⟨S8192x4096, .f32⟩
  | .hbm, ⟨6, _⟩ => ⟨S4096x2048, .f32⟩
  | .hbm, ⟨7, _⟩ => ⟨S8192x2048, .f32⟩
  | .hbm, ⟨8, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== NormBwd.lean ====
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .bf16⟩
  | .hbm, ⟨6, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormBwdReferenceIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 48
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S_, .f32⟩
  | .hbm, ⟨41, _⟩ => ⟨S8192, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== SconvBwd.lean ====
abbrev S8192x16384 : Shape := ⟨2, ![8192, 16384]⟩
abbrev S8192x4096 : Shape := ⟨2, ![8192, 4096]⟩
abbrev S3x2048 : Shape := ⟨2, ![3, 2048]⟩
abbrev S8192x2048 : Shape := ⟨2, ![8192, 2048]⟩
abbrev S256x512 : Shape := ⟨2, ![256, 512]⟩
abbrev S8x512 : Shape := ⟨2, ![8, 512]⟩
abbrev S3x512 : Shape := ⟨2, ![3, 512]⟩
abbrev S1x512 : Shape := ⟨2, ![1, 512]⟩
abbrev S8x1 : Shape := ⟨2, ![8, 1]⟩
abbrev S248x512 : Shape := ⟨2, ![248, 512]⟩
abbrev S512 : Shape := ⟨1, ![512]⟩

abbrev nBuf : Space → Nat
  | .hbm => 8
  | .vmem => 27
  | .smem => 0
  | _ => 0

abbrev bufTy : (tb : Table) → Fin (tcTables nBuf tb) → BufTy
  | .hbm, ⟨0, _⟩ => ⟨S8192x16384, .f32⟩
  | .hbm, ⟨1, _⟩ => ⟨S8192x4096, .f32⟩
  | .hbm, ⟨2, _⟩ => ⟨S3x2048, .f32⟩
  | .hbm, ⟨3, _⟩ => ⟨S8192x2048, .bf16⟩
  | .hbm, ⟨4, _⟩ => ⟨S8192x2048, .bf16⟩
  | .hbm, ⟨5, _⟩ => ⟨S8192x2048, .bf16⟩
  | .hbm, ⟨6, _⟩ => ⟨S8192x2048, .bf16⟩
  | .hbm, ⟨7, _⟩ => ⟨S3x2048, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S8x512, .f32⟩
  | .local _ .vmem, ⟨9, _⟩ => ⟨S8x512, .f32⟩
  | .local _ .vmem, ⟨10, _⟩ => ⟨S8x512, .f32⟩
  | .local _ .vmem, ⟨11, _⟩ => ⟨S8x512, .f32⟩
  | .local _ .vmem, ⟨12, _⟩ => ⟨S256x512, .f32⟩
  | .local _ .vmem, ⟨13, _⟩ => ⟨S256x512, .f32⟩
  | .local _ .vmem, ⟨14, _⟩ => ⟨S3x512, .f32⟩
  | .local _ .vmem, ⟨15, _⟩ => ⟨S3x512, .f32⟩
  | .local _ .vmem, ⟨16, _⟩ => ⟨S256x512, .bf16⟩
  | .local _ .vmem, ⟨17, _⟩ => ⟨S256x512, .bf16⟩
  | .local _ .vmem, ⟨18, _⟩ => ⟨S256x512, .bf16⟩
  | .local _ .vmem, ⟨19, _⟩ => ⟨S256x512, .bf16⟩
  | .local _ .vmem, ⟨20, _⟩ => ⟨S256x512, .bf16⟩
  | .local _ .vmem, ⟨21, _⟩ => ⟨S256x512, .bf16⟩
  | .local _ .vmem, ⟨22, _⟩ => ⟨S256x512, .bf16⟩
  | .local _ .vmem, ⟨23, _⟩ => ⟨S256x512, .bf16⟩
  | .local _ .vmem, ⟨24, _⟩ => ⟨S3x512, .f32⟩
  | .local _ .vmem, ⟨25, _⟩ => ⟨S3x512, .f32⟩
  | .local _ .vmem, ⟨26, _⟩ => ⟨S8x512, .f32⟩
  | _, _ => ⟨S8192x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let v1 : BitVec 32 := Scalar.addi c0_i32 arg0
  let c0_i32_0 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c4_i32 : BitVec 32 := 4#32
  let v1 : BitVec 32 := Scalar.addi c4_i32 arg0
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c8_i32 : BitVec 32 := 8#32
  let v1 : BitVec 32 := Scalar.addi c8_i32 arg0
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c12_i32 : BitVec 32 := 12#32
  let v1 : BitVec 32 := Scalar.addi c12_i32 arg0
  let c0_i32 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c4_i32 : BitVec 32 := 4#32
  let v4 : BitVec 32 := Scalar.addi c4_i32 arg0
  let c0_i32_0 : BitVec 32 := 0#32
  ![v3.toNat, v4.toNat]

def cc0_transform_5 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c8_i32 : BitVec 32 := 8#32
  let v4 : BitVec 32 := Scalar.addi c8_i32 arg0
  let c0_i32_0 : BitVec 32 := 0#32
  ![v3.toNat, v4.toNat]

def cc0_transform_6 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_9 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_10 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_11 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S3x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S3x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== SconvBwdReferenceIdeal.lean ====
abbrev S8192x16384 : Shape := ⟨2, ![8192, 16384]⟩
abbrev S8192x4096 : Shape := ⟨2, ![8192, 4096]⟩
abbrev S3x2048 : Shape := ⟨2, ![3, 2048]⟩
abbrev S8192x8192 : Shape := ⟨2, ![8192, 8192]⟩
abbrev S8192x2048 : Shape := ⟨2, ![8192, 2048]⟩
abbrev S_ : Shape := ⟨0, ![]⟩
abbrev S2x2048 : Shape := ⟨2, ![2, 2048]⟩
abbrev S8194x2048 : Shape := ⟨2, ![8194, 2048]⟩
abbrev S1x2048 : Shape := ⟨2, ![1, 2048]⟩
abbrev S2048 : Shape := ⟨1, ![2048]⟩

abbrev nBuf : Space → Nat
  | .hbm => 96
  | .vmem => 0
  | .smem => 0
  | _ => 0

abbrev bufTy : (tb : Table) → Fin (tcTables nBuf tb) → BufTy
  | .hbm, ⟨0, _⟩ => ⟨S8192x16384, .f32⟩
  | .hbm, ⟨1, _⟩ => ⟨S8192x4096, .f32⟩
  | .hbm, ⟨2, _⟩ => ⟨S3x2048, .f32⟩
  | .hbm, ⟨3, _⟩ => ⟨S8192x8192, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S_, .f32⟩
  | .hbm, ⟨23, _⟩ => ⟨S2x2048, .f32⟩
  | .hbm, ⟨24, _⟩ => ⟨S8194x2048, .f32⟩
  | .hbm, ⟨25, _⟩ => ⟨S_, .f32⟩
  | .hbm, ⟨26, _⟩ => ⟨S2x2048, .f32⟩
  | .hbm, ⟨27, _⟩ => ⟨S1x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S1x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S1x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S_, .f32⟩
  | .hbm, ⟨52, _⟩ => ⟨S2048, .f32⟩
  | .hbm, ⟨53, _⟩ => ⟨S1x2048, .f32⟩
  | .hbm, ⟨54, _⟩ => ⟨S_, .f32⟩
  | .hbm, ⟨55, _⟩ => ⟨S8194x2048, .f32⟩
  | .hbm, ⟨56, _⟩ => ⟨S_, .f32⟩
  | .hbm, ⟨57, _⟩ => ⟨S3x2048, .f32⟩
  | .hbm, ⟨58, _⟩ => ⟨S8192x2048, .f32⟩
  | .hbm, ⟨59, _⟩ => ⟨S8192x2048, .f32⟩
  | .hbm, ⟨60, _⟩ => ⟨S8192x2048, .f32⟩
  | .hbm, ⟨61, _⟩ => ⟨S_, .f32⟩
  | .hbm, ⟨62, _⟩ => ⟨S2048, .f32⟩
  | .hbm, ⟨63, _⟩ => ⟨S1x2048, .f32⟩
  | .hbm, ⟨64, _⟩ => ⟨S_, .f32⟩
  | .hbm, ⟨65, _⟩ => ⟨S8194x2048, .f32⟩
  | .hbm, ⟨66, _⟩ => ⟨S8194x2048, .f32⟩
  | .hbm, ⟨67, _⟩ => ⟨S_, .f32⟩
  | .hbm, ⟨68, _⟩ => ⟨S3x2048, .f32⟩
  | .hbm, ⟨69, _⟩ => ⟨S3x2048, .f32⟩
  | .hbm, ⟨70, _⟩ => ⟨S8192x2048, .f32⟩
  | .hbm, ⟨71, _⟩ => ⟨S8192x2048, .f32⟩
  | .hbm, ⟨72, _⟩ => ⟨S8192x2048, .f32⟩
  | .hbm, ⟨73, _⟩ => ⟨S_, .f32⟩
  | .hbm, ⟨74, _⟩ => ⟨S2048, .f32⟩
  | .hbm, ⟨75, _⟩ => ⟨S1x2048, .f32⟩
  | .hbm, ⟨76, _⟩ => ⟨S_, .f32⟩
  | .hbm, ⟨77, _⟩ => ⟨S8194x2048, .f32⟩
  | .hbm, ⟨78, _⟩ => ⟨S8194x2048, .f32⟩
  | .hbm, ⟨79, _⟩ => ⟨S_, .f32⟩
  | .hbm, ⟨80, _⟩ => ⟨S3x2048, .f32⟩
  | .hbm, ⟨81, _⟩ => ⟨S3x2048, .f32⟩
  | .hbm, ⟨82, _⟩ => ⟨S2x2048, .f32⟩
  | .hbm, ⟨83, _⟩ => ⟨S8192x2048, .f32⟩
  | .hbm, ⟨84, _⟩ => ⟨S8192x2048, .f32⟩
  | .hbm, ⟨85, _⟩ => ⟨S8192x2048, .f32⟩
  | .hbm, ⟨86, _⟩ => ⟨S8192x2048, .f32⟩
  | .hbm, ⟨87, _⟩ => ⟨S8192x2048, .f32⟩
  | .hbm, ⟨88, _⟩ => ⟨S8192x2048, .f32⟩
  | .hbm, ⟨89, _⟩ => ⟨S8192x2048, .f32⟩
  | .hbm, ⟨90, _⟩ => ⟨S8192x8192, .f32⟩
  | .hbm, ⟨91, _⟩ => ⟨S8192x8192, .bf16⟩
  | .hbm, ⟨92, _⟩ => ⟨S8192x2048, .bf16⟩
  | .hbm, ⟨93, _⟩ => ⟨S8192x2048, .bf16⟩
  | .hbm, ⟨94, _⟩ => ⟨S8192x2048, .bf16⟩
  | .hbm, ⟨95, _⟩ => ⟨S8192x2048, .bf16⟩
  | _, _ => ⟨S8192x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v5_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v5_1 : Ref sig .tc := ⟨.hbm, 19, rfl⟩
abbrev main_v5_0 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_cst_0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_1 : Ref sig .tc := ⟨.hbm, 51, rfl⟩
abbrev main_v34 : Ref sig .tc := ⟨.hbm, 52, rfl⟩
abbrev main_v35 : Ref sig .tc := ⟨.hbm, 53, rfl⟩
abbrev main_cst_2 : Ref sig .tc := ⟨.hbm, 54, rfl⟩
abbrev main_v36 : Ref sig .tc := ⟨.hbm, 55, rfl⟩
abbrev main_cst_3 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_4 : Ref sig .tc := ⟨.hbm, 61, rfl⟩
abbrev main_v41 : Ref sig .tc := ⟨.hbm, 62, rfl⟩
abbrev main_v42 : Ref sig .tc := ⟨.hbm, 63, rfl⟩
abbrev main_cst_5 : Ref sig .tc := ⟨.hbm, 64, rfl⟩
abbrev main_v43 : Ref sig .tc := ⟨.hbm, 65, rfl⟩
abbrev main_v44 : Ref sig .tc := ⟨.hbm, 66, rfl⟩
abbrev main_cst_6 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_7 : Ref sig .tc := ⟨.hbm, 73, rfl⟩
abbrev main_v50 : Ref sig .tc := ⟨.hbm, 74, rfl⟩
abbrev main_v51 : Ref sig .tc := ⟨.hbm, 75, rfl⟩
abbrev main_cst_8 : Ref sig .tc := ⟨.hbm, 76, rfl⟩
abbrev main_v52 : Ref sig .tc := ⟨.hbm, 77, rfl⟩
abbrev main_v53 : Ref sig .tc := ⟨.hbm, 78, rfl⟩
abbrev main_cst_9 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_call1_v0 : Ref sig .tc := ⟨.hbm, 86, rfl⟩
abbrev main_call1_v1 : Ref sig .tc := ⟨.hbm, 87, rfl⟩
abbrev main_call1_v2 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩

abbrev nD : Nat := 1
abbrev τ : Topo := Topo.v7x

variable {F : FTy → Type} [FloatOps F]
-- ==== NormFwd.lean ====
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormFwdReferenceIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== SconvFwd.lean ====
abbrev S8192x16384 : Shape := ⟨2, ![8192, 16384]⟩
abbrev S3x2048 : Shape := ⟨2, ![3, 2048]⟩
abbrev S8192x2048 : Shape := ⟨2, ![8192, 2048]⟩
abbrev S256x512 : Shape := ⟨2, ![256, 512]⟩
abbrev S8x512 : Shape := ⟨2, ![8, 512]⟩
abbrev S3x512 : Shape := ⟨2, ![3, 512]⟩
abbrev S1x512 : Shape := ⟨2, ![1, 512]⟩
abbrev S8x1 : Shape := ⟨2, ![8, 1]⟩
abbrev S248x512 : Shape := ⟨2, ![248, 512]⟩

abbrev nBuf : Space → Nat
  | .hbm => 3
  | .vmem => 16
  | .smem => 0
  | _ => 0

abbrev bufTy : (tb : Table) → Fin (tcTables nBuf tb) → BufTy
  | .hbm, ⟨0, _⟩ => ⟨S8192x16384, .f32⟩
  | .hbm, ⟨1, _⟩ => ⟨S3x2048, .f32⟩
  | .hbm, ⟨2, _⟩ => ⟨S8192x2048, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S8x512, .f32⟩
  | .local _ .vmem, ⟨9, _⟩ => ⟨S8x512, .f32⟩
  | .local _ .vmem, ⟨10, _⟩ => ⟨S8x512, .f32⟩
  | .local _ .vmem, ⟨11, _⟩ => ⟨S8x512, .f32⟩
  | .local _ .vmem, ⟨12, _⟩ => ⟨S3x512, .f32⟩
  | .local _ .vmem, ⟨13, _⟩ => ⟨S3x512, .f32⟩
  | .local _ .vmem, ⟨14, _⟩ => ⟨S256x512, .bf16⟩
  | .local _ .vmem, ⟨15, _⟩ => ⟨S256x512, .bf16⟩
  | _, _ => ⟨S8192x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let v3 : BitVec 32 := Scalar.addi c4_i32 arg0
  let c0_i32_0 : BitVec 32 := 0#32
  ![v2.toNat, v3.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c8_i32 : BitVec 32 := 8#32
  let v3 : BitVec 32 := Scalar.addi c8_i32 arg0
  let c0_i32_0 : BitVec 32 := 0#32
  ![v2.toNat, v3.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S3x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== SconvFwdReferenceIdeal.lean ====
abbrev S8192x16384 : Shape := ⟨2, ![8192, 16384]⟩
abbrev S3x2048 : Shape := ⟨2, ![3, 2048]⟩
abbrev S8192x8192 : Shape := ⟨2, ![8192, 8192]⟩
abbrev S8192x2048 : Shape := ⟨2, ![8192, 2048]⟩
abbrev S_ : Shape := ⟨0, ![]⟩
abbrev S2x2048 : Shape := ⟨2, ![2, 2048]⟩
abbrev S8194x2048 : Shape := ⟨2, ![8194, 2048]⟩
abbrev S1x2048 : Shape := ⟨2, ![1, 2048]⟩

abbrev nBuf : Space → Nat
  | .hbm => 37
  | .vmem => 0
  | .smem => 0
  | _ => 0

abbrev bufTy : (tb : Table) → Fin (tcTables nBuf tb) → BufTy
  | .hbm, ⟨0, _⟩ => ⟨S8192x16384, .f32⟩
  | .hbm, ⟨1, _⟩ => ⟨S3x2048, .f32⟩
  | .hbm, ⟨2, _⟩ => ⟨S8192x8192, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S_, .f32⟩
  | .hbm, ⟨18, _⟩ => ⟨S2x2048, .f32⟩
  | .hbm, ⟨19, _⟩ => ⟨S8194x2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S1x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S1x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .bf16⟩
  | _, _ => ⟨S8192x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== GmlpFwd.lean ====
abbrev S8192x12288 : Shape := ⟨2, ![8192, 12288]⟩
abbrev S1x2048 : Shape := ⟨2, ![1, 2048]⟩
abbrev S1x8x128x128 : Shape := ⟨4, ![1, 8, 128, 128]⟩
abbrev S1x8x128 : Shape := ⟨3, ![1, 8, 128]⟩
abbrev S8x128x128 : Shape := ⟨3, ![8, 128, 128]⟩
abbrev S8x128 : Shape := ⟨2, ![8, 128]⟩
abbrev S128x8 : Shape := ⟨2, ![128, 8]⟩
abbrev S8192x2048 : Shape := ⟨2, ![8192, 2048]⟩
abbrev S128x2048 : Shape := ⟨2, ![128, 2048]⟩
abbrev S128x128 : Shape := ⟨2, ![128, 128]⟩
abbrev S1x128x128 : Shape := ⟨3, ![1, 128, 128]⟩
abbrev S128 : Shape := ⟨1, ![128]⟩
abbrev S128x1 : Shape := ⟨2, ![128, 1]⟩
abbrev S128x256 : Shape := ⟨2, ![128, 256]⟩

abbrev nBuf : Space → Nat
  | .hbm => 9
  | .vmem => 12
  | .smem => 0
  | _ => 0

abbrev bufTy : (tb : Table) → Fin (tcTables nBuf tb) → BufTy
  | .hbm, ⟨0, _⟩ => ⟨S8192x12288, .f32⟩
  | .hbm, ⟨1, _⟩ => ⟨S1x2048, .f32⟩
  | .hbm, ⟨2, _⟩ => ⟨S1x2048, .f32⟩
  | .hbm, ⟨3, _⟩ => ⟨S1x8x128x128, .f32⟩
  | .hbm, ⟨4, _⟩ => ⟨S1x8x128, .f32⟩
  | .hbm, ⟨5, _⟩ => ⟨S8x128x128, .f32⟩
  | .hbm, ⟨6, _⟩ => ⟨S8x128, .f32⟩
  | .hbm, ⟨7, _⟩ => ⟨S128x8, .f32⟩
  | .hbm, ⟨8, _⟩ => ⟨S8192x2048, .bf16⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S1x2048, .f32⟩
  | .local _ .vmem, ⟨7, _⟩ => ⟨S1x2048, .f32⟩
  | .local _ .vmem, ⟨8, _⟩ => ⟨S8x128x128, .f32⟩
  | .local _ .vmem, ⟨9, _⟩ => ⟨S128x8, .f32⟩
  | .local _ .vmem, ⟨10, _⟩ => ⟨S128x2048, .bf16⟩
  | .local _ .vmem, ⟨11, _⟩ => ⟨S128x2048, .bf16⟩
  | _, _ => ⟨S8192x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== GmlpFwdReferenceIdeal.lean ====
abbrev S8192x12288 : Shape := ⟨2, ![8192, 12288]⟩
abbrev S1x2048 : Shape := ⟨2, ![1, 2048]⟩
abbrev S1x8x128x128 : Shape := ⟨4, ![1, 8, 128, 128]⟩
abbrev S1x8x128 : Shape := ⟨3, ![1, 8, 128]⟩
abbrev S8192x6144 : Shape := ⟨2, ![8192, 6144]⟩
abbrev S8x128x128 : Shape := ⟨3, ![8, 128, 128]⟩
abbrev S8x128 : Shape := ⟨2, ![8, 128]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S128x128 : Shape := ⟨2, ![128, 128]⟩
abbrev S64x128x8x256 : Shape := ⟨4, ![64, 128, 8, 256]⟩
abbrev S8x64x256x128 : Shape := ⟨4, ![8, 64, 256, 128]⟩
abbrev S128x8 : Shape := ⟨2, ![128, 8]⟩
abbrev S1x128x8x1 : Shape := ⟨4, ![1, 128, 8, 1]⟩

abbrev nBuf : Space → Nat
  | .hbm => 71
  | .vmem => 0
  | .smem => 0
  | _ => 0

abbrev bufTy : (tb : Table) → Fin (tcTables nBuf tb) → BufTy
  | .hbm, ⟨0, _⟩ => ⟨S8192x12288, .f32⟩
  | .hbm, ⟨1, _⟩ => ⟨S1x2048, .f32⟩
  | .hbm, ⟨2, _⟩ => ⟨S1x2048, .f32⟩
  | .hbm, ⟨3, _⟩ => ⟨S1x8x128x128, .f32⟩
  | .hbm, ⟨4, _⟩ => ⟨S1x8x128, .f32⟩
  | .hbm, ⟨5, _⟩ => ⟨S8192x6144, .f32⟩
  | .hbm, ⟨6, _⟩ => ⟨S8x128x128, .f32⟩
  | .hbm, ⟨7, _⟩ => ⟨S8x128, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S_, .i1⟩
  | .hbm, ⟨37, _⟩ => ⟨S128x128, .i1⟩
  | .hbm, ⟨38, _⟩ => ⟨S128x128, .i32⟩
  | .hbm, ⟨39, _⟩ => ⟨S_, .i32⟩
  | .hbm, ⟨40, _⟩ => ⟨S128x128, .i32⟩
  | .hbm, ⟨41, _⟩ => ⟨S128x128, .i32⟩
  | .hbm, ⟨42, _⟩ => ⟨S128x128, .i32⟩
  | .hbm, ⟨43, _⟩ => ⟨S128x128, .i1⟩
  | .hbm, ⟨44, _⟩ => ⟨S_, .i1⟩
  | .hbm, ⟨45, _⟩ => ⟨S128x128, .i1⟩
  | .hbm, ⟨46, _⟩ => ⟨S128x128, .i1⟩
  | .hbm, ⟨47, _⟩ => ⟨S_, .f32⟩
  | .hbm, ⟨48, _⟩ => ⟨S8x128x128, .f32⟩
  | .hbm, ⟨49, _⟩ => ⟨S8x128x128, .i1⟩
  | .hbm, ⟨50, _⟩ => ⟨S8x128x128, .f32⟩
  | .hbm, ⟨51, _⟩ => ⟨S64x128x8x256, .f32⟩
  | .hbm, ⟨52, _⟩ => ⟨S8x64x256x128, .f32⟩
  | .hbm, ⟨53, _⟩ => ⟨S64x128x8x256, .f32⟩
  | .hbm, ⟨54, _⟩ => ⟨S128x8, .f32⟩
  | .hbm, ⟨55, _⟩ => ⟨S1x128x8x1, .f32⟩
  | .hbm, ⟨56, _⟩ => ⟨S64x128x8x256, .f32⟩
  | .hbm, ⟨57, _⟩ => ⟨S64x128x8x256, .f32⟩
  | .hbm, ⟨58, _⟩ => ⟨S8192x2048, .f32⟩
  | .hbm, ⟨59, _⟩ => ⟨S8192x2048, .f32⟩
  | .hbm, ⟨60, _⟩ => ⟨S_, .f32⟩
  | .hbm, ⟨61, _⟩ => ⟨S8192x2048, .f32⟩
  | .hbm, ⟨62, _⟩ => ⟨S8192x2048, .f32⟩
  | .hbm, ⟨63, _⟩ => ⟨S_, .f32⟩
  | .hbm, ⟨64, _⟩ => ⟨S8192x2048, .f32⟩
  | .hbm, ⟨65, _⟩ => ⟨S8192x2048, .f32⟩
  | .hbm, ⟨66, _⟩ => ⟨S8192x2048, .f32⟩
  | .hbm, ⟨67, _⟩ => ⟨S8192x2048, .f32⟩
  | .hbm, ⟨68, _⟩ => ⟨S8192x2048, .f32⟩
  | .hbm, ⟨69, _⟩ => ⟨S8192x2048, .f32⟩
  | .hbm, ⟨70, _⟩ => ⟨S8192x2048, .bf16⟩
  | _, _ => ⟨S8192x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c : Ref sig .tc := ⟨.hbm, 36, rfl⟩
abbrev main_v26 : Ref sig .tc := ⟨.hbm, 37, rfl⟩
abbrev main_call0_v0 : Ref sig .tc := ⟨.hbm, 38, rfl⟩
abbrev main_call0_c : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_c_0 : Ref sig .tc := ⟨.hbm, 44, rfl⟩
abbrev main_call0_v5 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_call1_v0 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_call2_v0 : Ref sig .tc := ⟨.hbm, 58, rfl⟩
abbrev main_call2_v1 : Ref sig .tc := ⟨.hbm, 59, rfl⟩
abbrev main_call2_cst : Ref sig .tc := ⟨.hbm, 60, rfl⟩
abbrev main_call2_v2 : Ref sig .tc := ⟨.hbm, 61, rfl⟩
abbrev main_call2_v3 : Ref sig .tc := ⟨.hbm, 62, rfl⟩
abbrev main_call2_cst_0 : Ref sig .tc := ⟨.hbm, 63, rfl⟩
abbrev main_call2_v4 : Ref sig .tc := ⟨.hbm, 64, rfl⟩
abbrev main_call2_v5 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩

abbrev nD : Nat := 1
abbrev τ : Topo := Topo.v7x

variable {F : FTy → Type} [FloatOps F]
-- ==== SsdConvFwd.lean ====
abbrev S8192x12288 : Shape := ⟨2, ![8192, 12288]⟩
abbrev S4x4096 : Shape := ⟨2, ![4, 4096]⟩
abbrev S1x4096 : Shape := ⟨2, ![1, 4096]⟩
abbrev S8192x4096 : Shape := ⟨2, ![8192, 4096]⟩
abbrev S256x512 : Shape := ⟨2, ![256, 512]⟩
abbrev S8x512 : Shape := ⟨2, ![8, 512]⟩
abbrev S4x512 : Shape := ⟨2, ![4, 512]⟩
abbrev S1x512 : Shape := ⟨2, ![1, 512]⟩
abbrev S8x1 : Shape := ⟨2, ![8, 1]⟩
abbrev S248x512 : Shape := ⟨2, ![248, 512]⟩

abbrev nBuf : Space → Nat
  | .hbm => 4
  | .vmem => 10
  | .smem => 0
  | _ => 0

abbrev bufTy : (tb : Table) → Fin (tcTables nBuf tb) → BufTy
  | .hbm, ⟨0, _⟩ => ⟨S8192x12288, .f32⟩
  | .hbm, ⟨1, _⟩ => ⟨S4x4096, .f32⟩
  | .hbm, ⟨2, _⟩ => ⟨S1x4096, .f32⟩
  | .hbm, ⟨3, _⟩ => ⟨S8192x4096, .f32⟩
  | .local _ .vmem, ⟨0, _⟩ => ⟨S256x512, .f32⟩
  | .local _ .vmem, ⟨1, _⟩ => ⟨S256x512, .f32⟩
  | .local _ .vmem, ⟨2, _⟩ => ⟨S8x512, .f32⟩
  | .local _ .vmem, ⟨3, _⟩ => ⟨S8x512, .f32⟩
  | .local _ .vmem, ⟨4, _⟩ => ⟨S4x512, .f32⟩
  | .local _ .vmem, ⟨5, _⟩ => ⟨S4x512, .f32⟩
  | .local _ .vmem, ⟨6, _⟩ => ⟨S1x512, .f32⟩
  | .local _ .vmem, ⟨7, _⟩ => ⟨S1x512, .f32⟩
  | .local _ .vmem, ⟨8, _⟩ => ⟨S256x512, .f32⟩
  | .local _ .vmem, ⟨9, _⟩ => ⟨S256x512, .f32⟩
  | _, _ => ⟨S8192x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 32], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c16_i32 : BitVec 32 := 16#32
  let v3 : BitVec 32 := Scalar.addi c16_i32 arg0
  let c0_i32_0 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== SsdConvFwdReferenceIdeal.lean ====
abbrev S8192x12288 : Shape := ⟨2, ![8192, 12288]⟩
abbrev S4x4096 : Shape := ⟨2, ![4, 4096]⟩
abbrev S1x4096 : Shape := ⟨2, ![1, 4096]⟩
abbrev S8192x4096 : Shape := ⟨2, ![8192, 4096]⟩
abbrev S_ : Shape := ⟨0, ![]⟩
abbrev S3x4096 : Shape := ⟨2, ![3, 4096]⟩
abbrev S8195x4096 : Shape := ⟨2, ![8195, 4096]⟩

abbrev nBuf : Space → Nat
  | .hbm => 37
  | .vmem => 0
  | .smem => 0
  | _ => 0

abbrev bufTy : (tb : Table) → Fin (tcTables nBuf tb) → BufTy
  | .hbm, ⟨0, _⟩ => ⟨S8192x12288, .f32⟩
  | .hbm, ⟨1, _⟩ => ⟨S4x4096, .f32⟩
  | .hbm, ⟨2, _⟩ => ⟨S1x4096, .f32⟩
  | .hbm, ⟨3, _⟩ => ⟨S8192x4096, .f32⟩
  | .hbm, ⟨4, _⟩ => ⟨S_, .f32⟩
  | .hbm, ⟨5, _⟩ => ⟨S3x4096, .f32⟩
  | .hbm, ⟨6, _⟩ => ⟨S8195x4096, .f32⟩
  | .hbm, ⟨7, _⟩ => ⟨S1x4096, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S1x4096, .f32⟩
  | .hbm, ⟨12, _⟩ => ⟨S8192x4096, .f32⟩
  | .hbm, ⟨13, _⟩ => ⟨S8192x4096, .f32⟩
  | .hbm, ⟨14, _⟩ => ⟨S8192x4096, .f32⟩
  | .hbm, ⟨15, _⟩ => ⟨S8192x4096, .f32⟩
  | .hbm, ⟨16, _⟩ => ⟨S1x4096, .f32⟩
  | .hbm, ⟨17, _⟩ => ⟨S8192x4096, .f32⟩
  | .hbm, ⟨18, _⟩ => ⟨S8192x4096, .f32⟩
  | .hbm, ⟨19, _⟩ => ⟨S8192x4096, .f32⟩
  | .hbm, ⟨20, _⟩ => ⟨S8192x4096, .f32⟩
  | .hbm, ⟨21, _⟩ => ⟨S1x4096, .f32⟩
  | .hbm, ⟨22, _⟩ => ⟨S8192x4096, .f32⟩
  | .hbm, ⟨23, _⟩ => ⟨S8192x4096, .f32⟩
  | .hbm, ⟨24, _⟩ => ⟨S8192x4096, .f32⟩
  | .hbm, ⟨25, _⟩ => ⟨S8192x4096, .f32⟩
  | .hbm, ⟨26, _⟩ => ⟨S8192x4096, .f32⟩
  | .hbm, ⟨27, _⟩ => ⟨S8192x4096, .f32⟩
  | .hbm, ⟨28, _⟩ => ⟨S8192x4096, .f32⟩
  | .hbm, ⟨29, _⟩ => ⟨S8192x4096, .f32⟩
  | .hbm, ⟨30, _⟩ => ⟨S_, .f32⟩
  | .hbm, ⟨31, _⟩ => ⟨S8192x4096, .f32⟩
  | .hbm, ⟨32, _⟩ => ⟨S8192x4096, .f32⟩
  | .hbm, ⟨33, _⟩ => ⟨S_, .f32⟩
  | .hbm, ⟨34, _⟩ => ⟨S8192x4096, .f32⟩
  | .hbm, ⟨35, _⟩ => ⟨S8192x4096, .f32⟩
  | .hbm, ⟨36, _⟩ => ⟨S8192x4096, .f32⟩
  | _, _ => ⟨S8192x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v24 : Ref sig .tc := ⟨.hbm, 36, rfl⟩

abbrev nD : Nat := 1
abbrev τ : Topo := Topo.v7x

variable {F : FTy → Type} [FloatOps F]
-- ==== AdamOut.lean ====
abbrev S1024x2048 : Shape := ⟨2, ![1024, 2048]⟩
abbrev S128x2048 : Shape := ⟨2, ![128, 2048]⟩

abbrev nBuf : Space → Nat
  | .hbm => 7
  | .vmem => 14
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S1024x2048, .f32⟩
  | .hbm, ⟨5, _⟩ => ⟨S1024x2048, .f32⟩
  | .hbm, ⟨6, _⟩ => ⟨S1024x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamOutReferenceIdeal.lean ====
abbrev S1024x2048 : Shape := ⟨2, ![1024, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S_, .f32⟩
  | .hbm, ⟨5, _⟩ => ⟨S1024x2048, .f32⟩
  | .hbm, ⟨6, _⟩ => ⟨S1024x2048, .f32⟩
  | .hbm, ⟨7, _⟩ => ⟨S_, .f32⟩
  | .hbm, ⟨8, _⟩ => ⟨S1024x2048, .f32⟩
  | .hbm, ⟨9, _⟩ => ⟨S1024x2048, .f32⟩
  | .hbm, ⟨10, _⟩ => ⟨S1024x2048, .f32⟩
  | .hbm, ⟨11, _⟩ => ⟨S_, .f32⟩
  | .hbm, ⟨12, _⟩ => ⟨S1024x2048, .f32⟩
  | .hbm, ⟨13, _⟩ => ⟨S1024x2048, .f32⟩
  | .hbm, ⟨14, _⟩ => ⟨S1024x2048, .f32⟩
  | .hbm, ⟨15, _⟩ => ⟨S_, .f32⟩
  | .hbm, ⟨16, _⟩ => ⟨S1024x2048, .f32⟩
  | .hbm, ⟨17, _⟩ => ⟨S1024x2048, .f32⟩
  | .hbm, ⟨18, _⟩ => ⟨S1024x2048, .f32⟩
  | .hbm, ⟨19, _⟩ => ⟨S_, .f32⟩
  | .hbm, ⟨20, _⟩ => ⟨S1024x2048, .f32⟩
  | .hbm, ⟨21, _⟩ => ⟨S1024x2048, .f32⟩
  | .hbm, ⟨22, _⟩ => ⟨S_, .f32⟩
  | .hbm, ⟨23, _⟩ => ⟨S1024x2048, .f32⟩
  | .hbm, ⟨24, _⟩ => ⟨S1024x2048, .f32⟩
  | .hbm, ⟨25, _⟩ => ⟨S1024x2048, .f32⟩
  | .hbm, ⟨26, _⟩ => ⟨S_, .f32⟩
  | .hbm, ⟨27, _⟩ => ⟨S1024x2048, .f32⟩
  | .hbm, ⟨28, _⟩ => ⟨S1024x2048, .f32⟩
  | .hbm, ⟨29, _⟩ => ⟨S1024x2048, .f32⟩
  | .hbm, ⟨30, _⟩ => ⟨S_, .f32⟩
  | .hbm, ⟨31, _⟩ => ⟨S1024x2048, .f32⟩
  | .hbm, ⟨32, _⟩ => ⟨S1024x2048, .f32⟩
  | .hbm, ⟨33, _⟩ => ⟨S1024x2048, .f32⟩
  | .hbm, ⟨34, _⟩ => ⟨S_, .f32⟩
  | .hbm, ⟨35, _⟩ => ⟨S1024x2048, .f32⟩
  | .hbm, ⟨36, _⟩ => ⟨S1024x2048, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamIn.lean ====
abbrev S2048x4096 : Shape := ⟨2, ![2048, 4096]⟩
abbrev S64x4096 : Shape := ⟨2, ![64, 4096]⟩

abbrev nBuf : Space → Nat
  | .hbm => 7
  | .vmem => 14
  | .smem => 0
  | _ => 0

abbrev bufTy : (tb : Table) → Fin (tcTables nBuf tb) → BufTy
  | .hbm, ⟨0, _⟩ => ⟨S2048x4096, .f32⟩
  | .hbm, ⟨1, _⟩ => ⟨S2048x4096, .f32⟩
  | .hbm, ⟨2, _⟩ => ⟨S2048x4096, .f32⟩
  | .hbm, ⟨3, _⟩ => ⟨S2048x4096, .f32⟩
  | .hbm, ⟨4, _⟩ => ⟨S2048x4096, .f32⟩
  | .hbm, ⟨5, _⟩ => ⟨S2048x4096, .f32⟩
  | .hbm, ⟨6, _⟩ => ⟨S2048x4096, .f32⟩
  | .local _ .vmem, ⟨0, _⟩ => ⟨S64x4096, .f32⟩
  | .local _ .vmem, ⟨1, _⟩ => ⟨S64x4096, .f32⟩
  | .local _ .vmem, ⟨2, _⟩ => ⟨S64x4096, .f32⟩
  | .local _ .vmem, ⟨3, _⟩ => ⟨S64x4096, .f32⟩
  | .local _ .vmem, ⟨4, _⟩ => ⟨S64x4096, .f32⟩
  | .local _ .vmem, ⟨5, _⟩ => ⟨S64x4096, .f32⟩
  | .local _ .vmem, ⟨6, _⟩ => ⟨S64x4096, .f32⟩
  | .local _ .vmem, ⟨7, _⟩ => ⟨S64x4096, .f32⟩
  | .local _ .vmem, ⟨8, _⟩ => ⟨S64x4096, .f32⟩
  | .local _ .vmem, ⟨9, _⟩ => ⟨S64x4096, .f32⟩
  | .local _ .vmem, ⟨10, _⟩ => ⟨S64x4096, .f32⟩
  | .local _ .vmem, ⟨11, _⟩ => ⟨S64x4096, .f32⟩
  | .local _ .vmem, ⟨12, _⟩ => ⟨S64x4096, .f32⟩
  | .local _ .vmem, ⟨13, _⟩ => ⟨S64x4096, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInReferenceIdeal.lean ====
abbrev S2048x4096 : Shape := ⟨2, ![2048, 4096]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S2048x4096, .f32⟩
  | .hbm, ⟨2, _⟩ => ⟨S2048x4096, .f32⟩
  | .hbm, ⟨3, _⟩ => ⟨S2048x4096, .f32⟩
  | .hbm, ⟨4, _⟩ => ⟨S_, .f32⟩
  | .hbm, ⟨5, _⟩ => ⟨S2048x4096, .f32⟩
  | .hbm, ⟨6, _⟩ => ⟨S2048x4096, .f32⟩
  | .hbm, ⟨7, _⟩ => ⟨S_, .f32⟩
  | .hbm, ⟨8, _⟩ => ⟨S2048x4096, .f32⟩
  | .hbm, ⟨9, _⟩ => ⟨S2048x4096, .f32⟩
  | .hbm, ⟨10, _⟩ => ⟨S2048x4096, .f32⟩
  | .hbm, ⟨11, _⟩ => ⟨S_, .f32⟩
  | .hbm, ⟨12, _⟩ => ⟨S2048x4096, .f32⟩
  | .hbm, ⟨13, _⟩ => ⟨S2048x4096, .f32⟩
  | .hbm, ⟨14, _⟩ => ⟨S2048x4096, .f32⟩
  | .hbm, ⟨15, _⟩ => ⟨S_, .f32⟩
  | .hbm, ⟨16, _⟩ => ⟨S2048x4096, .f32⟩
  | .hbm, ⟨17, _⟩ => ⟨S2048x4096, .f32⟩
  | .hbm, ⟨18, _⟩ => ⟨S2048x4096, .f32⟩
  | .hbm, ⟨19, _⟩ => ⟨S_, .f32⟩
  | .hbm, ⟨20, _⟩ => ⟨S2048x4096, .f32⟩
  | .hbm, ⟨21, _⟩ => ⟨S2048x4096, .f32⟩
  | .hbm, ⟨22, _⟩ => ⟨S_, .f32⟩
  | .hbm, ⟨23, _⟩ => ⟨S2048x4096, .f32⟩
  | .hbm, ⟨24, _⟩ => ⟨S2048x4096, .f32⟩
  | .hbm, ⟨25, _⟩ => ⟨S2048x4096, .f32⟩
  | .hbm, ⟨26, _⟩ => ⟨S_, .f32⟩
  | .hbm, ⟨27, _⟩ => ⟨S2048x4096, .f32⟩
  | .hbm, ⟨28, _⟩ => ⟨S2048x4096, .f32⟩
  | .hbm, ⟨29, _⟩ => ⟨S2048x4096, .f32⟩
  | .hbm, ⟨30, _⟩ => ⟨S_, .f32⟩
  | .hbm, ⟨31, _⟩ => ⟨S2048x4096, .f32⟩
  | .hbm, ⟨32, _⟩ => ⟨S2048x4096, .f32⟩
  | .hbm, ⟨33, _⟩ => ⟨S2048x4096, .f32⟩
  | .hbm, ⟨34, _⟩ => ⟨S_, .f32⟩
  | .hbm, ⟨35, _⟩ => ⟨S2048x4096, .f32⟩
  | .hbm, ⟨36, _⟩ => ⟨S2048x4096, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamRow.lean ====
abbrev S1x2048 : Shape := ⟨2, ![1, 2048]⟩

abbrev nBuf : Space → Nat
  | .hbm => 7
  | .vmem => 7
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamRowReferenceIdeal.lean ====
abbrev S1x2048 : Shape := ⟨2, ![1, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S_, .f32⟩
  | .hbm, ⟨5, _⟩ => ⟨S1x2048, .f32⟩
  | .hbm, ⟨6, _⟩ => ⟨S1x2048, .f32⟩
  | .hbm, ⟨7, _⟩ => ⟨S_, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S_, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S_, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S_, .f32⟩
  | .hbm, ⟨23, _⟩ => ⟨S1x2048, .f32⟩
  | .hbm, ⟨24, _⟩ => ⟨S1x2048, .f32⟩
  | .hbm, ⟨25, _⟩ => ⟨S1x2048, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S1x2048, .f32⟩
  | .hbm, ⟨30, _⟩ => ⟨S_, .f32⟩
  | .hbm, ⟨31, _⟩ => ⟨S1x2048, .f32⟩
  | .hbm, ⟨32, _⟩ => ⟨S1x2048, .f32⟩
  | .hbm, ⟨33, _⟩ => ⟨S1x2048, .f32⟩
  | .hbm, ⟨34, _⟩ => ⟨S_, .f32⟩
  | .hbm, ⟨35, _⟩ => ⟨S1x2048, .f32⟩
  | .hbm, ⟨36, _⟩ => ⟨S1x2048, .f32⟩
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Spec.lean ====
/-
  The gradients of the gMLP branch, written for one chunk of 128 rows over the extended reals: what both the kernel's
  grid point and the reference's chunk compute, entry by entry. `U`, `V`, `Z` are the chunk's three column groups, `Y`
  the cotangent, `g` / `b` the layer norm's scale and shift, `W` the mixing matrices and `B` their biases.
-/
module

public import Idealize.ShloMosaic.Lib.Pointwise

@[expose] public section

noncomputable section

namespace Cert.Spec

open Idealize.ShloMosaic
open scoped BigOperators

/-- The row length 2048 and the layer norm's 1e-5, −1/2 and 1, as the programs' literals. -/
abbrev cN : EReal := Ideal.ofBits .f32 0x45000000#32
abbrev cEps : EReal := Ideal.ofBits .f32 0x3727C5AC#32
abbrev cHalf : EReal := Ideal.ofBits .f32 0xBF000000#32

/-- One row of 2048, one chunk of 128 rows. -/
abbrev Row := Fin 2048 → EReal
abbrev Chunk := Fin 128 → Row

/-! ### The layer norm of a row -/

def mean (v : Row) : EReal := Ideal.div (∑ k, v k) cN
def cen (v : Row) (j : Fin 2048) : EReal := v j - mean v
def var (v : Row) : EReal := Ideal.div (∑ k, cen v k * cen v k) cN + cEps
def rs (v : Row) : EReal := Ideal.rsqrt (var v)
/-- The derivative of the reciprocal root. -/
def drs (v : Row) : EReal := cHalf * Ideal.div (rs v) (var v)
def nrm (v : Row) (j : Fin 2048) : EReal := cen v j * rs v
def ln (g b : Row) (v : Row) (j : Fin 2048) : EReal := nrm v j * g j + b j

/-! ### The causal mixing of a chunk and the gate -/

/-- The group of a column. -/
def grp (j : Fin 2048) : Fin 8 := ⟨j.val / 256, by have := j.isLt; omega⟩
/-- Column `d` of group `k`. -/
def col (k : Fin 8) (d : Fin 256) : Fin 2048 := ⟨256 * k.val + d.val, by have := k.isLt; have := d.isLt; omega⟩

/-- The lower triangle of mixing matrix `k`. -/
def low (W : Fin 8 → Fin 128 → Fin 128 → EReal) (k : Fin 8) (t s : Fin 128) : EReal := if s.val ≤ t.val then W k t s else 0

def mix (g b : Row) (V : Chunk) (W : Fin 8 → Fin 128 → Fin 128 → EReal) (B : Fin 128 → Fin 8 → EReal)
    (t : Fin 128) (j : Fin 2048) : EReal :=
  ∑ s, low W (grp j) t s * ln g b (V s) j + B t (grp j)

def sg (z : EReal) : EReal := Ideal.div 1 (1 + Ideal.exp (-z))

/-- The cotangent of the gated product. -/
def gy (Z Y : Chunk) (t : Fin 128) (j : Fin 2048) : EReal := Z t j * sg (Z t j) * Y t j
/-- The cotangent of the mixed values. -/
def dmix (U Z Y : Chunk) (t : Fin 128) (j : Fin 2048) : EReal := U t j * gy Z Y t j
/-- The cotangent of the first column group. -/
def du (g b : Row) (V Z Y : Chunk) (W : Fin 8 → Fin 128 → Fin 128 → EReal) (B : Fin 128 → Fin 8 → EReal)
    (t : Fin 128) (j : Fin 2048) : EReal := gy Z Y t j * mix g b V W B t j
/-- The cotangent of the gate's pre-activation. -/
def dz (g b : Row) (U V Z Y : Chunk) (W : Fin 8 → Fin 128 → Fin 128 → EReal) (B : Fin 128 → Fin 8 → EReal)
    (t : Fin 128) (j : Fin 2048) : EReal :=
  Y t j * (U t j * mix g b V W B t j) * sg (Z t j)
    + Z t j * (Y t j * (U t j * mix g b V W B t j)) * (sg (Z t j) * (1 - sg (Z t j)))

/-- The cotangent of the normalised rows. -/
def dln (U Z Y : Chunk) (W : Fin 8 → Fin 128 → Fin 128 → EReal) (s : Fin 128) (j : Fin 2048) : EReal :=
  ∑ t, dmix U Z Y t j * low W (grp j) t s

/-- A chunk's terms of the gradients of the mixing matrices, their biases, and the layer norm's shift and scale. -/
def dW (g b : Row) (U V Z Y : Chunk) (k : Fin 8) (t s : Fin 128) : EReal :=
  ∑ d, dmix U Z Y t (col k d) * ln g b (V s) (col k d)
def dB (U Z Y : Chunk) (t : Fin 128) (k : Fin 8) : EReal := ∑ d, dmix U Z Y t (col k d)
def db (U Z Y : Chunk) (W : Fin 8 → Fin 128 → Fin 128 → EReal) (j : Fin 2048) : EReal := ∑ s, dln U Z Y W s j
def dg (U V Z Y : Chunk) (W : Fin 8 → Fin 128 → Fin 128 → EReal) (j : Fin 2048) : EReal :=
  ∑ s, nrm (V s) j * dln U Z Y W s j

/-! ### The layer norm's gradient at a row: `v` the row, `y` the cotangent of the row times the scale -/

def coef (v y : Row) : EReal := Ideal.div ((∑ k, cen v k * y k) * drs v) cN
def dcen (v y : Row) (j : Fin 2048) : EReal := y j * rs v + cen v j * coef v y + coef v y * cen v j
def dlnRow (v y : Row) (j : Fin 2048) : EReal := dcen v y j + Ideal.div (∑ k, -dcen v y k) cN

/-- The cotangent of the second column group. -/
def dv (g : Row) (U V Z Y : Chunk) (W : Fin 8 → Fin 128 → Fin 128 → EReal) (s : Fin 128) (j : Fin 2048) : EReal :=
  dlnRow (V s) (fun k => dln U Z Y W s k * g k) j

end Cert.Spec

end
-- ==== Proof.NormBwd.lean ====
/-
  The gradient of the RMS norm of a row with the residual's cotangent added: the kernel's blocks of 512 rows, and its
  running sum of the scale's gradient over the 16 blocks, against the derivative of the norm over all 8192 rows.
-/
module

public import proofs.«01_k».proof.Defs
public import proofs.«01_k».proof.Proof.Spec
public import proofs.«01_k».proof.Proof.Gen.NormBwdIdeal.Value
public import proofs.«01_k».proof.Proof.Gen.NormBwdReferenceIdeal.Run
public import proofs.«01_k».proof.Proof.Gen.NormBwdReferenceIdeal.Read
public import Idealize.ShloMosaic.Lib.Pipeline.ValueKit
public import Idealize.ShloMosaic.Lib.Pointwise
public import Idealize.ShloMosaic.Lib.Quiescent

@[expose] public section

set_option maxRecDepth 16384

noncomputable section

namespace Cert.NormBwdValue

open Cert.NormBwdIdeal Cert.NormBwdIdeal.Gen Cert.Spec Idealize.ShloMosaic Idealize.ShloMosaic.TcCoe Idealize.SL.Sem
open scoped BigOperators

/-! ### The gradient at a row: `x` the row, `g` the scale, `y` the norm's cotangent -/

def ms (x : Row) : EReal := Ideal.div (∑ k, x k * x k) cN + cEps
def rt (x : Row) : EReal := Ideal.rsqrt (ms x)
def cf (x g y : Row) : EReal := Ideal.div ((∑ k, x k * (y k * g k)) * (cHalf * Ideal.div (rt x) (ms x))) cN
/-- The cotangent of the row, with the residual's `e`. -/
def dx (x g y e : Row) (j : Fin 2048) : EReal := y j * g j * rt x + x j * cf x g y + cf x g y * x j + e j
/-- The row's term of the scale's gradient. -/
def dg (x y : Row) (j : Fin 2048) : EReal := x j * rt x * y j

theorem hz2 : (![0, 0] : Fin 2 → Nat) = fun _ => 0 := funext fun a => by fin_cases a <;> rfl

/-! ### What a grid point leaves -/

section Point
variable {F : FTy → Type} [FloatOps F] (c : Dev nD) (i : grid0.Coords)
  (a1 : Memref sig .tc .vmem S512x2048 .f32) (h1 : a1.IsWhole) (a2 : Memref sig .tc .vmem S1x2048 .f32) (h2 : a2.IsWhole)
  (a3 : Memref sig .tc .vmem S512x2048 .f32) (h3 : a3.IsWhole) (a4 : Memref sig .tc .vmem S512x2048 .f32) (h4 : a4.IsWhole)
  (a5 : Memref sig .tc .vmem S512x2048 .f32) (h5 : a5.IsWhole) (a6 : Memref sig .tc .vmem S512x2048 .bf16) (h6 : a6.IsWhole)
  (a7 : Memref sig .tc .vmem S1x2048 .f32) (h7 : a7.IsWhole)
  (x0 : Vec F S512x2048 .f32) (x1 : Vec F S1x2048 .f32) (x2 x3 : Vec F S512x2048 .f32) (xo : Vec F S1x2048 .f32)

theorem out_A_4 (hc : cond0_0 i) : out0_A_4 c i a1 h1 a2 h2 a3 h3 a4 h4 a5 h5 a6 h6 a7 h7 hc x0 x1 x2 x3 = k0_pay6 x0 x1 x2 x3 := by
  unfold out0_A_4
  rw [View.read_writes_eq_canon _ _ _ (cover0_A_4 c i a1 h1 a2 h2 a3 h3 a4 h4 a5 h5 a6 h6 a7 h7 hc x0 x1 x2 x3)]
  unfold kernelRun0_A
  dsimp only
  sl_unfold_words
  rw [View.canon_unit_zero hz2]
  simp only [View.readAt_eq_ld, h1.read_unread, h2.read_unread, h3.read_unread, h4.read_unread, View.ld_unit_zero (S := S512x2048) hz2,
    View.ld_unit_zero (S := S1x2048) hz2]

theorem out_A_5 (hc : cond0_0 i) : out0_A_5 c i a1 h1 a2 h2 a3 h3 a4 h4 a5 h5 a6 h6 a7 h7 hc x0 x1 x2 x3 = k0_pay7 x0 x1 x2 x3 := by
  unfold out0_A_5
  rw [View.read_writes_eq_canon _ _ _ (cover0_A_5 c i a1 h1 a2 h2 a3 h3 a4 h4 a5 h5 a6 h6 a7 h7 hc x0 x1 x2 x3)]
  unfold kernelRun0_A
  dsimp only
  sl_unfold_words
  rw [View.canon_unit_zero hz2]
  simp only [View.readAt_eq_ld, h1.read_unread, h2.read_unread, h3.read_unread, h4.read_unread, View.ld_unit_zero (S := S512x2048) hz2,
    View.ld_unit_zero (S := S1x2048) hz2]

theorem out_A_6 (hc : cond0_0 i) :
    out0_A_6 c i a1 h1 a2 h2 a3 h3 a4 h4 a5 h5 a6 h6 a7 h7 hc x0 x1 x2 x3 = k0_pay2 (k0_pay5 x0 x2) k0_pay1 := by
  unfold out0_A_6
  rw [View.read_writes_eq_canon _ _ _ (cover0_A_6 c i a1 h1 a2 h2 a3 h3 a4 h4 a5 h5 a6 h6 a7 h7 hc x0 x1 x2 x3)]
  unfold kernelRun0_A
  dsimp only
  sl_unfold_words
  rw [View.canon_cons_unit_zero (S := S1x2048) hz2, View.readCov_unit_zero (S := S1x2048) _ hz2]
  simp only [View.readAt_eq_ld, h1.read_unread, h2.read_unread, h3.read_unread, h4.read_unread, View.ld_unit_zero (S := S512x2048) hz2,
    View.ld_unit_zero (S := S1x2048) hz2]

theorem out_B_4 (hc : ¬cond0_0 i) :
    out0_B_4 c i a1 h1 a2 h2 a3 h3 a4 h4 a5 h5 a6 h6 a7 h7 hc x0 x1 x2 x3 xo = k0_pay6 x0 x1 x2 x3 := by
  unfold out0_B_4
  rw [View.read_writes_eq_canon _ _ _ (cover0_B_4 c i a1 h1 a2 h2 a3 h3 a4 h4 a5 h5 a6 h6 a7 h7 hc x0 x1 x2 x3 xo)]
  unfold kernelRun0_B
  dsimp only
  sl_unfold_words
  rw [View.canon_unit_zero hz2]
  simp only [View.readAt_eq_ld, h1.read_unread, h2.read_unread, h3.read_unread, h4.read_unread, View.ld_unit_zero (S := S512x2048) hz2,
    View.ld_unit_zero (S := S1x2048) hz2]

theorem out_B_5 (hc : ¬cond0_0 i) :
    out0_B_5 c i a1 h1 a2 h2 a3 h3 a4 h4 a5 h5 a6 h6 a7 h7 hc x0 x1 x2 x3 xo = k0_pay7 x0 x1 x2 x3 := by
  unfold out0_B_5
  rw [View.read_writes_eq_canon _ _ _ (cover0_B_5 c i a1 h1 a2 h2 a3 h3 a4 h4 a5 h5 a6 h6 a7 h7 hc x0 x1 x2 x3 xo)]
  unfold kernelRun0_B
  dsimp only
  sl_unfold_words
  rw [View.canon_unit_zero hz2]
  simp only [View.readAt_eq_ld, h1.read_unread, h2.read_unread, h3.read_unread, h4.read_unread, View.ld_unit_zero (S := S512x2048) hz2,
    View.ld_unit_zero (S := S1x2048) hz2]

theorem out_B_6 (hc : ¬cond0_0 i) :
    out0_B_6 c i a1 h1 a2 h2 a3 h3 a4 h4 a5 h5 a6 h6 a7 h7 hc x0 x1 x2 x3 xo = k0_pay2 (k0_pay5 x0 x2) xo := by
  unfold out0_B_6
  rw [View.read_writes_eq_canon _ _ _ (cover0_B_6 c i a1 h1 a2 h2 a3 h3 a4 h4 a5 h5 a6 h6 a7 h7 hc x0 x1 x2 x3 xo)]
  unfold kernelRun0_B
  dsimp only
  sl_unfold_words
  rw [View.canon_unit_zero hz2]
  simp only [View.readAt_eq_ld, h1.read_unread, h2.read_unread, h3.read_unread, h4.read_unread, h7.read_unread,
    View.ld_unit_zero (S := S512x2048) hz2, View.ld_unit_zero (S := S1x2048) hz2]
end Point

/-! ### The payloads at an index -/

section Pay
variable (x0 x2 x3 : Vec Ideal S512x2048 .f32) (x1 xo : Vec Ideal S1x2048 .f32) (r : Fin 512) (j : Fin 2048)

abbrev rw_ (x : Vec Ideal S512x2048 .f32) (r : Fin 512) : Row := fun j => x (ix2 r j)
abbrev sc (x : Vec Ideal S1x2048 .f32) : Row := fun j => x (ix2 0 j)

theorem ms_at : k0_pay3 x0 (ix2 r 0) = ms (rw_ x0 r) := by
  pointwise [k0_pay3]
  rfl
theorem rt_at : k0_pay4 x0 (ix2 r 0) = rt (rw_ x0 r) := by
  pointwise [k0_pay4]
  rw [ms_at]
  rfl
theorem dx_at : k0_pay6 x0 x1 x2 x3 (ix2 r j) = dx (rw_ x0 r) (sc x1) (rw_ x2 r) (rw_ x3 r) j := by
  pointwise [k0_pay6]
  simp only [rt_at, ms_at, Fin.sum_univ_one]
  rfl
theorem dxb_at : k0_pay7 x0 x1 x2 x3 (ix2 r j) = dx (rw_ x0 r) (sc x1) (rw_ x2 r) (rw_ x3 r) j := by
  pointwise [k0_pay7]
  exact dx_at ..
theorem dg_at : k0_pay5 x0 x2 (ix2 0 j) = ∑ r, dg (rw_ x0 r) (rw_ x2 r) j := by
  pointwise [k0_pay5]
  simp only [rt_at]
  rfl
theorem zero_at : (k0_pay1 (F := Ideal)) (ix2 0 j) = 0 := by pointwise [k0_pay1]
theorem add_at (y : Vec Ideal S1x2048 .f32) : k0_pay2 y xo (ix2 0 j) = xo (ix2 0 j) + y (ix2 0 j) := by pointwise [k0_pay2]
end Pay

/-! ### The blocks -/

variable (m : (ℓ : Loc nD τ sig) → Buf (Elt Ideal) ℓ) (c : Dev nD)

abbrev aX : Vec Ideal S8192x2048 .f32 := m ((c : Thread nD τ).loc main_arg0)
abbrev aG : Vec Ideal S1x2048 .f32 := m ((c : Thread nD τ).loc main_arg1)
abbrev aY : Vec Ideal S8192x2048 .f32 := m ((c : Thread nD τ).loc main_arg2)
abbrev aE : Vec Ideal S8192x2048 .f32 := m ((c : Thread nD τ).loc main_arg3)
/-- A row of a whole array. -/
abbrev row (x : Vec Ideal S8192x2048 .f32) (i : Fin 8192) : Row := fun j => x (ix2 i j)

/-- Row `r` of block `b`. -/
def at_ (b : Fin 16) (r : Fin 512) : Fin 8192 := ⟨512 * b.val + r.val, by have := b.isLt; have := r.isLt; omega⟩
theorem at_val (b : Fin 16) (r : Fin 512) : (at_ b r).val = 512 * b.val + r.val := rfl
def pt (t : Fin cfg0.N) : Fin 16 := t.cast N_0
theorem pt_val (t : Fin cfg0.N) : (pt t).val = t.val := rfl

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![t.val, 0] := (by decide +kernel : ∀ t : Fin grid0.N, _)
theorem e4 : ∀ t : Fin cfg0.N, win0_4.index t = ![t.val, 0] := (by decide +kernel : ∀ t : Fin grid0.N, _)
theorem e5 : ∀ t : Fin cfg0.N, win0_5.index t = ![t.val, 0] := (by decide +kernel : ∀ t : Fin grid0.N, _)

theorem blk0 (t : Fin cfg0.N) (r : Fin 512) : rw_ (iblk m c 0 t) r = row (aX m c) (at_ (pt t) r) := by
  funext j
  show (iblk m c 0 t : Vec Ideal S512x2048 .f32) (ix2 r j) = m ((c : Thread nD τ).loc main_arg0) (ix2 _ _)
  unfold iblk
  blk_simp
  show V m c main_arg0 _ = _
  rw [V_main_arg0]
  congr 1
  blk_ext [e0, at_val, pt_val]
theorem blk1 (t : Fin cfg0.N) : sc (iblk m c 1 t) = sc (aG m c) := by
  funext j
  show (iblk m c 1 t : Vec Ideal S1x2048 .f32) (ix2 0 j) = m ((c : Thread nD τ).loc main_arg1) (ix2 0 j)
  unfold iblk
  blk_simp
  show V m c main_arg1 _ = _
  rw [V_main_arg1]
  congr 1
  blk_ext [e1]
theorem blk2 (t : Fin cfg0.N) (r : Fin 512) : rw_ (iblk m c 2 t) r = row (aY m c) (at_ (pt t) r) := by
  funext j
  show (iblk m c 2 t : Vec Ideal S512x2048 .f32) (ix2 r j) = m ((c : Thread nD τ).loc main_arg2) (ix2 _ _)
  unfold iblk
  blk_simp
  show V m c main_arg2 _ = _
  rw [V_main_arg2]
  congr 1
  blk_ext [e2, at_val, pt_val]
theorem blk3 (t : Fin cfg0.N) (r : Fin 512) : rw_ (iblk m c 3 t) r = row (aE m c) (at_ (pt t) r) := by
  funext j
  show (iblk m c 3 t : Vec Ideal S512x2048 .f32) (ix2 r j) = m ((c : Thread nD τ).loc main_arg3) (ix2 _ _)
  unfold iblk
  blk_simp
  show V m c main_arg3 _ = _
  rw [V_main_arg3]
  congr 1
  blk_ext [e3, at_val, pt_val]

/-! ### The arrays after the run -/

/-- The rows' cotangent at an index. -/
def gradX (i : Fin 8192) (j : Fin 2048) : EReal := dx (row (aX m c) i) (sc (aG m c)) (row (aY m c) i) (row (aE m c) i) j

theorem outs4 (t : Fin cfg0.N) : (outsAt0 m c t.val t.isLt).1 = k0_pay6 (iblk m c 0 t) (iblk m c 1 t) (iblk m c 2 t) (iblk m c 3 t) := by
  by_cases h0 : t.val % 16 = 0
  · rw [outsAt0_A m c t h0]; dsimp only; rw [out_A_4]
  · rw [outsAt0_B m c t h0]; dsimp only; rw [out_B_4]
theorem outs5 (t : Fin cfg0.N) : (outsAt0 m c t.val t.isLt).2.1 = k0_pay7 (iblk m c 0 t) (iblk m c 1 t) (iblk m c 2 t) (iblk m c 3 t) := by
  by_cases h0 : t.val % 16 = 0
  · rw [outsAt0_A m c t h0]; dsimp only; rw [out_A_5]
  · rw [outsAt0_B m c t h0]; dsimp only; rw [out_B_5]

theorem f4 : ∀ t : Fin cfg0.N, (cfg0.win 4).flush t = true := (by decide +kernel : ∀ t : Fin grid0.N, _)
theorem f5 : ∀ t : Fin cfg0.N, (cfg0.win 5).flush t = true := (by decide +kernel : ∀ t : Fin grid0.N, _)

theorem arr4 (t : Fin cfg0.N) (r : Fin 512) (j : Fin 2048) :
    ((dats m 0 c).arrAt 4 cfg0.N : Vec Ideal S8192x2048 .f32) (ix2 (at_ (pt t) r) j) = gradX m c (at_ (pt t) r) j := by
  have h := (dats m 0 c).arrAt_emb_eq_flushed 4 (Cert.NormBwdIdeal.Value.disjoint4) t (f4 t) (ix2 r j : S512x2048.Idx)
  have e : ((cfg0.win 4).blk t).view.emb (ix2 r j : S512x2048.Idx) = (ix2 (at_ (pt t) r) j : S8192x2048.Idx) := by
    blk_ext [e4, at_val, pt_val]
  rw [e] at h
  refine h.trans ?_
  rw [show (dats m 0 c).flushed 4 t (ix2 r j : S512x2048.Idx) = (dats m 0 c).after 4 t (ix2 r j : S512x2048.Idx) from rfl, after0_4, outs4]
  refine (dx_at ..).trans ?_
  rw [blk0, blk1, blk2, blk3]
  rfl
theorem arr5 (t : Fin cfg0.N) (r : Fin 512) (j : Fin 2048) :
    ((dats m 0 c).arrAt 5 cfg0.N : Vec Ideal S8192x2048 .bf16) (ix2 (at_ (pt t) r) j) = gradX m c (at_ (pt t) r) j := by
  have h := (dats m 0 c).arrAt_emb_eq_flushed 5 (Cert.NormBwdIdeal.Value.disjoint5) t (f5 t) (ix2 r j : S512x2048.Idx)
  have e : ((cfg0.win 5).blk t).view.emb (ix2 r j : S512x2048.Idx) = (ix2 (at_ (pt t) r) j : S8192x2048.Idx) := by
    blk_ext [e5, at_val, pt_val]
  rw [e] at h
  refine h.trans ?_
  rw [show (dats m 0 c).flushed 5 t (ix2 r j : S512x2048.Idx) = (dats m 0 c).after 5 t (ix2 r j : S512x2048.Idx) from rfl, after0_5, outs5]
  refine (dxb_at ..).trans ?_
  rw [blk0, blk1, blk2, blk3]
  rfl

/-- The block of a point's number. -/
def chk (n : ℕ) : Fin 16 := ⟨n % 16, Nat.mod_lt _ (by decide)⟩
theorem pt_eq (t : Fin cfg0.N) : pt t = chk t.val := by
  have h : t.val < 16 := N_0 ▸ t.isLt
  exact Fin.ext (Nat.mod_eq_of_lt h).symm

/-- A block's term of the scale's gradient. -/
def part (b : Fin 16) (j : Fin 2048) : EReal := ∑ r, dg (row (aX m c) (at_ b r)) (row (aY m c) (at_ b r)) j

theorem acc6 (j : Fin 2048) : ∀ (n : ℕ) (hn : n < cfg0.N),
    ((outsAt0 m c n hn).2.2 : Vec Ideal S1x2048 .f32) (ix2 0 j) = ∑ k ∈ Finset.range (n + 1), part m c (chk k) j
  | 0, hn => by
    rw [show outsAt0 m c 0 hn = _ from outsAt0_A m c ⟨0, hn⟩ rfl]
    dsimp only
    rw [out_A_6, add_at, zero_at, dg_at, zero_add, Finset.sum_range_one]
    simp only [blk0, blk2, pt_eq]
    rfl
  | n + 1, hn => by
    have hN : cfg0.N = 16 := N_0
    have hB : ¬(⟨n + 1, hn⟩ : Fin cfg0.N).val % 16 = 0 := by dsimp only; omega
    rw [show outsAt0 m c (n + 1) hn = _ from outsAt0_B m c ⟨n + 1, hn⟩ hB]
    dsimp only
    rw [out_B_6, add_at, dg_at, Finset.sum_range_succ]
    simp only [blk0, blk2, pt_eq]
    exact congrArg (fun a : EReal => a + _) (acc6 j n _)

def tl : Fin cfg0.N := ⟨15, by decide⟩

/-- A sum over all rows, block by block. -/
theorem sum_rows (f : Fin 8192 → EReal) : ∑ b : Fin 16, ∑ r, f (at_ b r) = ∑ i, f i := by
  rw [← Fintype.sum_prod_type' (f := fun b r => f (at_ b r))]
  refine Fintype.sum_equiv (finProdFinEquiv (m := 16) (n := 512)) _ _ fun p => congrArg f (Fin.ext ?_)
  show 512 * p.1.val + p.2.val = p.2.val + 512 * p.1.val
  omega

theorem arr6 (j : Fin 2048) : ((dats m 0 c).arrAt 6 cfg0.N : Vec Ideal S1x2048 .f32) (ix2 0 j)
    = ∑ i, dg (row (aX m c) i) (row (aY m c) i) j := by
  refine ((dats m 0 c).arrAt_emb_eq_after_last 6 tl (by decide +kernel) ((ix2 0 j) : S1x2048.Idx)).trans ?_
  rw [after0_6]
  refine (acc6 m c j 15 tl.isLt).trans ?_
  rw [show 15 + 1 = 16 from rfl, Finset.sum_range, ← sum_rows]
  exact Finset.sum_congr rfl fun k _ => congrArg (part m c · j) (Fin.ext (Nat.mod_eq_of_lt k.isLt))

/-! ### The reference -/

section Ref
open Cert.NormBwdReferenceIdeal.Read
variable (x0 x2 x3 : Vec Ideal S8192x2048 .f32) (x1 : Vec Ideal S1x2048 .f32) (i : Fin 8192) (j : Fin 2048)

theorem v6_at : val_main_v6 (F := Ideal) x0 (ix2 i 0) = ms (row x0 i) := by
  pointwise [val_main_v6, val_main_v5, val_main_v4, val_main_v3, val_main_v2, val_main_v1, val_main_v0, val_main_cst, val_main_cst_0,
    val_main_cst_1]
  rfl
theorem v7_at : val_main_v7 (F := Ideal) x0 (ix2 i 0) = rt (row x0 i) := by
  pointwise [val_main_v7]
  rw [v6_at]
  rfl
theorem v29_at : val_main_v29 (F := Ideal) x0 x1 x2 (ix1 i) = cf (row x0 i) (sc x1) (row x2 i) := by
  pointwise [val_main_v29, val_main_v28, val_main_v27, val_main_v26, val_main_v22, val_main_v21, val_main_v20, val_main_v19, val_main_v18,
    val_main_v10, val_main_v9, val_main_v8, val_main_cst_2, val_main_cst_4, val_main_cst_5, val_main_cst_6]
  simp only [v6_at, v7_at, Fin.sum_univ_one]
  rfl
theorem v34_at : val_main_v34 (F := Ideal) x0 x1 x2 x3 (ix2 i j) = dx (row x0 i) (sc x1) (row x2 i) (row x3 i) j := by
  pointwise [val_main_v34, val_main_v33, val_main_v32, val_main_v31, val_main_v30, val_main_v25, val_main_v24, val_main_v23, val_main_v19,
    val_main_v18]
  simp only [v7_at, v29_at]
  unfold dx
  rw [add_comm (_ + _ + _) (x3 (ix2 i j)), ← add_assoc, ← add_assoc]
theorem v35_at : val_main_v35 (F := Ideal) x0 x1 x2 x3 (ix2 i j) = dx (row x0 i) (sc x1) (row x2 i) (row x3 i) j := by
  pointwise [val_main_v35]
  exact v34_at ..
theorem v17_at : val_main_v17 (F := Ideal) x0 x2 (ix2 0 j) = ∑ i, dg (row x0 i) (row x2 i) j := by
  pointwise [val_main_v17, val_main_v16, val_main_v15, val_main_v12, val_main_v11, val_main_cst_3]
  simp only [v7_at]
  rfl
end Ref

/-! ### The equation -/

open Cert.NormBwdReferenceIdeal.Read

theorem row_split (i : Fin 8192) : ∃ (t : Fin cfg0.N) (r : Fin 512), i = at_ (pt t) r := by
  refine ⟨Fin.cast N_0.symm ⟨i.val / 512, by have := i.isLt; omega⟩, ⟨i.val % 512, Nat.mod_lt _ (by decide)⟩, Fin.ext ?_⟩
  show i.val = 512 * (i.val / 512) + i.val % 512
  omega

theorem same0 : ((dats m 0 c).arrAt 4 cfg0.N : Vec Ideal S8192x2048 .f32)
    = val_main_v34 (F := Ideal) (aX m c) (aG m c) (aY m c) (aE m c) := by
  funext i
  obtain ⟨i, j, rfl⟩ : ∃ (a : Fin 8192) (b : Fin 2048), i = ix2 a b := ⟨i 0, i 1, eq_ix2 i⟩
  obtain ⟨t, r, rfl⟩ := row_split i
  exact (arr4 m c t r j).trans (v34_at ..).symm
theorem same1 : ((dats m 0 c).arrAt 5 cfg0.N : Vec Ideal S8192x2048 .bf16)
    = val_main_v35 (F := Ideal) (aX m c) (aG m c) (aY m c) (aE m c) := by
  funext i
  obtain ⟨i, j, rfl⟩ : ∃ (a : Fin 8192) (b : Fin 2048), i = ix2 a b := ⟨i 0, i 1, eq_ix2 i⟩
  obtain ⟨t, r, rfl⟩ := row_split i
  exact (arr5 m c t r j).trans (v35_at ..).symm
theorem same2 : ((dats m 0 c).arrAt 6 cfg0.N : Vec Ideal S1x2048 .f32) = val_main_v17 (F := Ideal) (aX m c) (aY m c) := by
  funext i
  obtain ⟨z, j, rfl⟩ : ∃ (a : Fin 1) (b : Fin 2048), i = ix2 a b := ⟨i 0, i 1, eq_ix2 i⟩
  obtain rfl : z = 0 := Subsingleton.elim _ _
  exact (arr6 m c j).trans (v17_at ..).symm

/-- The reference leaves its arguments as they were. -/
theorem frame_reference : Cert.quiescent_NormBwdReferenceIdeal := fun m ρ _ =>
  (θ_run Cert.NormBwdReferenceIdeal.defs _ _).mono (fun r h => ⟨fun c => (h c).2.2.2, sem_eq_zero_of_no_sems (by decide) r.2⟩)
    (Cert.NormBwdReferenceIdeal.Value.run (F := Ideal) m ρ)

/-- Kernel and reference end with the same three arrays. -/
theorem algebraic : Cert.algebraic_NormBwdIdeal_NormBwdReferenceIdeal := by
  intro m ρ m' ρ' _ ha
  refine ⟨fun c => (dats m 0 c).arrAt 4 cfg0.N, fun c => (dats m 0 c).arrAt 5 cfg0.N, fun c => (dats m 0 c).arrAt 6 cfg0.N,
    Cert.NormBwdIdeal.Value.run_blocks (F := Ideal) m ρ, ?_⟩
  refine (θ_run Cert.NormBwdReferenceIdeal.defs _ _).mono (fun _ h c => ?_) (Cert.NormBwdReferenceIdeal.Value.run (F := Ideal) m' ρ')
  obtain ⟨h0, h1, h2, hk⟩ := h c
  obtain ⟨e0, e1, e2, e3⟩ := ha c
  refine ⟨(h0.trans (val_main_v34_eq ..)).trans ?_, (h1.trans (val_main_v35_eq ..)).trans ?_, (h2.trans (val_main_v17_eq ..)).trans ?_, hk⟩
  · rw [e0, e1, e2, e3]; exact (same0 m c).symm
  · rw [e0, e1, e2, e3]; exact (same1 m c).symm
  · rw [e0, e2]; exact (same2 m c).symm

end Cert.NormBwdValue

end
-- ==== Proof.SconvFrame.lean ====
/-
  The short convolution's gradient at every grid point, and its run: what each point leaves in its blocks, in the filter's gradient
  and in the rows carried to the next point, and the arrays after the last point.
-/
module

public import proofs.«01_k».proof.Proof.Gen.SconvBwdIdeal.Frame.RunB
public import Idealize.ShloMosaic.Lib.Claim
public import Idealize.ShloMosaic.Lib.Pipeline.Value

@[expose] public section

set_option maxRecDepth 16384

noncomputable section

namespace Cert.SconvFrame

open Cert.SconvBwdIdeal Cert.SconvBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section CaseA
variable (c : Dev nD) (i : grid0.Coords)
  (a2 : Memref sig .tc .vmem S256x512 .f32) (h2 : a2.IsWhole)
  (a3 : Memref sig .tc .vmem S256x512 .f32) (h3 : a3.IsWhole)
  (a4 : Memref sig .tc .vmem S256x512 .f32) (h4 : a4.IsWhole)
  (a5 : Memref sig .tc .vmem S256x512 .f32) (h5 : a5.IsWhole)
  (a6 : Memref sig .tc .vmem S8x512 .f32) (h6 : a6.IsWhole)
  (a7 : Memref sig .tc .vmem S8x512 .f32) (h7 : a7.IsWhole)
  (a8 : Memref sig .tc .vmem S256x512 .f32) (h8 : a8.IsWhole)
  (a9 : Memref sig .tc .vmem S3x512 .f32) (h9 : a9.IsWhole)
  (a10 : Memref sig .tc .vmem S256x512 .bf16) (h10 : a10.IsWhole)
  (a11 : Memref sig .tc .vmem S256x512 .bf16) (h11 : a11.IsWhole)
  (a12 : Memref sig .tc .vmem S256x512 .bf16) (h12 : a12.IsWhole)
  (a13 : Memref sig .tc .vmem S256x512 .bf16) (h13 : a13.IsWhole)
  (a14 : Memref sig .tc .vmem S3x512 .f32) (h14 : a14.IsWhole)
  (a15 : Memref sig .tc .vmem S8x512 .f32) (h15 : a15.IsWhole)
  (hc0 : cond0_0 i) (x0 x1 x2 x3 : Vec F S256x512 .f32) (x4 x5 : Vec F S8x512 .f32) (x6 : Vec F S256x512 .f32)
  (x7 : Vec F S3x512 .f32)

theorem cover0_A_8 (y : S256x512.Idx) :
  ∃ pc ∈ (kernelRun0_A c i a2 h2 a3 h3 a4 h4 a5 h5 a6 h6 a7 h7 a8 h8 a9 h9 a10 h10 a11 h11 a12 h12 a13 h13 a14 h14 a15 h15 hc0 x0 x1 x2 x3 x4 x5 x6 x7).1, y ∈ pc.1.set :=
  View.cover_of_tiledL (kernelRun0_A c i a2 h2 a3 h3 a4 h4 a5 h5 a6 h6 a7 h7 a8 h8 a9 h9 a10 h10 a11 h11 a12 h12 a13 h13 a14 h14 a15 h15 hc0 x0 x1 x2 x3 x4 x5 x6 x7).1 S256x512.size (by sl_kernel_rfl) y

def out0_A_8 : Vec F S256x512 .bf16 :=
  VO0_8.read (Elt F) (VO0_8.writes (Elt F) VO0_8.junk (kernelRun0_A c i a2 h2 a3 h3 a4 h4 a5 h5 a6 h6 a7 h7 a8 h8 a9 h9 a10 h10 a11 h11 a12 h12 a13 h13 a14 h14 a15 h15 hc0 x0 x1 x2 x3 x4 x5 x6 x7).1)

theorem cover0_A_9 (y : S256x512.Idx) :
  ∃ pc ∈ (kernelRun0_A c i a2 h2 a3 h3 a4 h4 a5 h5 a6 h6 a7 h7 a8 h8 a9 h9 a10 h10 a11 h11 a12 h12 a13 h13 a14 h14 a15 h15 hc0 x0 x1 x2 x3 x4 x5 x6 x7).2.1, y ∈ pc.1.set :=
  View.cover_of_tiledL (kernelRun0_A c i a2 h2 a3 h3 a4 h4 a5 h5 a6 h6 a7 h7 a8 h8 a9 h9 a10 h10 a11 h11 a12 h12 a13 h13 a14 h14 a15 h15 hc0 x0 x1 x2 x3 x4 x5 x6 x7).2.1 S256x512.size (by sl_kernel_rfl) y

def out0_A_9 : Vec F S256x512 .bf16 :=
  VO0_9.read (Elt F) (VO0_9.writes (Elt F) VO0_9.junk (kernelRun0_A c i a2 h2 a3 h3 a4 h4 a5 h5 a6 h6 a7 h7 a8 h8 a9 h9 a10 h10 a11 h11 a12 h12 a13 h13 a14 h14 a15 h15 hc0 x0 x1 x2 x3 x4 x5 x6 x7).2.1)

theorem cover0_A_10 (y : S256x512.Idx) :
  ∃ pc ∈ (kernelRun0_A c i a2 h2 a3 h3 a4 h4 a5 h5 a6 h6 a7 h7 a8 h8 a9 h9 a10 h10 a11 h11 a12 h12 a13 h13 a14 h14 a15 h15 hc0 x0 x1 x2 x3 x4 x5 x6 x7).2.2.1, y ∈ pc.1.set :=
  View.cover_of_tiledL (kernelRun0_A c i a2 h2 a3 h3 a4 h4 a5 h5 a6 h6 a7 h7 a8 h8 a9 h9 a10 h10 a11 h11 a12 h12 a13 h13 a14 h14 a15 h15 hc0 x0 x1 x2 x3 x4 x5 x6 x7).2.2.1 S256x512.size (by sl_kernel_rfl) y

def out0_A_10 : Vec F S256x512 .bf16 :=
  VO0_10.read (Elt F) (VO0_10.writes (Elt F) VO0_10.junk (kernelRun0_A c i a2 h2 a3 h3 a4 h4 a5 h5 a6 h6 a7 h7 a8 h8 a9 h9 a10 h10 a11 h11 a12 h12 a13 h13 a14 h14 a15 h15 hc0 x0 x1 x2 x3 x4 x5 x6 x7).2.2.1)

theorem cover0_A_11 (y : S256x512.Idx) :
  ∃ pc ∈ (kernelRun0_A c i a2 h2 a3 h3 a4 h4 a5 h5 a6 h6 a7 h7 a8 h8 a9 h9 a10 h10 a11 h11 a12 h12 a13 h13 a14 h14 a15 h15 hc0 x0 x1 x2 x3 x4 x5 x6 x7).2.2.2.1, y ∈ pc.1.set :=
  View.cover_of_tiledL (kernelRun0_A c i a2 h2 a3 h3 a4 h4 a5 h5 a6 h6 a7 h7 a8 h8 a9 h9 a10 h10 a11 h11 a12 h12 a13 h13 a14 h14 a15 h15 hc0 x0 x1 x2 x3 x4 x5 x6 x7).2.2.2.1 S256x512.size (by sl_kernel_rfl) y

def out0_A_11 : Vec F S256x512 .bf16 :=
  VO0_11.read (Elt F) (VO0_11.writes (Elt F) VO0_11.junk (kernelRun0_A c i a2 h2 a3 h3 a4 h4 a5 h5 a6 h6 a7 h7 a8 h8 a9 h9 a10 h10 a11 h11 a12 h12 a13 h13 a14 h14 a15 h15 hc0 x0 x1 x2 x3 x4 x5 x6 x7).2.2.2.1)

theorem cover0_A_12 (y : S3x512.Idx) :
  ∃ pc ∈ (kernelRun0_A c i a2 h2 a3 h3 a4 h4 a5 h5 a6 h6 a7 h7 a8 h8 a9 h9 a10 h10 a11 h11 a12 h12 a13 h13 a14 h14 a15 h15 hc0 x0 x1 x2 x3 x4 x5 x6 x7).2.2.2.2.1, y ∈ pc.1.set :=
  View.cover_of_tiledL (kernelRun0_A c i a2 h2 a3 h3 a4 h4 a5 h5 a6 h6 a7 h7 a8 h8 a9 h9 a10 h10 a11 h11 a12 h12 a13 h13 a14 h14 a15 h15 hc0 x0 x1 x2 x3 x4 x5 x6 x7).2.2.2.2.1 S3x512.size (by sl_kernel_rfl) y

def out0_A_12 : Vec F S3x512 .f32 :=
  VO0_12.read (Elt F) (VO0_12.writes (Elt F) VO0_12.junk (kernelRun0_A c i a2 h2 a3 h3 a4 h4 a5 h5 a6 h6 a7 h7 a8 h8 a9 h9 a10 h10 a11 h11 a12 h12 a13 h13 a14 h14 a15 h15 hc0 x0 x1 x2 x3 x4 x5 x6 x7).2.2.2.2.1)

theorem scover0_A_0 (y : S8x512.Idx) :
  ∃ pc ∈ (kernelRun0_A c i a2 h2 a3 h3 a4 h4 a5 h5 a6 h6 a7 h7 a8 h8 a9 h9 a10 h10 a11 h11 a12 h12 a13 h13 a14 h14 a15 h15 hc0 x0 x1 x2 x3 x4 x5 x6 x7).2.2.2.2.2.1, y ∈ pc.1.set :=
  View.cover_of_tiledL (kernelRun0_A c i a2 h2 a3 h3 a4 h4 a5 h5 a6 h6 a7 h7 a8 h8 a9 h9 a10 h10 a11 h11 a12 h12 a13 h13 a14 h14 a15 h15 hc0 x0 x1 x2 x3 x4 x5 x6 x7).2.2.2.2.2.1 S8x512.size (by sl_kernel_rfl) y

def sout0_A_0 : Vec F S8x512 .f32 :=
  VS0_0.read (Elt F) (VS0_0.writes (Elt F) VS0_0.junk (kernelRun0_A c i a2 h2 a3 h3 a4 h4 a5 h5 a6 h6 a7 h7 a8 h8 a9 h9 a10 h10 a11 h11 a12 h12 a13 h13 a14 h14 a15 h15 hc0 x0 x1 x2 x3 x4 x5 x6 x7).2.2.2.2.2.1)
end CaseA

section CaseB
variable (c : Dev nD) (i : grid0.Coords)
  (a2 : Memref sig .tc .vmem S256x512 .f32) (h2 : a2.IsWhole)
  (a3 : Memref sig .tc .vmem S256x512 .f32) (h3 : a3.IsWhole)
  (a4 : Memref sig .tc .vmem S256x512 .f32) (h4 : a4.IsWhole)
  (a5 : Memref sig .tc .vmem S256x512 .f32) (h5 : a5.IsWhole)
  (a6 : Memref sig .tc .vmem S8x512 .f32) (h6 : a6.IsWhole)
  (a7 : Memref sig .tc .vmem S8x512 .f32) (h7 : a7.IsWhole)
  (a8 : Memref sig .tc .vmem S256x512 .f32) (h8 : a8.IsWhole)
  (a9 : Memref sig .tc .vmem S3x512 .f32) (h9 : a9.IsWhole)
  (a10 : Memref sig .tc .vmem S256x512 .bf16) (h10 : a10.IsWhole)
  (a11 : Memref sig .tc .vmem S256x512 .bf16) (h11 : a11.IsWhole)
  (a12 : Memref sig .tc .vmem S256x512 .bf16) (h12 : a12.IsWhole)
  (a13 : Memref sig .tc .vmem S256x512 .bf16) (h13 : a13.IsWhole)
  (a14 : Memref sig .tc .vmem S3x512 .f32) (h14 : a14.IsWhole)
  (a15 : Memref sig .tc .vmem S8x512 .f32) (h15 : a15.IsWhole)
  (hc0 : ¬cond0_0 i) (x0 x1 x2 x3 : Vec F S256x512 .f32) (x4 x5 : Vec F S8x512 .f32) (x6 : Vec F S256x512 .f32)
  (x7 : Vec F S3x512 .f32) (xo12 : Vec F S3x512 .f32) (xs0 : Vec F S8x512 .f32)

theorem cover0_B_8 (y : S256x512.Idx) :
  ∃ pc ∈ (kernelRun0_B c i a2 h2 a3 h3 a4 h4 a5 h5 a6 h6 a7 h7 a8 h8 a9 h9 a10 h10 a11 h11 a12 h12 a13 h13 a14 h14 a15 h15 hc0 x0 x1 x2 x3 x4 x5 x6 x7 xo12 xs0).1, y ∈ pc.1.set :=
  View.cover_of_tiledL (kernelRun0_B c i a2 h2 a3 h3 a4 h4 a5 h5 a6 h6 a7 h7 a8 h8 a9 h9 a10 h10 a11 h11 a12 h12 a13 h13 a14 h14 a15 h15 hc0 x0 x1 x2 x3 x4 x5 x6 x7 xo12 xs0).1 S256x512.size (by sl_kernel_rfl) y

def out0_B_8 : Vec F S256x512 .bf16 :=
  VO0_8.read (Elt F) (VO0_8.writes (Elt F) VO0_8.junk (kernelRun0_B c i a2 h2 a3 h3 a4 h4 a5 h5 a6 h6 a7 h7 a8 h8 a9 h9 a10 h10 a11 h11 a12 h12 a13 h13 a14 h14 a15 h15 hc0 x0 x1 x2 x3 x4 x5 x6 x7 xo12 xs0).1)

theorem cover0_B_9 (y : S256x512.Idx) :
  ∃ pc ∈ (kernelRun0_B c i a2 h2 a3 h3 a4 h4 a5 h5 a6 h6 a7 h7 a8 h8 a9 h9 a10 h10 a11 h11 a12 h12 a13 h13 a14 h14 a15 h15 hc0 x0 x1 x2 x3 x4 x5 x6 x7 xo12 xs0).2.1, y ∈ pc.1.set :=
  View.cover_of_tiledL (kernelRun0_B c i a2 h2 a3 h3 a4 h4 a5 h5 a6 h6 a7 h7 a8 h8 a9 h9 a10 h10 a11 h11 a12 h12 a13 h13 a14 h14 a15 h15 hc0 x0 x1 x2 x3 x4 x5 x6 x7 xo12 xs0).2.1 S256x512.size (by sl_kernel_rfl) y

def out0_B_9 : Vec F S256x512 .bf16 :=
  VO0_9.read (Elt F) (VO0_9.writes (Elt F) VO0_9.junk (kernelRun0_B c i a2 h2 a3 h3 a4 h4 a5 h5 a6 h6 a7 h7 a8 h8 a9 h9 a10 h10 a11 h11 a12 h12 a13 h13 a14 h14 a15 h15 hc0 x0 x1 x2 x3 x4 x5 x6 x7 xo12 xs0).2.1)

theorem cover0_B_10 (y : S256x512.Idx) :
  ∃ pc ∈ (kernelRun0_B c i a2 h2 a3 h3 a4 h4 a5 h5 a6 h6 a7 h7 a8 h8 a9 h9 a10 h10 a11 h11 a12 h12 a13 h13 a14 h14 a15 h15 hc0 x0 x1 x2 x3 x4 x5 x6 x7 xo12 xs0).2.2.1, y ∈ pc.1.set :=
  View.cover_of_tiledL (kernelRun0_B c i a2 h2 a3 h3 a4 h4 a5 h5 a6 h6 a7 h7 a8 h8 a9 h9 a10 h10 a11 h11 a12 h12 a13 h13 a14 h14 a15 h15 hc0 x0 x1 x2 x3 x4 x5 x6 x7 xo12 xs0).2.2.1 S256x512.size (by sl_kernel_rfl) y

def out0_B_10 : Vec F S256x512 .bf16 :=
  VO0_10.read (Elt F) (VO0_10.writes (Elt F) VO0_10.junk (kernelRun0_B c i a2 h2 a3 h3 a4 h4 a5 h5 a6 h6 a7 h7 a8 h8 a9 h9 a10 h10 a11 h11 a12 h12 a13 h13 a14 h14 a15 h15 hc0 x0 x1 x2 x3 x4 x5 x6 x7 xo12 xs0).2.2.1)

theorem cover0_B_11 (y : S256x512.Idx) :
  ∃ pc ∈ (kernelRun0_B c i a2 h2 a3 h3 a4 h4 a5 h5 a6 h6 a7 h7 a8 h8 a9 h9 a10 h10 a11 h11 a12 h12 a13 h13 a14 h14 a15 h15 hc0 x0 x1 x2 x3 x4 x5 x6 x7 xo12 xs0).2.2.2.1, y ∈ pc.1.set :=
  View.cover_of_tiledL (kernelRun0_B c i a2 h2 a3 h3 a4 h4 a5 h5 a6 h6 a7 h7 a8 h8 a9 h9 a10 h10 a11 h11 a12 h12 a13 h13 a14 h14 a15 h15 hc0 x0 x1 x2 x3 x4 x5 x6 x7 xo12 xs0).2.2.2.1 S256x512.size (by sl_kernel_rfl) y

def out0_B_11 : Vec F S256x512 .bf16 :=
  VO0_11.read (Elt F) (VO0_11.writes (Elt F) VO0_11.junk (kernelRun0_B c i a2 h2 a3 h3 a4 h4 a5 h5 a6 h6 a7 h7 a8 h8 a9 h9 a10 h10 a11 h11 a12 h12 a13 h13 a14 h14 a15 h15 hc0 x0 x1 x2 x3 x4 x5 x6 x7 xo12 xs0).2.2.2.1)

theorem cover0_B_12 (y : S3x512.Idx) :
  ∃ pc ∈ (kernelRun0_B c i a2 h2 a3 h3 a4 h4 a5 h5 a6 h6 a7 h7 a8 h8 a9 h9 a10 h10 a11 h11 a12 h12 a13 h13 a14 h14 a15 h15 hc0 x0 x1 x2 x3 x4 x5 x6 x7 xo12 xs0).2.2.2.2.1, y ∈ pc.1.set :=
  View.cover_of_tiledL (kernelRun0_B c i a2 h2 a3 h3 a4 h4 a5 h5 a6 h6 a7 h7 a8 h8 a9 h9 a10 h10 a11 h11 a12 h12 a13 h13 a14 h14 a15 h15 hc0 x0 x1 x2 x3 x4 x5 x6 x7 xo12 xs0).2.2.2.2.1 S3x512.size (by sl_kernel_rfl) y

def out0_B_12 : Vec F S3x512 .f32 :=
  VO0_12.read (Elt F) (VO0_12.writes (Elt F) VO0_12.junk (kernelRun0_B c i a2 h2 a3 h3 a4 h4 a5 h5 a6 h6 a7 h7 a8 h8 a9 h9 a10 h10 a11 h11 a12 h12 a13 h13 a14 h14 a15 h15 hc0 x0 x1 x2 x3 x4 x5 x6 x7 xo12 xs0).2.2.2.2.1)

theorem scover0_B_0 (y : S8x512.Idx) :
  ∃ pc ∈ (kernelRun0_B c i a2 h2 a3 h3 a4 h4 a5 h5 a6 h6 a7 h7 a8 h8 a9 h9 a10 h10 a11 h11 a12 h12 a13 h13 a14 h14 a15 h15 hc0 x0 x1 x2 x3 x4 x5 x6 x7 xo12 xs0).2.2.2.2.2.1, y ∈ pc.1.set :=
  View.cover_of_tiledL (kernelRun0_B c i a2 h2 a3 h3 a4 h4 a5 h5 a6 h6 a7 h7 a8 h8 a9 h9 a10 h10 a11 h11 a12 h12 a13 h13 a14 h14 a15 h15 hc0 x0 x1 x2 x3 x4 x5 x6 x7 xo12 xs0).2.2.2.2.2.1 S8x512.size (by sl_kernel_rfl) y

def sout0_B_0 : Vec F S8x512 .f32 :=
  VS0_0.read (Elt F) (VS0_0.writes (Elt F) VS0_0.junk (kernelRun0_B c i a2 h2 a3 h3 a4 h4 a5 h5 a6 h6 a7 h7 a8 h8 a9 h9 a10 h10 a11 h11 a12 h12 a13 h13 a14 h14 a15 h15 hc0 x0 x1 x2 x3 x4 x5 x6 x7 xo12 xs0).2.2.2.2.2.1)
end CaseB

/-- What a point leaves that is the first of its columns: the outputs in window order, then the carried rows. -/
def ptA (c : Dev nD) (t : Fin cfg0.N) (h0 : t.val % 32 = 0) :
    Vec F S256x512 .bf16 × Vec F S256x512 .bf16 × Vec F S256x512 .bf16 × Vec F S256x512 .bf16 × Vec F S3x512 .f32 × Vec F S8x512 .f32 :=
  (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t), out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t))

/-- The same at any other point, over what the point before left of the filter's gradient and of the carried rows. -/
def ptB (c : Dev nD) (t : Fin cfg0.N) (h0 : ¬t.val % 32 = 0) (xo : Vec F S3x512 .f32) (xs : Vec F S8x512 .f32) :
    Vec F S256x512 .bf16 × Vec F S256x512 .bf16 × Vec F S256x512 .bf16 × Vec F S256x512 .bf16 × Vec F S3x512 .f32 × Vec F S8x512 .f32 :=
  (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) xo xs, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) xo xs, out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) xo xs, out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) xo xs, out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) xo xs, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) xo xs)

/-- What the buffers hold after the body at a position. -/
def outsAt0 (c : Dev nD) : (n : ℕ) → n < cfg0.N →
    Vec F S256x512 .bf16 × Vec F S256x512 .bf16 × Vec F S256x512 .bf16 × Vec F S256x512 .bf16 × Vec F S3x512 .f32 × Vec F S8x512 .f32
  | 0, hn => ptA m c ⟨0, hn⟩ rfl
  | n + 1, hn =>
    if h0 : (n + 1) % 32 = 0 then ptA m c ⟨n + 1, hn⟩ h0
    else ptB m c ⟨n + 1, hn⟩ h0 (outsAt0 c n (Nat.lt_of_succ_lt hn)).2.2.2.2.1 (outsAt0 c n (Nat.lt_of_succ_lt hn)).2.2.2.2.2

theorem outsAt0_A (c : Dev nD) (t : Fin cfg0.N) (h0 : t.val % 32 = 0) : outsAt0 m c t.val t.isLt = ptA m c t h0 := by
  obtain ⟨n, hn⟩ := t
  cases n with
  | zero => rfl
  | succ n => exact dif_pos h0

theorem outsAt0_B (c : Dev nD) (t : Fin cfg0.N) (h0 : ¬t.val % 32 = 0) :
    outsAt0 m c t.val t.isLt = ptB m c t h0 (outsAt0 m c (t.val - 1) (Nat.lt_of_le_of_lt (Nat.sub_le _ _) t.isLt)).2.2.2.2.1
      (outsAt0 m c (t.val - 1) (Nat.lt_of_le_of_lt (Nat.sub_le _ _) t.isLt)).2.2.2.2.2 := by
  obtain ⟨n, hn⟩ := t
  cases n with
  | zero => exact absurd (Nat.zero_mod _) h0
  | succ n => exact dif_neg h0

def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2)) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
    | ⟨9, _⟩ => (outsAt0 m c t.val t.isLt).2.1
    | ⟨10, _⟩ => (outsAt0 m c t.val t.isLt).2.2.1
    | ⟨11, _⟩ => (outsAt0 m c t.val t.isLt).2.2.2.1
    | ⟨12, _⟩ => (outsAt0 m c t.val t.isLt).2.2.2.2.1
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]
theorem after0_9 (c : Dev nD) (t : Fin cfg0.N) : (dats m 0 c).after 9 t = (outsAt0 m c t.val t.isLt).2.1 := by dsimp only [dats]
theorem after0_10 (c : Dev nD) (t : Fin cfg0.N) : (dats m 0 c).after 10 t = (outsAt0 m c t.val t.isLt).2.2.1 := by dsimp only [dats]
theorem after0_11 (c : Dev nD) (t : Fin cfg0.N) : (dats m 0 c).after 11 t = (outsAt0 m c t.val t.isLt).2.2.2.1 := by dsimp only [dats]
theorem after0_12 (c : Dev nD) (t : Fin cfg0.N) : (dats m 0 c).after 12 t = (outsAt0 m c t.val t.isLt).2.2.2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_12_B (c : Dev nD) (t : Fin cfg0.N) (h0 : ¬t.val % 32 = 0) (d) :
    (dats m 0 c).before 12 t d = (outsAt0 m c (t.val - 1) (Nat.lt_of_le_of_lt (Nat.sub_le _ _) t.isLt)).2.2.2.2.1 := by
  have hN : t.val < 128 := lt_of_lt_of_eq t.isLt (show cfg0.N = 128 from N_0)
  rw [Dat.before_out_kept _ 12 rfl t (by omega) (Bool.eq_false_iff.mpr fun h => by have := (flush0_12 _).mp h; dsimp only at this; omega)
    (fun _ => rfl) (fun _ _ => rfl)]
  dsimp only [dats]

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t))

set_option maxHeartbeats 9600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    after0_0, after0_1, after0_2, after0_3, after0_4, after0_5, after0_6, after0_7, after0_8, after0_9, after0_10, after0_11, after0_12]
  rw [show (dats m 0 c).Φ t.succ = PhiS m c (t.val + 1) t.isLt from rfl, PhiS_succ]
  have hN : t.val < 128 := lt_of_lt_of_eq t.isLt (show cfg0.N = 128 from N_0)
  by_cases h0 : t.val % 32 = 0
  · by_cases hz : t.val = 0
    · rw [PhiS_castSucc m c t, PhiS_zero m c _ _ hz, PhiA0_eq]
      rw [outsAt0_A m c t h0]
      unfold ptA; unfold out0_A_8 out0_A_9 out0_A_10 out0_A_11 out0_A_12 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((kernelRun0_A c (grid0.coords t) _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t)).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexists _; iexact H11
      isplitl [H12]; · iexists _; iexact H12
      isplitl [HS0]; · iexact HS0
      iintro ⟨H0, H1, H2, H3, H4, H5, H6, H7, ⟨%e8, H8⟩, ⟨%e9, H9⟩, ⟨%e10, H10⟩, ⟨%e11, H11⟩, ⟨%e12, H12⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover0_A_8 c _ _ _ _ _ _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover0_A_9 c _ _ _ _ _ _ _ _ _ _ _ _ _ _ _ _ _ _ _ _ _ _ _ _ _ _ _ _ _ _ _ _ _ _ _ _ _ _)
      isplitl [H10]
      · unfold owns; iexists _; isplitr
        swap; · iexact H10
        ipureintro; exact View.read_writes_of_cover _ _ _ _ _ (cover0_A_10 c _ _ _ _ _ _ _ _ _ _ _ _ _ _ _ _ _ _ _ _ _ _ _ _ _ _ _ _ _ _ _ _ _ _ _ _ _ _)
      isplitl [H11]
      · unfold owns; iexists _; isplitr
        swap; · iexact H11
        ipureintro; exact View.read_writes_of_cover _ _ _ _ _ (cover0_A_11 c _ _ _ _ _ _ _ _ _ _ _ _ _ _ _ _ _ _ _ _ _ _ _ _ _ _ _ _ _ _ _ _ _ _ _ _ _ _)
      unfold owns; iexists _; isplitr
      swap; · iexact H12
      ipureintro; exact View.read_writes_of_cover _ _ _ _ _ (cover0_A_12 c _ _ _ _ _ _ _ _ _ _ _ _ _ _ _ _ _ _ _ _ _ _ _ _ _ _ _ _ _ _ _ _ _ _ _ _ _ _)
    · rw [PhiS_castSucc m c t, PhiS_pos m c _ _ hz]
      rw [outsAt0_A m c t h0]
      unfold ptA; unfold out0_A_8 out0_A_9 out0_A_10 out0_A_11 out0_A_12 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((kernelRun0_A c (grid0.coords t) _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t)).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexists _; iexact H11
      isplitl [H12]; · iexists _; iexact H12
      isplitl [HS0]; · iexists _; iexact HS0
      iintro ⟨H0, H1, H2, H3, H4, H5, H6, H7, ⟨%e8, H8⟩, ⟨%e9, H9⟩, ⟨%e10, H10⟩, ⟨%e11, H11⟩, ⟨%e12, H12⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover0_A_8 c _ _ _ _ _ _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover0_A_9 c _ _ _ _ _ _ _ _ _ _ _ _ _ _ _ _ _ _ _ _ _ _ _ _ _ _ _ _ _ _ _ _ _ _ _ _ _ _)
      isplitl [H10]
      · unfold owns; iexists _; isplitr
        swap; · iexact H10
        ipureintro; exact View.read_writes_of_cover _ _ _ _ _ (cover0_A_10 c _ _ _ _ _ _ _ _ _ _ _ _ _ _ _ _ _ _ _ _ _ _ _ _ _ _ _ _ _ _ _ _ _ _ _ _ _ _)
      isplitl [H11]
      · unfold owns; iexists _; isplitr
        swap; · iexact H11
        ipureintro; exact View.read_writes_of_cover _ _ _ _ _ (cover0_A_11 c _ _ _ _ _ _ _ _ _ _ _ _ _ _ _ _ _ _ _ _ _ _ _ _ _ _ _ _ _ _ _ _ _ _ _ _ _ _)
      unfold owns; iexists _; isplitr
      swap; · iexact H12
      ipureintro; exact View.read_writes_of_cover _ _ _ _ _ (cover0_A_12 c _ _ _ _ _ _ _ _ _ _ _ _ _ _ _ _ _ _ _ _ _ _ _ _ _ _ _ _ _ _ _ _ _ _ _ _ _ _)
  · by_cases hz : t.val = 0
    · exfalso; have hN : t.val < 128 := lt_of_lt_of_eq t.isLt (show cfg0.N = 128 from N_0); omega
    · rw [PhiS_castSucc m c t, PhiS_pos m c _ _ hz]
      rw [outsAt0_B m c t h0]
      simp only [before0_12_B m c t h0]
      unfold ptB; unfold out0_B_8 out0_B_9 out0_B_10 out0_B_11 out0_B_12 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((kernelRun0_B c (grid0.coords t) _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) _ _).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexists _; iexact H11
      isplitl [H12]; · iexact H12
      isplitl [HS0]; · iexact HS0
      iintro ⟨H0, H1, H2, H3, H4, H5, H6, H7, ⟨%e8, H8⟩, ⟨%e9, H9⟩, ⟨%e10, H10⟩, ⟨%e11, H11⟩, ⟨%e12, H12⟩, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover0_B_8 c _ _ _ _ _ _ _ _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover0_B_9 c _ _ _ _ _ _ _ _ _ _ _ _ _ _ _ _ _ _ _ _ _ _ _ _ _ _ _ _ _ _ _ _ _ _ _ _ _ _ _ _)
      isplitl [H10]
      · unfold owns; iexists _; isplitr
        swap; · iexact H10
        ipureintro; exact View.read_writes_of_cover _ _ _ _ _ (cover0_B_10 c _ _ _ _ _ _ _ _ _ _ _ _ _ _ _ _ _ _ _ _ _ _ _ _ _ _ _ _ _ _ _ _ _ _ _ _ _ _ _ _)
      isplitl [H11]
      · unfold owns; iexists _; isplitr
        swap; · iexact H11
        ipureintro; exact View.read_writes_of_cover _ _ _ _ _ (cover0_B_11 c _ _ _ _ _ _ _ _ _ _ _ _ _ _ _ _ _ _ _ _ _ _ _ _ _ _ _ _ _ _ _ _ _ _ _ _ _ _ _ _)
      unfold owns; iexists _; isplitr
      swap; · iexact H12
      ipureintro; exact View.read_writes_of_cover _ _ _ _ _ (cover0_B_12 c _ _ _ _ _ _ _ _ _ _ _ _ _ _ _ _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 128 := N_0; omega)

-- `θ_run_frame_track_shared`'s implicit arguments are found by unifying its conclusion with this one, which takes unfolding plain
-- definitions in a metavariable's type
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem idx_inj8 : ∀ t t' : Fin cfg0.N, win0_8.index t = win0_8.index t' → t = t' :=
  (by decide +kernel : ∀ t t' : Fin grid0.N, win0_8.index t = win0_8.index t' → t = t')

theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

theorem idx_inj9 : ∀ t t' : Fin cfg0.N, win0_9.index t = win0_9.index t' → t = t' :=
  (by decide +kernel : ∀ t t' : Fin grid0.N, win0_9.index t = win0_9.index t' → t = t')

theorem disjoint9 : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h => hne (idx_inj9 t t' h)

theorem idx_inj10 : ∀ t t' : Fin cfg0.N, win0_10.index t = win0_10.index t' → t = t' :=
  (by decide +kernel : ∀ t t' : Fin grid0.N, win0_10.index t = win0_10.index t' → t = t')

theorem disjoint10 : ∀ t t' : Fin cfg0.N, (cfg0.win 10).flush t = true → (cfg0.win 10).flush t' = true → t ≠ t' →
    Disjoint ((cfg0.win 10).blk t).view.set ((cfg0.win 10).blk t').view.set :=
  fun t t' _ _ hne => (cfg0.win 10).disjoint_blk fun h => hne (idx_inj10 t t' h)

theorem idx_inj11 : ∀ t t' : Fin cfg0.N, win0_11.index t = win0_11.index t' → t = t' :=
  (by decide +kernel : ∀ t t' : Fin grid0.N, win0_11.index t = win0_11.index t' → t = t')

theorem disjoint11 : ∀ t t' : Fin cfg0.N, (cfg0.win 11).flush t = true → (cfg0.win 11).flush t' = true → t ≠ t' →
    Disjoint ((cfg0.win 11).blk t).view.set ((cfg0.win 11).blk t').view.set :=
  fun t t' _ _ hne => (cfg0.win 11).disjoint_blk fun h => hne (idx_inj11 t t' h)

theorem post8 (r : PUnit × MemSt nD τ sig (Elt F)) (h : Pipeline.FramePost cfgs (dats m) 0 (V m) r) (c : Dev nD) :
    r.2.mem ((c : Thread nD τ).loc main_v0_0) = (dats m 0 c).arrAt 8 cfg0.N :=
  (h c).1 8

theorem post9 (r : PUnit × MemSt nD τ sig (Elt F)) (h : Pipeline.FramePost cfgs (dats m) 0 (V m) r) (c : Dev nD) :
    r.2.mem ((c : Thread nD τ).loc main_v0_1) = (dats m 0 c).arrAt 9 cfg0.N :=
  (h c).1 9

theorem post10 (r : PUnit × MemSt nD τ sig (Elt F)) (h : Pipeline.FramePost cfgs (dats m) 0 (V m) r) (c : Dev nD) :
    r.2.mem ((c : Thread nD τ).loc main_v0_2) = (dats m 0 c).arrAt 10 cfg0.N :=
  (h c).1 10

theorem post11 (r : PUnit × MemSt nD τ sig (Elt F)) (h : Pipeline.FramePost cfgs (dats m) 0 (V m) r) (c : Dev nD) :
    r.2.mem ((c : Thread nD τ).loc main_v0_3) = (dats m 0 c).arrAt 11 cfg0.N :=
  (h c).1 11

theorem post12 (r : PUnit × MemSt nD τ sig (Elt F)) (h : Pipeline.FramePost cfgs (dats m) 0 (V m) r) (c : Dev nD) :
    r.2.mem ((c : Thread nD τ).loc main_v0_4) = (dats m 0 c).arrAt 12 cfg0.N :=
  (h c).1 12

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 5).trans (((dats m 0 c).arrAt_in 5 rfl _).trans ((A_eq m c 5).trans (V_main_arg0 m c)))

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 6).trans (((dats m 0 c).arrAt_in 6 rfl _).trans ((A_eq m c 6).trans (V_main_arg1 m c)))

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 7).trans (((dats m 0 c).arrAt_in 7 rfl _).trans ((A_eq m c 7).trans (V_main_arg2 m c)))

theorem run_blocks : θ_run defs (onTc (τ := τ) (main (F := F))) ⟨m, fun _ => 0, ρ⟩ fun r => ∀ c : Dev nD,
      r.2.mem ((c : Thread nD τ).loc main_v0_0) = (dats m 0 c).arrAt 8 cfg0.N
      ∧ r.2.mem ((c : Thread nD τ).loc main_v0_1) = (dats m 0 c).arrAt 9 cfg0.N
      ∧ r.2.mem ((c : Thread nD τ).loc main_v0_2) = (dats m 0 c).arrAt 10 cfg0.N
      ∧ r.2.mem ((c : Thread nD τ).loc main_v0_3) = (dats m 0 c).arrAt 11 cfg0.N
      ∧ r.2.mem ((c : Thread nD τ).loc main_v0_4) = (dats m 0 c).arrAt 12 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨post8 m r h c,
      post9 m r h c,
      post10 m r h c,
      post11 m r h c,
      post12 m r h c,
      kept_main_arg0 m r h c,
      kept_main_arg1 m r h c,
      kept_main_arg2 m r h c⟩)
    (run_main m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.SconvFrame

end
-- ==== Proof.SconvBits.lean ====
/- The frame of the short convolution's gradient over bit patterns: the run of the idealized program, which has the same text. -/
module

public import proofs.«01_k».proof.Defs
public import proofs.«01_k».proof.Proof.SconvFrame
public import proofs.«01_k».proof.Proof.Gen.SconvBwd

@[expose] public section

set_option maxRecDepth 16384

noncomputable section

namespace Cert.SconvFrame

open Idealize.ShloMosaic Idealize.ShloMosaic.TcCoe Idealize.SL.Sem

/-- The statement of the frame over bit patterns, of the idealized program's text. -/
def FrameBits : Prop := ∀ (m : (ℓ : Loc Cert.SconvBwdIdeal.nD Cert.SconvBwdIdeal.τ Cert.SconvBwdIdeal.sig) → Buf (Elt Bits) ℓ)
    (ρ : Dev Cert.SconvBwdIdeal.nD → PrngReg), True →
    θ_run (Cert.SconvBwdIdeal.defs (F := Bits)) (onTc (τ := Cert.SconvBwdIdeal.τ) (Cert.SconvBwdIdeal.main (F := Bits)))
      ⟨m, fun _ => 0, ρ⟩ (fun r => (∀ c : Dev Cert.SconvBwdIdeal.nD,
        r.2.mem ((c.tc : Thread Cert.SconvBwdIdeal.nD Cert.SconvBwdIdeal.τ).loc Cert.SconvBwdIdeal.main_arg0)
          = m ((c.tc : Thread Cert.SconvBwdIdeal.nD Cert.SconvBwdIdeal.τ).loc Cert.SconvBwdIdeal.main_arg0)
        ∧ r.2.mem ((c.tc : Thread Cert.SconvBwdIdeal.nD Cert.SconvBwdIdeal.τ).loc Cert.SconvBwdIdeal.main_arg1)
          = m ((c.tc : Thread Cert.SconvBwdIdeal.nD Cert.SconvBwdIdeal.τ).loc Cert.SconvBwdIdeal.main_arg1)
        ∧ r.2.mem ((c.tc : Thread Cert.SconvBwdIdeal.nD Cert.SconvBwdIdeal.τ).loc Cert.SconvBwdIdeal.main_arg2)
          = m ((c.tc : Thread Cert.SconvBwdIdeal.nD Cert.SconvBwdIdeal.τ).loc Cert.SconvBwdIdeal.main_arg2))
        ∧ r.2.sem = fun _ => 0)

/-- The two programs have the same text, so the two statements are one. -/
theorem same_text : FrameBits = Cert.quiescent_SconvBwd := by sl_kernel_rfl

theorem frame_kernel : Cert.quiescent_SconvBwd := same_text.mp fun m ρ _ => frame (F := Bits) m ρ
theorem frame_ideal : Cert.quiescent_SconvBwdIdeal := fun m ρ _ => frame m ρ

end Cert.SconvFrame

end
-- ==== Proof.SconvPoint.lean ====
/- What a grid point of the short convolution's gradient leaves: its four blocks, the filter's gradient so far, and the rows carried on. -/
module

public import proofs.«01_k».proof.Defs
public import proofs.«01_k».proof.Proof.Spec
public import proofs.«01_k».proof.Proof.SconvFrame
public import Idealize.ShloMosaic.Lib.Pipeline.ValueKit
public import Idealize.ShloMosaic.Lib.Pointwise

@[expose] public section

set_option maxRecDepth 16384

noncomputable section

namespace Cert.SconvValue

open Cert.SconvBwdIdeal Cert.SconvBwdIdeal.Gen Cert.SconvFrame Idealize.ShloMosaic Idealize.ShloMosaic.TcCoe Idealize.SL.Sem

theorem hz2 : (![0, 0] : Fin 2 → Nat) = fun _ => 0 := funext fun a => by fin_cases a <;> rfl

/-! ### The values of one point, from its blocks -/

section Terms
variable {F : FTy → Type} [FloatOps F] (i : grid0.Coords) (x0 x1 x2 x3 x6 : Vec F S256x512 .f32) (x4 x5 : Vec F S8x512 .f32)
  (x7 : Vec F S3x512 .f32)

/-- The convolution's rows. -/
def tConv : Vec F S256x512 .f32 := k0_pay8 (k0_pay4 i x4 x5) (k0_pay5 i x4 x5 x1 x2 x7) (k0_pay6 x7) (k0_pay7 x1 x2)
/-- The cotangent of the convolution's input, without the rows that the block after this one adds. -/
def tDch : Vec F S256x512 .f32 :=
  k0_pay20 x7 (k0_pay10 x0 x3 x6) (k0_pay12 x0 x3 x7 x6) (k0_pay15 x0 x3 x6) (k0_pay16 x7)
/-- The rows carried to the block before this one. -/
def tCarry : Vec F S8x512 .f32 :=
  k0_pay1 (k0_pay23 (k0_pay17 (k0_pay10 x0 x3 x6) (k0_pay13 x7)) (k0_pay18 x7) k0_pay21 (k0_pay22 (k0_pay10 x0 x3 x6))
    (FloatOps.ofBits .f32 0x00000000#32))
/-- The block's term of the filter's gradient. -/
def tDw : Vec F S3x512 .f32 :=
  k0_pay24 (k0_pay11 x0 x3 x6 (k0_pay3 x1 x2)) (k0_pay14 x0 x3 x6 (k0_pay3 x1 x2) (k0_pay4 i x4 x5))
    (k0_pay19 (k0_pay3 x1 x2) (k0_pay4 i x4 x5) (k0_pay10 x0 x3 x6))
end Terms

section Point
variable {F : FTy → Type} [FloatOps F] (c : Dev nD) (i : grid0.Coords)
  (a2 : Memref sig .tc .vmem S256x512 .f32) (h2 : a2.IsWhole)
  (a3 : Memref sig .tc .vmem S256x512 .f32) (h3 : a3.IsWhole)
  (a4 : Memref sig .tc .vmem S256x512 .f32) (h4 : a4.IsWhole)
  (a5 : Memref sig .tc .vmem S256x512 .f32) (h5 : a5.IsWhole)
  (a6 : Memref sig .tc .vmem S8x512 .f32) (h6 : a6.IsWhole)
  (a7 : Memref sig .tc .vmem S8x512 .f32) (h7 : a7.IsWhole)
  (a8 : Memref sig .tc .vmem S256x512 .f32) (h8 : a8.IsWhole)
  (a9 : Memref sig .tc .vmem S3x512 .f32) (h9 : a9.IsWhole)
  (a10 : Memref sig .tc .vmem S256x512 .bf16) (h10 : a10.IsWhole)
  (a11 : Memref sig .tc .vmem S256x512 .bf16) (h11 : a11.IsWhole)
  (a12 : Memref sig .tc .vmem S256x512 .bf16) (h12 : a12.IsWhole)
  (a13 : Memref sig .tc .vmem S256x512 .bf16) (h13 : a13.IsWhole)
  (a14 : Memref sig .tc .vmem S3x512 .f32) (h14 : a14.IsWhole)
  (a15 : Memref sig .tc .vmem S8x512 .f32) (h15 : a15.IsWhole)
  (x0 x1 x2 x3 : Vec F S256x512 .f32) (x4 x5 : Vec F S8x512 .f32) (x6 : Vec F S256x512 .f32) (x7 xo : Vec F S3x512 .f32)
  (xs : Vec F S8x512 .f32)

theorem out_A_8 (hc : cond0_0 i) :
    out0_A_8 c i a2 h2 a3 h3 a4 h4 a5 h5 a6 h6 a7 h7 a8 h8 a9 h9 a10 h10 a11 h11 a12 h12 a13 h13 a14 h14 a15 h15 hc
      x0 x1 x2 x3 x4 x5 x6 x7 = k0_pay28 (tConv i x1 x2 x4 x5 x7) (k0_pay9 x3 x6) := by
  unfold out0_A_8
  rw [View.read_writes_eq_canon _ _ _ (cover0_A_8 c i a2 h2 a3 h3 a4 h4 a5 h5 a6 h6 a7 h7 a8 h8 a9 h9 a10 h10 a11 h11 a12 h12 a13 h13 a14 h14 a15 h15 hc x0 x1 x2 x3 x4 x5 x6 x7)]
  unfold kernelRun0_A
  dsimp only
  sl_unfold_words
  rw [View.canon_unit_zero hz2]
  simp only [View.readAt_eq_ld, h2.read_unread, h3.read_unread, h4.read_unread, h5.read_unread, h6.read_unread, h7.read_unread, h8.read_unread, h9.read_unread, h14.read_unread, h15.read_unread, View.ld_unit_zero (S := S256x512) hz2,
    View.ld_unit_zero (S := S3x512) hz2, View.ld_unit_zero (S := S8x512) hz2]
  rfl

theorem out_A_9 (hc : cond0_0 i) :
    out0_A_9 c i a2 h2 a3 h3 a4 h4 a5 h5 a6 h6 a7 h7 a8 h8 a9 h9 a10 h10 a11 h11 a12 h12 a13 h13 a14 h14 a15 h15 hc
      x0 x1 x2 x3 x4 x5 x6 x7 = k0_pay30 x2 (tDch x0 x3 x6 x7) k0_pay25 := by
  unfold out0_A_9
  rw [View.read_writes_eq_canon _ _ _ (cover0_A_9 c i a2 h2 a3 h3 a4 h4 a5 h5 a6 h6 a7 h7 a8 h8 a9 h9 a10 h10 a11 h11 a12 h12 a13 h13 a14 h14 a15 h15 hc x0 x1 x2 x3 x4 x5 x6 x7)]
  unfold kernelRun0_A
  dsimp only
  sl_unfold_words
  rw [View.canon_unit_zero hz2]
  rw [View.readCov_unit_zero (S := S8x512) _ hz2]
  simp only [View.readAt_eq_ld, h2.read_unread, h3.read_unread, h4.read_unread, h5.read_unread, h6.read_unread, h7.read_unread, h8.read_unread, h9.read_unread, h14.read_unread, h15.read_unread, View.ld_unit_zero (S := S256x512) hz2,
    View.ld_unit_zero (S := S3x512) hz2, View.ld_unit_zero (S := S8x512) hz2]
  rfl

theorem out_A_10 (hc : cond0_0 i) :
    out0_A_10 c i a2 h2 a3 h3 a4 h4 a5 h5 a6 h6 a7 h7 a8 h8 a9 h9 a10 h10 a11 h11 a12 h12 a13 h13 a14 h14 a15 h15 hc
      x0 x1 x2 x3 x4 x5 x6 x7 = k0_pay31 x1 (tDch x0 x3 x6 x7) k0_pay25 := by
  unfold out0_A_10
  rw [View.read_writes_eq_canon _ _ _ (cover0_A_10 c i a2 h2 a3 h3 a4 h4 a5 h5 a6 h6 a7 h7 a8 h8 a9 h9 a10 h10 a11 h11 a12 h12 a13 h13 a14 h14 a15 h15 hc x0 x1 x2 x3 x4 x5 x6 x7)]
  unfold kernelRun0_A
  dsimp only
  sl_unfold_words
  rw [View.canon_unit_zero hz2]
  rw [View.readCov_unit_zero (S := S8x512) _ hz2]
  simp only [View.readAt_eq_ld, h2.read_unread, h3.read_unread, h4.read_unread, h5.read_unread, h6.read_unread, h7.read_unread, h8.read_unread, h9.read_unread, h14.read_unread, h15.read_unread, View.ld_unit_zero (S := S256x512) hz2,
    View.ld_unit_zero (S := S3x512) hz2, View.ld_unit_zero (S := S8x512) hz2]
  rfl

theorem out_A_11 (hc : cond0_0 i) :
    out0_A_11 c i a2 h2 a3 h3 a4 h4 a5 h5 a6 h6 a7 h7 a8 h8 a9 h9 a10 h10 a11 h11 a12 h12 a13 h13 a14 h14 a15 h15 hc
      x0 x1 x2 x3 x4 x5 x6 x7 = k0_pay29 x0 x3 x6 (tConv i x1 x2 x4 x5 x7) := by
  unfold out0_A_11
  rw [View.read_writes_eq_canon _ _ _ (cover0_A_11 c i a2 h2 a3 h3 a4 h4 a5 h5 a6 h6 a7 h7 a8 h8 a9 h9 a10 h10 a11 h11 a12 h12 a13 h13 a14 h14 a15 h15 hc x0 x1 x2 x3 x4 x5 x6 x7)]
  unfold kernelRun0_A
  dsimp only
  sl_unfold_words
  rw [View.canon_unit_zero hz2]
  simp only [View.readAt_eq_ld, h2.read_unread, h3.read_unread, h4.read_unread, h5.read_unread, h6.read_unread, h7.read_unread, h8.read_unread, h9.read_unread, h14.read_unread, h15.read_unread, View.ld_unit_zero (S := S256x512) hz2,
    View.ld_unit_zero (S := S3x512) hz2, View.ld_unit_zero (S := S8x512) hz2]
  rfl

theorem out_A_12 (hc : cond0_0 i) :
    out0_A_12 c i a2 h2 a3 h3 a4 h4 a5 h5 a6 h6 a7 h7 a8 h8 a9 h9 a10 h10 a11 h11 a12 h12 a13 h13 a14 h14 a15 h15 hc
      x0 x1 x2 x3 x4 x5 x6 x7 = k0_pay2 (tDw i x0 x1 x2 x3 x6 x4 x5) k0_pay26 := by
  unfold out0_A_12
  rw [View.read_writes_eq_canon _ _ _ (cover0_A_12 c i a2 h2 a3 h3 a4 h4 a5 h5 a6 h6 a7 h7 a8 h8 a9 h9 a10 h10 a11 h11 a12 h12 a13 h13 a14 h14 a15 h15 hc x0 x1 x2 x3 x4 x5 x6 x7)]
  unfold kernelRun0_A
  dsimp only
  sl_unfold_words
  rw [View.canon_cons_unit_zero (S := S3x512) hz2, View.readCov_unit_zero (S := S3x512) _ hz2]
  simp only [View.readAt_eq_ld, h2.read_unread, h3.read_unread, h4.read_unread, h5.read_unread, h6.read_unread, h7.read_unread, h8.read_unread, h9.read_unread, h14.read_unread, h15.read_unread, View.ld_unit_zero (S := S256x512) hz2,
    View.ld_unit_zero (S := S3x512) hz2, View.ld_unit_zero (S := S8x512) hz2]
  rfl

theorem sout_A_0 (hc : cond0_0 i) :
    sout0_A_0 c i a2 h2 a3 h3 a4 h4 a5 h5 a6 h6 a7 h7 a8 h8 a9 h9 a10 h10 a11 h11 a12 h12 a13 h13 a14 h14 a15 h15 hc
      x0 x1 x2 x3 x4 x5 x6 x7 = tCarry x0 x3 x6 x7 := by
  unfold sout0_A_0
  rw [View.read_writes_eq_canon _ _ _ (scover0_A_0 c i a2 h2 a3 h3 a4 h4 a5 h5 a6 h6 a7 h7 a8 h8 a9 h9 a10 h10 a11 h11 a12 h12 a13 h13 a14 h14 a15 h15 hc x0 x1 x2 x3 x4 x5 x6 x7)]
  unfold kernelRun0_A
  dsimp only
  sl_unfold_words
  rw [View.canon_cons_unit_zero (S := S8x512) hz2]
  simp only [View.readAt_eq_ld, h2.read_unread, h3.read_unread, h4.read_unread, h5.read_unread, h6.read_unread, h7.read_unread, h8.read_unread, h9.read_unread, h14.read_unread, h15.read_unread, View.ld_unit_zero (S := S256x512) hz2,
    View.ld_unit_zero (S := S3x512) hz2, View.ld_unit_zero (S := S8x512) hz2]
  rfl

theorem out_B_8 (hc : ¬cond0_0 i) :
    out0_B_8 c i a2 h2 a3 h3 a4 h4 a5 h5 a6 h6 a7 h7 a8 h8 a9 h9 a10 h10 a11 h11 a12 h12 a13 h13 a14 h14 a15 h15 hc
      x0 x1 x2 x3 x4 x5 x6 x7 xo xs = k0_pay28 (tConv i x1 x2 x4 x5 x7) (k0_pay9 x3 x6) := by
  unfold out0_B_8
  rw [View.read_writes_eq_canon _ _ _ (cover0_B_8 c i a2 h2 a3 h3 a4 h4 a5 h5 a6 h6 a7 h7 a8 h8 a9 h9 a10 h10 a11 h11 a12 h12 a13 h13 a14 h14 a15 h15 hc x0 x1 x2 x3 x4 x5 x6 x7 xo xs)]
  unfold kernelRun0_B
  dsimp only
  sl_unfold_words
  rw [View.canon_unit_zero hz2]
  simp only [View.readAt_eq_ld, h2.read_unread, h3.read_unread, h4.read_unread, h5.read_unread, h6.read_unread, h7.read_unread, h8.read_unread, h9.read_unread, h14.read_unread, h15.read_unread, View.ld_unit_zero (S := S256x512) hz2,
    View.ld_unit_zero (S := S3x512) hz2, View.ld_unit_zero (S := S8x512) hz2]
  rfl

theorem out_B_9 (hc : ¬cond0_0 i) :
    out0_B_9 c i a2 h2 a3 h3 a4 h4 a5 h5 a6 h6 a7 h7 a8 h8 a9 h9 a10 h10 a11 h11 a12 h12 a13 h13 a14 h14 a15 h15 hc
      x0 x1 x2 x3 x4 x5 x6 x7 xo xs = k0_pay30 x2 (tDch x0 x3 x6 x7) xs := by
  unfold out0_B_9
  rw [View.read_writes_eq_canon _ _ _ (cover0_B_9 c i a2 h2 a3 h3 a4 h4 a5 h5 a6 h6 a7 h7 a8 h8 a9 h9 a10 h10 a11 h11 a12 h12 a13 h13 a14 h14 a15 h15 hc x0 x1 x2 x3 x4 x5 x6 x7 xo xs)]
  unfold kernelRun0_B
  dsimp only
  sl_unfold_words
  rw [View.canon_unit_zero hz2]
  simp only [View.readAt_eq_ld, h2.read_unread, h3.read_unread, h4.read_unread, h5.read_unread, h6.read_unread, h7.read_unread, h8.read_unread, h9.read_unread, h14.read_unread, h15.read_unread, View.ld_unit_zero (S := S256x512) hz2,
    View.ld_unit_zero (S := S3x512) hz2, View.ld_unit_zero (S := S8x512) hz2]
  rfl

theorem out_B_10 (hc : ¬cond0_0 i) :
    out0_B_10 c i a2 h2 a3 h3 a4 h4 a5 h5 a6 h6 a7 h7 a8 h8 a9 h9 a10 h10 a11 h11 a12 h12 a13 h13 a14 h14 a15 h15 hc
      x0 x1 x2 x3 x4 x5 x6 x7 xo xs = k0_pay31 x1 (tDch x0 x3 x6 x7) xs := by
  unfold out0_B_10
  rw [View.read_writes_eq_canon _ _ _ (cover0_B_10 c i a2 h2 a3 h3 a4 h4 a5 h5 a6 h6 a7 h7 a8 h8 a9 h9 a10 h10 a11 h11 a12 h12 a13 h13 a14 h14 a15 h15 hc x0 x1 x2 x3 x4 x5 x6 x7 xo xs)]
  unfold kernelRun0_B
  dsimp only
  sl_unfold_words
  rw [View.canon_unit_zero hz2]
  simp only [View.readAt_eq_ld, h2.read_unread, h3.read_unread, h4.read_unread, h5.read_unread, h6.read_unread, h7.read_unread, h8.read_unread, h9.read_unread, h14.read_unread, h15.read_unread, View.ld_unit_zero (S := S256x512) hz2,
    View.ld_unit_zero (S := S3x512) hz2, View.ld_unit_zero (S := S8x512) hz2]
  rfl

theorem out_B_11 (hc : ¬cond0_0 i) :
    out0_B_11 c i a2 h2 a3 h3 a4 h4 a5 h5 a6 h6 a7 h7 a8 h8 a9 h9 a10 h10 a11 h11 a12 h12 a13 h13 a14 h14 a15 h15 hc
      x0 x1 x2 x3 x4 x5 x6 x7 xo xs = k0_pay29 x0 x3 x6 (tConv i x1 x2 x4 x5 x7) := by
  unfold out0_B_11
  rw [View.read_writes_eq_canon _ _ _ (cover0_B_11 c i a2 h2 a3 h3 a4 h4 a5 h5 a6 h6 a7 h7 a8 h8 a9 h9 a10 h10 a11 h11 a12 h12 a13 h13 a14 h14 a15 h15 hc x0 x1 x2 x3 x4 x5 x6 x7 xo xs)]
  unfold kernelRun0_B
  dsimp only
  sl_unfold_words
  rw [View.canon_unit_zero hz2]
  simp only [View.readAt_eq_ld, h2.read_unread, h3.read_unread, h4.read_unread, h5.read_unread, h6.read_unread, h7.read_unread, h8.read_unread, h9.read_unread, h14.read_unread, h15.read_unread, View.ld_unit_zero (S := S256x512) hz2,
    View.ld_unit_zero (S := S3x512) hz2, View.ld_unit_zero (S := S8x512) hz2]
  rfl

theorem out_B_12 (hc : ¬cond0_0 i) :
    out0_B_12 c i a2 h2 a3 h3 a4 h4 a5 h5 a6 h6 a7 h7 a8 h8 a9 h9 a10 h10 a11 h11 a12 h12 a13 h13 a14 h14 a15 h15 hc
      x0 x1 x2 x3 x4 x5 x6 x7 xo xs = k0_pay2 (tDw i x0 x1 x2 x3 x6 x4 x5) xo := by
  unfold out0_B_12
  rw [View.read_writes_eq_canon _ _ _ (cover0_B_12 c i a2 h2 a3 h3 a4 h4 a5 h5 a6 h6 a7 h7 a8 h8 a9 h9 a10 h10 a11 h11 a12 h12 a13 h13 a14 h14 a15 h15 hc x0 x1 x2 x3 x4 x5 x6 x7 xo xs)]
  unfold kernelRun0_B
  dsimp only
  sl_unfold_words
  rw [View.canon_unit_zero hz2]
  simp only [View.readAt_eq_ld, h2.read_unread, h3.read_unread, h4.read_unread, h5.read_unread, h6.read_unread, h7.read_unread, h8.read_unread, h9.read_unread, h14.read_unread, h15.read_unread, View.ld_unit_zero (S := S256x512) hz2,
    View.ld_unit_zero (S := S3x512) hz2, View.ld_unit_zero (S := S8x512) hz2]
  rfl

theorem sout_B_0 (hc : ¬cond0_0 i) :
    sout0_B_0 c i a2 h2 a3 h3 a4 h4 a5 h5 a6 h6 a7 h7 a8 h8 a9 h9 a10 h10 a11 h11 a12 h12 a13 h13 a14 h14 a15 h15 hc
      x0 x1 x2 x3 x4 x5 x6 x7 xo xs = tCarry x0 x3 x6 x7 := by
  unfold sout0_B_0
  rw [View.read_writes_eq_canon _ _ _ (scover0_B_0 c i a2 h2 a3 h3 a4 h4 a5 h5 a6 h6 a7 h7 a8 h8 a9 h9 a10 h10 a11 h11 a12 h12 a13 h13 a14 h14 a15 h15 hc x0 x1 x2 x3 x4 x5 x6 x7 xo xs)]
  unfold kernelRun0_B
  dsimp only
  sl_unfold_words
  rw [View.canon_unit_zero hz2]
  simp only [View.readAt_eq_ld, h2.read_unread, h3.read_unread, h4.read_unread, h5.read_unread, h6.read_unread, h7.read_unread, h8.read_unread, h9.read_unread, h14.read_unread, h15.read_unread, View.ld_unit_zero (S := S256x512) hz2,
    View.ld_unit_zero (S := S3x512) hz2, View.ld_unit_zero (S := S8x512) hz2]
  rfl
end Point

end Cert.SconvValue

end
-- ==== Proof.SconvPay.lean ====
/-
  The values of the short convolution's gradient at an index: the kernel's rotations and masks as rows of the block, of the
  eight rows before it and of the eight rows carried back.
-/
module

public import proofs.«01_k».proof.Defs
public import proofs.«01_k».proof.Proof.Spec
public import proofs.«01_k».proof.Proof.SconvPoint
public import Idealize.ShloMosaic.Lib.Pipeline.ValueKit
public import Idealize.ShloMosaic.Lib.Pointwise

@[expose] public section

set_option maxRecDepth 16384

noncomputable section

namespace Cert.SconvValue

open Cert.SconvBwdIdeal Cert.SconvBwdIdeal.Gen Cert.SconvFrame Cert.Spec Idealize.ShloMosaic Idealize.ShloMosaic.TcCoe Idealize.SL.Sem
open scoped BigOperators

/-! ### The kernel's two shifts of a block's rows -/

section Shift
variable {F : FTy → Type} [FloatOps F]

/-- The rows `k` earlier, the first ones out of the eight rows before the block. -/
def back (k : BitVec 32) (X : Vec F S256x512 .f32) (H : Vec F S8x512 .f32) : Vec F S256x512 .f32 :=
  concatenate S256x512 0
    [⟨S8x512, select (broadcastTo S8x512 (shapeCast S8x1 (cmpi .slt (iota .tc S8x1 32 [0] iota_S8x1_d0_w32) (broadcast S8x1 k))
        shapeCasts_S8x1_S8x1) broadcasts_S8x1_S8x512) (dynamicRotate 0 k none H rotates_S8x512_d0)
        (extractStridedSlice S8x512 ![0, 0] (dynamicRotate 0 k none X rotates_S256x512_d0) slices_S256x512_o0_0_S8x512)⟩,
     ⟨S248x512, extractStridedSlice S248x512 ![8, 0] (dynamicRotate 0 k none X rotates_S256x512_d0) slices_S256x512_o8_0_S248x512⟩]
    concatenates_S8x512_S248x512_S256x512_d0

/-- The rows later by `256 - n`, the last ones zero: those past row `m` of the last eight. -/
def ahead (n m : BitVec 32) (X : Vec F S256x512 .f32) : Vec F S256x512 .f32 :=
  concatenate S256x512 0
    [⟨S248x512, extractStridedSlice S248x512 ![0, 0] (dynamicRotate 0 n none X rotates_S256x512_d0) slices_S256x512_o0_0_S248x512⟩,
     ⟨S8x512, select (broadcastTo S8x512 (shapeCast S8x1 (cmpi .sge (iota .tc S8x1 32 [0] iota_S8x1_d0_w32) (broadcast S8x1 m))
        shapeCasts_S8x1_S8x1) broadcasts_S8x1_S8x512) (broadcast S8x512 (Scalar.ofBits .f32 0x00000000#32))
        (extractStridedSlice S8x512 ![248, 0] (dynamicRotate 0 n none X rotates_S256x512_d0) slices_S256x512_o248_0_S8x512)⟩]
    concatenates_S248x512_S8x512_S256x512_d0

/-- The first rows as the last of eight: row `r - m` at row `r`, zeros before it. -/
def first (m : BitVec 32) (X : Vec F S256x512 .f32) : Vec F S8x512 .f32 :=
  select (broadcastTo S8x512 (shapeCast S8x1 (cmpi .sge (iota .tc S8x1 32 [0] iota_S8x1_d0_w32) (broadcast S8x1 m))
    shapeCasts_S8x1_S8x1) broadcasts_S8x1_S8x512)
    (dynamicRotate 0 m none (extractStridedSlice S8x512 ![0, 0] X slices_S256x512_o0_0_S8x512) rotates_S8x512_d0)
    (broadcast S8x512 (Scalar.ofBits .f32 0x00000000#32))
end Shift

/-- The two comparisons of the row's word with a constant's. -/
theorem slt_word (a b : Nat) (ha : a < 256) (hb : b < 256) (x y : EReal) :
    Scalar.select (IntOp.cmpi .slt (BitVec.ofNat 32 a) (BitVec.ofNat 32 b)) x y = if a < b then x else y := by
  have h : (BitVec.ofNat 32 a).slt (BitVec.ofNat 32 b) = decide (a < b) := by
    rw [BitVec.slt_eq_decide, decide_eq_decide, BitVec.toInt_eq_toNat_of_lt, BitVec.toInt_eq_toNat_of_lt] <;>
      simp only [BitVec.toNat_ofNat] <;> omega
  by_cases hst : a < b
  · simp [Scalar.select, IntOp.cmpi, h, hst]
  · simp [Scalar.select, IntOp.cmpi, h, hst]
theorem sge_word' (a b : Nat) (ha : a < 256) (hb : b < 256) (x y : EReal) :
    Scalar.select (IntOp.cmpi .sge (BitVec.ofNat 32 a) (BitVec.ofNat 32 b)) x y = if b ≤ a then x else y := by
  have h : (BitVec.ofNat 32 b).sle (BitVec.ofNat 32 a) = decide (b ≤ a) := by
    rw [BitVec.sle_eq_decide, decide_eq_decide, BitVec.toInt_eq_toNat_of_lt, BitVec.toInt_eq_toNat_of_lt] <;>
      simp only [BitVec.toNat_ofNat] <;> omega
  by_cases hst : b ≤ a
  · simp [Scalar.select, IntOp.cmpi, h, hst]
  · simp [Scalar.select, IntOp.cmpi, h, hst]

section At
variable (X D : Vec Ideal S256x512 .f32) (H : Vec Ideal S8x512 .f32) (r : Fin 256) (q : Fin 8) (j : Fin 512)

theorem row_eq {n : Nat} (Y : (⟨2, ![n, 512]⟩ : Shape).Idx → EReal) {a b : Fin n} (h : a.val = b.val) : Y (ix2 a j) = Y (ix2 b j) := by
  rw [Fin.ext h]

theorem back1_at : back (F := Ideal) 1#32 X H (ix2 r j) =
    if h : r.val < 1 then H (ix2 ⟨r.val + 7, by omega⟩ j) else X (ix2 ⟨r.val - 1, by omega⟩ j) := by
  pointwise [back]
  by_cases h : r.val < 8
  · refine (dif_pos h).trans ((slt_word r.val 1 r.isLt (by decide) _ _).trans ?_)
    by_cases h2 : r.val < 1
    · rw [if_pos h2, dif_pos h2]; exact row_eq j _ (by dsimp only; omega)
    · rw [if_neg h2, dif_neg h2]; exact row_eq j _ (by dsimp only; omega)
  · rw [dif_neg h, dif_neg (by omega)]; exact row_eq j _ (by dsimp only; omega)
theorem back2_at : back (F := Ideal) 2#32 X H (ix2 r j) =
    if h : r.val < 2 then H (ix2 ⟨r.val + 6, by omega⟩ j) else X (ix2 ⟨r.val - 2, by omega⟩ j) := by
  pointwise [back]
  by_cases h : r.val < 8
  · refine (dif_pos h).trans ((slt_word r.val 2 r.isLt (by decide) _ _).trans ?_)
    by_cases h2 : r.val < 2
    · rw [if_pos h2, dif_pos h2]; exact row_eq j _ (by dsimp only; omega)
    · rw [if_neg h2, dif_neg h2]; exact row_eq j _ (by dsimp only; omega)
  · rw [dif_neg h, dif_neg (by omega)]; exact row_eq j _ (by dsimp only; omega)
theorem ahead1_at : ahead (F := Ideal) 255#32 7#32 X (ix2 r j) = if h : r.val < 255 then X (ix2 ⟨r.val + 1, by omega⟩ j) else 0 := by
  pointwise [ahead]
  by_cases h : r.val < 248
  · rw [dif_pos h, dif_pos (by omega)]; exact row_eq j _ (by dsimp only; omega)
  · refine (dif_neg h).trans ((sge_word' (r.val - 248) 7 (by omega) (by decide) _ _).trans ?_)
    by_cases h2 : r.val < 255
    · rw [if_neg (by omega), dif_pos h2]; exact row_eq j _ (by dsimp only; omega)
    · rw [if_pos (by omega), dif_neg h2]
theorem ahead2_at : ahead (F := Ideal) 254#32 6#32 X (ix2 r j) = if h : r.val < 254 then X (ix2 ⟨r.val + 2, by omega⟩ j) else 0 := by
  pointwise [ahead]
  by_cases h : r.val < 248
  · rw [dif_pos h, dif_pos (by omega)]; exact row_eq j _ (by dsimp only; omega)
  · refine (dif_neg h).trans ((sge_word' (r.val - 248) 6 (by omega) (by decide) _ _).trans ?_)
    by_cases h2 : r.val < 254
    · rw [if_neg (by omega), dif_pos h2]; exact row_eq j _ (by dsimp only; omega)
    · rw [if_pos (by omega), dif_neg h2]
theorem first7_at : first (F := Ideal) 7#32 X (ix2 q j) = if h : 7 ≤ q.val then X (ix2 ⟨q.val - 7, by omega⟩ j) else 0 := by
  pointwise [first]
  refine (sge_word' q.val 7 (by omega) (by decide) _ _).trans ?_
  by_cases h2 : 7 ≤ q.val
  · rw [if_pos h2, dif_pos h2]; exact row_eq j _ (by dsimp only; omega)
  · rw [if_neg h2, dif_neg h2]
theorem first6_at : first (F := Ideal) 6#32 X (ix2 q j) = if h : 6 ≤ q.val then X (ix2 ⟨q.val - 6, by omega⟩ j) else 0 := by
  pointwise [first]
  refine (sge_word' q.val 6 (by omega) (by decide) _ _).trans ?_
  by_cases h2 : 6 ≤ q.val
  · rw [if_pos h2, dif_pos h2]; exact row_eq j _ (by dsimp only; omega)
  · rw [if_neg h2, dif_neg h2]
end At

/-! ### The values of a point at an index -/

section Pay
variable (i : grid0.Coords) (x0 x1 x2 x3 x6 : Vec Ideal S256x512 .f32) (x4 x5 xs : Vec Ideal S8x512 .f32)
  (x7 xo : Vec Ideal S3x512 .f32) (r : Fin 256) (q : Fin 8) (k : Fin 3) (j : Fin 512)

theorem sg_eq (z : EReal) : Ideal.logistic z = sg z := Ideal.logistic_def (φ := .f32) z
theorem ch_at : k0_pay3 x1 x2 (ix2 r j) = x1 (ix2 r j) * x2 (ix2 r j) := by
  pointwise [k0_pay3]
theorem halo_at : k0_pay4 i x4 x5 (ix2 q j) = if (i 1).val = 31 then 0 else x4 (ix2 q j) * x5 (ix2 q j) := by
  pointwise [k0_pay4]
  have hi : (i 1).val < 2 ^ 32 := lt_trans (i 1).isLt (by decide)
  by_cases h : (i 1).val = 31
  · simp [Scalar.select, Scalar.cmpi, IntOp.cmpi, h]
  · have e : ¬ BitVec.ofNat 32 (i 1).val = 31#32 := fun e => h (by
      have := congrArg BitVec.toNat e; rw [BitVec.toNat_ofNat, Nat.mod_eq_of_lt hi] at this; exact this)
    have eb : (BitVec.ofNat 32 (i 1).val == 31#32) = false := beq_eq_false_iff_ne.mpr e
    simp [Scalar.select, Scalar.cmpi, IntOp.cmpi, h, eb]
theorem gate_at : k0_pay9 x3 x6 (ix2 r j) = x6 (ix2 r j) * (x3 (ix2 r j) * sg (x3 (ix2 r j))) := by
  pointwise [k0_pay9]
  rw [sg_eq]
theorem d_at : k0_pay10 x0 x3 x6 (ix2 r j) = x6 (ix2 r j) * (x3 (ix2 r j) * sg (x3 (ix2 r j))) * x0 (ix2 r j) := by
  pointwise [k0_pay10]
  rw [gate_at]
theorem conv_at : tConv i x1 x2 x4 x5 x7 (ix2 r j) =
    x7 (ix2 2 j) * k0_pay3 x1 x2 (ix2 r j)
      + x7 (ix2 1 j) * back (F := Ideal) 1#32 (k0_pay3 x1 x2) (k0_pay4 i x4 x5) (ix2 r j)
      + x7 (ix2 0 j) * back (F := Ideal) 2#32 (k0_pay3 x1 x2) (k0_pay4 i x4 x5) (ix2 r j) := by
  show addf (addf (mulf (broadcastTo S256x512 (extractStridedSlice S1x512 ![2, 0] x7 slices_S3x512_o2_0_S1x512) broadcasts_S1x512_S256x512)
      (k0_pay3 x1 x2))
      (mulf (broadcastTo S256x512 (extractStridedSlice S1x512 ![1, 0] x7 slices_S3x512_o1_0_S1x512) broadcasts_S1x512_S256x512)
        (back (F := Ideal) 1#32 (k0_pay3 x1 x2) (k0_pay4 i x4 x5))))
    (mulf (broadcastTo S256x512 (extractStridedSlice S1x512 ![0, 0] x7 slices_S3x512_o0_0_S1x512) broadcasts_S1x512_S256x512)
      (back (F := Ideal) 2#32 (k0_pay3 x1 x2) (k0_pay4 i x4 x5))) (ix2 r j) = _
  pointwise []
theorem dch_at : tDch x0 x3 x6 x7 (ix2 r j) =
    x7 (ix2 2 j) * k0_pay10 x0 x3 x6 (ix2 r j)
      + x7 (ix2 1 j) * ahead (F := Ideal) 255#32 7#32 (k0_pay10 x0 x3 x6) (ix2 r j)
      + x7 (ix2 0 j) * ahead (F := Ideal) 254#32 6#32 (k0_pay10 x0 x3 x6) (ix2 r j) := by
  show addf (addf (mulf (broadcastTo S256x512 (extractStridedSlice S1x512 ![2, 0] x7 slices_S3x512_o2_0_S1x512) broadcasts_S1x512_S256x512)
      (k0_pay10 x0 x3 x6))
      (mulf (broadcastTo S256x512 (extractStridedSlice S1x512 ![1, 0] x7 slices_S3x512_o1_0_S1x512) broadcasts_S1x512_S256x512)
        (ahead (F := Ideal) 255#32 7#32 (k0_pay10 x0 x3 x6))))
    (mulf (broadcastTo S256x512 (extractStridedSlice S1x512 ![0, 0] x7 slices_S3x512_o0_0_S1x512) broadcasts_S1x512_S256x512)
      (ahead (F := Ideal) 254#32 6#32 (k0_pay10 x0 x3 x6))) (ix2 r j) = _
  pointwise []
theorem carry_at : tCarry x0 x3 x6 x7 (ix2 q j) =
    x7 (ix2 1 j) * first (F := Ideal) 7#32 (k0_pay10 x0 x3 x6) (ix2 q j)
      + x7 (ix2 0 j) * first (F := Ideal) 6#32 (k0_pay10 x0 x3 x6) (ix2 q j) := by
  show shapeCast S8x512
    (addf (F := Ideal) (φ := .f32) (mulf (broadcastTo S8x512 (extractStridedSlice S1x512 ![1, 0] x7 slices_S3x512_o1_0_S1x512) broadcasts_S1x512_S8x512)
      (first (F := Ideal) 7#32 (k0_pay10 x0 x3 x6)))
    (mulf (broadcastTo S8x512 (extractStridedSlice S1x512 ![0, 0] x7 slices_S3x512_o0_0_S1x512) broadcasts_S1x512_S8x512)
      (first (F := Ideal) 6#32 (k0_pay10 x0 x3 x6)))) shapeCasts_S8x512_S8x512 (ix2 q j) = _
  pointwise []
theorem dw_at : tDw i x0 x1 x2 x3 x6 x4 x5 (ix2 k j) =
    ∑ r, k0_pay10 x0 x3 x6 (ix2 r j) * (![back (F := Ideal) 2#32 (k0_pay3 x1 x2) (k0_pay4 i x4 x5) (ix2 r j),
      back (F := Ideal) 1#32 (k0_pay3 x1 x2) (k0_pay4 i x4 x5) (ix2 r j), k0_pay3 x1 x2 (ix2 r j)] : Fin 3 → EReal) k := by
  show concatenate S3x512 0 [⟨S1x512, shapeCast S1x512 (multiReduction (F := Ideal) .add [0] S512
      (mulf (k0_pay10 x0 x3 x6) (back (F := Ideal) 2#32 (k0_pay3 x1 x2) (k0_pay4 i x4 x5))) 0x00000000#32 reduces_S256x512_S512 (.inl rfl) rfl) shapeCasts_S512_S1x512⟩,
    ⟨S1x512, shapeCast S1x512 (multiReduction (F := Ideal) .add [0] S512
      (mulf (k0_pay10 x0 x3 x6) (back (F := Ideal) 1#32 (k0_pay3 x1 x2) (k0_pay4 i x4 x5))) 0x00000000#32 reduces_S256x512_S512 (.inl rfl) rfl) shapeCasts_S512_S1x512⟩,
    ⟨S1x512, shapeCast S1x512 (multiReduction (F := Ideal) .add [0] S512
      (mulf (k0_pay10 x0 x3 x6) (k0_pay3 x1 x2)) 0x00000000#32 reduces_S256x512_S512 (.inl rfl) rfl) shapeCasts_S512_S1x512⟩]
    concatenates_S1x512_S1x512_S1x512_S3x512_d0 (ix2 k j) = _
  pointwise []
  fin_cases k <;> rfl
theorem add_at (x : Vec Ideal S3x512 .f32) : k0_pay2 x xo (ix2 k j) = xo (ix2 k j) + x (ix2 k j) := by
  pointwise [k0_pay2]
theorem zero8_at : (k0_pay25 (F := Ideal) : Vec Ideal S8x512 .f32) (ix2 q j) = 0 := by
  pointwise [k0_pay25]
theorem zero3_at : (k0_pay26 (F := Ideal) : Vec Ideal S3x512 .f32) (ix2 k j) = 0 := by
  pointwise [k0_pay26]
theorem join_at (x : Vec Ideal S256x512 .f32) : k0_pay27 x xs (ix2 r j) =
    if h : r.val < 248 then x (ix2 r j) else x (ix2 r j) + xs (ix2 ⟨r.val - 248, by omega⟩ j) := by
  pointwise [k0_pay27]
  by_cases h : r.val < 248
  · rw [dif_pos h, dif_pos h]
  · rw [dif_neg h, dif_neg h]
    exact congrArg (· + _) (row_eq j x (by dsimp only; omega))
theorem dbg_at (x y : Vec Ideal S256x512 .f32) : (show EReal from k0_pay28 (F := Ideal) x y (ix2 r j)) = y (ix2 r j) * x (ix2 r j) := by
  pointwise [k0_pay28]
theorem dz_at (x : Vec Ideal S256x512 .f32) : (show EReal from k0_pay29 (F := Ideal) x0 x3 x6 x (ix2 r j)) =
    x6 (ix2 r j) * x0 (ix2 r j) * x (ix2 r j) * (sg (x3 (ix2 r j)) * (1 + x3 (ix2 r j) * (1 - sg (x3 (ix2 r j))))) := by
  pointwise [k0_pay29]
  rw [sg_eq]
theorem dcg_at (x : Vec Ideal S256x512 .f32) : (show EReal from k0_pay30 (F := Ideal) x2 x xs (ix2 r j)) = k0_pay27 x xs (ix2 r j) * x2 (ix2 r j) := by
  pointwise [k0_pay30]
theorem dhx_at (x : Vec Ideal S256x512 .f32) : (show EReal from k0_pay31 (F := Ideal) x1 x xs (ix2 r j)) = k0_pay27 x xs (ix2 r j) * x1 (ix2 r j) := by
  pointwise [k0_pay31]
end Pay

/-! ### The same values as rows of the whole columns

Block `b` of the 32 holds rows `256 b + r`. A column is a function of the row's number, zero from row 8192 on. -/

/-- A column of 8192 rows, with zeros after it. -/
def ext (f : Fin 8192 → EReal) (R : Nat) : EReal := if h : R < 8192 then f ⟨R, h⟩ else 0
/-- The column `k` rows earlier, zeros before it. -/
def late (k : Nat) (c : Nat → EReal) (R : Nat) : EReal := if k ≤ R then c (R - k) else 0

def convC (w : Fin 3 → EReal) (c : Nat → EReal) (R : Nat) : EReal := w 2 * c R + w 1 * late 1 c R + w 0 * late 2 c R
def dchC (w : Fin 3 → EReal) (d : Nat → EReal) (R : Nat) : EReal := w 2 * d R + w 1 * d (R + 1) + w 0 * d (R + 2)
/-- The rows that the block from row `R` on carries to the last eight rows before it. -/
def carryC (w : Fin 3 → EReal) (d : Nat → EReal) (R : Nat) (q : Nat) : EReal :=
  w 1 * (if 7 ≤ q then d (R + q - 7) else 0) + w 0 * (if 6 ≤ q then d (R + q - 6) else 0)

section Column
variable (b : Nat) (X D : Vec Ideal S256x512 .f32) (H xs : Vec Ideal S8x512 .f32) (c d : Nat → EReal) (j : Fin 512)
  (r : Fin 256) (q : Fin 8)

theorem back1_col (hX : ∀ r : Fin 256, X (ix2 r j) = c (256 * b + r.val))
    (hH : ∀ q : Fin 8, H (ix2 q j) = if b = 0 then 0 else c (256 * b - 8 + q.val)) :
    back (F := Ideal) 1#32 X H (ix2 r j) = late 1 c (256 * b + r.val) := by
  rw [back1_at, late]
  by_cases h : r.val < 1
  · rw [dif_pos h, hH]
    by_cases hb : b = 0
    · rw [if_pos hb, if_neg (by omega)]
    · rw [if_neg hb, if_pos (by omega)]; congr 1; dsimp only; omega
  · rw [dif_neg h, hX, if_pos (by omega)]; congr 1; dsimp only; omega
theorem back2_col (hX : ∀ r : Fin 256, X (ix2 r j) = c (256 * b + r.val))
    (hH : ∀ q : Fin 8, H (ix2 q j) = if b = 0 then 0 else c (256 * b - 8 + q.val)) :
    back (F := Ideal) 2#32 X H (ix2 r j) = late 2 c (256 * b + r.val) := by
  rw [back2_at, late]
  by_cases h : r.val < 2
  · rw [dif_pos h, hH]
    by_cases hb : b = 0
    · rw [if_pos hb, if_neg (by omega)]
    · rw [if_neg hb, if_pos (by omega)]; congr 1; dsimp only; omega
  · rw [dif_neg h, hX, if_pos (by omega)]; congr 1; dsimp only; omega

theorem first7_col (hD : ∀ r : Fin 256, D (ix2 r j) = d (256 * b + r.val)) :
    first (F := Ideal) 7#32 D (ix2 q j) = if 7 ≤ q.val then d (256 * b + q.val - 7) else 0 := by
  rw [first7_at]
  by_cases h : 7 ≤ q.val
  · rw [dif_pos h, if_pos h, hD]; congr 1; dsimp only; omega
  · rw [dif_neg h, if_neg h]
theorem first6_col (hD : ∀ r : Fin 256, D (ix2 r j) = d (256 * b + r.val)) :
    first (F := Ideal) 6#32 D (ix2 q j) = if 6 ≤ q.val then d (256 * b + q.val - 6) else 0 := by
  rw [first6_at]
  by_cases h : 6 ≤ q.val
  · rw [dif_pos h, if_pos h, hD]; congr 1; dsimp only; omega
  · rw [dif_neg h, if_neg h]

/-- The block's own terms and the carried ones are the three terms of every row. -/
theorem join_col (w : Fin 3 → EReal) (T : Vec Ideal S256x512 .f32)
    (hD : ∀ r : Fin 256, D (ix2 r j) = d (256 * b + r.val))
    (hT : ∀ r : Fin 256, T (ix2 r j) = w 2 * D (ix2 r j) + w 1 * ahead (F := Ideal) 255#32 7#32 D (ix2 r j)
      + w 0 * ahead (F := Ideal) 254#32 6#32 D (ix2 r j))
    (hs : ∀ q : Fin 8, xs (ix2 q j) = carryC w d (256 * (b + 1)) q.val) :
    k0_pay27 T xs (ix2 r j) = dchC w d (256 * b + r.val) := by
  rw [join_at, hT, hD, ahead1_at, ahead2_at, dchC]
  have s1 : 256 * b + (r.val + 1) = 256 * b + r.val + 1 := rfl
  by_cases h : r.val < 248
  · rw [dif_pos h, dif_pos (by omega), dif_pos (by omega), hD, hD]; rfl
  rw [dif_neg h, hs, carryC]
  dsimp only
  by_cases h4 : r.val < 254
  · rw [dif_pos (by omega), dif_pos h4, hD, hD, if_neg (by omega), if_neg (by omega), mul_zero, mul_zero, add_zero, add_zero]; rfl
  by_cases h5 : r.val < 255
  · rw [dif_pos h5, dif_neg h4, hD, if_neg (by omega), if_pos (by omega), mul_zero, mul_zero, add_zero, zero_add,
      show 256 * (b + 1) + (r.val - 248) - 6 = 256 * b + r.val + 2 by omega]; rfl
  rw [dif_neg h5, dif_neg h4, if_pos (by omega), if_pos (by omega), mul_zero, mul_zero, add_zero, add_zero, add_assoc,
    show 256 * (b + 1) + (r.val - 248) - 6 = 256 * b + r.val + 2 by omega,
    show 256 * (b + 1) + (r.val - 248) - 7 = 256 * b + r.val + 1 by omega]
end Column
end Cert.SconvValue

end
-- ==== Proof.SconvArrays.lean ====
/-
  The arrays that the short convolution's gradient leaves: the four cotangents at every row and lane, and the filter's
  gradient summed over the 32 blocks of rows, the last block first.
-/
module

public import proofs.«01_k».proof.Defs
public import proofs.«01_k».proof.Proof.Spec
public import proofs.«01_k».proof.Proof.SconvPay
public import Idealize.ShloMosaic.Lib.Pipeline.ValueKit
public import Idealize.ShloMosaic.Lib.Pointwise

@[expose] public section

set_option maxRecDepth 16384

noncomputable section

namespace Cert.SconvValue

open Cert.SconvBwdIdeal Cert.SconvBwdIdeal.Gen Cert.SconvFrame Cert.Spec Idealize.ShloMosaic Idealize.ShloMosaic.TcCoe Idealize.SL.Sem
open scoped BigOperators

/-! ### The columns of a lane, from the whole arrays: the four groups of lanes of `h`, the cotangent `y`, the filter `f` -/

section Cols
variable (h : Vec Ideal S8192x16384 .f32) (y : Vec Ideal S8192x4096 .f32) (f : Vec Ideal S3x2048 .f32) (J : Fin 2048) (R : Fin 8192)

/-- Lane `J` of group `g` of `h`. -/
def lane (g : Fin 4) (J : Fin 2048) : Fin 16384 := ⟨2048 * g.val + J.val, by have := g.isLt; have := J.isLt; omega⟩
theorem lane_val (g : Fin 4) (J : Fin 2048) : (lane g J).val = 2048 * g.val + J.val := rfl
/-- The same lane of the cotangent's. -/
def laneY (J : Fin 2048) : Fin 4096 := ⟨J.val, by have := J.isLt; omega⟩
theorem laneY_val (J : Fin 2048) : (laneY J).val = J.val := rfl

def bg : EReal := h (ix2 R (lane 0 J))
def cg : EReal := h (ix2 R (lane 1 J))
def hx : EReal := h (ix2 R (lane 2 J))
def zz : EReal := h (ix2 R (lane 3 J))
def dy : EReal := y (ix2 R (laneY J))
def wt : Fin 3 → EReal := fun k => f (ix2 k J)
/-- The convolution's input. -/
def chCol : Nat → EReal := ext fun R => cg h J R * hx h J R
/-- The cotangent through the gate. -/
def gated : EReal := dy y J R * (zz h J R * sg (zz h J R))
/-- The convolution's cotangent. -/
def dCol : Nat → EReal := ext fun R => gated h y J R * bg h J R
def conv : EReal := convC (wt f J) (chCol h J) R.val
def dch : EReal := dchC (wt f J) (dCol h y J) R.val
def dbg : EReal := gated h y J R * conv h f J R
def dcg : EReal := dch h y f J R * hx h J R
def dhx : EReal := dch h y f J R * cg h J R
/-- The gate's cotangent, as the kernel writes it. -/
def dz : EReal := dy y J R * bg h J R * conv h f J R * (sg (zz h J R) * (1 + zz h J R * (1 - sg (zz h J R))))
/-- A row's term of the filter's gradient. -/
def dwTerm (k : Fin 3) (R : Nat) : EReal :=
  dCol h y J R * (![late 2 (chCol h J) R, late 1 (chCol h J) R, chCol h J R] : Fin 3 → EReal) k
end Cols

/-! ### The blocks -/

variable (m : (ℓ : Loc nD τ sig) → Buf (Elt Ideal) ℓ) (c : Dev nD)

abbrev aH : Vec Ideal S8192x16384 .f32 := m ((c : Thread nD τ).loc main_arg0)
abbrev aY : Vec Ideal S8192x4096 .f32 := m ((c : Thread nD τ).loc main_arg1)
abbrev aF : Vec Ideal S3x2048 .f32 := m ((c : Thread nD τ).loc main_arg2)

/-- A point's block of rows: the last one first. -/
def bk (t : Fin cfg0.N) : Nat := 31 - t.val % 32
/-- Row `r` of the point's block. -/
def rowT (t : Fin cfg0.N) (r : Fin 256) : Fin 8192 := ⟨256 * bk t + r.val, by have := r.isLt; unfold bk; omega⟩
theorem rowT_val (t : Fin cfg0.N) (r : Fin 256) : (rowT t r).val = 256 * (31 - t.val % 32) + r.val := rfl
/-- Lane `j` of the point's block. -/
def col (t : Fin cfg0.N) (j : Fin 512) : Fin 2048 :=
  ⟨512 * (t.val / 32) + j.val, by have := j.isLt; have h : t.val < 128 := N_0 ▸ t.isLt; omega⟩
theorem col_val (t : Fin cfg0.N) (j : Fin 512) : (col t j).val = 512 * (t.val / 32) + j.val := rfl
/-- The eight rows before the block; of the first block, its own first eight. -/
def rowH (t : Fin cfg0.N) (q : Fin 8) : Fin 8192 := ⟨8 * ((31 - t.val % 32) * 32 - 1) + q.val, by have := q.isLt; omega⟩
theorem rowH_val (t : Fin cfg0.N) (q : Fin 8) : (rowH t q).val = 8 * ((31 - t.val % 32) * 32 - 1) + q.val := rfl

theorem coord1 : ∀ t : Fin cfg0.N, (grid0.coords t 1).val = t.val % 32 := (by decide +kernel : ∀ t : Fin grid0.N, _)
theorem e0 : ∀ t : Fin cfg0.N, win0_0.index t = ![31 - t.val % 32, t.val / 32] := (by decide +kernel : ∀ t : Fin grid0.N, _)
theorem e1 : ∀ t : Fin cfg0.N, win0_1.index t = ![31 - t.val % 32, 4 + t.val / 32] := (by decide +kernel : ∀ t : Fin grid0.N, _)
theorem e2 : ∀ t : Fin cfg0.N, win0_2.index t = ![31 - t.val % 32, 8 + t.val / 32] := (by decide +kernel : ∀ t : Fin grid0.N, _)
theorem e3 : ∀ t : Fin cfg0.N, win0_3.index t = ![31 - t.val % 32, 12 + t.val / 32] := (by decide +kernel : ∀ t : Fin grid0.N, _)
theorem e4 : ∀ t : Fin cfg0.N, win0_4.index t = ![(31 - t.val % 32) * 32 - 1, 4 + t.val / 32] := (by decide +kernel : ∀ t : Fin grid0.N, _)
theorem e5 : ∀ t : Fin cfg0.N, win0_5.index t = ![(31 - t.val % 32) * 32 - 1, 8 + t.val / 32] := (by decide +kernel : ∀ t : Fin grid0.N, _)
theorem e6 : ∀ t : Fin cfg0.N, win0_6.index t = ![31 - t.val % 32, t.val / 32] := (by decide +kernel : ∀ t : Fin grid0.N, _)
theorem e7 : ∀ t : Fin cfg0.N, win0_7.index t = ![0, t.val / 32] := (by decide +kernel : ∀ t : Fin grid0.N, _)
theorem e8 : ∀ t : Fin cfg0.N, win0_8.index t = ![31 - t.val % 32, t.val / 32] := (by decide +kernel : ∀ t : Fin grid0.N, _)
theorem e9 : ∀ t : Fin cfg0.N, win0_9.index t = ![31 - t.val % 32, t.val / 32] := (by decide +kernel : ∀ t : Fin grid0.N, _)
theorem e10 : ∀ t : Fin cfg0.N, win0_10.index t = ![31 - t.val % 32, t.val / 32] := (by decide +kernel : ∀ t : Fin grid0.N, _)
theorem e11 : ∀ t : Fin cfg0.N, win0_11.index t = ![31 - t.val % 32, t.val / 32] := (by decide +kernel : ∀ t : Fin grid0.N, _)
theorem e12 : ∀ t : Fin cfg0.N, win0_12.index t = ![0, t.val / 32] := (by decide +kernel : ∀ t : Fin grid0.N, _)

theorem blk0 (t : Fin cfg0.N) (r : Fin 256) (j : Fin 512) :
    (iblk m c 0 t : Vec Ideal S256x512 .f32) (ix2 r j) = bg (aH m c) (col t j) (rowT t r) := by
  show _ = m ((c : Thread nD τ).loc main_arg0) (ix2 (rowT t r) (lane 0 (col t j)))
  unfold iblk
  blk_simp
  show V m c main_arg0 _ = _
  rw [V_main_arg0]
  congr 1
  blk_ext [e0, rowT_val, lane_val, col_val]
theorem blk1 (t : Fin cfg0.N) (r : Fin 256) (j : Fin 512) :
    (iblk m c 1 t : Vec Ideal S256x512 .f32) (ix2 r j) = cg (aH m c) (col t j) (rowT t r) := by
  show _ = m ((c : Thread nD τ).loc main_arg0) (ix2 (rowT t r) (lane 1 (col t j)))
  unfold iblk
  blk_simp
  show V m c main_arg0 _ = _
  rw [V_main_arg0]
  congr 1
  blk_ext [e1, rowT_val, lane_val, col_val]
theorem blk2 (t : Fin cfg0.N) (r : Fin 256) (j : Fin 512) :
    (iblk m c 2 t : Vec Ideal S256x512 .f32) (ix2 r j) = hx (aH m c) (col t j) (rowT t r) := by
  show _ = m ((c : Thread nD τ).loc main_arg0) (ix2 (rowT t r) (lane 2 (col t j)))
  unfold iblk
  blk_simp
  show V m c main_arg0 _ = _
  rw [V_main_arg0]
  congr 1
  blk_ext [e2, rowT_val, lane_val, col_val]
theorem blk3 (t : Fin cfg0.N) (r : Fin 256) (j : Fin 512) :
    (iblk m c 3 t : Vec Ideal S256x512 .f32) (ix2 r j) = zz (aH m c) (col t j) (rowT t r) := by
  show _ = m ((c : Thread nD τ).loc main_arg0) (ix2 (rowT t r) (lane 3 (col t j)))
  unfold iblk
  blk_simp
  show V m c main_arg0 _ = _
  rw [V_main_arg0]
  congr 1
  blk_ext [e3, rowT_val, lane_val, col_val]
theorem blk4 (t : Fin cfg0.N) (q : Fin 8) (j : Fin 512) :
    (iblk m c 4 t : Vec Ideal S8x512 .f32) (ix2 q j) = cg (aH m c) (col t j) (rowH t q) := by
  show _ = m ((c : Thread nD τ).loc main_arg0) (ix2 (rowH t q) (lane 1 (col t j)))
  unfold iblk
  blk_simp
  show V m c main_arg0 _ = _
  rw [V_main_arg0]
  congr 1
  blk_ext [e4, rowH_val, lane_val, col_val]
theorem blk5 (t : Fin cfg0.N) (q : Fin 8) (j : Fin 512) :
    (iblk m c 5 t : Vec Ideal S8x512 .f32) (ix2 q j) = hx (aH m c) (col t j) (rowH t q) := by
  show _ = m ((c : Thread nD τ).loc main_arg0) (ix2 (rowH t q) (lane 2 (col t j)))
  unfold iblk
  blk_simp
  show V m c main_arg0 _ = _
  rw [V_main_arg0]
  congr 1
  blk_ext [e5, rowH_val, lane_val, col_val]
theorem blk6 (t : Fin cfg0.N) (r : Fin 256) (j : Fin 512) :
    (iblk m c 6 t : Vec Ideal S256x512 .f32) (ix2 r j) = dy (aY m c) (col t j) (rowT t r) := by
  show _ = m ((c : Thread nD τ).loc main_arg1) (ix2 (rowT t r) (laneY (col t j)))
  unfold iblk
  blk_simp
  show V m c main_arg1 _ = _
  rw [V_main_arg1]
  congr 1
  blk_ext [e6, rowT_val, laneY_val, col_val]
theorem blk7 (t : Fin cfg0.N) (k : Fin 3) (j : Fin 512) :
    (iblk m c 7 t : Vec Ideal S3x512 .f32) (ix2 k j) = wt (aF m c) (col t j) k := by
  show _ = m ((c : Thread nD τ).loc main_arg2) (ix2 k (col t j))
  unfold iblk
  blk_simp
  show V m c main_arg2 _ = _
  rw [V_main_arg2]
  congr 1
  blk_ext [e7, col_val]

/-! ### A point's values as rows of the columns -/

theorem ext_at (f : Fin 8192 → EReal) (R : Fin 8192) : ext f R.val = f R := dif_pos R.isLt

theorem ch_blk (t : Fin cfg0.N) (j : Fin 512) (r : Fin 256) :
    k0_pay3 (iblk m c 1 t) (iblk m c 2 t) (ix2 r j) = chCol (aH m c) (col t j) (256 * bk t + r.val) := by
  refine (ch_at ..).trans ?_
  rw [blk1, blk2]
  exact (ext_at (fun R => cg (aH m c) (col t j) R * hx (aH m c) (col t j) R) (rowT t r)).symm
theorem halo_blk (t : Fin cfg0.N) (j : Fin 512) (q : Fin 8) :
    k0_pay4 (grid0.coords t) (iblk m c 4 t) (iblk m c 5 t) (ix2 q j)
      = if bk t = 0 then 0 else chCol (aH m c) (col t j) (256 * bk t - 8 + q.val) := by
  refine (halo_at ..).trans ?_
  rw [coord1, blk4, blk5]
  have hb : bk t = 31 - t.val % 32 := rfl
  by_cases h : t.val % 32 = 31
  · rw [if_pos h, if_pos (by omega)]
  · rw [if_neg h, if_neg (by omega), show 256 * bk t - 8 + q.val = (rowH t q).val by rw [rowH_val]; omega]
    exact (ext_at (fun R => cg (aH m c) (col t j) R * hx (aH m c) (col t j) R) (rowH t q)).symm
theorem gate_blk (t : Fin cfg0.N) (j : Fin 512) (r : Fin 256) :
    k0_pay9 (iblk m c 3 t) (iblk m c 6 t) (ix2 r j) = gated (aH m c) (aY m c) (col t j) (rowT t r) := by
  refine (gate_at ..).trans ?_
  rw [blk3, blk6]
  rfl
theorem d_blk (t : Fin cfg0.N) (j : Fin 512) (r : Fin 256) :
    k0_pay10 (iblk m c 0 t) (iblk m c 3 t) (iblk m c 6 t) (ix2 r j) = dCol (aH m c) (aY m c) (col t j) (256 * bk t + r.val) := by
  refine (d_at ..).trans ?_
  rw [blk0, blk3, blk6]
  exact (ext_at (fun R => gated (aH m c) (aY m c) (col t j) R * bg (aH m c) (col t j) R) (rowT t r)).symm
theorem conv_blk (t : Fin cfg0.N) (j : Fin 512) (r : Fin 256) :
    tConv (grid0.coords t) (iblk m c 1 t) (iblk m c 2 t) (iblk m c 4 t) (iblk m c 5 t) (iblk m c 7 t) (ix2 r j)
      = conv (aH m c) (aF m c) (col t j) (rowT t r) := by
  refine (conv_at ..).trans ?_
  rw [back1_col (bk t) _ _ (chCol (aH m c) (col t j)) j r (ch_blk m c t j) (halo_blk m c t j),
    back2_col (bk t) _ _ (chCol (aH m c) (col t j)) j r (ch_blk m c t j) (halo_blk m c t j), ch_blk, blk7, blk7, blk7]
  rfl
theorem carry_blk (t : Fin cfg0.N) (j : Fin 512) (q : Fin 8) :
    tCarry (iblk m c 0 t) (iblk m c 3 t) (iblk m c 6 t) (iblk m c 7 t) (ix2 q j)
      = carryC (wt (aF m c) (col t j)) (dCol (aH m c) (aY m c) (col t j)) (256 * bk t) q.val := by
  refine (carry_at ..).trans ?_
  rw [first7_col (bk t) _ (dCol (aH m c) (aY m c) (col t j)) j q (d_blk m c t j),
    first6_col (bk t) _ (dCol (aH m c) (aY m c) (col t j)) j q (d_blk m c t j), blk7, blk7]
  rfl
theorem dw_blk (t : Fin cfg0.N) (j : Fin 512) (k : Fin 3) :
    tDw (grid0.coords t) (iblk m c 0 t) (iblk m c 1 t) (iblk m c 2 t) (iblk m c 3 t) (iblk m c 6 t) (iblk m c 4 t) (iblk m c 5 t) (ix2 k j)
      = ∑ r : Fin 256, dwTerm (aH m c) (aY m c) (col t j) k (256 * bk t + r.val) := by
  refine (dw_at ..).trans ?_
  refine Finset.sum_congr rfl fun r _ => ?_
  rw [back1_col (bk t) _ _ (chCol (aH m c) (col t j)) j r (ch_blk m c t j) (halo_blk m c t j),
    back2_col (bk t) _ _ (chCol (aH m c) (col t j)) j r (ch_blk m c t j) (halo_blk m c t j), ch_blk, d_blk]
  rfl

/-! ### What a point leaves -/

/-- The rows that a point finds carried. -/
def xsIn (t : Fin cfg0.N) : Vec Ideal S8x512 .f32 :=
  if t.val % 32 = 0 then k0_pay25 (F := Ideal)
  else (outsAt0 m c (t.val - 1) (Nat.lt_of_le_of_lt (Nat.sub_le _ _) t.isLt)).2.2.2.2.2

theorem outs8 (t : Fin cfg0.N) : (outsAt0 m c t.val t.isLt).1
    = k0_pay28 (tConv (grid0.coords t) (iblk m c 1 t) (iblk m c 2 t) (iblk m c 4 t) (iblk m c 5 t) (iblk m c 7 t))
      (k0_pay9 (iblk m c 3 t) (iblk m c 6 t)) := by
  by_cases h0 : t.val % 32 = 0
  · rw [outsAt0_A m c t h0]; unfold ptA; dsimp only; rw [out_A_8]
  · rw [outsAt0_B m c t h0]; unfold ptB; dsimp only; rw [out_B_8]
theorem outs9 (t : Fin cfg0.N) : (outsAt0 m c t.val t.isLt).2.1
    = k0_pay30 (iblk m c 2 t) (tDch (iblk m c 0 t) (iblk m c 3 t) (iblk m c 6 t) (iblk m c 7 t)) (xsIn m c t) := by
  unfold xsIn
  by_cases h0 : t.val % 32 = 0
  · rw [outsAt0_A m c t h0, if_pos h0]; unfold ptA; dsimp only; rw [out_A_9]
  · rw [outsAt0_B m c t h0, if_neg h0]; unfold ptB; dsimp only; rw [out_B_9]
theorem outs10 (t : Fin cfg0.N) : (outsAt0 m c t.val t.isLt).2.2.1
    = k0_pay31 (iblk m c 1 t) (tDch (iblk m c 0 t) (iblk m c 3 t) (iblk m c 6 t) (iblk m c 7 t)) (xsIn m c t) := by
  unfold xsIn
  by_cases h0 : t.val % 32 = 0
  · rw [outsAt0_A m c t h0, if_pos h0]; unfold ptA; dsimp only; rw [out_A_10]
  · rw [outsAt0_B m c t h0, if_neg h0]; unfold ptB; dsimp only; rw [out_B_10]
theorem outs11 (t : Fin cfg0.N) : (outsAt0 m c t.val t.isLt).2.2.2.1
    = k0_pay29 (iblk m c 0 t) (iblk m c 3 t) (iblk m c 6 t)
      (tConv (grid0.coords t) (iblk m c 1 t) (iblk m c 2 t) (iblk m c 4 t) (iblk m c 5 t) (iblk m c 7 t)) := by
  by_cases h0 : t.val % 32 = 0
  · rw [outsAt0_A m c t h0]; unfold ptA; dsimp only; rw [out_A_11]
  · rw [outsAt0_B m c t h0]; unfold ptB; dsimp only; rw [out_B_11]
theorem outsC (t : Fin cfg0.N) : (outsAt0 m c t.val t.isLt).2.2.2.2.2
    = tCarry (iblk m c 0 t) (iblk m c 3 t) (iblk m c 6 t) (iblk m c 7 t) := by
  by_cases h0 : t.val % 32 = 0
  · rw [outsAt0_A m c t h0]; unfold ptA; dsimp only; rw [sout_A_0]
  · rw [outsAt0_B m c t h0]; unfold ptB; dsimp only; rw [sout_B_0]

theorem xsIn_at (t : Fin cfg0.N) (j : Fin 512) (q : Fin 8) :
    xsIn m c t (ix2 q j) = carryC (wt (aF m c) (col t j)) (dCol (aH m c) (aY m c) (col t j)) (256 * (bk t + 1)) q.val := by
  have hb : bk t = 31 - t.val % 32 := rfl
  unfold xsIn
  by_cases h0 : t.val % 32 = 0
  · have hz : ∀ R : Nat, 8192 ≤ R → dCol (aH m c) (aY m c) (col t j) R = 0 := fun R hR => dif_neg (by omega)
    rw [if_pos h0, zero8_at, carryC]
    have e1 : (if 7 ≤ q.val then dCol (aH m c) (aY m c) (col t j) (256 * (bk t + 1) + q.val - 7) else 0) = 0 := by
      split_ifs with h
      · exact hz _ (by omega)
      · rfl
    have e2 : (if 6 ≤ q.val then dCol (aH m c) (aY m c) (col t j) (256 * (bk t + 1) + q.val - 6) else 0) = 0 := by
      split_ifs with h
      · exact hz _ (by omega)
      · rfl
    rw [e1, e2, mul_zero, mul_zero, add_zero]
  · have ht : t.val - 1 < cfg0.N := Nat.lt_of_le_of_lt (Nat.sub_le _ _) t.isLt
    have hc : col t j = col ⟨t.val - 1, ht⟩ j := Fin.ext (by rw [col_val, col_val]; dsimp only; omega)
    have hp : bk ⟨t.val - 1, ht⟩ = bk t + 1 := by rw [hb]; show 31 - (t.val - 1) % 32 = _; omega
    rw [if_neg h0, show (outsAt0 m c (t.val - 1) ht).2.2.2.2.2 = _ from outsC m c ⟨t.val - 1, ht⟩, carry_blk, hc, hp]

theorem dch_blk (t : Fin cfg0.N) (j : Fin 512) (r : Fin 256) :
    k0_pay27 (tDch (iblk m c 0 t) (iblk m c 3 t) (iblk m c 6 t) (iblk m c 7 t)) (xsIn m c t) (ix2 r j)
      = dch (aH m c) (aY m c) (aF m c) (col t j) (rowT t r) :=
  join_col (bk t) (k0_pay10 (iblk m c 0 t) (iblk m c 3 t) (iblk m c 6 t)) (xsIn m c t) (dCol (aH m c) (aY m c) (col t j)) j r
    (wt (aF m c) (col t j)) _ (d_blk m c t j)
    (fun r => by rw [dch_at, blk7, blk7, blk7]) (xsIn_at m c t j)

/-! ### The arrays after the run -/

theorem f8 : ∀ t : Fin cfg0.N, (cfg0.win 8).flush t = true := (by decide +kernel : ∀ t : Fin grid0.N, _)
theorem f9 : ∀ t : Fin cfg0.N, (cfg0.win 9).flush t = true := (by decide +kernel : ∀ t : Fin grid0.N, _)
theorem f10 : ∀ t : Fin cfg0.N, (cfg0.win 10).flush t = true := (by decide +kernel : ∀ t : Fin grid0.N, _)
theorem f11 : ∀ t : Fin cfg0.N, (cfg0.win 11).flush t = true := (by decide +kernel : ∀ t : Fin grid0.N, _)

theorem arr8 (t : Fin cfg0.N) (r : Fin 256) (j : Fin 512) :
    ((dats m 0 c).arrAt 8 cfg0.N : Vec Ideal S8192x2048 .bf16) (ix2 (rowT t r) (col t j)) = dbg (aH m c) (aY m c) (aF m c) (col t j) (rowT t r) := by
  have h := (dats m 0 c).arrAt_emb_eq_flushed 8 disjoint8 t (f8 t) (ix2 r j : S256x512.Idx)
  have e : ((cfg0.win 8).blk t).view.emb (ix2 r j : S256x512.Idx) = (ix2 (rowT t r) (col t j) : S8192x2048.Idx) := by
    blk_ext [e8, rowT_val, col_val]
  rw [e] at h
  refine h.trans ?_
  rw [show (dats m 0 c).flushed 8 t (ix2 r j : S256x512.Idx) = (dats m 0 c).after 8 t (ix2 r j : S256x512.Idx) from rfl, after0_8, outs8]
  refine (dbg_at ..).trans ?_
  rw [gate_blk, conv_blk]
  rfl
theorem arr9 (t : Fin cfg0.N) (r : Fin 256) (j : Fin 512) :
    ((dats m 0 c).arrAt 9 cfg0.N : Vec Ideal S8192x2048 .bf16) (ix2 (rowT t r) (col t j)) = dcg (aH m c) (aY m c) (aF m c) (col t j) (rowT t r) := by
  have h := (dats m 0 c).arrAt_emb_eq_flushed 9 disjoint9 t (f9 t) (ix2 r j : S256x512.Idx)
  have e : ((cfg0.win 9).blk t).view.emb (ix2 r j : S256x512.Idx) = (ix2 (rowT t r) (col t j) : S8192x2048.Idx) := by
    blk_ext [e9, rowT_val, col_val]
  rw [e] at h
  refine h.trans ?_
  rw [show (dats m 0 c).flushed 9 t (ix2 r j : S256x512.Idx) = (dats m 0 c).after 9 t (ix2 r j : S256x512.Idx) from rfl, after0_9, outs9]
  refine (dcg_at ..).trans ?_
  rw [dch_blk, blk2]
  rfl
theorem arr10 (t : Fin cfg0.N) (r : Fin 256) (j : Fin 512) :
    ((dats m 0 c).arrAt 10 cfg0.N : Vec Ideal S8192x2048 .bf16) (ix2 (rowT t r) (col t j)) = dhx (aH m c) (aY m c) (aF m c) (col t j) (rowT t r) := by
  have h := (dats m 0 c).arrAt_emb_eq_flushed 10 disjoint10 t (f10 t) (ix2 r j : S256x512.Idx)
  have e : ((cfg0.win 10).blk t).view.emb (ix2 r j : S256x512.Idx) = (ix2 (rowT t r) (col t j) : S8192x2048.Idx) := by
    blk_ext [e10, rowT_val, col_val]
  rw [e] at h
  refine h.trans ?_
  rw [show (dats m 0 c).flushed 10 t (ix2 r j : S256x512.Idx) = (dats m 0 c).after 10 t (ix2 r j : S256x512.Idx) from rfl, after0_10, outs10]
  refine (dhx_at ..).trans ?_
  rw [dch_blk, blk1]
  rfl
theorem arr11 (t : Fin cfg0.N) (r : Fin 256) (j : Fin 512) :
    ((dats m 0 c).arrAt 11 cfg0.N : Vec Ideal S8192x2048 .bf16) (ix2 (rowT t r) (col t j)) = dz (aH m c) (aY m c) (aF m c) (col t j) (rowT t r) := by
  have h := (dats m 0 c).arrAt_emb_eq_flushed 11 disjoint11 t (f11 t) (ix2 r j : S256x512.Idx)
  have e : ((cfg0.win 11).blk t).view.emb (ix2 r j : S256x512.Idx) = (ix2 (rowT t r) (col t j) : S8192x2048.Idx) := by
    blk_ext [e11, rowT_val, col_val]
  rw [e] at h
  refine h.trans ?_
  rw [show (dats m 0 c).flushed 11 t (ix2 r j : S256x512.Idx) = (dats m 0 c).after 11 t (ix2 r j : S256x512.Idx) from rfl, after0_11, outs11]
  refine (dz_at ..).trans ?_
  rw [conv_blk, blk0, blk3, blk6]
  rfl

/-- The filter's gradient after a point: the sum over the blocks of rows so far. -/
theorem acc12 (g : Fin 4) (j : Fin 512) (k : Fin 3) : ∀ (s : ℕ) (hs : s < 32) (hn : 32 * g.val + s < cfg0.N),
    ((outsAt0 m c (32 * g.val + s) hn).2.2.2.2.1 : Vec Ideal S3x512 .f32) (ix2 k j)
      = ∑ u ∈ Finset.range (s + 1), ∑ r : Fin 256, dwTerm (aH m c) (aY m c) (col ⟨32 * g.val, by have := g.isLt; rw [show cfg0.N = 128 from N_0]; omega⟩ j) k
          (256 * (31 - u) + r.val)
  | 0, hs, hn => by
    have h0 : (⟨32 * g.val + 0, hn⟩ : Fin cfg0.N).val % 32 = 0 := by dsimp only; omega
    rw [show outsAt0 m c (32 * g.val + 0) hn = _ from outsAt0_A m c ⟨32 * g.val + 0, hn⟩ h0]
    unfold ptA
    dsimp only
    rw [out_A_12, add_at, zero3_at, dw_blk, zero_add, Finset.sum_range_one]
    have hb : bk ⟨32 * g.val + 0, hn⟩ = 31 - 0 := by show 31 - (32 * g.val + 0) % 32 = _; omega
    rw [hb]
    rfl
  | s + 1, hs, hn => by
    have hB : ¬(⟨32 * g.val + (s + 1), hn⟩ : Fin cfg0.N).val % 32 = 0 := by dsimp only; omega
    rw [show outsAt0 m c (32 * g.val + (s + 1)) hn = _ from outsAt0_B m c ⟨32 * g.val + (s + 1), hn⟩ hB]
    unfold ptB
    dsimp only
    rw [out_B_12, add_at, dw_blk, Finset.sum_range_succ]
    have hb : bk ⟨32 * g.val + (s + 1), hn⟩ = 31 - (s + 1) := by show 31 - (32 * g.val + (s + 1)) % 32 = _; omega
    have hc : col ⟨32 * g.val + (s + 1), hn⟩ j = col ⟨32 * g.val, by have := g.isLt; rw [show cfg0.N = 128 from N_0]; omega⟩ j :=
      Fin.ext (by rw [col_val, col_val]; dsimp only; omega)
    rw [hb, hc]
    exact congrArg (fun a : EReal => a + _) (acc12 g j k s (by omega) _)

/-- The last point of a column of blocks. -/
def tl (g : Fin 4) : Fin cfg0.N := ⟨32 * g.val + 31, by have := g.isLt; rw [show cfg0.N = 128 from N_0]; omega⟩

theorem disjoint12 : ∀ t t' : Fin cfg0.N, (cfg0.win 12).flush t = true → (cfg0.win 12).flush t' = true → t ≠ t' →
    Disjoint ((cfg0.win 12).blk t).view.set ((cfg0.win 12).blk t').view.set :=
  fun t t' h h' hne => (cfg0.win 12).disjoint_blk fun e => hne ((by decide +kernel : ∀ t t' : Fin grid0.N,
    (cfg0.win 12).flush t = true → (cfg0.win 12).flush t' = true → win0_12.index t = win0_12.index t' → t = t') t t' h h' e)
theorem f12 : ∀ g : Fin 4, (cfg0.win 12).flush (tl g) = true := by decide +kernel

/-- A sum over all rows, the last block first. -/
theorem sum_rows (f : Nat → EReal) : ∑ u ∈ Finset.range 32, ∑ r : Fin 256, f (256 * (31 - u) + r.val) = ∑ R : Fin 8192, f R.val := by
  rw [Finset.sum_range_reflect (fun u => ∑ r : Fin 256, f (256 * u + r.val)) 32, Finset.sum_range,
    ← Fintype.sum_prod_type' (f := fun (b : Fin 32) (r : Fin 256) => f (256 * b.val + r.val))]
  refine Fintype.sum_equiv (finProdFinEquiv (m := 32) (n := 256)) _ _ fun p => congrArg f ?_
  show 256 * p.1.val + p.2.val = p.2.val + 256 * p.1.val
  omega

theorem arr12 (g : Fin 4) (j : Fin 512) (k : Fin 3) :
    ((dats m 0 c).arrAt 12 cfg0.N : Vec Ideal S3x2048 .f32) (ix2 k (col (tl g) j))
      = ∑ R : Fin 8192, dwTerm (aH m c) (aY m c) (col (tl g) j) k R.val := by
  have h := (dats m 0 c).arrAt_emb_eq_flushed 12 disjoint12 (tl g) (f12 g) (ix2 k j : S3x512.Idx)
  have e : ((cfg0.win 12).blk (tl g)).view.emb (ix2 k j : S3x512.Idx) = (ix2 k (col (tl g) j) : S3x2048.Idx) := by
    blk_ext [e12, col_val]
  rw [e] at h
  refine h.trans ?_
  rw [show (dats m 0 c).flushed 12 (tl g) (ix2 k j : S3x512.Idx) = (dats m 0 c).after 12 (tl g) (ix2 k j : S3x512.Idx) from rfl, after0_12]
  refine (acc12 m c g j k 31 (by decide) (tl g).isLt).trans ?_
  have hc : col ⟨32 * g.val, by have := g.isLt; rw [show cfg0.N = 128 from N_0]; omega⟩ j = col (tl g) j :=
    Fin.ext (by rw [col_val, col_val]; show 512 * (32 * g.val / 32) + j.val = 512 * ((32 * g.val + 31) / 32) + j.val; omega)
  rw [hc]
  exact sum_rows _

end Cert.SconvValue

end
-- ==== Proof.SconvBwd.lean ====
/-
  The short convolution's gradient against the derivative of the convolution over all 8192 rows: the reference at an index,
  and the equation of the five results.
-/
module

public import proofs.«01_k».proof.Defs
public import proofs.«01_k».proof.Proof.Spec
public import proofs.«01_k».proof.Proof.SconvArrays
public import proofs.«01_k».proof.Proof.Gen.SconvBwdReferenceIdeal.Run
public import proofs.«01_k».proof.Proof.Gen.SconvBwdReferenceIdeal.Read
public import Idealize.ShloMosaic.Lib.Pipeline.ValueKit
public import Idealize.ShloMosaic.Lib.Pointwise
public import Idealize.ShloMosaic.Lib.Quiescent

@[expose] public section

set_option maxRecDepth 16384

noncomputable section

namespace Cert.SconvValue

open Cert.Spec Idealize.ShloMosaic Idealize.ShloMosaic.TcCoe Idealize.SL.Sem
open scoped BigOperators

/-! ### The reference -/

section Ref
open Cert.SconvBwdReferenceIdeal Cert.SconvBwdReferenceIdeal.Read
variable (h : Vec Ideal S8192x16384 .f32) (y : Vec Ideal S8192x4096 .f32) (f : Vec Ideal S3x2048 .f32) (R : Fin 8192) (J : Fin 2048)
  (k : Fin 3)

theorem v1_at : val_main_v1 (F := Ideal) h (ix2 R J) = bg h J R := by
  pointwise [val_main_v1, val_main_v0]
  exact congrArg (fun a => h (ix2 R a)) (Fin.ext (by simp [lane]))
theorem v2_at : val_main_v2 (F := Ideal) h (ix2 R J) = cg h J R := by
  pointwise [val_main_v2, val_main_v0]
  exact congrArg (fun a => h (ix2 R a)) (Fin.ext (by simp [lane]))
theorem v3_at : val_main_v3 (F := Ideal) h (ix2 R J) = hx h J R := by
  pointwise [val_main_v3, val_main_v0]
  exact congrArg (fun a => h (ix2 R a)) (Fin.ext (by simp [lane]))
theorem v4_at : val_main_v4 (F := Ideal) h (ix2 R J) = zz h J R := by
  pointwise [val_main_v4, val_main_v0]
  exact congrArg (fun a => h (ix2 R a)) (Fin.ext (by simp [lane]))
theorem v26_at : val_main_v26 (F := Ideal) y (ix2 R J) = dy y J R := by
  pointwise [val_main_v26]
  rfl
theorem s_at : val_main_v5_2 (F := Ideal) h (ix2 R J) = sg (zz h J R) := by
  pointwise [val_main_v5_2, val_main_call0_v4, val_main_call0_v3, val_main_call0_v2, val_main_call0_v1, val_main_call0_v0, val_main_call0_cst, val_main_call0_cst_0]
  rw [v4_at]
  rfl
theorem s1_at : val_main_v5_1 (F := Ideal) h (ix2 R J) = sg (zz h J R) * (1 - sg (zz h J R)) := by
  pointwise [val_main_v5_1, val_main_call0_v7, val_main_call0_v6, val_main_call0_cst_1]
  rw [s_at]
theorem zs_at : val_main_v5_0 (F := Ideal) h (ix2 R J) = zz h J R * sg (zz h J R) := by
  pointwise [val_main_v5_0]
  rw [v4_at, s_at]
theorem v6_at : val_main_v6 (F := Ideal) h (ix2 R J) = cg h J R * hx h J R := by
  pointwise [val_main_v6]
  rw [v2_at, v3_at]
theorem v11_at : val_main_v11 (F := Ideal) h (ix2 R J) = late 2 (chCol h J) R.val := by
  pointwise [val_main_v11, val_main_v8, val_main_v7, val_main_cst]
  rw [late]
  by_cases h2 : R.val < 2
  · exact (dif_pos h2).trans (if_neg (by omega)).symm
  · refine (dif_neg h2).trans ((v6_at h _ J).trans (Eq.trans ?_ (if_pos (by omega)).symm))
    exact (ext_at (fun R => cg h J R * hx h J R) ⟨R.val - 2, by omega⟩).symm
theorem v15_at : val_main_v15 (F := Ideal) h (ix2 R J) = late 1 (chCol h J) R.val := by
  pointwise [val_main_v15, val_main_v8, val_main_v7, val_main_cst]
  rw [late]
  by_cases h2 : 1 + R.val < 2
  · exact (dif_pos h2).trans (if_neg (by omega)).symm
  · refine (dif_neg h2).trans ((v6_at h _ J).trans (Eq.trans ?_ (if_pos (by omega)).symm))
    rw [show R.val - 1 = 1 + R.val - 2 by omega]
    exact (ext_at (fun R => cg h J R * hx h J R) ⟨1 + R.val - 2, by omega⟩).symm
theorem v20_at : val_main_v20 (F := Ideal) h (ix2 R J) = chCol h J R.val := by
  pointwise [val_main_v20, val_main_v8, val_main_v7, val_main_cst]
  rw [v6_at]
  exact (ext_at (fun R => cg h J R * hx h J R) R).symm
theorem v23_at : val_main_v23 (F := Ideal) h f (ix2 R J) = conv h f J R := by
  pointwise [val_main_v23, val_main_v22, val_main_v21, val_main_v19, val_main_v18, val_main_v17, val_main_v16, val_main_v14, val_main_v13, val_main_v12, val_main_v10]
  rw [v11_at, v15_at, v20_at]
  unfold conv convC
  exact (add_comm _ _).trans (by rw [add_comm (_ * _) (_ * late 1 _ _), ← add_assoc]; rfl)
theorem v27_at : val_main_v27 (F := Ideal) h y (ix2 R J) = gated h y J R := by
  pointwise [val_main_v27]
  rw [zs_at, v26_at]
  exact mul_comm _ _
theorem v29_at : val_main_v29 (F := Ideal) h y (ix2 R J) = dCol h y J R.val := by
  pointwise [val_main_v29]
  rw [v1_at, v27_at]
  exact (mul_comm _ _).trans (ext_at (fun R => gated h y J R * bg h J R) R).symm
theorem v57_at : val_main_v57 (F := Ideal) h y f (ix2 R J) = dch h y f J R := by
  pointwise [val_main_v57, val_main_v53, val_main_v52, val_main_v48, val_main_v47, val_main_v44, val_main_v43, val_main_v39, val_main_v38, val_main_v36, val_main_v32, val_main_v31,
    val_main_v10, val_main_v14, val_main_v19, val_main_cst_2, val_main_cst_5, val_main_cst_8]
  have e : ∀ (P : Prop) [Decidable P] (n : Nat) (hn : P → n < 8192) (w : EReal), (P ↔ n < 8192) →
      (if q : P then w * val_main_v29 (F := Ideal) h y (ix2 ⟨n, hn q⟩ J) else (0 : EReal)) = w * dCol h y J n := by
    intro P _ n hn w hP
    by_cases q : P
    · rw [dif_pos q, v29_at]
    · rw [dif_neg q, show dCol h y J n = 0 from dif_neg (fun a => q (hP.mpr a)), mul_zero]
  unfold dch dchC
  rw [v29_at]
  refine congrArg₂ (fun a b : EReal => a + b) (congrArg₂ (fun a b : EReal => a + b) rfl ?_) ?_
  · refine (e _ (2 + R.val - 1) (fun q => q.2) _ (by omega)).trans ?_
    rw [show 2 + R.val - 1 = R.val + 1 by omega]; rfl
  · refine (e _ (2 + R.val) (fun q => q) _ Iff.rfl).trans ?_
    rw [add_comm 2 R.val]; rfl
theorem v55_at : val_main_v55 (F := Ideal) h y (ix2 k J) = ∑ R : Fin 8192, dwTerm h y J k R.val := by
  pointwise [val_main_v55, val_main_v54, val_main_v51, val_main_v50, val_main_v49, val_main_v46, val_main_v45, val_main_v42, val_main_v41, val_main_v40, val_main_v37, val_main_v35,
   val_main_v34, val_main_v33, val_main_cst_1, val_main_cst_3, val_main_cst_4, val_main_cst_6, val_main_cst_7, val_main_cst_9]
  simp only [v29_at, v11_at, v15_at, v20_at]
  fin_cases k <;> simp [dwTerm]
theorem v60_at : val_main_v60 (F := Ideal) h y f (ix2 R J) = dy y J R * (bg h J R * conv h f J R) * sg (zz h J R)
      + zz h J R * (dy y J R * (bg h J R * conv h f J R)) * (sg (zz h J R) * (1 - sg (zz h J R))) := by
  pointwise [val_main_v60, val_main_call1_v0, val_main_call1_v1, val_main_call1_v2, val_main_v28, val_main_v24]
  rw [v4_at, v26_at, v1_at, v23_at, s_at, s1_at]
theorem v63_at : val_main_v63 (F := Ideal) h y f (ix2 R J) = dbg h y f J R := by
  pointwise [val_main_v63, val_main_v62, val_main_v61]
  pointwise [val_main_v30]
  rw [v27_at, v23_at]
  rfl
theorem v64_at : val_main_v64 (F := Ideal) h y f (ix2 R J) = dcg h y f J R := by
  pointwise [val_main_v64, val_main_v62, val_main_v61]
  pointwise [val_main_v59]
  rw [v57_at, v3_at]
  rfl
theorem v65_at : val_main_v65 (F := Ideal) h y f (ix2 R J) = dhx h y f J R := by
  pointwise [val_main_v65, val_main_v62, val_main_v61]
  have hJ := J.isLt
  rw [dif_neg (by omega), dif_neg (by omega), dif_pos (by omega)]
  have e : ∀ a : Fin 2048, a = J → val_main_v58 (F := Ideal) h y f (ix2 R a) = dhx h y f J R := by
    rintro _ rfl
    pointwise [val_main_v58]
    rw [v57_at, v2_at]
    exact mul_comm _ _
  exact e _ (Fin.ext (by dsimp only; omega))
theorem v66_at : val_main_v66 (F := Ideal) h y f (ix2 R J) = dy y J R * (bg h J R * conv h f J R) * sg (zz h J R)
      + zz h J R * (dy y J R * (bg h J R * conv h f J R)) * (sg (zz h J R) * (1 - sg (zz h J R))) := by
  pointwise [val_main_v66, val_main_v62, val_main_v61]
  have hJ := J.isLt
  rw [dif_neg (by omega), dif_neg (by omega), dif_neg (by omega)]
  have e : ∀ a : Fin 2048, a = J → val_main_v60 (F := Ideal) h y f (ix2 R a) = val_main_v60 (F := Ideal) h y f (ix2 R J) := by
    rintro _ rfl; rfl
  exact (e _ (Fin.ext (by dsimp only; omega))).trans (v60_at ..)
end Ref

/-! ### The gate's cotangent, for finite arguments -/

/-- A value that is a real number. -/
def IsReal (x : EReal) : Prop := ∃ r : ℝ, x = r
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.add {x y : EReal} (hx : IsReal x) (hy : IsReal y) : IsReal (x + y) := by
  obtain ⟨a, rfl⟩ := hx; obtain ⟨b, rfl⟩ := hy; exact ⟨a + b, (EReal.coe_add a b).symm⟩

theorem sg_real {z : EReal} (hz : IsReal z) : IsReal (sg z) := by
  obtain ⟨a, rfl⟩ := hz; exact ⟨_, (sg_eq (a : EReal)).symm.trans (Ideal.logistic_coe a)⟩

/-- The product rule of the gate: `z · σ(z)`. -/
theorem gate_rule {y b v z : EReal} (hy : IsReal y) (hb : IsReal b) (hv : IsReal v) (hz : IsReal z) :
    y * b * v * (sg z * (1 + z * (1 - sg z))) = y * (b * v) * sg z + z * (y * (b * v)) * (sg z * (1 - sg z)) := by
  obtain ⟨s, hs⟩ := sg_real hz
  obtain ⟨y, rfl⟩ := hy; obtain ⟨b, rfl⟩ := hb; obtain ⟨v, rfl⟩ := hv; obtain ⟨z, rfl⟩ := hz
  rw [hs]
  have h1 : (1 : EReal) = ((1 : ℝ) : EReal) := rfl
  rw [h1]
  simp only [← EReal.coe_mul, ← EReal.coe_add, ← EReal.coe_sub]
  refine congrArg Real.toEReal ?_
  ring

/-- "The magnitude is less than infinity" says that the value is a real number. -/
theorem real_of_lt {x : EReal} (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  have hx : x ≠ ⊤ ∧ x ≠ ⊥ := by
    constructor <;> rintro rfl <;> simp [Ideal.cmp] at h
  exact ⟨x.toReal, (EReal.coe_toReal hx.1 hx.2).symm⟩

section Finite
variable (h : Vec Ideal Cert.SconvBwdIdeal.S8192x16384 .f32) (y : Vec Ideal Cert.SconvBwdIdeal.S8192x4096 .f32)
  (f : Vec Ideal Cert.SconvBwdIdeal.S3x2048 .f32) (R : Fin 8192) (J : Fin 2048)

theorem conv_real (hh : ∀ i, IsReal (h i)) (hf : ∀ i, IsReal (f i)) : IsReal (conv h f J R) := by
  have hc : ∀ R, IsReal (chCol h J R) := fun R => by
    unfold chCol ext
    split_ifs
    · exact (hh _).mul (hh _)
    · exact ⟨0, rfl⟩
  have hl : ∀ k R, IsReal (late k (chCol h J) R) := fun k R => by
    unfold late
    split_ifs
    · exact hc _
    · exact ⟨0, rfl⟩
  exact (((hf _).mul (hc _)).add ((hf _).mul (hl _ _))).add ((hf _).mul (hl _ _))

theorem dz_ref (hh : ∀ i, IsReal (h i)) (hy : ∀ i, IsReal (y i)) (hf : ∀ i, IsReal (f i)) :
    dz h y f J R = dy y J R * (bg h J R * conv h f J R) * sg (zz h J R)
      + zz h J R * (dy y J R * (bg h J R * conv h f J R)) * (sg (zz h J R) * (1 - sg (zz h J R))) :=
  gate_rule (hy _) (hh _) (conv_real h f R J hh hf) (hh _)
end Finite

/-! ### The equation -/

section Same
open Cert.SconvBwdIdeal Cert.SconvBwdIdeal.Gen Cert.SconvFrame Cert.SconvBwdReferenceIdeal.Read
variable (m : (ℓ : Loc nD τ sig) → Buf (Elt Ideal) ℓ) (c : Dev nD)

theorem row_col (R : Fin 8192) (J : Fin 2048) : ∃ (t : Fin cfg0.N) (r : Fin 256) (j : Fin 512), R = rowT t r ∧ J = col t j := by
  have hR := R.isLt; have hJ := J.isLt
  refine ⟨⟨32 * (J.val / 512) + (31 - R.val / 256), by rw [show cfg0.N = 128 from N_0]; omega⟩, ⟨R.val % 256, Nat.mod_lt _ (by decide)⟩,
    ⟨J.val % 512, Nat.mod_lt _ (by decide)⟩, Fin.ext ?_, Fin.ext ?_⟩
  · rw [rowT_val]; dsimp only; omega
  · rw [col_val]; dsimp only; omega

theorem same0 : ((dats m 0 c).arrAt 8 cfg0.N : Vec Ideal S8192x2048 .bf16) = val_main_v63 (F := Ideal) (aH m c) (aY m c) (aF m c) := by
  funext i
  obtain ⟨R, J, rfl⟩ : ∃ (a : Fin 8192) (b : Fin 2048), i = ix2 a b := ⟨i 0, i 1, eq_ix2 i⟩
  obtain ⟨t, r, j, rfl, rfl⟩ := row_col R J
  exact (arr8 m c t r j).trans (v63_at ..).symm
theorem same1 : ((dats m 0 c).arrAt 9 cfg0.N : Vec Ideal S8192x2048 .bf16) = val_main_v64 (F := Ideal) (aH m c) (aY m c) (aF m c) := by
  funext i
  obtain ⟨R, J, rfl⟩ : ∃ (a : Fin 8192) (b : Fin 2048), i = ix2 a b := ⟨i 0, i 1, eq_ix2 i⟩
  obtain ⟨t, r, j, rfl, rfl⟩ := row_col R J
  exact (arr9 m c t r j).trans (v64_at ..).symm
theorem same2 : ((dats m 0 c).arrAt 10 cfg0.N : Vec Ideal S8192x2048 .bf16) = val_main_v65 (F := Ideal) (aH m c) (aY m c) (aF m c) := by
  funext i
  obtain ⟨R, J, rfl⟩ : ∃ (a : Fin 8192) (b : Fin 2048), i = ix2 a b := ⟨i 0, i 1, eq_ix2 i⟩
  obtain ⟨t, r, j, rfl, rfl⟩ := row_col R J
  exact (arr10 m c t r j).trans (v65_at ..).symm
theorem same3 (hh : ∀ i, IsReal (aH m c i)) (hy : ∀ i, IsReal (aY m c i)) (hf : ∀ i, IsReal (aF m c i)) :
    ((dats m 0 c).arrAt 11 cfg0.N : Vec Ideal S8192x2048 .bf16) = val_main_v66 (F := Ideal) (aH m c) (aY m c) (aF m c) := by
  funext i
  obtain ⟨R, J, rfl⟩ : ∃ (a : Fin 8192) (b : Fin 2048), i = ix2 a b := ⟨i 0, i 1, eq_ix2 i⟩
  obtain ⟨t, r, j, rfl, rfl⟩ := row_col R J
  exact (arr11 m c t r j).trans ((dz_ref _ _ _ _ _ hh hy hf).trans (v66_at ..).symm)
theorem same4 : ((dats m 0 c).arrAt 12 cfg0.N : Vec Ideal S3x2048 .f32) = val_main_v55 (F := Ideal) (aH m c) (aY m c) := by
  funext i
  obtain ⟨k, J, rfl⟩ : ∃ (a : Fin 3) (b : Fin 2048), i = ix2 a b := ⟨i 0, i 1, eq_ix2 i⟩
  obtain ⟨g, j, rfl⟩ : ∃ (g : Fin 4) (j : Fin 512), J = col (tl g) j := by
    have hJ := J.isLt
    refine ⟨⟨J.val / 512, by omega⟩, ⟨J.val % 512, Nat.mod_lt _ (by decide)⟩, Fin.ext ?_⟩
    rw [col_val]; show J.val = 512 * ((32 * (J.val / 512) + 31) / 32) + J.val % 512; omega
  exact (arr12 m c g j k).trans (v55_at ..).symm
end Same

/-- The reference leaves its arguments as they were. -/
theorem frame_reference : Cert.quiescent_SconvBwdReferenceIdeal := fun m ρ _ =>
  (θ_run Cert.SconvBwdReferenceIdeal.defs _ _).mono (fun r h => ⟨fun c => (h c).2.2.2.2.2, sem_eq_zero_of_no_sems (by decide) r.2⟩)
    (Cert.SconvBwdReferenceIdeal.Value.run (F := Ideal) m ρ)

/-- Kernel and reference end with the same five arrays, for finite arguments. -/
theorem algebraic [hP : Cert.Pre_finite.Facts] : Cert.algebraic_SconvBwdIdeal_SconvBwdReferenceIdeal_pre_finite := by
  intro m ρ m' ρ' hp ha
  refine ⟨fun c => (Cert.SconvFrame.dats m 0 c).arrAt 8 Cert.SconvBwdIdeal.cfg0.N, fun c => (Cert.SconvFrame.dats m 0 c).arrAt 9 Cert.SconvBwdIdeal.cfg0.N,
    fun c => (Cert.SconvFrame.dats m 0 c).arrAt 10 Cert.SconvBwdIdeal.cfg0.N, fun c => (Cert.SconvFrame.dats m 0 c).arrAt 11 Cert.SconvBwdIdeal.cfg0.N,
    fun c => (Cert.SconvFrame.dats m 0 c).arrAt 12 Cert.SconvBwdIdeal.cfg0.N,
    Cert.SconvFrame.run_blocks (F := Ideal) m ρ, ?_⟩
  refine (θ_run Cert.SconvBwdReferenceIdeal.defs _ _).mono (fun _ h c => ?_) (Cert.SconvBwdReferenceIdeal.Value.run (F := Ideal) m' ρ')
  obtain ⟨h0, h1, h2, h3, h4, hk⟩ := h c
  obtain ⟨e0, e1, e2⟩ := ha c
  obtain ⟨p0, p1, p2⟩ := hp c
  have hh : ∀ i, IsReal (aH m c i) := fun i => real_of_lt (congrFun p0 i)
  have hy : ∀ i, IsReal (aY m c i) := fun i => real_of_lt (congrFun p1 i)
  have hf : ∀ i, IsReal (aF m c i) := fun i => real_of_lt (congrFun p2 i)
  refine ⟨(h0.trans (Cert.SconvBwdReferenceIdeal.Read.val_main_v63_eq ..)).trans ?_, (h1.trans (Cert.SconvBwdReferenceIdeal.Read.val_main_v64_eq ..)).trans ?_,
    (h2.trans (Cert.SconvBwdReferenceIdeal.Read.val_main_v65_eq ..)).trans ?_, (h3.trans (Cert.SconvBwdReferenceIdeal.Read.val_main_v66_eq ..)).trans ?_,
    (h4.trans (Cert.SconvBwdReferenceIdeal.Read.val_main_v55_eq ..)).trans ?_, hk⟩
  · rw [e0, e1, e2]; exact (same0 m c).symm
  · rw [e0, e1, e2]; exact (same1 m c).symm
  · rw [e0, e1, e2]; exact (same2 m c).symm
  · rw [e0, e1, e2]; exact (same3 m c hh hy hf).symm
  · rw [e0, e1]; exact (same4 m c).symm

/-- For any arguments whatever, all but the gradient of the gate (the fourth result) agree. -/
theorem algebraic_but_dz [hOn : Cert.On_all_but_dz.Facts] : Cert.algebraic_SconvBwdIdeal_SconvBwdReferenceIdeal_on_all_but_dz := by
  intro m ρ m' ρ' _ ha
  refine ⟨fun c => (Cert.SconvFrame.dats m 0 c).arrAt 8 Cert.SconvBwdIdeal.cfg0.N, fun c => (Cert.SconvFrame.dats m 0 c).arrAt 9 Cert.SconvBwdIdeal.cfg0.N,
    fun c => (Cert.SconvFrame.dats m 0 c).arrAt 10 Cert.SconvBwdIdeal.cfg0.N, fun c => (Cert.SconvFrame.dats m 0 c).arrAt 11 Cert.SconvBwdIdeal.cfg0.N,
    fun c => (Cert.SconvFrame.dats m 0 c).arrAt 12 Cert.SconvBwdIdeal.cfg0.N, ?_, ?_⟩
  · exact (θ_run Cert.SconvBwdIdeal.defs _ _).mono (fun _ h c => by
      obtain ⟨h0, h1, h2, h3, h4, hk⟩ := h c
      exact ⟨fun i _ => congrFun h0 i, fun i _ => congrFun h1 i, fun i _ => congrFun h2 i, fun i _ => congrFun h3 i,
        fun i _ => congrFun h4 i, hk⟩) (Cert.SconvFrame.run_blocks (F := Ideal) m ρ)
  · refine (θ_run Cert.SconvBwdReferenceIdeal.defs _ _).mono (fun _ h c => ?_) (Cert.SconvBwdReferenceIdeal.Value.run (F := Ideal) m' ρ')
    obtain ⟨h0, h1, h2, h3, h4, hk⟩ := h c
    obtain ⟨e0, e1, e2⟩ := ha c
    refine ⟨fun i _ => congrFun ((h0.trans (Cert.SconvBwdReferenceIdeal.Read.val_main_v63_eq ..)).trans ?_) i,
      fun i _ => congrFun ((h1.trans (Cert.SconvBwdReferenceIdeal.Read.val_main_v64_eq ..)).trans ?_) i,
      fun i _ => congrFun ((h2.trans (Cert.SconvBwdReferenceIdeal.Read.val_main_v65_eq ..)).trans ?_) i,
      fun i hi => absurd (show (0#1) = 1#1 from hi) (by decide),
      fun i _ => congrFun ((h4.trans (Cert.SconvBwdReferenceIdeal.Read.val_main_v55_eq ..)).trans ?_) i, hk⟩
    · rw [e0, e1, e2]; exact (same0 m c).symm
    · rw [e0, e1, e2]; exact (same1 m c).symm
    · rw [e0, e1, e2]; exact (same2 m c).symm
    · rw [e0, e1]; exact (same4 m c).symm

end Cert.SconvValue

end
-- ==== Proof.Sums.lean ====
/-
  Sums over the contracted axis, taken in blocks of 2048.
-/
module

public import Idealize.ShloMosaic.Lib.Pointwise

@[expose] public section

noncomputable section

namespace Cert.Sums

open scoped BigOperators

/-- Two blocks. -/
theorem split (a b : ℕ) (f : Fin (a + b) → EReal) : ∑ k, f k
    = (∑ k : Fin a, f ⟨k.val, by omega⟩) + ∑ k : Fin b, f ⟨a + k.val, by omega⟩ :=
  Fin.sum_univ_add f

/-- Two blocks of 2048. -/
theorem sum2 (f : Fin 4096 → EReal) : ∑ k, f k
    = (∑ k : Fin 2048, f ⟨k.val, by omega⟩) + ∑ k : Fin 2048, f ⟨2048 + k.val, by omega⟩ :=
  split 2048 2048 f

/-- Four blocks of 2048, added in order. -/
theorem sum4 (f : Fin 8192 → EReal) : ∑ k, f k
    = (((∑ k : Fin 2048, f ⟨k.val, by omega⟩) + ∑ k : Fin 2048, f ⟨2048 + k.val, by omega⟩)
      + ∑ k : Fin 2048, f ⟨4096 + k.val, by omega⟩) + ∑ k : Fin 2048, f ⟨6144 + k.val, by omega⟩ := by
  rw [← split 2048 2048 fun k => f ⟨k.val, by omega⟩, ← split 4096 2048 fun k => f ⟨k.val, by omega⟩]
  exact split 6144 2048 f

end Cert.Sums

end
-- ==== Proof.OutDwFrame.lean ====
/-
  The gradient of the output weights at every grid point, and its run. The body has six guarded parts: for each of the two
  halves of the mixed rows, the first product of an output block, a product added to the accumulator, and the last one, which
  is written out. At any point exactly one of the six runs; the three lemmas below say what it leaves, for both halves at once.
-/
module

public import proofs.«01_k».proof.Proof.Gen.OutDwIdeal.Skeleton
public import proofs.«01_k».proof.Proof.Gen.OutDwIdeal.Frame
public import Idealize.ShloMosaic.Lib.Claim
public import Idealize.ShloMosaic.Lib.Pipeline.Value

@[expose] public section

set_option maxRecDepth 16384

noncomputable section

namespace Cert.OutDwFrame

open Cert.OutDwIdeal Cert.OutDwIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ### The six conditions -/

/-- The output block's rows lie in the half between `lo` and `hi`. -/
abbrev half (i : grid0.Coords) (lo hi : BitVec 32) : BitVec 1 :=
  Scalar.andi (Scalar.cmpi .sge (BitVec.ofNat 32 (i 0).val) lo) (Scalar.cmpi .slt (BitVec.ofNat 32 (i 0).val) hi)
abbrev firstOf (i : grid0.Coords) (lo hi : BitVec 32) : Prop :=
  Scalar.cmpi .ne (Scalar.extui (Scalar.andi (half i lo hi) (Scalar.cmpi .eq (BitVec.ofNat 32 (i 2).val) 0#32))) 0#32 = 1#1
abbrev laterOf (i : grid0.Coords) (lo hi : BitVec 32) : Prop :=
  Scalar.cmpi .ne (Scalar.extui (Scalar.andi (Scalar.andi (half i lo hi) (Scalar.cmpi .sgt (BitVec.ofNat 32 (i 2).val) 0#32))
    (Scalar.cmpi .slt (BitVec.ofNat 32 (i 2).val) 3#32))) 0#32 = 1#1

theorem first_lo : ∀ t : Fin cfg0.N, firstOf (grid0.coords t) 0#32 4#32 ↔ t.val < 32 ∧ t.val % 4 = 0 :=
  (by decide +kernel : ∀ t : Fin grid0.N, firstOf (grid0.coords t) 0#32 4#32 ↔ t.val < 32 ∧ t.val % 4 = 0)
theorem first_hi : ∀ t : Fin cfg0.N, firstOf (grid0.coords t) 4#32 8#32 ↔ ¬t.val < 32 ∧ t.val % 4 = 0 :=
  (by decide +kernel : ∀ t : Fin grid0.N, firstOf (grid0.coords t) 4#32 8#32 ↔ ¬t.val < 32 ∧ t.val % 4 = 0)
theorem later_lo : ∀ t : Fin cfg0.N, laterOf (grid0.coords t) 0#32 4#32 ↔ t.val < 32 ∧ t.val % 4 ≠ 0 ∧ t.val % 4 ≠ 3 :=
  (by decide +kernel : ∀ t : Fin grid0.N, laterOf (grid0.coords t) 0#32 4#32 ↔ t.val < 32 ∧ t.val % 4 ≠ 0 ∧ t.val % 4 ≠ 3)
theorem later_hi : ∀ t : Fin cfg0.N, laterOf (grid0.coords t) 4#32 8#32 ↔ ¬t.val < 32 ∧ t.val % 4 ≠ 0 ∧ t.val % 4 ≠ 3 :=
  (by decide +kernel : ∀ t : Fin grid0.N, laterOf (grid0.coords t) 4#32 8#32 ↔ ¬t.val < 32 ∧ t.val % 4 ≠ 0 ∧ t.val % 4 ≠ 3)
theorem last_lo : ∀ t : Fin cfg0.N, k0_cond3 (grid0.coords t) = 1#1 ↔ t.val < 32 ∧ t.val % 4 = 3 :=
  (by decide +kernel : ∀ t : Fin grid0.N, k0_cond3 (grid0.coords t) = 1#1 ↔ t.val < 32 ∧ t.val % 4 = 3)
theorem last_hi : ∀ t : Fin cfg0.N, k0_cond6 (grid0.coords t) = 1#1 ↔ ¬t.val < 32 ∧ t.val % 4 = 3 :=
  (by decide +kernel : ∀ t : Fin grid0.N, k0_cond6 (grid0.coords t) = 1#1 ↔ ¬t.val < 32 ∧ t.val % 4 = 3)
theorem idle_out : ∀ t : Fin cfg0.N, t.val % 4 ≠ 3 → cfg0.idle 3 (grid0.coords t) = true :=
  (by decide +kernel : ∀ t : Fin grid0.N, t.val % 4 ≠ 3 → cfg0.idle 3 (grid0.coords t) = true)
theorem live_out : ∀ t : Fin cfg0.N, t.val % 4 = 3 → cfg0.idle 3 (grid0.coords t) = false :=
  (by decide +kernel : ∀ t : Fin grid0.N, t.val % 4 = 3 → cfg0.idle 3 (grid0.coords t) = false)

theorem hz2 : (![0, 0] : Fin 2 → Nat) = fun _ => 0 := funext fun a => by fin_cases a <;> rfl
theorem hz4 : (![0, 0, 0, 0] : Fin 4 → Nat) = fun _ => 0 := funext fun a => by fin_cases a <;> rfl

section Run
variable (c : Dev nD) (i : grid0.Coords)
  (a3 : Memref sig .tc .vmem S2048x512 .bf16) (h3 : a3.IsWhole)
  (a4 : Memref sig .tc .vmem S2048x512 .bf16) (h4 : a4.IsWhole)
  (a5 : Memref sig .tc .vmem S2048x1024 .bf16) (h5 : a5.IsWhole)
  (a6 : Memref sig .tc .vmem S1x1x512x1024 .f32) (h6 : a6.IsWhole)
  (a7 : Memref sig .tc .vmem S512x1024 .f32) (h7 : a7.IsWhole)
  (x0 x1 x : Vec F S2048x512 .bf16) (x2 : Vec F S2048x1024 .bf16)

theorem run_first (h : (firstOf i 0#32 4#32 ∧ ¬firstOf i 4#32 8#32 ∧ x = x0) ∨ (¬firstOf i 0#32 4#32 ∧ firstOf i 4#32 8#32 ∧ x = x1))
    (n2 : ¬laterOf i 0#32 4#32) (n3 : ¬k0_cond3 i = 1#1) (n5 : ¬laterOf i 4#32 8#32) (n6 : ¬k0_cond6 i = 1#1)
    (xi : Vec F S1x1x512x1024 .f32) (E : Set ℕ) (K : PUnit → sProp 𝕄) :
    iprop(owns (c : Thread nD τ) a3 fullShare x0 ∗ owns (c : Thread nD τ) a4 fullShare x1 ∗ owns (c : Thread nD τ) a5 fullShare x2
        ∗ owns (c : Thread nD τ) a6 fullShare xi ∗ (∃ d, owns (c : Thread nD τ) a7 fullShare d)
        ∗ (iprop(owns (c : Thread nD τ) a3 fullShare x0 ∗ owns (c : Thread nD τ) a4 fullShare x1 ∗ owns (c : Thread nD τ) a5 fullShare x2
            ∗ owns (c : Thread nD τ) a6 fullShare xi ∗ owns (c : Thread nD τ) a7 fullShare (k0_pay2 x x2)) -∗ K ⟨⟩))
      ⊢ wp frame (wpE (defs₀ (F := F)) Variants.none c none) E (cc0_odd_out_dw i a3 h3 a4 h4 a5 h5 a6 h6 a7 h7) K := by
  simp only [cc0_odd_out_dw_eq_skeleton]; unfold cc0_odd_out_dw_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := h3.eq_unread hf0; obtain rfl := h4.eq_unread hf1; obtain rfl := h5.eq_unread hf2; obtain rfl := h6.eq_unread hf3
  rcases h with ⟨c1, c4, rfl⟩ | ⟨c1, c4, rfl⟩
  all_goals
    sl_exec (disch := first | sl_exact c1 | sl_exact n2 | sl_exact n3 | sl_exact c4 | sl_exact n5 | sl_exact n6)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]
    · iexists _; isplitr; · ipureintro; exact h6.read_unread _
      iexact H3
    iexists _; isplitr
    swap; · iexact HS
    ipureintro
    rw [View.read_writes_eq_canon _ _ _ (View.cover_of_tiledL _ S512x1024.size (by sl_kernel_rfl))]
    sl_unfold_words
    rw [View.canon_unit_zero hz2]
    simp only [View.readAt_eq_ld, h3.read_unread, h4.read_unread, h5.read_unread, View.ld_unit_zero (S := S2048x512) hz2, View.ld_unit_zero (S := S2048x1024) hz2]
    try rfl

theorem run_later (h : (laterOf i 0#32 4#32 ∧ ¬laterOf i 4#32 8#32 ∧ x = x0) ∨ (¬laterOf i 0#32 4#32 ∧ laterOf i 4#32 8#32 ∧ x = x1))
    (n1 : ¬firstOf i 0#32 4#32) (n3 : ¬k0_cond3 i = 1#1) (n4 : ¬firstOf i 4#32 8#32) (n6 : ¬k0_cond6 i = 1#1)
    (xi : Vec F S1x1x512x1024 .f32) (s : Vec F S512x1024 .f32) (E : Set ℕ) (K : PUnit → sProp 𝕄) :
    iprop(owns (c : Thread nD τ) a3 fullShare x0 ∗ owns (c : Thread nD τ) a4 fullShare x1 ∗ owns (c : Thread nD τ) a5 fullShare x2
        ∗ owns (c : Thread nD τ) a6 fullShare xi ∗ owns (c : Thread nD τ) a7 fullShare s
        ∗ (iprop(owns (c : Thread nD τ) a3 fullShare x0 ∗ owns (c : Thread nD τ) a4 fullShare x1 ∗ owns (c : Thread nD τ) a5 fullShare x2
            ∗ owns (c : Thread nD τ) a6 fullShare xi ∗ owns (c : Thread nD τ) a7 fullShare (k0_pay3 s x x2)) -∗ K ⟨⟩))
      ⊢ wp frame (wpE (defs₀ (F := F)) Variants.none c none) E (cc0_odd_out_dw i a3 h3 a4 h4 a5 h5 a6 h6 a7 h7) K := by
  simp only [cc0_odd_out_dw_eq_skeleton]; unfold cc0_odd_out_dw_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := h3.eq_unread hf0; obtain rfl := h4.eq_unread hf1; obtain rfl := h5.eq_unread hf2; obtain rfl := h6.eq_unread hf3
  obtain rfl := h7.eq_unread hfs
  rcases h with ⟨c2, c5, rfl⟩ | ⟨c2, c5, rfl⟩
  all_goals
    sl_exec (disch := first | sl_exact n1 | sl_exact c2 | sl_exact n3 | sl_exact n4 | sl_exact c5 | sl_exact n6)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]
    · iexists _; isplitr; · ipureintro; exact h6.read_unread _
      iexact H3
    iexists _; isplitr
    swap; · iexact HS
    ipureintro
    rw [View.read_writes_eq_canon _ _ _ (View.cover_of_tiledL _ S512x1024.size (by sl_kernel_rfl))]
    sl_unfold_words
    rw [View.canon_unit_zero hz2]
    simp only [View.readAt_eq_ld, h3.read_unread, h4.read_unread, h5.read_unread, h7.read_unread, View.ld_unit_zero (S := S2048x512) hz2,
      View.ld_unit_zero (S := S2048x1024) hz2, View.ld_unit_zero (S := S512x1024) hz2]
    try rfl

theorem run_last (h : (k0_cond3 i = 1#1 ∧ ¬k0_cond6 i = 1#1 ∧ x = x0) ∨ (¬k0_cond3 i = 1#1 ∧ k0_cond6 i = 1#1 ∧ x = x1))
    (n1 : ¬firstOf i 0#32 4#32) (n2 : ¬laterOf i 0#32 4#32) (n4 : ¬firstOf i 4#32 8#32) (n5 : ¬laterOf i 4#32 8#32)
    (s : Vec F S512x1024 .f32) (E : Set ℕ) (K : PUnit → sProp 𝕄) :
    iprop(owns (c : Thread nD τ) a3 fullShare x0 ∗ owns (c : Thread nD τ) a4 fullShare x1 ∗ owns (c : Thread nD τ) a5 fullShare x2
        ∗ (∃ d, owns (c : Thread nD τ) a6 fullShare d) ∗ owns (c : Thread nD τ) a7 fullShare s
        ∗ (iprop(owns (c : Thread nD τ) a3 fullShare x0 ∗ owns (c : Thread nD τ) a4 fullShare x1 ∗ owns (c : Thread nD τ) a5 fullShare x2
            ∗ owns (c : Thread nD τ) a6 fullShare (k0_pay4 s x x2) ∗ owns (c : Thread nD τ) a7 fullShare s) -∗ K ⟨⟩))
      ⊢ wp frame (wpE (defs₀ (F := F)) Variants.none c none) E (cc0_odd_out_dw i a3 h3 a4 h4 a5 h5 a6 h6 a7 h7) K := by
  simp only [cc0_odd_out_dw_eq_skeleton]; unfold cc0_odd_out_dw_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := h3.eq_unread hf0; obtain rfl := h4.eq_unread hf1; obtain rfl := h5.eq_unread hf2; obtain rfl := h7.eq_unread hfs
  rcases h with ⟨c3, c6, rfl⟩ | ⟨c3, c6, rfl⟩
  all_goals
    sl_exec (disch := first | sl_exact n1 | sl_exact n2 | sl_exact c3 | sl_exact n4 | sl_exact n5 | sl_exact c6)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]
    · iexists _; isplitr
      swap; · iexact H3
      ipureintro
      rw [View.read_writes_eq_canon _ _ _ (View.cover_of_tiledL _ S1x1x512x1024.size (by sl_kernel_rfl))]
      sl_unfold_words
      rw [View.canon_unit_zero hz4]
      simp only [View.readAt_eq_ld, h3.read_unread, h4.read_unread, h5.read_unread, h7.read_unread, View.ld_unit_zero (S := S2048x512) hz2,
        View.ld_unit_zero (S := S2048x1024) hz2, View.ld_unit_zero (S := S512x1024) hz2]
      try rfl
    iexists _; isplitr; · ipureintro; exact h7.read_unread _
    iexact HS

end Run

/-! ### What the buffers hold after each point -/

/-- The half that the point reads. -/
def sel (c : Dev nD) (t : Fin cfg0.N) : Vec F S2048x512 .bf16 := if t.val < 32 then iblk m c 0 t else iblk m c 1 t

/-- The accumulator after a point. -/
def accAt (c : Dev nD) : (n : ℕ) → n < cfg0.N → Vec F S512x1024 .f32
  | 0, hn => k0_pay2 (sel m c ⟨0, hn⟩) (iblk m c 2 ⟨0, hn⟩)
  | n + 1, hn =>
    if (n + 1) % 4 = 0 then k0_pay2 (sel m c ⟨n + 1, hn⟩) (iblk m c 2 ⟨n + 1, hn⟩)
    else if (n + 1) % 4 = 3 then accAt c n (Nat.lt_of_succ_lt hn)
    else k0_pay3 (accAt c n (Nat.lt_of_succ_lt hn)) (sel m c ⟨n + 1, hn⟩) (iblk m c 2 ⟨n + 1, hn⟩)

/-- The accumulator before a point that is not the first. -/
abbrev prev (c : Dev nD) (t : Fin cfg0.N) : Vec F S512x1024 .f32 := accAt m c (t.val - 1) (Nat.lt_of_le_of_lt (Nat.sub_le _ _) t.isLt)

theorem acc_first (c : Dev nD) (t : Fin cfg0.N) (h : t.val % 4 = 0) : accAt m c t.val t.isLt = k0_pay2 (sel m c t) (iblk m c 2 t) := by
  obtain ⟨n, hn⟩ := t
  cases n with
  | zero => rfl
  | succ n => exact if_pos h
theorem acc_last (c : Dev nD) (t : Fin cfg0.N) (h : t.val % 4 = 3) : accAt m c t.val t.isLt = prev m c t := by
  obtain ⟨n, hn⟩ := t
  cases n with
  | zero => exact absurd (show 0 % 4 = 3 from h) (by decide)
  | succ n => exact (if_neg (by dsimp only at h; omega)).trans (if_pos h)
theorem acc_later (c : Dev nD) (t : Fin cfg0.N) (h : t.val % 4 ≠ 0) (h' : t.val % 4 ≠ 3) :
    accAt m c t.val t.isLt = k0_pay3 (prev m c t) (sel m c t) (iblk m c 2 t) := by
  obtain ⟨n, hn⟩ := t
  cases n with
  | zero => exact absurd rfl h
  | succ n => exact (if_neg h).trans (if_neg h')

/-- The output block, as its last point writes it (no other point is asked what it leaves there). -/
def outAt (c : Dev nD) (t : Fin cfg0.N) : Vec F S1x1x512x1024 .f32 := k0_pay4 (prev m c t) (sel m c t) (iblk m c 2 t)

/-! ### The pipeline's proof data -/

abbrev scM : Memref sig .tc .vmem S512x1024 .f32 := Memref.whole cc0_scratch0
abbrev ms0 (t : Fin cfg0.N) : Memref sig .tc .vmem S2048x512 .bf16 := win0_0.stage (cfg0.slots t 0)
abbrev ms1 (t : Fin cfg0.N) : Memref sig .tc .vmem S2048x512 .bf16 := win0_1.stage (cfg0.slots t 1)
abbrev ms2 (t : Fin cfg0.N) : Memref sig .tc .vmem S2048x1024 .bf16 := win0_2.stage (cfg0.slots t 2)
abbrev ms3 (t : Fin cfg0.N) : Memref sig .tc .vmem S1x1x512x1024 .f32 := win0_3.stage (cfg0.slots t 3)

theorem PhiA_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

def PhiS (c : Dev nD) : (n : ℕ) → n ≤ cfg0.N → sProp 𝕄
  | 0, _ => Pipeline.ΦA spec0 c
  | n + 1, hn => iprop(owns (c : Thread nD τ) scM fullShare (accAt m c n hn) ∗ (∃ r, prngReg c r))

theorem PhiS_pos (c : Dev nD) (n : ℕ) (h : n ≤ cfg0.N) (hz : n ≠ 0) :
    PhiS m c n h = iprop(owns (c : Thread nD τ) scM fullShare (accAt m c (n - 1) (by omega)) ∗ (∃ r, prngReg c r)) := by
  cases n with
  | zero => exact absurd rfl hz
  | succ n => rfl

/-- Whatever the accumulator holds, it is there. -/
theorem PhiS_any (c : Dev nD) (n : ℕ) (h : n ≤ cfg0.N) : PhiS m c n h ⊢ Pipeline.ΦA spec0 c := by
  cases n with
  | zero => exact Idealize.SL.BI.Entails.refl _
  | succ n =>
    rw [PhiS_pos m c _ _ (Nat.succ_ne_zero n), PhiA_eq]
    iintro ⟨HS, Hg⟩
    isplitl [HS]
    · iexists _; iexact HS
    iexact Hg

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) : (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = outAt m c t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t)

/-- At most one of the two halves' conditions holds, and the half read goes with it. -/
theorem halves (c : Dev nD) (t : Fin cfg0.N) (p q : Prop) (r : Prop) (hr : r) (hp : p ↔ t.val < 32 ∧ r) (hq : q ↔ ¬t.val < 32 ∧ r) :
    (p ∧ ¬q ∧ sel m c t = iblk m c 0 t) ∨ (¬p ∧ q ∧ sel m c t = iblk m c 1 t) := by
  by_cases h : t.val < 32
  · exact .inl ⟨hp.mpr ⟨h, hr⟩, fun e => (hq.mp e).1 h, if_pos h⟩
  · exact .inr ⟨fun e => h (hp.mp e).1, hq.mpr ⟨h, hr⟩, if_neg h⟩

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl,
    show (dats m 0 c).Φ t.succ = iprop(owns (c : Thread nD τ) scM fullShare (accAt m c t.val t.isLt) ∗ (∃ r, prngReg c r)) from rfl,
    show (dats m 0 c).leavesExact 0 t = owns (c : Thread nD τ) (ms0 t) fullShare ((dats m 0 c).after 0 t) from rfl, after_0,
    show (dats m 0 c).leavesExact 1 t = owns (c : Thread nD τ) (ms1 t) fullShare ((dats m 0 c).after 1 t) from rfl, after_1,
    show (dats m 0 c).leavesExact 2 t = owns (c : Thread nD τ) (ms2 t) fullShare ((dats m 0 c).after 2 t) from rfl, after_2, PhiS_castSucc]
  have n1 : t.val % 4 ≠ 0 → ¬firstOf (grid0.coords t) 0#32 4#32 := fun h q => h ((first_lo t).mp q).2
  have n4 : t.val % 4 ≠ 0 → ¬firstOf (grid0.coords t) 4#32 8#32 := fun h q => h ((first_hi t).mp q).2
  have n2 : t.val % 4 = 0 ∨ t.val % 4 = 3 → ¬laterOf (grid0.coords t) 0#32 4#32 := fun h q => by have := (later_lo t).mp q; omega
  have n5 : t.val % 4 = 0 ∨ t.val % 4 = 3 → ¬laterOf (grid0.coords t) 4#32 8#32 := fun h q => by have := (later_hi t).mp q; omega
  have n3 : t.val % 4 ≠ 3 → ¬k0_cond3 (grid0.coords t) = 1#1 := fun h q => h ((last_lo t).mp q).2
  have n6 : t.val % 4 ≠ 3 → ¬k0_cond6 (grid0.coords t) = 1#1 := fun h q => h ((last_hi t).mp q).2
  by_cases h3 : t.val % 4 = 3
  · rw [show (dats m 0 c).leavesExact 3 t = owns (c : Thread nD τ) (ms3 t) fullShare ((dats m 0 c).after 3 t) from by
      unfold Dat.leavesExact; rw [live_out t h3], after_3, PhiS_pos m c _ _ (by omega), acc_last m c t h3]
    iintro ⟨⟨HS, Hg⟩, Ho, ⟨%d0, H0⟩, ⟨%d1, H1⟩, ⟨%d2, H2⟩, ⟨%d3, H3⟩⟩
    iapply (run_last c (grid0.coords t) _ _ _ _ _ _ _ _ _ _ (iblk m c 0 t) (iblk m c 1 t) (sel m c t) (iblk m c 2 t)
      (halves m c t _ _ _ h3 (last_lo t) (last_hi t)) (n1 (by omega)) (n2 (.inr h3)) (n4 (by omega)) (n5 (.inr h3)) (prev m c t) Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hg]
    · isplitl [HS]; · iexact HS
      iexact Hg
    isplitl [Ho]; · iexact Ho
    isplitl [H0]; · iexact H0
    isplitl [H1]; · iexact H1
    isplitl [H2]; · iexact H2
    iexact H3
  · rw [Dat.leavesExact_idle (dats m 0 c) 3 t (idle_out t h3) (Bool.eq_false_iff.mpr fun e => h3 ((flush0_3 t).mp e))]
    by_cases h0 : t.val % 4 = 0
    · refine (BIClass.sep_mono (PhiS_any m c _ _) .rfl).trans ?_
      rw [PhiA_eq, acc_first m c t h0]
      iintro ⟨⟨HS, Hg⟩, Ho, ⟨%d0, H0⟩, ⟨%d1, H1⟩, ⟨%d2, H2⟩, ⟨%d3, H3⟩⟩
      iapply (run_first c (grid0.coords t) _ _ _ _ _ _ _ _ _ _ (iblk m c 0 t) (iblk m c 1 t) (sel m c t) (iblk m c 2 t)
        (halves m c t _ _ _ h0 (first_lo t) (first_hi t)) (n2 (.inl h0)) (n3 h3) (n5 (.inl h0)) (n6 h3) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexists _; iexact H3
    · rw [PhiS_pos m c _ _ (by omega), acc_later m c t h0 h3]
      iintro ⟨⟨HS, Hg⟩, Ho, ⟨%d0, H0⟩, ⟨%d1, H1⟩, ⟨%d2, H2⟩, ⟨%d3, H3⟩⟩
      iapply (run_later c (grid0.coords t) _ _ _ _ _ _ _ _ _ _ (iblk m c 0 t) (iblk m c 1 t) (sel m c t) (iblk m c 2 t)
        (halves m c t _ _ _ ⟨h0, h3⟩ (later_lo t) (later_hi t)) (n1 h0) (n3 h3) (n4 h0) (n6 h3) _ (prev m c t) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexists _; iexact H3

/-! ### The run -/

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl]
  exact PhiS_any m c _ _

set_option backward.isDefEq.respectTransparency.types false in
theorem run_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

theorem run_post : θ_run defs (onTc (τ := τ) (main (F := F))) (s₀ m ρ) (Pipeline.FramePost cfgs (dats m) 0 (V m)) :=
  (θ_run defs _ _).mono (fun _ h => h.1) (run_quiescent m ρ)

/-- The result's array after the run, the arguments as they were. -/
theorem run_blocks : θ_run defs (onTc (τ := τ) (main (F := F))) ⟨m, fun _ => 0, ρ⟩ fun r => ∀ c : Dev nD,
      r.2.mem ((c : Thread nD τ).loc main_v0) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1 3,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_post m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_post m ρ)) ((θ_run defs _ _).mono (fun _ h => h.2) (run_quiescent m ρ))

end Cert.OutDwFrame

end
-- ==== Proof.OutDw.lean ====
/-
  The gradient of the output weights: each block of the result is a product over the 8192 rows, taken 2048 at a time into an
  accumulator; point `t` of the grid belongs to output block `t / 4` and rows `2048 (t % 4) …`. The first eight output blocks
  take their columns from the first half of the mixed rows, the last eight from the second.
-/
module

public import proofs.«01_k».proof.Defs
public import proofs.«01_k».proof.Proof.Sums
public import proofs.«01_k».proof.Proof.OutDwFrame
public import proofs.«01_k».proof.Proof.Gen.OutDw
public import proofs.«01_k».proof.Proof.Gen.OutDwReferenceIdeal.Run
public import proofs.«01_k».proof.Proof.Gen.OutDwReferenceIdeal.Read
public import Idealize.ShloMosaic.Lib.Pipeline.ValueKit

@[expose] public section

set_option maxRecDepth 16384

noncomputable section

namespace Cert.OutDwValue

open Cert.OutDwIdeal Cert.OutDwIdeal.Gen Idealize.ShloMosaic Idealize.ShloMosaic.TcCoe Idealize.SL.Sem
open Cert.OutDwFrame (sel accAt prev outAt dats acc_first acc_later)
open scoped BigOperators

/-! ### The frame over bit patterns: the run of the idealized program, which has the same text -/

/-- The statement of the frame over bit patterns, of the idealized program's text. -/
def FrameBits : Prop := ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
        ∧ r.2.sem = fun _ => 0)

/-- The two programs have the same text, so the two statements are one. -/
theorem same_text : FrameBits = Cert.quiescent_OutDw := by sl_kernel_rfl

theorem frame_kernel : Cert.quiescent_OutDw := same_text.mp fun m ρ _ => Cert.OutDwFrame.frame (F := Bits) m ρ
theorem frame_ideal : Cert.quiescent_OutDwIdeal := fun m ρ _ => Cert.OutDwFrame.frame m ρ

section Payload
variable (x : Vec Ideal S2048x512 .bf16) (w : Vec Ideal S2048x1024 .bf16) (s : Vec Ideal S512x1024 .f32) (r : Fin 512) (j : Fin 1024)

theorem pay2 : k0_pay2 x w (ix2 r j) = ∑ k : Fin 2048, x (ix2 k r) * w (ix2 k j) := by pointwise [k0_pay2]
theorem pay3 : k0_pay3 s x w (ix2 r j) = s (ix2 r j) + ∑ k : Fin 2048, x (ix2 k r) * w (ix2 k j) := by pointwise [k0_pay3]
theorem pay4 : k0_pay4 s x w (ix4 0 0 r j) = s (ix2 r j) + ∑ k : Fin 2048, x (ix2 k r) * w (ix2 k j) := by
  pointwise [k0_pay4]

end Payload

variable (m : (ℓ : Loc nD τ sig) → Buf (Elt Ideal) ℓ) (c : Dev nD)

/-- The mixed rows, entry by entry: the first half's columns, then the second's. -/
def aY (i : Fin 8192) (k : Fin 4096) : EReal :=
  if h : k.val < 2048 then m ((c : Thread nD τ).loc main_arg0) (ix2 i ⟨k.val, h⟩)
  else m ((c : Thread nD τ).loc main_arg1) (ix2 i ⟨k.val - 2048, by omega⟩)
def aD (i : Fin 8192) (j : Fin 2048) : EReal := m ((c : Thread nD τ).loc main_arg2) (ix2 i j)

theorem e0 : ∀ t : Fin cfg0.N, t.val < 32 → win0_0.index t = ![t.val % 4, t.val / 8] := (by decide +kernel : ∀ t : Fin grid0.N, _)
theorem e1 : ∀ t : Fin cfg0.N, ¬t.val < 32 → win0_1.index t = ![t.val % 4, t.val / 8 - 4] := (by decide +kernel : ∀ t : Fin grid0.N, _)
theorem e2 : ∀ t : Fin cfg0.N, win0_2.index t = ![t.val % 4, t.val / 4 % 2] := (by decide +kernel : ∀ t : Fin grid0.N, _)
theorem e3 : ∀ t : Fin cfg0.N, win0_3.index t = ![t.val / 8 % 2, t.val / 16, 0, t.val / 4 % 2] :=
  (by decide +kernel : ∀ t : Fin grid0.N, _)

theorem lt64 (t : Fin cfg0.N) : t.val < 64 := N_0 ▸ t.isLt

/-- Two points that write back write different blocks. -/
theorem disjoint3 (t t' : Fin cfg0.N) (ht : (cfg0.win 3).flush t = true) (ht' : (cfg0.win 3).flush t' = true) (hne : t ≠ t') :
    Disjoint ((cfg0.win 3).blk t).view.set ((cfg0.win 3).blk t').view.set :=
  (cfg0.win 3).disjoint_blk fun h => hne (by
    have hm := (flush0_3 t).mp ht
    have hm' := (flush0_3 t').mp ht'
    have hl := lt64 t
    have hl' := lt64 t'
    have h : win0_3.index t = win0_3.index t' := h
    rw [e3, e3] at h
    have q0 : t.val / 8 % 2 = t'.val / 8 % 2 := congrFun h 0
    have q1 : t.val / 16 = t'.val / 16 := congrFun h 1
    have q3 : t.val / 4 % 2 = t'.val / 4 % 2 := congrFun h 3
    exact Fin.ext (by omega))

theorem blk_half (t : Fin cfg0.N) (k : Fin 2048) (r : Fin 512) :
    sel m c t (ix2 k r) = aY m c ⟨2048 * (t.val % 4) + k.val, by omega⟩ ⟨512 * (t.val / 8) + r.val, by have := lt64 t; omega⟩ := by
  have ht := lt64 t
  unfold sel aY
  by_cases h : t.val < 32
  · rw [if_pos h, dif_pos (by dsimp only; omega)]
    unfold iblk
    blk_simp
    show V m c main_arg0 _ = _
    congr 1
    blk_ext [e0 t h]
  · rw [if_neg h, dif_neg (by dsimp only; omega)]
    unfold iblk
    blk_simp
    show V m c main_arg1 _ = _
    congr 1
    blk_ext [e1 t h]

theorem blk2 (t : Fin cfg0.N) (k : Fin 2048) (j : Fin 1024) :
    (iblk m c 2 t : Vec Ideal S2048x1024 .bf16) (ix2 k j)
      = aD m c ⟨2048 * (t.val % 4) + k.val, by omega⟩ ⟨1024 * (t.val / 4 % 2) + j.val, by omega⟩ := by
  unfold iblk aD
  blk_simp
  show V m c main_arg2 _ = _
  congr 1
  blk_ext [e2]

/-- The product of one block of rows for entry (`r`, `j`) of output block `g`. -/
def term (g : Fin 16) (r : Fin 512) (j : Fin 1024) (b : Fin 4) : EReal :=
  ∑ k : Fin 2048, aY m c ⟨2048 * b.val + k.val, by omega⟩ ⟨512 * (g.val / 2) + r.val, by omega⟩
    * aD m c ⟨2048 * b.val + k.val, by omega⟩ ⟨1024 * (g.val % 2) + j.val, by omega⟩

/-- Point `b` of output block `g`. -/
def pt (g : Fin 16) (b : Fin 4) : Fin cfg0.N := ⟨4 * g.val + b.val, by have : cfg0.N = 64 := N_0; omega⟩

abbrev bD (t : Fin cfg0.N) : Vec Ideal S2048x1024 .bf16 := iblk m c 2 t

theorem prod_at (g : Fin 16) (b : Fin 4) (r : Fin 512) (j : Fin 1024) :
    ∑ k : Fin 2048, sel m c (pt g b) (ix2 k r) * bD m c (pt g b) (ix2 k j) = term m c g r j b := by
  refine Finset.sum_congr rfl fun k _ => ?_
  refine (congrArg₂ (fun a b : EReal => a * b) (blk_half m c (pt g b) k r) (blk2 m c (pt g b) k j)).trans ?_
  refine congrArg₂ (fun a b : EReal => a * b) (congrArg₂ (aY m c) (Fin.ext ?_) (Fin.ext ?_)) (congrArg₂ (aD m c) (Fin.ext ?_) (Fin.ext ?_)) <;>
    dsimp only [pt] <;> omega

/-! ### The accumulator after each of a block's first three points, and the block written at the fourth -/

abbrev acc (g : Fin 16) (b : Fin 4) : Vec Ideal S512x1024 .f32 := accAt m c (pt g b).val (pt g b).isLt

theorem prev_pt (g : Fin 16) (b b' : Fin 4) (h : b.val = b'.val + 1) : prev m c (pt g b) = acc m c g b' := by
  have e : (pt g b).val - 1 = (pt g b').val := by dsimp only [pt]; omega
  unfold prev acc
  congr 1

theorem acc0 (g : Fin 16) (r : Fin 512) (j : Fin 1024) : acc m c g 0 (ix2 r j) = term m c g r j 0 := by
  unfold acc
  rw [acc_first m c (pt g 0) (by dsimp [pt]; omega)]
  exact (pay2 _ _ r j).trans (prod_at m c g 0 r j)

/-- A point that is neither a block's first nor its last adds its product. -/
theorem acc_step (g : Fin 16) (b b' : Fin 4) (h : b.val = b'.val + 1) (h3 : b.val ≠ 3) (r : Fin 512) (j : Fin 1024) :
    acc m c g b (ix2 r j) = acc m c g b' (ix2 r j) + term m c g r j b := by
  unfold acc
  rw [acc_later m c (pt g b) (by dsimp [pt]; omega) (by dsimp [pt]; omega), prev_pt m c g b b' h]
  exact (pay3 _ _ _ r j).trans (congrArg (_ + ·) (prod_at m c g b r j))

theorem out3 (g : Fin 16) (r : Fin 512) (j : Fin 1024) :
    outAt m c (pt g 3) (ix4 0 0 r j) = ((term m c g r j 0 + term m c g r j 1) + term m c g r j 2) + term m c g r j 3 := by
  unfold outAt
  rw [prev_pt m c g 3 2 rfl]
  refine (pay4 _ _ _ r j).trans (congrArg₂ (· + ·) ?_ (prod_at m c g 3 r j))
  rw [acc_step m c g 2 1 rfl (by decide), acc_step m c g 1 0 rfl (by decide), acc0]

/-- The result, entry by entry. -/
theorem arr (d : Fin 2) (s : Fin 4) (p : Fin 512) (q : Fin 2048) :
    ((dats m 0 c).arrAt 3 cfg0.N : Vec Ideal S2x4x512x2048 .f32) (ix4 d s p q)
      = ∑ k : Fin 8192, aY m c k ⟨1024 * s.val + 512 * d.val + p.val, by omega⟩ * aD m c k q := by
  obtain ⟨g, hg⟩ : ∃ g : Fin 16, g.val = 4 * s.val + 2 * d.val + q.val / 1024 := ⟨⟨4 * s.val + 2 * d.val + q.val / 1024, by omega⟩, rfl⟩
  have h := (dats m 0 c).arrAt_emb_eq_flushed 3 (disjoint3) (pt g 3)
    ((Cert.OutDwIdeal.Gen.flush0_3 _).mpr (by dsimp [pt]; omega))
    (ix4 0 0 p ⟨q.val % 1024, by omega⟩ : S1x1x512x1024.Idx)
  have e : ((cfg0.win 3).blk (pt g 3)).view.emb (ix4 0 0 p ⟨q.val % 1024, by omega⟩ : S1x1x512x1024.Idx)
      = (ix4 d s p q : S2x4x512x2048.Idx) := by
    have hp : (pt g 3).val = 4 * g.val + 3 := rfl
    blk_ext [e3, hp]
  rw [e] at h
  refine h.trans ?_
  show (dats m 0 c).after 3 (pt g 3) (ix4 0 0 p ⟨q.val % 1024, by omega⟩) = _
  rw [Cert.OutDwFrame.after_3]
  refine (out3 m c g p ⟨q.val % 1024, by omega⟩).trans ?_
  rw [Cert.Sums.sum4]
  unfold term
  have hx : ∀ k : Fin 8192, ∀ k' : Fin 8192, k.val = k'.val → aY m c k ⟨512 * (g.val / 2) + p.val, by omega⟩
      * aD m c k ⟨1024 * (g.val % 2) + q.val % 1024, by omega⟩
      = aY m c k' ⟨1024 * s.val + 512 * d.val + p.val, by omega⟩ * aD m c k' q := fun k k' hk => by
    obtain rfl := Fin.ext hk
    refine congrArg₂ (· * ·) (congrArg (aY m c k) (Fin.ext ?_)) (congrArg (aD m c k) (Fin.ext ?_)) <;> dsimp only <;> omega
  refine congrArg₂ (· + ·) (congrArg₂ (· + ·) (congrArg₂ (· + ·) ?_ ?_) ?_) ?_ <;>
    exact Finset.sum_congr rfl fun k _ => hx _ _ (by simp)

section Reference
open Cert.OutDwReferenceIdeal.Read

/-- The two halves side by side. -/
theorem cat (y z : Vec Ideal S8192x2048 .bf16) (i : Fin 8192) (k : Fin 4096) :
    val_main_v0 (F := Ideal) y z (ix2 i k) = if h : k.val < 2048 then y (ix2 i ⟨k.val, h⟩) else z (ix2 i ⟨k.val - 2048, by omega⟩) := by
  pointwise [val_main_v0]

/-- What the reference computes of the same arguments. -/
theorem ref (y z x : Vec Ideal S8192x2048 .bf16) (d : Fin 2) (s : Fin 4) (p : Fin 512) (q : Fin 2048) :
    val_main_v8 (F := Ideal) y z x (ix4 d s p q)
      = ∑ k : Fin 8192, val_main_v0 (F := Ideal) y z (ix2 k ⟨1024 * s.val + 512 * d.val + p.val, by omega⟩) * x (ix2 k q) := by
  rw [val_main_v8_apply, val_main_v7_apply, val_main_v6_apply]
  refine (val_main_v5_apply y z x _).trans (Finset.sum_congr rfl fun k _ => ?_)
  rw [val_main_v4_apply, val_main_v2_apply]
  refine (mul_comm _ _).trans ?_
  refine congrArg₂ (· * ·) (congrArg (val_main_v0 (F := Ideal) y z) ?_) (congrArg x ?_) <;> funext a <;> fin_cases a <;>
    first | rfl | exact Fin.ext (by dsimp; omega)

theorem ref_at (d : Fin 2) (s : Fin 4) (p : Fin 512) (q : Fin 2048) :
    val_main_v8 (F := Ideal) (m ((c : Thread nD τ).loc main_arg0)) (m ((c : Thread nD τ).loc main_arg1)) (m ((c : Thread nD τ).loc main_arg2)) (ix4 d s p q)
      = ∑ k : Fin 8192, aY m c k ⟨1024 * s.val + 512 * d.val + p.val, by omega⟩ * aD m c k q :=
  (ref _ _ _ d s p q).trans (Finset.sum_congr rfl fun _ _ => congrArg (fun a : EReal => a * _) (cat _ _ _ _))

theorem same : ((dats m 0 c).arrAt 3 cfg0.N : Vec Ideal S2x4x512x2048 .f32)
    = val_main_v8 (F := Ideal) (m ((c : Thread nD τ).loc main_arg0)) (m ((c : Thread nD τ).loc main_arg1)) (m ((c : Thread nD τ).loc main_arg2)) := by
  funext i
  obtain ⟨d, s, p, q, rfl⟩ : ∃ (a : Fin 2) (b : Fin 4) (d : Fin 512) (e : Fin 2048), i = ix4 a b d e := ⟨i 0, i 1, i 2, i 3, eq_ix4 i⟩
  exact (arr m c d s p q).trans (ref_at m c d s p q).symm

theorem frame_reference : Cert.quiescent_OutDwReferenceIdeal := fun m ρ _ =>
  (θ_run Cert.OutDwReferenceIdeal.defs _ _).mono (fun r h => ⟨fun c => (h c).2, sem_eq_zero_of_no_sems (by decide) r.2⟩)
    (Cert.OutDwReferenceIdeal.Value.run (F := Ideal) m ρ)

/-- Kernel and reference end with the same array. -/
theorem algebraic : Cert.algebraic_OutDwIdeal_OutDwReferenceIdeal := by
  intro m ρ m' ρ' _ ha
  refine ⟨fun c => (dats m 0 c).arrAt 3 cfg0.N, Cert.OutDwFrame.run_blocks (F := Ideal) m ρ, ?_⟩
  refine (θ_run Cert.OutDwReferenceIdeal.defs _ _).mono (fun _ h c => ⟨?_, (h c).2⟩) (Cert.OutDwReferenceIdeal.Value.run (F := Ideal) m' ρ')
  refine (h c).1.trans ((val_main_v8_eq _ _ _).trans ?_)
  rw [(ha c).1, (ha c).2.1, (ha c).2.2]
  exact (same m c).symm

end Reference

end Cert.OutDwValue

end
-- ==== Proof.Body.lean ====
/-
  What the kernel's body computes from the contents of its eight input blocks — the chunk's columns `x0` (u), `x1` (v),
  `x2` (z), its cotangent `x3`, the layer norm's scale `x4` and shift `x5`, the mixing matrices `x6` and their biases
  `x7` —, as compositions of the body's payloads, and each of them read at an index: the specification's functions.
-/
module

public import proofs.«01_k».proof.Proof.Spec
public import proofs.«01_k».proof.Proof.Gen.KernelIdeal.Skeleton

@[expose] public section

set_option maxRecDepth 16384

noncomputable section

namespace Cert.KernelIdeal.Body

open Cert.KernelIdeal Cert.KernelIdeal.Gen Idealize.ShloMosaic Cert.Spec

section Defs

variable {F : FTy → Type} [FloatOps F]
variable (x0 x1 x2 x3 : Vec F S128x2048 .f32) (x4 x5 : Vec F S1x2048 .f32) (x6 : Vec F S8x128x128 .f32) (x7 : Vec F S128x8 .f32)

/-- The normalised chunk. -/
def lnP : FVec F S128x2048 .f32 := k0_pay12 x5 (k0_pay10 x1) (k0_pay11 x4)

/-- The cotangent of the first column group. -/
def duP : FVec F S128x2048 .f32 :=
  k0_pay39 (k0_pay4 x6) x2 (k0_pay5 x7) (lnP x1 x4 x5)
    (k0_pay15 (k0_pay4 x6) x5 (k0_pay5 x7) (k0_pay10 x1) (k0_pay11 x4))
    (k0_pay18 (k0_pay4 x6) x5 (k0_pay5 x7) (k0_pay10 x1) (k0_pay11 x4))
    (k0_pay21 (k0_pay4 x6) x5 (k0_pay5 x7) (k0_pay10 x1) (k0_pay11 x4))
    (k0_pay24 (k0_pay4 x6) x5 (k0_pay5 x7) (k0_pay10 x1) (k0_pay11 x4))
    (k0_pay27 (k0_pay4 x6) x5 (k0_pay5 x7) (k0_pay10 x1) (k0_pay11 x4))
    (k0_pay30 (k0_pay4 x6) x5 (k0_pay10 x1) (k0_pay11 x4)) x3

/-- The cotangent of the third. -/
def dzP : FVec F S128x2048 .f32 :=
  k0_pay48 (k0_pay4 x6) x0 x2 (k0_pay5 x7) (lnP x1 x4 x5)
    (k0_pay15 (k0_pay4 x6) x5 (k0_pay5 x7) (k0_pay10 x1) (k0_pay11 x4))
    (k0_pay18 (k0_pay4 x6) x5 (k0_pay5 x7) (k0_pay10 x1) (k0_pay11 x4))
    (k0_pay21 (k0_pay4 x6) x5 (k0_pay5 x7) (k0_pay10 x1) (k0_pay11 x4))
    (k0_pay24 (k0_pay4 x6) x5 (k0_pay5 x7) (k0_pay10 x1) (k0_pay11 x4))
    (k0_pay27 (k0_pay4 x6) x5 (k0_pay5 x7) (k0_pay10 x1) (k0_pay11 x4))
    (k0_pay30 (k0_pay4 x6) x5 (k0_pay10 x1) (k0_pay11 x4)) x3

/-- The cotangent of the normalised chunk before its last two groups are added, and the second group's. -/
def accP : FVec F S128x2048 .f32 :=
  k0_pay61 (k0_pay19 (k0_pay4 x6)) (k0_pay42 x0 x2 x3)
    (k0_pay56 (k0_pay25 (k0_pay4 x6)) (k0_pay44 x0 x2 x3)
      (k0_pay51 (k0_pay31 (k0_pay4 x6)) (k0_pay46 x0 x2 x3) (k0_pay50 (k0_pay4 x6) x0 x2 x3))
      (k0_pay55 (k0_pay28 (k0_pay4 x6)) (k0_pay45 x0 x2 x3)))
    (k0_pay59 (k0_pay22 (k0_pay4 x6)) (k0_pay43 x0 x2 x3))
def nextP : FVec F S128x256 .bf16 := k0_pay64 (k0_pay16 (k0_pay4 x6)) (k0_pay41 x0 x2 x3)

/-- The cotangent of the second column group, as stored. -/
def dvP : FVec F S128x2048 .bf16 :=
  k0_pay74 (k0_pay6 x1)
    (k0_pay71 x4 (k0_pay8 x1) (k0_pay13 (k0_pay4 x6)) (k0_pay40 x0 x2 x3) (accP x0 x2 x3 x6) (nextP x0 x2 x3 x6))
    (k0_pay72 x4 (k0_pay6 x1) (k0_pay9 x1) (k0_pay13 (k0_pay4 x6)) (k0_pay40 x0 x2 x3) (accP x0 x2 x3 x6) (nextP x0 x2 x3 x6))
    (Scalar.ofBits .f32 0x45000000#32)

/-- The chunk's terms of the scale's and the shift's gradients. -/
def dgP : FVec F S1x2048 .f32 :=
  k0_pay69 (k0_pay10 x1) (k0_pay13 (k0_pay4 x6)) (k0_pay40 x0 x2 x3) (accP x0 x2 x3 x6) (nextP x0 x2 x3 x6)
def dbP : FVec F S1x2048 .f32 :=
  k0_pay68 (k0_pay13 (k0_pay4 x6)) (k0_pay40 x0 x2 x3) (accP x0 x2 x3 x6) (nextP x0 x2 x3 x6)

/-- The chunk's terms of the mixing matrices' gradients, whole, and of their biases'. -/
def dWP : FVec F S8x128x128 .f32 :=
  k0_pay67 (k0_pay14 x5 (k0_pay10 x1) (k0_pay11 x4)) (k0_pay17 x5 (k0_pay10 x1) (k0_pay11 x4)) (k0_pay40 x0 x2 x3) (k0_pay41 x0 x2 x3)
    (k0_pay62 (k0_pay20 x5 (k0_pay10 x1) (k0_pay11 x4)) (k0_pay42 x0 x2 x3)
      (k0_pay57 (k0_pay26 x5 (k0_pay10 x1) (k0_pay11 x4)) (k0_pay44 x0 x2 x3)
        (k0_pay52 (k0_pay32 (lnP x1 x4 x5)) (k0_pay34 (lnP x1 x4 x5)) (k0_pay46 x0 x2 x3) (k0_pay47 x0 x2 x3))
        (k0_pay54 (k0_pay29 x5 (k0_pay10 x1) (k0_pay11 x4)) (k0_pay45 x0 x2 x3)))
      (k0_pay60 (k0_pay23 x5 (k0_pay10 x1) (k0_pay11 x4)) (k0_pay43 x0 x2 x3)))
def dBP : FVec F S128x8 .f32 :=
  k0_pay65 (k0_pay40 x0 x2 x3)
    (k0_pay63 (k0_pay41 x0 x2 x3) (k0_pay42 x0 x2 x3)
      (k0_pay58 (k0_pay43 x0 x2 x3) (k0_pay44 x0 x2 x3)
        (k0_pay53 (k0_pay45 x0 x2 x3) (k0_pay46 x0 x2 x3) (k0_pay49 x0 x2 x3))))

end Defs

/-! ### The contents by plain indices -/

/-- A block of 128 rows, a single row, the eight matrices and their biases. -/
abbrev chunk (x : Vec Ideal S128x2048 .f32) : Chunk := fun t j => x (ix2 t j)
abbrev row (x : Vec Ideal S1x2048 .f32) : Row := fun j => x (ix2 0 j)
abbrev mats (x : Vec Ideal S8x128x128 .f32) : Fin 8 → Fin 128 → Fin 128 → EReal := fun k t s => x (ix3 k t s)
abbrev bias (x : Vec Ideal S128x8 .f32) : Fin 128 → Fin 8 → EReal := fun t k => x (ix2 t k)

variable (x0 x1 x2 x3 : Vec Ideal S128x2048 .f32) (x4 x5 : Vec Ideal S1x2048 .f32) (x6 : Vec Ideal S8x128x128 .f32) (x7 : Vec Ideal S128x8 .f32)

/-! ### The layer norm and the mask -/

theorem cen_at (t : Fin 128) (j : Fin 2048) : k0_pay6 x1 (ix2 t j) = cen (chunk x1 t) j := by
  pointwise [k0_pay6]
  rfl

theorem var_at (t : Fin 128) : k0_pay7 x1 (ix2 t 0) = var (chunk x1 t) := by
  pointwise [k0_pay7]
  simp only [cen_at]
  rfl

theorem rs_at (t : Fin 128) : k0_pay8 x1 (ix2 t 0) = rs (chunk x1 t) := by
  pointwise [k0_pay8]
  simp only [var_at]
  rfl

theorem drs_at (t : Fin 128) : k0_pay9 x1 (ix2 t 0) = drs (chunk x1 t) := by
  pointwise [k0_pay9]
  simp only [var_at, rs_at]
  rfl

theorem nrm_at (t : Fin 128) (j : Fin 2048) : k0_pay10 x1 (ix2 t j) = nrm (chunk x1 t) j := by
  pointwise [k0_pay10]
  simp only [cen_at, rs_at]
  rfl

theorem ln_at (t : Fin 128) (j : Fin 2048) :
    k0_pay12 x5 (k0_pay10 x1) (k0_pay11 x4) (ix2 t j) = ln (row x4) (row x5) (chunk x1 t) j := by
  pointwise [k0_pay12, k0_pay11]
  simp only [nrm_at]
  rfl

/-- "Row at least column" on the words of two indices below 128. -/
theorem sge_word (t s : Fin 128) (a b : EReal) :
    Scalar.select (IntOp.cmpi .sge (BitVec.ofNat 32 t.val) (BitVec.ofNat 32 s.val)) a b = if s.val ≤ t.val then a else b := by
  have h : (BitVec.ofNat 32 s.val).sle (BitVec.ofNat 32 t.val) = decide (s.val ≤ t.val) := by
    have := t.isLt; have := s.isLt
    rw [BitVec.sle_eq_decide, decide_eq_decide, BitVec.toInt_eq_toNat_of_lt, BitVec.toInt_eq_toNat_of_lt] <;>
      simp only [BitVec.toNat_ofNat] <;> omega
  by_cases hst : s.val ≤ t.val
  · simp [Scalar.select, IntOp.cmpi, h, hst]
  · simp [Scalar.select, IntOp.cmpi, h, hst]

theorem low_at (k : Fin 8) (t s : Fin 128) : k0_pay4 x6 (ix3 k t s) = low (mats x6) k t s := by
  pointwise [k0_pay4, k0_pay3]
  rw [sge_word]
  rfl

/-! ### The gate -/

theorem gy_at (t : Fin 128) (j : Fin 2048) : k0_pay37 x2 x3 (ix2 t j) = gy (chunk x2) (chunk x3) t j := by
  pointwise [k0_pay37, k0_pay35]
  rfl

theorem dmix_at (t : Fin 128) (j : Fin 2048) : k0_pay38 x0 x2 x3 (ix2 t j) = dmix (chunk x0) (chunk x2) (chunk x3) t j := by
  pointwise [k0_pay38]
  rw [gy_at]
  rfl

/-! ### The mixing, one group at a time -/

/-- A column of group `k`, as a number. -/
theorem grp_eq {j : Fin 2048} {k : Fin 8} (h : j.val / 256 = k.val) : grp j = k := Fin.ext h

theorem groups (j : Fin 2048) : j.val / 256 = 0 ∨ j.val / 256 = 1 ∨ j.val / 256 = 2 ∨ j.val / 256 = 3 ∨ j.val / 256 = 4
    ∨ j.val / 256 = 5 ∨ j.val / 256 = 6 ∨ j.val / 256 = 7 := by have := j.isLt; omega

/-- Column `d` of the slice that starts at `o` is column `o + d`. -/
theorem at_col (x : FVec Ideal S128x2048 .f32) (t : Fin 128) (j j' : Fin 2048) (h : j.val = j'.val) : x (ix2 t j) = x (ix2 t j') :=
  congrArg (fun i => x (ix2 t i)) (Fin.ext h)

theorem mix0 (v9 : FVec Ideal S8x128x128 .f32) (v14 : Vec Ideal S1x2048 .f32) (v16 : FVec Ideal S128x8 .f32) (v35 v36 : FVec Ideal S128x2048 .f32)
    (t : Fin 128) (d : Fin 256) (j : Fin 2048) (h : j.val = 0 + d.val) :
    k0_pay15 v9 v14 v16 v35 v36 (ix2 t d) = ∑ s, v9 (ix3 0 t s) * k0_pay12 v14 v35 v36 (ix2 s j) + v16 (ix2 t 0) := by
  obtain rfl : j = ⟨0 + d.val, Nat.lt_of_lt_of_le (Nat.add_lt_add_left d.isLt _) (by decide)⟩ := Fin.ext h
  pointwise [k0_pay15, k0_pay13, k0_pay14]

theorem mix1 (v9 : FVec Ideal S8x128x128 .f32) (v14 : Vec Ideal S1x2048 .f32) (v16 : FVec Ideal S128x8 .f32) (v35 v36 : FVec Ideal S128x2048 .f32)
    (t : Fin 128) (d : Fin 256) (j : Fin 2048) (h : j.val = 256 + d.val) :
    k0_pay18 v9 v14 v16 v35 v36 (ix2 t d) = ∑ s, v9 (ix3 1 t s) * k0_pay12 v14 v35 v36 (ix2 s j) + v16 (ix2 t 1) := by
  obtain rfl : j = ⟨256 + d.val, Nat.lt_of_lt_of_le (Nat.add_lt_add_left d.isLt _) (by decide)⟩ := Fin.ext h
  pointwise [k0_pay18, k0_pay16, k0_pay17]

theorem mix2 (v9 : FVec Ideal S8x128x128 .f32) (v14 : Vec Ideal S1x2048 .f32) (v16 : FVec Ideal S128x8 .f32) (v35 v36 : FVec Ideal S128x2048 .f32)
    (t : Fin 128) (d : Fin 256) (j : Fin 2048) (h : j.val = 512 + d.val) :
    k0_pay21 v9 v14 v16 v35 v36 (ix2 t d) = ∑ s, v9 (ix3 2 t s) * k0_pay12 v14 v35 v36 (ix2 s j) + v16 (ix2 t 2) := by
  obtain rfl : j = ⟨512 + d.val, Nat.lt_of_lt_of_le (Nat.add_lt_add_left d.isLt _) (by decide)⟩ := Fin.ext h
  pointwise [k0_pay21, k0_pay19, k0_pay20]

theorem mix3 (v9 : FVec Ideal S8x128x128 .f32) (v14 : Vec Ideal S1x2048 .f32) (v16 : FVec Ideal S128x8 .f32) (v35 v36 : FVec Ideal S128x2048 .f32)
    (t : Fin 128) (d : Fin 256) (j : Fin 2048) (h : j.val = 768 + d.val) :
    k0_pay24 v9 v14 v16 v35 v36 (ix2 t d) = ∑ s, v9 (ix3 3 t s) * k0_pay12 v14 v35 v36 (ix2 s j) + v16 (ix2 t 3) := by
  obtain rfl : j = ⟨768 + d.val, Nat.lt_of_lt_of_le (Nat.add_lt_add_left d.isLt _) (by decide)⟩ := Fin.ext h
  pointwise [k0_pay24, k0_pay22, k0_pay23]

theorem mix4 (v9 : FVec Ideal S8x128x128 .f32) (v14 : Vec Ideal S1x2048 .f32) (v16 : FVec Ideal S128x8 .f32) (v35 v36 : FVec Ideal S128x2048 .f32)
    (t : Fin 128) (d : Fin 256) (j : Fin 2048) (h : j.val = 1024 + d.val) :
    k0_pay27 v9 v14 v16 v35 v36 (ix2 t d) = ∑ s, v9 (ix3 4 t s) * k0_pay12 v14 v35 v36 (ix2 s j) + v16 (ix2 t 4) := by
  obtain rfl : j = ⟨1024 + d.val, Nat.lt_of_lt_of_le (Nat.add_lt_add_left d.isLt _) (by decide)⟩ := Fin.ext h
  pointwise [k0_pay27, k0_pay25, k0_pay26]

theorem mix5 (v9 : FVec Ideal S8x128x128 .f32) (v14 : Vec Ideal S1x2048 .f32) (v35 v36 : FVec Ideal S128x2048 .f32)
    (t : Fin 128) (d : Fin 256) (j : Fin 2048) (h : j.val = 1280 + d.val) :
    k0_pay30 v9 v14 v35 v36 (ix2 t d) = ∑ s, v9 (ix3 5 t s) * k0_pay12 v14 v35 v36 (ix2 s j) := by
  obtain rfl : j = ⟨1280 + d.val, Nat.lt_of_lt_of_le (Nat.add_lt_add_left d.isLt _) (by decide)⟩ := Fin.ext h
  pointwise [k0_pay30, k0_pay28, k0_pay29]

theorem mix_at (t : Fin 128) (j : Fin 2048) :
    k0_pay36 (k0_pay4 x6) (k0_pay5 x7) (lnP x1 x4 x5)
      (k0_pay15 (k0_pay4 x6) x5 (k0_pay5 x7) (k0_pay10 x1) (k0_pay11 x4))
      (k0_pay18 (k0_pay4 x6) x5 (k0_pay5 x7) (k0_pay10 x1) (k0_pay11 x4))
      (k0_pay21 (k0_pay4 x6) x5 (k0_pay5 x7) (k0_pay10 x1) (k0_pay11 x4))
      (k0_pay24 (k0_pay4 x6) x5 (k0_pay5 x7) (k0_pay10 x1) (k0_pay11 x4))
      (k0_pay27 (k0_pay4 x6) x5 (k0_pay5 x7) (k0_pay10 x1) (k0_pay11 x4))
      (k0_pay30 (k0_pay4 x6) x5 (k0_pay10 x1) (k0_pay11 x4)) (ix2 t j)
    = mix (row x4) (row x5) (chunk x1) (mats x6) (bias x7) t j := by
  have hB : ∀ (t : Fin 128) (k : Fin 8), k0_pay5 x7 (ix2 t k) = bias x7 t k := fun t k => by pointwise [k0_pay5]
  have hj := j.isLt
  pointwise [k0_pay36, k0_pay33, k0_pay34, k0_pay31, k0_pay32]
  unfold mix lnP
  obtain h | h | h | h | h | h | h | h := groups j
  · simp (disch := omega) only [dif_pos, dif_neg]
    rw [grp_eq (k := 0) h, mix0 _ _ _ _ _ _ _ j (by dsimp only; omega)]; simp only [ln_at, low_at, hB]
  · simp (disch := omega) only [dif_pos, dif_neg]
    rw [grp_eq (k := 1) h, mix1 _ _ _ _ _ _ _ j (by dsimp only; omega)]; simp only [ln_at, low_at, hB]
  · simp (disch := omega) only [dif_pos, dif_neg]
    rw [grp_eq (k := 2) h, mix2 _ _ _ _ _ _ _ j (by dsimp only; omega)]; simp only [ln_at, low_at, hB]
  · simp (disch := omega) only [dif_pos, dif_neg]
    rw [grp_eq (k := 3) h, mix3 _ _ _ _ _ _ _ j (by dsimp only; omega)]; simp only [ln_at, low_at, hB]
  · simp (disch := omega) only [dif_pos, dif_neg]
    rw [grp_eq (k := 4) h, mix4 _ _ _ _ _ _ _ j (by dsimp only; omega)]; simp only [ln_at, low_at, hB]
  · simp (disch := omega) only [dif_pos, dif_neg]
    rw [grp_eq (k := 5) h, mix5 _ _ _ _ _ _ j (by dsimp only; omega)]; simp only [ln_at, low_at, hB]
  · simp (disch := omega) only [dif_pos, dif_neg]
    rw [grp_eq (k := 6) h]; simp only [ln_at, low_at, hB]
    exact congrArg (· + _) (Finset.sum_congr rfl fun s _ => congrArg (fun i => _ * ln _ _ _ i) (Fin.ext (by dsimp only; omega)))
  · simp (disch := omega) only [dif_pos, dif_neg]
    rw [grp_eq (k := 7) h]; simp only [ln_at, low_at, hB]
    exact congrArg (· + _) (Finset.sum_congr rfl fun s _ => congrArg (fun i => _ * ln _ _ _ i) (Fin.ext (by dsimp only; omega)))

theorem du_at (t : Fin 128) (j : Fin 2048) :
    duP x1 x2 x3 x4 x5 x6 x7 (ix2 t j) = du (row x4) (row x5) (chunk x1) (chunk x2) (chunk x3) (mats x6) (bias x7) t j := by
  pointwise [duP, k0_pay39]
  rw [gy_at, mix_at]
  rfl

theorem dz_at (t : Fin 128) (j : Fin 2048) :
    dzP x0 x1 x2 x3 x4 x5 x6 x7 (ix2 t j)
      = dz (row x4) (row x5) (chunk x0) (chunk x1) (chunk x2) (chunk x3) (mats x6) (bias x7) t j := by
  pointwise [dzP, k0_pay48, k0_pay35]
  rw [mix_at]
  rfl

/-! ### The gradients of the mixing -/

theorem dmix0 (t : Fin 128) (d : Fin 256) (j : Fin 2048) (h : j.val = 0 + d.val) :
    k0_pay40 x0 x2 x3 (ix2 t d) = dmix (chunk x0) (chunk x2) (chunk x3) t j := by
  obtain rfl : j = ⟨0 + d.val, Nat.lt_of_lt_of_le (Nat.add_lt_add_left d.isLt _) (by decide)⟩ := Fin.ext h
  pointwise [k0_pay40]
  rw [dmix_at]

theorem dmix1 (t : Fin 128) (d : Fin 256) (j : Fin 2048) (h : j.val = 256 + d.val) :
    k0_pay41 x0 x2 x3 (ix2 t d) = dmix (chunk x0) (chunk x2) (chunk x3) t j := by
  obtain rfl : j = ⟨256 + d.val, Nat.lt_of_lt_of_le (Nat.add_lt_add_left d.isLt _) (by decide)⟩ := Fin.ext h
  pointwise [k0_pay41]
  rw [dmix_at]

theorem dmix2 (t : Fin 128) (d : Fin 256) (j : Fin 2048) (h : j.val = 512 + d.val) :
    k0_pay42 x0 x2 x3 (ix2 t d) = dmix (chunk x0) (chunk x2) (chunk x3) t j := by
  obtain rfl : j = ⟨512 + d.val, Nat.lt_of_lt_of_le (Nat.add_lt_add_left d.isLt _) (by decide)⟩ := Fin.ext h
  pointwise [k0_pay42]
  rw [dmix_at]

theorem dmix3 (t : Fin 128) (d : Fin 256) (j : Fin 2048) (h : j.val = 768 + d.val) :
    k0_pay43 x0 x2 x3 (ix2 t d) = dmix (chunk x0) (chunk x2) (chunk x3) t j := by
  obtain rfl : j = ⟨768 + d.val, Nat.lt_of_lt_of_le (Nat.add_lt_add_left d.isLt _) (by decide)⟩ := Fin.ext h
  pointwise [k0_pay43]
  rw [dmix_at]

theorem dmix4 (t : Fin 128) (d : Fin 256) (j : Fin 2048) (h : j.val = 1024 + d.val) :
    k0_pay44 x0 x2 x3 (ix2 t d) = dmix (chunk x0) (chunk x2) (chunk x3) t j := by
  obtain rfl : j = ⟨1024 + d.val, Nat.lt_of_lt_of_le (Nat.add_lt_add_left d.isLt _) (by decide)⟩ := Fin.ext h
  pointwise [k0_pay44]
  rw [dmix_at]

theorem dmix5 (t : Fin 128) (d : Fin 256) (j : Fin 2048) (h : j.val = 1280 + d.val) :
    k0_pay45 x0 x2 x3 (ix2 t d) = dmix (chunk x0) (chunk x2) (chunk x3) t j := by
  obtain rfl : j = ⟨1280 + d.val, Nat.lt_of_lt_of_le (Nat.add_lt_add_left d.isLt _) (by decide)⟩ := Fin.ext h
  pointwise [k0_pay45]
  rw [dmix_at]

theorem dmix6 (t : Fin 128) (d : Fin 256) (j : Fin 2048) (h : j.val = 1536 + d.val) :
    k0_pay46 x0 x2 x3 (ix2 t d) = dmix (chunk x0) (chunk x2) (chunk x3) t j := by
  obtain rfl : j = ⟨1536 + d.val, Nat.lt_of_lt_of_le (Nat.add_lt_add_left d.isLt _) (by decide)⟩ := Fin.ext h
  pointwise [k0_pay46]
  rw [dmix_at]

theorem dmix7 (t : Fin 128) (d : Fin 256) (j : Fin 2048) (h : j.val = 1792 + d.val) :
    k0_pay47 x0 x2 x3 (ix2 t d) = dmix (chunk x0) (chunk x2) (chunk x3) t j := by
  obtain rfl : j = ⟨1792 + d.val, Nat.lt_of_lt_of_le (Nat.add_lt_add_left d.isLt _) (by decide)⟩ := Fin.ext h
  pointwise [k0_pay47]
  rw [dmix_at]

theorem dln_at (s : Fin 128) (j : Fin 2048) :
    k0_pay66 (k0_pay13 (k0_pay4 x6)) (k0_pay40 x0 x2 x3) (accP x0 x2 x3 x6) (nextP x0 x2 x3 x6) (ix2 s j)
      = dln (chunk x0) (chunk x2) (chunk x3) (mats x6) s j := by
  have hj := j.isLt
  pointwise [k0_pay66, accP, nextP, k0_pay61, k0_pay56, k0_pay51, k0_pay55, k0_pay59, k0_pay64, k0_pay50,
    k0_pay13, k0_pay16, k0_pay19, k0_pay22, k0_pay25, k0_pay28, k0_pay31, k0_pay33]
  unfold dln
  obtain h | h | h | h | h | h | h | h := groups j
  · simp (disch := omega) only [dif_pos, dif_neg, zero_add, add_zero]
    rw [grp_eq (k := 0) h]
    exact Finset.sum_congr rfl fun t _ => congrArg₂ (· * ·) (dmix0 _ _ _ _ _ j (by dsimp only; omega)) (low_at ..)
  · simp (disch := omega) only [dif_pos, dif_neg, zero_add, add_zero]
    rw [grp_eq (k := 1) h]
    exact Finset.sum_congr rfl fun t _ => congrArg₂ (· * ·) (dmix1 _ _ _ _ _ j (by dsimp only; omega)) (low_at ..)
  · simp (disch := omega) only [dif_pos, dif_neg, zero_add, add_zero]
    rw [grp_eq (k := 2) h]
    exact Finset.sum_congr rfl fun t _ => congrArg₂ (· * ·) (dmix2 _ _ _ _ _ j (by dsimp only; omega)) (low_at ..)
  · simp (disch := omega) only [dif_pos, dif_neg, zero_add, add_zero]
    rw [grp_eq (k := 3) h]
    exact Finset.sum_congr rfl fun t _ => congrArg₂ (· * ·) (dmix3 _ _ _ _ _ j (by dsimp only; omega)) (low_at ..)
  · simp (disch := omega) only [dif_pos, dif_neg, zero_add, add_zero]
    rw [grp_eq (k := 4) h]
    exact Finset.sum_congr rfl fun t _ => congrArg₂ (· * ·) (dmix4 _ _ _ _ _ j (by dsimp only; omega)) (low_at ..)
  · simp (disch := omega) only [dif_pos, dif_neg, zero_add, add_zero]
    rw [grp_eq (k := 5) h]
    exact Finset.sum_congr rfl fun t _ => congrArg₂ (· * ·) (dmix5 _ _ _ _ _ j (by dsimp only; omega)) (low_at ..)
  · simp (disch := omega) only [dif_pos, dif_neg, zero_add, add_zero]
    rw [grp_eq (k := 6) h]
    exact Finset.sum_congr rfl fun t _ => congrArg₂ (· * ·) (dmix6 _ _ _ _ _ j (by dsimp only; omega)) (low_at ..)
  · simp (disch := omega) only [dif_pos, dif_neg, zero_add, add_zero]
    rw [grp_eq (k := 7) h]
    exact Finset.sum_congr rfl fun t _ => congrArg₂ (· * ·) (dmix7 _ _ _ _ _ j (by dsimp only; omega)) (low_at ..)

theorem ln_idx (g b v : Row) (j j' : Fin 2048) (h : j.val = j'.val) : ln g b v j = ln g b v j' := congrArg (ln g b v) (Fin.ext h)

theorem dW_at (k : Fin 8) (t s : Fin 128) :
    dWP x0 x1 x2 x3 x4 x5 (ix3 k t s) = dW (row x4) (row x5) (chunk x0) (chunk x1) (chunk x2) (chunk x3) k t s := by
  have hk := k.isLt
  pointwise [dWP, k0_pay67, k0_pay62, k0_pay57, k0_pay52, k0_pay54, k0_pay60, k0_pay14, k0_pay17, k0_pay20, k0_pay23, k0_pay26, k0_pay29,
    k0_pay32, k0_pay34]
  unfold dW lnP
  simp only [ln_at]
  obtain h | h | h | h | h | h | h | h : k.val = 0 ∨ k.val = 1 ∨ k.val = 2 ∨ k.val = 3 ∨ k.val = 4 ∨ k.val = 5 ∨ k.val = 6 ∨ k.val = 7 := by omega
  · simp (disch := omega) only [dif_pos, dif_neg, zero_add, add_zero]
    exact Finset.sum_congr rfl fun d _ => congrArg₂ (· * ·) (dmix0 _ _ _ _ _ _ (by show 256 * k.val + d.val = _; omega))
      (ln_idx _ _ _ _ _ (by show _ = 256 * k.val + d.val; dsimp only; omega))
  · simp (disch := omega) only [dif_pos, dif_neg, zero_add, add_zero]
    exact Finset.sum_congr rfl fun d _ => congrArg₂ (· * ·) (dmix1 _ _ _ _ _ _ (by show 256 * k.val + d.val = _; omega))
      (ln_idx _ _ _ _ _ (by show _ = 256 * k.val + d.val; dsimp only; omega))
  · simp (disch := omega) only [dif_pos, dif_neg, zero_add, add_zero]
    exact Finset.sum_congr rfl fun d _ => congrArg₂ (· * ·) (dmix2 _ _ _ _ _ _ (by show 256 * k.val + d.val = _; omega))
      (ln_idx _ _ _ _ _ (by show _ = 256 * k.val + d.val; dsimp only; omega))
  · simp (disch := omega) only [dif_pos, dif_neg, zero_add, add_zero]
    exact Finset.sum_congr rfl fun d _ => congrArg₂ (· * ·) (dmix3 _ _ _ _ _ _ (by show 256 * k.val + d.val = _; omega))
      (ln_idx _ _ _ _ _ (by show _ = 256 * k.val + d.val; dsimp only; omega))
  · simp (disch := omega) only [dif_pos, dif_neg, zero_add, add_zero]
    exact Finset.sum_congr rfl fun d _ => congrArg₂ (· * ·) (dmix4 _ _ _ _ _ _ (by show 256 * k.val + d.val = _; omega))
      (ln_idx _ _ _ _ _ (by show _ = 256 * k.val + d.val; dsimp only; omega))
  · simp (disch := omega) only [dif_pos, dif_neg, zero_add, add_zero]
    exact Finset.sum_congr rfl fun d _ => congrArg₂ (· * ·) (dmix5 _ _ _ _ _ _ (by show 256 * k.val + d.val = _; omega))
      (ln_idx _ _ _ _ _ (by show _ = 256 * k.val + d.val; dsimp only; omega))
  · simp (disch := omega) only [dif_pos, dif_neg, zero_add, add_zero]
    exact Finset.sum_congr rfl fun d _ => congrArg₂ (· * ·) (dmix6 _ _ _ _ _ _ (by show 256 * k.val + d.val = _; omega))
      (ln_idx _ _ _ _ _ (by show _ = 256 * k.val + d.val; dsimp only; omega))
  · simp (disch := omega) only [dif_pos, dif_neg, zero_add, add_zero]
    exact Finset.sum_congr rfl fun d _ => congrArg₂ (· * ·) (dmix7 _ _ _ _ _ _ (by show 256 * k.val + d.val = _; omega))
      (ln_idx _ _ _ _ _ (by show _ = 256 * k.val + d.val; dsimp only; omega))

theorem dB_at (t : Fin 128) (k : Fin 8) : dBP x0 x2 x3 (ix2 t k) = dB (chunk x0) (chunk x2) (chunk x3) t k := by
  have hk := k.isLt
  pointwise [dBP, k0_pay65, k0_pay63, k0_pay58, k0_pay53, k0_pay49]
  unfold dB
  obtain h | h | h | h | h | h | h | h : k.val = 0 ∨ k.val = 1 ∨ k.val = 2 ∨ k.val = 3 ∨ k.val = 4 ∨ k.val = 5 ∨ k.val = 6 ∨ k.val = 7 := by omega
  · simp (disch := omega) only [dif_pos, dif_neg, zero_add, add_zero]
    exact Finset.sum_congr rfl fun d _ => dmix0 _ _ _ _ _ _ (by show 256 * k.val + d.val = _; omega)
  · simp (disch := omega) only [dif_pos, dif_neg, zero_add, add_zero]
    exact Finset.sum_congr rfl fun d _ => dmix1 _ _ _ _ _ _ (by show 256 * k.val + d.val = _; omega)
  · simp (disch := omega) only [dif_pos, dif_neg, zero_add, add_zero]
    exact Finset.sum_congr rfl fun d _ => dmix2 _ _ _ _ _ _ (by show 256 * k.val + d.val = _; omega)
  · simp (disch := omega) only [dif_pos, dif_neg, zero_add, add_zero]
    exact Finset.sum_congr rfl fun d _ => dmix3 _ _ _ _ _ _ (by show 256 * k.val + d.val = _; omega)
  · simp (disch := omega) only [dif_pos, dif_neg, zero_add, add_zero]
    exact Finset.sum_congr rfl fun d _ => dmix4 _ _ _ _ _ _ (by show 256 * k.val + d.val = _; omega)
  · simp (disch := omega) only [dif_pos, dif_neg, zero_add, add_zero]
    exact Finset.sum_congr rfl fun d _ => dmix5 _ _ _ _ _ _ (by show 256 * k.val + d.val = _; omega)
  · simp (disch := omega) only [dif_pos, dif_neg, zero_add, add_zero]
    exact Finset.sum_congr rfl fun d _ => dmix6 _ _ _ _ _ _ (by show 256 * k.val + d.val = _; omega)
  · simp (disch := omega) only [dif_pos, dif_neg, zero_add, add_zero]
    exact Finset.sum_congr rfl fun d _ => dmix7 _ _ _ _ _ _ (by show 256 * k.val + d.val = _; omega)

/-! ### The layer norm's gradients -/

theorem db_at (j : Fin 2048) : dbP x0 x2 x3 x6 (ix2 0 j) = db (chunk x0) (chunk x2) (chunk x3) (mats x6) j := by
  pointwise [dbP, k0_pay68]
  simp only [dln_at]
  rfl

theorem dg_at (j : Fin 2048) :
    dgP x0 x1 x2 x3 x6 (ix2 0 j) = dg (chunk x0) (chunk x1) (chunk x2) (chunk x3) (mats x6) j := by
  pointwise [dgP, k0_pay69]
  simp only [dln_at, nrm_at]
  rfl

theorem dv_at (s : Fin 128) (j : Fin 2048) :
    dvP x0 x1 x2 x3 x4 x6 (ix2 s j) = dv (row x4) (chunk x0) (chunk x1) (chunk x2) (chunk x3) (mats x6) s j := by
  pointwise [dvP, k0_pay74, k0_pay71, k0_pay72, k0_pay70]
  simp only [dln_at, cen_at, rs_at, Fin.sum_univ_one]
  rw [drs_at]
  simp only [sub_eq_add_neg, zero_add]
  rfl

end Cert.KernelIdeal.Body

end
-- ==== Proof.Point.lean ====
module
public import proofs.«01_k».proof.Proof.Body
public import proofs.«01_k».proof.Proof.Gen.KernelIdeal.Value
/-! What one grid point leaves in the kernel's five output windows, as functions of the blocks it reads. -/
@[expose] public section
set_option maxRecDepth 16384
noncomputable section
namespace Cert.KernelIdeal.Point
open Cert.KernelIdeal Cert.KernelIdeal.Gen Cert.KernelIdeal.Body Idealize.ShloMosaic Idealize.ShloMosaic.TcCoe Idealize.SL.Sem
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The three stores of the row block's gradient, the last first. -/
def stores (x0 x1 x2 x3 : Vec F S128x2048 .f32) (x4 x5 : Vec F S1x2048 .f32) (x6 : Vec F S8x128x128 .f32) (x7 : Vec F S128x8 .f32) :
    List (View.Piece (Elt F) S128x6144 .bf16) :=
  [⟨Rect.unit ![0, 4096] S128x2048.size inb_S128x6144_S128x2048_0_4096, k0_pay75 (dzP x0 x1 x2 x3 x4 x5 x6 x7)⟩,
   ⟨Rect.unit ![0, 2048] S128x2048.size inb_S128x6144_S128x2048_0_2048, dvP x0 x1 x2 x3 x4 x6⟩,
   ⟨Rect.unit ![0, 0] S128x2048.size inb_S128x6144_S128x2048_0_0, k0_pay73 (duP x1 x2 x3 x4 x5 x6 x7)⟩]

theorem out_A_8 (c : Dev nD) (i : grid0.Coords) (a0 : Memref sig .tc .vmem S128x2048 .f32) (h0 : a0.IsWhole) (a1 : Memref sig .tc .vmem S128x2048 .f32) (h1 : a1.IsWhole) (a2 : Memref sig .tc .vmem S128x2048 .f32) (h2 : a2.IsWhole) (a3 : Memref sig .tc .vmem S128x2048 .f32) (h3 : a3.IsWhole) (a4 : Memref sig .tc .vmem S1x2048 .f32) (h4 : a4.IsWhole) (a5 : Memref sig .tc .vmem S1x2048 .f32) (h5 : a5.IsWhole) (a6 : Memref sig .tc .vmem S8x128x128 .f32) (h6 : a6.IsWhole) (a7 : Memref sig .tc .vmem S128x8 .f32) (h7 : a7.IsWhole) (a8 : Memref sig .tc .vmem S128x6144 .bf16) (h8 : a8.IsWhole) (a9 : Memref sig .tc .vmem S1x2048 .f32) (h9 : a9.IsWhole) (a10 : Memref sig .tc .vmem S1x2048 .f32) (h10 : a10.IsWhole) (a11 : Memref sig .tc .vmem S8x128x128 .f32) (h11 : a11.IsWhole) (a12 : Memref sig .tc .vmem S128x8 .f32) (h12 : a12.IsWhole) (hc : cond0_0 i) (x0 x1 x2 x3 : Vec F S128x2048 .f32) (x4 x5 : Vec F S1x2048 .f32) (x6 : Vec F S8x128x128 .f32) (x7 : Vec F S128x8 .f32)  :
    out0_A_8 c i a0 h0 a1 h1 a2 h2 a3 h3 a4 h4 a5 h5 a6 h6 a7 h7 a8 h8 a9 h9 a10 h10 a11 h11 a12 h12 hc x0 x1 x2 x3 x4 x5 x6 x7 = View.canon (stores x0 x1 x2 x3 x4 x5 x6 x7) := by
  unfold out0_A_8
  rw [View.read_writes_eq_canon _ _ _ (cover0_A_8 c i a0 h0 a1 h1 a2 h2 a3 h3 a4 h4 a5 h5 a6 h6 a7 h7 a8 h8 a9 h9 a10 h10 a11 h11 a12 h12 hc x0 x1 x2 x3 x4 x5 x6 x7)]
  unfold kernelRun0_A
  dsimp only
  sl_unfold_words
  simp only [View.readAt_eq_ld, h0.read_unread, h1.read_unread, h2.read_unread, h3.read_unread, h4.read_unread, h5.read_unread, h6.read_unread, h7.read_unread, h8.read_unread, h9.read_unread, h10.read_unread, h11.read_unread, h12.read_unread, View.ld_unit_zero (S := S128x2048) hz2, View.ld_unit_zero (S := S1x2048) hz2, View.ld_unit_zero (S := S8x128x128) hz3, View.ld_unit_zero (S := S128x8) hz2, shapeCast_self]
  rfl

theorem out_A_9 (c : Dev nD) (i : grid0.Coords) (a0 : Memref sig .tc .vmem S128x2048 .f32) (h0 : a0.IsWhole) (a1 : Memref sig .tc .vmem S128x2048 .f32) (h1 : a1.IsWhole) (a2 : Memref sig .tc .vmem S128x2048 .f32) (h2 : a2.IsWhole) (a3 : Memref sig .tc .vmem S128x2048 .f32) (h3 : a3.IsWhole) (a4 : Memref sig .tc .vmem S1x2048 .f32) (h4 : a4.IsWhole) (a5 : Memref sig .tc .vmem S1x2048 .f32) (h5 : a5.IsWhole) (a6 : Memref sig .tc .vmem S8x128x128 .f32) (h6 : a6.IsWhole) (a7 : Memref sig .tc .vmem S128x8 .f32) (h7 : a7.IsWhole) (a8 : Memref sig .tc .vmem S128x6144 .bf16) (h8 : a8.IsWhole) (a9 : Memref sig .tc .vmem S1x2048 .f32) (h9 : a9.IsWhole) (a10 : Memref sig .tc .vmem S1x2048 .f32) (h10 : a10.IsWhole) (a11 : Memref sig .tc .vmem S8x128x128 .f32) (h11 : a11.IsWhole) (a12 : Memref sig .tc .vmem S128x8 .f32) (h12 : a12.IsWhole) (hc : cond0_0 i) (x0 x1 x2 x3 : Vec F S128x2048 .f32) (x4 x5 : Vec F S1x2048 .f32) (x6 : Vec F S8x128x128 .f32) (x7 : Vec F S128x8 .f32)  :
    out0_A_9 c i a0 h0 a1 h1 a2 h2 a3 h3 a4 h4 a5 h5 a6 h6 a7 h7 a8 h8 a9 h9 a10 h10 a11 h11 a12 h12 hc x0 x1 x2 x3 x4 x5 x6 x7 = k0_pay80 (dgP x0 x1 x2 x3 x6) k0_pay76 := by
  unfold out0_A_9
  rw [View.read_writes_eq_canon _ _ _ (cover0_A_9 c i a0 h0 a1 h1 a2 h2 a3 h3 a4 h4 a5 h5 a6 h6 a7 h7 a8 h8 a9 h9 a10 h10 a11 h11 a12 h12 hc x0 x1 x2 x3 x4 x5 x6 x7)]
  unfold kernelRun0_A
  dsimp only
  sl_unfold_words
  rw [View.canon_cons_unit_zero (S := S1x2048) hz2, View.readCov_unit_zero (S := S1x2048) _ hz2]
  simp only [View.readAt_eq_ld, h0.read_unread, h1.read_unread, h2.read_unread, h3.read_unread, h4.read_unread, h5.read_unread, h6.read_unread, h7.read_unread, h8.read_unread, h9.read_unread, h10.read_unread, h11.read_unread, h12.read_unread, View.ld_unit_zero (S := S128x2048) hz2, View.ld_unit_zero (S := S1x2048) hz2, View.ld_unit_zero (S := S8x128x128) hz3, View.ld_unit_zero (S := S128x8) hz2, shapeCast_self]
  rfl

theorem out_A_10 (c : Dev nD) (i : grid0.Coords) (a0 : Memref sig .tc .vmem S128x2048 .f32) (h0 : a0.IsWhole) (a1 : Memref sig .tc .vmem S128x2048 .f32) (h1 : a1.IsWhole) (a2 : Memref sig .tc .vmem S128x2048 .f32) (h2 : a2.IsWhole) (a3 : Memref sig .tc .vmem S128x2048 .f32) (h3 : a3.IsWhole) (a4 : Memref sig .tc .vmem S1x2048 .f32) (h4 : a4.IsWhole) (a5 : Memref sig .tc .vmem S1x2048 .f32) (h5 : a5.IsWhole) (a6 : Memref sig .tc .vmem S8x128x128 .f32) (h6 : a6.IsWhole) (a7 : Memref sig .tc .vmem S128x8 .f32) (h7 : a7.IsWhole) (a8 : Memref sig .tc .vmem S128x6144 .bf16) (h8 : a8.IsWhole) (a9 : Memref sig .tc .vmem S1x2048 .f32) (h9 : a9.IsWhole) (a10 : Memref sig .tc .vmem S1x2048 .f32) (h10 : a10.IsWhole) (a11 : Memref sig .tc .vmem S8x128x128 .f32) (h11 : a11.IsWhole) (a12 : Memref sig .tc .vmem S128x8 .f32) (h12 : a12.IsWhole) (hc : cond0_0 i) (x0 x1 x2 x3 : Vec F S128x2048 .f32) (x4 x5 : Vec F S1x2048 .f32) (x6 : Vec F S8x128x128 .f32) (x7 : Vec F S128x8 .f32)  :
    out0_A_10 c i a0 h0 a1 h1 a2 h2 a3 h3 a4 h4 a5 h5 a6 h6 a7 h7 a8 h8 a9 h9 a10 h10 a11 h11 a12 h12 hc x0 x1 x2 x3 x4 x5 x6 x7 = k0_pay81 (dbP x0 x2 x3 x6) k0_pay77 := by
  unfold out0_A_10
  rw [View.read_writes_eq_canon _ _ _ (cover0_A_10 c i a0 h0 a1 h1 a2 h2 a3 h3 a4 h4 a5 h5 a6 h6 a7 h7 a8 h8 a9 h9 a10 h10 a11 h11 a12 h12 hc x0 x1 x2 x3 x4 x5 x6 x7)]
  unfold kernelRun0_A
  dsimp only
  sl_unfold_words
  rw [View.canon_cons_unit_zero (S := S1x2048) hz2, View.readCov_unit_zero (S := S1x2048) _ hz2]
  simp only [View.readAt_eq_ld, h0.read_unread, h1.read_unread, h2.read_unread, h3.read_unread, h4.read_unread, h5.read_unread, h6.read_unread, h7.read_unread, h8.read_unread, h9.read_unread, h10.read_unread, h11.read_unread, h12.read_unread, View.ld_unit_zero (S := S128x2048) hz2, View.ld_unit_zero (S := S1x2048) hz2, View.ld_unit_zero (S := S8x128x128) hz3, View.ld_unit_zero (S := S128x8) hz2, shapeCast_self]
  rfl

theorem out_A_11 (c : Dev nD) (i : grid0.Coords) (a0 : Memref sig .tc .vmem S128x2048 .f32) (h0 : a0.IsWhole) (a1 : Memref sig .tc .vmem S128x2048 .f32) (h1 : a1.IsWhole) (a2 : Memref sig .tc .vmem S128x2048 .f32) (h2 : a2.IsWhole) (a3 : Memref sig .tc .vmem S128x2048 .f32) (h3 : a3.IsWhole) (a4 : Memref sig .tc .vmem S1x2048 .f32) (h4 : a4.IsWhole) (a5 : Memref sig .tc .vmem S1x2048 .f32) (h5 : a5.IsWhole) (a6 : Memref sig .tc .vmem S8x128x128 .f32) (h6 : a6.IsWhole) (a7 : Memref sig .tc .vmem S128x8 .f32) (h7 : a7.IsWhole) (a8 : Memref sig .tc .vmem S128x6144 .bf16) (h8 : a8.IsWhole) (a9 : Memref sig .tc .vmem S1x2048 .f32) (h9 : a9.IsWhole) (a10 : Memref sig .tc .vmem S1x2048 .f32) (h10 : a10.IsWhole) (a11 : Memref sig .tc .vmem S8x128x128 .f32) (h11 : a11.IsWhole) (a12 : Memref sig .tc .vmem S128x8 .f32) (h12 : a12.IsWhole) (hc : cond0_0 i) (x0 x1 x2 x3 : Vec F S128x2048 .f32) (x4 x5 : Vec F S1x2048 .f32) (x6 : Vec F S8x128x128 .f32) (x7 : Vec F S128x8 .f32)  :
    out0_A_11 c i a0 h0 a1 h1 a2 h2 a3 h3 a4 h4 a5 h5 a6 h6 a7 h7 a8 h8 a9 h9 a10 h10 a11 h11 a12 h12 hc x0 x1 x2 x3 x4 x5 x6 x7 = k0_pay1 k0_pay3 (dWP x0 x1 x2 x3 x4 x5) k0_pay78 := by
  unfold out0_A_11
  rw [View.read_writes_eq_canon _ _ _ (cover0_A_11 c i a0 h0 a1 h1 a2 h2 a3 h3 a4 h4 a5 h5 a6 h6 a7 h7 a8 h8 a9 h9 a10 h10 a11 h11 a12 h12 hc x0 x1 x2 x3 x4 x5 x6 x7)]
  unfold kernelRun0_A
  dsimp only
  sl_unfold_words
  rw [View.canon_cons_unit_zero (S := S8x128x128) hz3, View.readCov_unit_zero (S := S8x128x128) _ hz3]
  simp only [View.readAt_eq_ld, h0.read_unread, h1.read_unread, h2.read_unread, h3.read_unread, h4.read_unread, h5.read_unread, h6.read_unread, h7.read_unread, h8.read_unread, h9.read_unread, h10.read_unread, h11.read_unread, h12.read_unread, View.ld_unit_zero (S := S128x2048) hz2, View.ld_unit_zero (S := S1x2048) hz2, View.ld_unit_zero (S := S8x128x128) hz3, View.ld_unit_zero (S := S128x8) hz2, shapeCast_self]
  rfl

theorem out_A_12 (c : Dev nD) (i : grid0.Coords) (a0 : Memref sig .tc .vmem S128x2048 .f32) (h0 : a0.IsWhole) (a1 : Memref sig .tc .vmem S128x2048 .f32) (h1 : a1.IsWhole) (a2 : Memref sig .tc .vmem S128x2048 .f32) (h2 : a2.IsWhole) (a3 : Memref sig .tc .vmem S128x2048 .f32) (h3 : a3.IsWhole) (a4 : Memref sig .tc .vmem S1x2048 .f32) (h4 : a4.IsWhole) (a5 : Memref sig .tc .vmem S1x2048 .f32) (h5 : a5.IsWhole) (a6 : Memref sig .tc .vmem S8x128x128 .f32) (h6 : a6.IsWhole) (a7 : Memref sig .tc .vmem S128x8 .f32) (h7 : a7.IsWhole) (a8 : Memref sig .tc .vmem S128x6144 .bf16) (h8 : a8.IsWhole) (a9 : Memref sig .tc .vmem S1x2048 .f32) (h9 : a9.IsWhole) (a10 : Memref sig .tc .vmem S1x2048 .f32) (h10 : a10.IsWhole) (a11 : Memref sig .tc .vmem S8x128x128 .f32) (h11 : a11.IsWhole) (a12 : Memref sig .tc .vmem S128x8 .f32) (h12 : a12.IsWhole) (hc : cond0_0 i) (x0 x1 x2 x3 : Vec F S128x2048 .f32) (x4 x5 : Vec F S1x2048 .f32) (x6 : Vec F S8x128x128 .f32) (x7 : Vec F S128x8 .f32)  :
    out0_A_12 c i a0 h0 a1 h1 a2 h2 a3 h3 a4 h4 a5 h5 a6 h6 a7 h7 a8 h8 a9 h9 a10 h10 a11 h11 a12 h12 hc x0 x1 x2 x3 x4 x5 x6 x7 = k0_pay2 (dBP x0 x2 x3) k0_pay79 := by
  unfold out0_A_12
  rw [View.read_writes_eq_canon _ _ _ (cover0_A_12 c i a0 h0 a1 h1 a2 h2 a3 h3 a4 h4 a5 h5 a6 h6 a7 h7 a8 h8 a9 h9 a10 h10 a11 h11 a12 h12 hc x0 x1 x2 x3 x4 x5 x6 x7)]
  unfold kernelRun0_A
  dsimp only
  sl_unfold_words
  rw [View.canon_cons_unit_zero (S := S128x8) hz2, View.readCov_unit_zero (S := S128x8) _ hz2]
  simp only [View.readAt_eq_ld, h0.read_unread, h1.read_unread, h2.read_unread, h3.read_unread, h4.read_unread, h5.read_unread, h6.read_unread, h7.read_unread, h8.read_unread, h9.read_unread, h10.read_unread, h11.read_unread, h12.read_unread, View.ld_unit_zero (S := S128x2048) hz2, View.ld_unit_zero (S := S1x2048) hz2, View.ld_unit_zero (S := S8x128x128) hz3, View.ld_unit_zero (S := S128x8) hz2, shapeCast_self]
  rfl

theorem out_B_8 (c : Dev nD) (i : grid0.Coords) (a0 : Memref sig .tc .vmem S128x2048 .f32) (h0 : a0.IsWhole) (a1 : Memref sig .tc .vmem S128x2048 .f32) (h1 : a1.IsWhole) (a2 : Memref sig .tc .vmem S128x2048 .f32) (h2 : a2.IsWhole) (a3 : Memref sig .tc .vmem S128x2048 .f32) (h3 : a3.IsWhole) (a4 : Memref sig .tc .vmem S1x2048 .f32) (h4 : a4.IsWhole) (a5 : Memref sig .tc .vmem S1x2048 .f32) (h5 : a5.IsWhole) (a6 : Memref sig .tc .vmem S8x128x128 .f32) (h6 : a6.IsWhole) (a7 : Memref sig .tc .vmem S128x8 .f32) (h7 : a7.IsWhole) (a8 : Memref sig .tc .vmem S128x6144 .bf16) (h8 : a8.IsWhole) (a9 : Memref sig .tc .vmem S1x2048 .f32) (h9 : a9.IsWhole) (a10 : Memref sig .tc .vmem S1x2048 .f32) (h10 : a10.IsWhole) (a11 : Memref sig .tc .vmem S8x128x128 .f32) (h11 : a11.IsWhole) (a12 : Memref sig .tc .vmem S128x8 .f32) (h12 : a12.IsWhole) (hc : ¬cond0_0 i) (x0 x1 x2 x3 : Vec F S128x2048 .f32) (x4 x5 : Vec F S1x2048 .f32) (x6 : Vec F S8x128x128 .f32) (x7 : Vec F S128x8 .f32) (xo9 xo10 : Vec F S1x2048 .f32) (xo11 : Vec F S8x128x128 .f32) (xo12 : Vec F S128x8 .f32) :
    out0_B_8 c i a0 h0 a1 h1 a2 h2 a3 h3 a4 h4 a5 h5 a6 h6 a7 h7 a8 h8 a9 h9 a10 h10 a11 h11 a12 h12 hc x0 x1 x2 x3 x4 x5 x6 x7 xo9 xo10 xo11 xo12 = View.canon (stores x0 x1 x2 x3 x4 x5 x6 x7) := by
  unfold out0_B_8
  rw [View.read_writes_eq_canon _ _ _ (cover0_B_8 c i a0 h0 a1 h1 a2 h2 a3 h3 a4 h4 a5 h5 a6 h6 a7 h7 a8 h8 a9 h9 a10 h10 a11 h11 a12 h12 hc x0 x1 x2 x3 x4 x5 x6 x7 xo9 xo10 xo11 xo12)]
  unfold kernelRun0_B
  dsimp only
  sl_unfold_words
  simp only [View.readAt_eq_ld, h0.read_unread, h1.read_unread, h2.read_unread, h3.read_unread, h4.read_unread, h5.read_unread, h6.read_unread, h7.read_unread, h8.read_unread, h9.read_unread, h10.read_unread, h11.read_unread, h12.read_unread, View.ld_unit_zero (S := S128x2048) hz2, View.ld_unit_zero (S := S1x2048) hz2, View.ld_unit_zero (S := S8x128x128) hz3, View.ld_unit_zero (S := S128x8) hz2, shapeCast_self]
  rfl

theorem out_B_9 (c : Dev nD) (i : grid0.Coords) (a0 : Memref sig .tc .vmem S128x2048 .f32) (h0 : a0.IsWhole) (a1 : Memref sig .tc .vmem S128x2048 .f32) (h1 : a1.IsWhole) (a2 : Memref sig .tc .vmem S128x2048 .f32) (h2 : a2.IsWhole) (a3 : Memref sig .tc .vmem S128x2048 .f32) (h3 : a3.IsWhole) (a4 : Memref sig .tc .vmem S1x2048 .f32) (h4 : a4.IsWhole) (a5 : Memref sig .tc .vmem S1x2048 .f32) (h5 : a5.IsWhole) (a6 : Memref sig .tc .vmem S8x128x128 .f32) (h6 : a6.IsWhole) (a7 : Memref sig .tc .vmem S128x8 .f32) (h7 : a7.IsWhole) (a8 : Memref sig .tc .vmem S128x6144 .bf16) (h8 : a8.IsWhole) (a9 : Memref sig .tc .vmem S1x2048 .f32) (h9 : a9.IsWhole) (a10 : Memref sig .tc .vmem S1x2048 .f32) (h10 : a10.IsWhole) (a11 : Memref sig .tc .vmem S8x128x128 .f32) (h11 : a11.IsWhole) (a12 : Memref sig .tc .vmem S128x8 .f32) (h12 : a12.IsWhole) (hc : ¬cond0_0 i) (x0 x1 x2 x3 : Vec F S128x2048 .f32) (x4 x5 : Vec F S1x2048 .f32) (x6 : Vec F S8x128x128 .f32) (x7 : Vec F S128x8 .f32) (xo9 xo10 : Vec F S1x2048 .f32) (xo11 : Vec F S8x128x128 .f32) (xo12 : Vec F S128x8 .f32) :
    out0_B_9 c i a0 h0 a1 h1 a2 h2 a3 h3 a4 h4 a5 h5 a6 h6 a7 h7 a8 h8 a9 h9 a10 h10 a11 h11 a12 h12 hc x0 x1 x2 x3 x4 x5 x6 x7 xo9 xo10 xo11 xo12 = k0_pay80 (dgP x0 x1 x2 x3 x6) xo9 := by
  unfold out0_B_9
  rw [View.read_writes_eq_canon _ _ _ (cover0_B_9 c i a0 h0 a1 h1 a2 h2 a3 h3 a4 h4 a5 h5 a6 h6 a7 h7 a8 h8 a9 h9 a10 h10 a11 h11 a12 h12 hc x0 x1 x2 x3 x4 x5 x6 x7 xo9 xo10 xo11 xo12)]
  unfold kernelRun0_B
  dsimp only
  sl_unfold_words
  rw [View.canon_unit_zero hz2]
  simp only [View.readAt_eq_ld, h0.read_unread, h1.read_unread, h2.read_unread, h3.read_unread, h4.read_unread, h5.read_unread, h6.read_unread, h7.read_unread, h8.read_unread, h9.read_unread, h10.read_unread, h11.read_unread, h12.read_unread, View.ld_unit_zero (S := S128x2048) hz2, View.ld_unit_zero (S := S1x2048) hz2, View.ld_unit_zero (S := S8x128x128) hz3, View.ld_unit_zero (S := S128x8) hz2, shapeCast_self]
  rfl

theorem out_B_10 (c : Dev nD) (i : grid0.Coords) (a0 : Memref sig .tc .vmem S128x2048 .f32) (h0 : a0.IsWhole) (a1 : Memref sig .tc .vmem S128x2048 .f32) (h1 : a1.IsWhole) (a2 : Memref sig .tc .vmem S128x2048 .f32) (h2 : a2.IsWhole) (a3 : Memref sig .tc .vmem S128x2048 .f32) (h3 : a3.IsWhole) (a4 : Memref sig .tc .vmem S1x2048 .f32) (h4 : a4.IsWhole) (a5 : Memref sig .tc .vmem S1x2048 .f32) (h5 : a5.IsWhole) (a6 : Memref sig .tc .vmem S8x128x128 .f32) (h6 : a6.IsWhole) (a7 : Memref sig .tc .vmem S128x8 .f32) (h7 : a7.IsWhole) (a8 : Memref sig .tc .vmem S128x6144 .bf16) (h8 : a8.IsWhole) (a9 : Memref sig .tc .vmem S1x2048 .f32) (h9 : a9.IsWhole) (a10 : Memref sig .tc .vmem S1x2048 .f32) (h10 : a10.IsWhole) (a11 : Memref sig .tc .vmem S8x128x128 .f32) (h11 : a11.IsWhole) (a12 : Memref sig .tc .vmem S128x8 .f32) (h12 : a12.IsWhole) (hc : ¬cond0_0 i) (x0 x1 x2 x3 : Vec F S128x2048 .f32) (x4 x5 : Vec F S1x2048 .f32) (x6 : Vec F S8x128x128 .f32) (x7 : Vec F S128x8 .f32) (xo9 xo10 : Vec F S1x2048 .f32) (xo11 : Vec F S8x128x128 .f32) (xo12 : Vec F S128x8 .f32) :
    out0_B_10 c i a0 h0 a1 h1 a2 h2 a3 h3 a4 h4 a5 h5 a6 h6 a7 h7 a8 h8 a9 h9 a10 h10 a11 h11 a12 h12 hc x0 x1 x2 x3 x4 x5 x6 x7 xo9 xo10 xo11 xo12 = k0_pay81 (dbP x0 x2 x3 x6) xo10 := by
  unfold out0_B_10
  rw [View.read_writes_eq_canon _ _ _ (cover0_B_10 c i a0 h0 a1 h1 a2 h2 a3 h3 a4 h4 a5 h5 a6 h6 a7 h7 a8 h8 a9 h9 a10 h10 a11 h11 a12 h12 hc x0 x1 x2 x3 x4 x5 x6 x7 xo9 xo10 xo11 xo12)]
  unfold kernelRun0_B
  dsimp only
  sl_unfold_words
  rw [View.canon_unit_zero hz2]
  simp only [View.readAt_eq_ld, h0.read_unread, h1.read_unread, h2.read_unread, h3.read_unread, h4.read_unread, h5.read_unread, h6.read_unread, h7.read_unread, h8.read_unread, h9.read_unread, h10.read_unread, h11.read_unread, h12.read_unread, View.ld_unit_zero (S := S128x2048) hz2, View.ld_unit_zero (S := S1x2048) hz2, View.ld_unit_zero (S := S8x128x128) hz3, View.ld_unit_zero (S := S128x8) hz2, shapeCast_self]
  rfl

theorem out_B_11 (c : Dev nD) (i : grid0.Coords) (a0 : Memref sig .tc .vmem S128x2048 .f32) (h0 : a0.IsWhole) (a1 : Memref sig .tc .vmem S128x2048 .f32) (h1 : a1.IsWhole) (a2 : Memref sig .tc .vmem S128x2048 .f32) (h2 : a2.IsWhole) (a3 : Memref sig .tc .vmem S128x2048 .f32) (h3 : a3.IsWhole) (a4 : Memref sig .tc .vmem S1x2048 .f32) (h4 : a4.IsWhole) (a5 : Memref sig .tc .vmem S1x2048 .f32) (h5 : a5.IsWhole) (a6 : Memref sig .tc .vmem S8x128x128 .f32) (h6 : a6.IsWhole) (a7 : Memref sig .tc .vmem S128x8 .f32) (h7 : a7.IsWhole) (a8 : Memref sig .tc .vmem S128x6144 .bf16) (h8 : a8.IsWhole) (a9 : Memref sig .tc .vmem S1x2048 .f32) (h9 : a9.IsWhole) (a10 : Memref sig .tc .vmem S1x2048 .f32) (h10 : a10.IsWhole) (a11 : Memref sig .tc .vmem S8x128x128 .f32) (h11 : a11.IsWhole) (a12 : Memref sig .tc .vmem S128x8 .f32) (h12 : a12.IsWhole) (hc : ¬cond0_0 i) (x0 x1 x2 x3 : Vec F S128x2048 .f32) (x4 x5 : Vec F S1x2048 .f32) (x6 : Vec F S8x128x128 .f32) (x7 : Vec F S128x8 .f32) (xo9 xo10 : Vec F S1x2048 .f32) (xo11 : Vec F S8x128x128 .f32) (xo12 : Vec F S128x8 .f32) :
    out0_B_11 c i a0 h0 a1 h1 a2 h2 a3 h3 a4 h4 a5 h5 a6 h6 a7 h7 a8 h8 a9 h9 a10 h10 a11 h11 a12 h12 hc x0 x1 x2 x3 x4 x5 x6 x7 xo9 xo10 xo11 xo12 = k0_pay1 k0_pay3 (dWP x0 x1 x2 x3 x4 x5) xo11 := by
  unfold out0_B_11
  rw [View.read_writes_eq_canon _ _ _ (cover0_B_11 c i a0 h0 a1 h1 a2 h2 a3 h3 a4 h4 a5 h5 a6 h6 a7 h7 a8 h8 a9 h9 a10 h10 a11 h11 a12 h12 hc x0 x1 x2 x3 x4 x5 x6 x7 xo9 xo10 xo11 xo12)]
  unfold kernelRun0_B
  dsimp only
  sl_unfold_words
  rw [View.canon_unit_zero hz3]
  simp only [View.readAt_eq_ld, h0.read_unread, h1.read_unread, h2.read_unread, h3.read_unread, h4.read_unread, h5.read_unread, h6.read_unread, h7.read_unread, h8.read_unread, h9.read_unread, h10.read_unread, h11.read_unread, h12.read_unread, View.ld_unit_zero (S := S128x2048) hz2, View.ld_unit_zero (S := S1x2048) hz2, View.ld_unit_zero (S := S8x128x128) hz3, View.ld_unit_zero (S := S128x8) hz2, shapeCast_self]
  rfl

theorem out_B_12 (c : Dev nD) (i : grid0.Coords) (a0 : Memref sig .tc .vmem S128x2048 .f32) (h0 : a0.IsWhole) (a1 : Memref sig .tc .vmem S128x2048 .f32) (h1 : a1.IsWhole) (a2 : Memref sig .tc .vmem S128x2048 .f32) (h2 : a2.IsWhole) (a3 : Memref sig .tc .vmem S128x2048 .f32) (h3 : a3.IsWhole) (a4 : Memref sig .tc .vmem S1x2048 .f32) (h4 : a4.IsWhole) (a5 : Memref sig .tc .vmem S1x2048 .f32) (h5 : a5.IsWhole) (a6 : Memref sig .tc .vmem S8x128x128 .f32) (h6 : a6.IsWhole) (a7 : Memref sig .tc .vmem S128x8 .f32) (h7 : a7.IsWhole) (a8 : Memref sig .tc .vmem S128x6144 .bf16) (h8 : a8.IsWhole) (a9 : Memref sig .tc .vmem S1x2048 .f32) (h9 : a9.IsWhole) (a10 : Memref sig .tc .vmem S1x2048 .f32) (h10 : a10.IsWhole) (a11 : Memref sig .tc .vmem S8x128x128 .f32) (h11 : a11.IsWhole) (a12 : Memref sig .tc .vmem S128x8 .f32) (h12 : a12.IsWhole) (hc : ¬cond0_0 i) (x0 x1 x2 x3 : Vec F S128x2048 .f32) (x4 x5 : Vec F S1x2048 .f32) (x6 : Vec F S8x128x128 .f32) (x7 : Vec F S128x8 .f32) (xo9 xo10 : Vec F S1x2048 .f32) (xo11 : Vec F S8x128x128 .f32) (xo12 : Vec F S128x8 .f32) :
    out0_B_12 c i a0 h0 a1 h1 a2 h2 a3 h3 a4 h4 a5 h5 a6 h6 a7 h7 a8 h8 a9 h9 a10 h10 a11 h11 a12 h12 hc x0 x1 x2 x3 x4 x5 x6 x7 xo9 xo10 xo11 xo12 = k0_pay2 (dBP x0 x2 x3) xo12 := by
  unfold out0_B_12
  rw [View.read_writes_eq_canon _ _ _ (cover0_B_12 c i a0 h0 a1 h1 a2 h2 a3 h3 a4 h4 a5 h5 a6 h6 a7 h7 a8 h8 a9 h9 a10 h10 a11 h11 a12 h12 hc x0 x1 x2 x3 x4 x5 x6 x7 xo9 xo10 xo11 xo12)]
  unfold kernelRun0_B
  dsimp only
  sl_unfold_words
  rw [View.canon_unit_zero hz2]
  simp only [View.readAt_eq_ld, h0.read_unread, h1.read_unread, h2.read_unread, h3.read_unread, h4.read_unread, h5.read_unread, h6.read_unread, h7.read_unread, h8.read_unread, h9.read_unread, h10.read_unread, h11.read_unread, h12.read_unread, View.ld_unit_zero (S := S128x2048) hz2, View.ld_unit_zero (S := S1x2048) hz2, View.ld_unit_zero (S := S8x128x128) hz3, View.ld_unit_zero (S := S128x8) hz2, shapeCast_self]
  rfl

end Cert.KernelIdeal.Point
end
-- ==== Proof.Result.lean ====
/-
  The five gradients of the gMLP branch over the whole of the arrays: 64 chunks of 128 rows, the column groups side by
  side in `H`, the cotangent in the first 2048 columns of `D`.
-/
module

public import proofs.«01_k».proof.Proof.Spec

@[expose] public section

noncomputable section

namespace Cert.Spec

open Idealize.ShloMosaic
open scoped BigOperators

/-- Row `t` of chunk `k`. -/
def rowOf (k : Fin 64) (t : Fin 128) : Fin 8192 := ⟨128 * k.val + t.val, by have := k.isLt; have := t.isLt; omega⟩

variable (H : Fin 8192 → Fin 12288 → EReal) (D : Fin 8192 → Fin 4096 → EReal)

def Uc (k : Fin 64) : Chunk := fun t j => H (rowOf k t) ⟨j.val, by have := j.isLt; omega⟩
def Vc (k : Fin 64) : Chunk := fun t j => H (rowOf k t) ⟨2048 + j.val, by have := j.isLt; omega⟩
def Zc (k : Fin 64) : Chunk := fun t j => H (rowOf k t) ⟨4096 + j.val, by have := j.isLt; omega⟩
def Yc (k : Fin 64) : Chunk := fun t j => D (rowOf k t) ⟨j.val, by have := j.isLt; omega⟩

variable (g b : Row) (W : Fin 8 → Fin 128 → Fin 128 → EReal) (B : Fin 128 → Fin 8 → EReal)

/-- The gradient of the column groups, at row `t` of chunk `k`. -/
def gradU (k : Fin 64) (t : Fin 128) (j : Fin 2048) : EReal := du g b (Vc H k) (Zc H k) (Yc D k) W B t j
def gradV (k : Fin 64) (t : Fin 128) (j : Fin 2048) : EReal := dv g (Uc H k) (Vc H k) (Zc H k) (Yc D k) W t j
def gradZ (k : Fin 64) (t : Fin 128) (j : Fin 2048) : EReal := dz g b (Uc H k) (Vc H k) (Zc H k) (Yc D k) W B t j

/-- The gradients of the parameters, summed over the chunks. -/
def gradG (j : Fin 2048) : EReal := ∑ k : Fin 64, dg (Uc H k) (Vc H k) (Zc H k) (Yc D k) W j
def gradB (j : Fin 2048) : EReal := ∑ k : Fin 64, db (Uc H k) (Zc H k) (Yc D k) W j
def gradW (h : Fin 8) (t s : Fin 128) : EReal :=
  if s.val ≤ t.val then ∑ k : Fin 64, dW g b (Uc H k) (Vc H k) (Zc H k) (Yc D k) h t s else 0
def gradS (t : Fin 128) (h : Fin 8) : EReal := ∑ k : Fin 64, dB (Uc H k) (Zc H k) (Yc D k) t h

end Cert.Spec

end
-- ==== Proof.Blocks.lean ====
/-
  The blocks the kernel's grid points read, in terms of the program's arguments.
-/
module

public import proofs.«01_k».proof.Proof.Point
public import proofs.«01_k».proof.Proof.Result
public import Idealize.ShloMosaic.Lib.Pipeline.ValueKit
public import Idealize.ShloMosaic.Lib.Pointwise

@[expose] public section

set_option maxRecDepth 16384

noncomputable section

namespace Cert.KernelIdeal.Blocks

open Cert.KernelIdeal Cert.KernelIdeal.Gen Cert.KernelIdeal.Body Cert.Spec Idealize.ShloMosaic Idealize.ShloMosaic.TcCoe Idealize.SL.Sem

variable (m : (ℓ : Loc nD τ sig) → Buf (Elt Ideal) ℓ) (c : Dev nD)

/-- The arguments, entry by entry. -/
def aH (i : Fin 8192) (j : Fin 12288) : EReal := m ((c : Thread nD τ).loc main_arg0) (ix2 i j)
def aD (i : Fin 8192) (j : Fin 4096) : EReal := m ((c : Thread nD τ).loc main_arg1) (ix2 i j)
def aG (j : Fin 2048) : EReal := m ((c : Thread nD τ).loc main_arg2) (ix2 0 j)
def aB (j : Fin 2048) : EReal := m ((c : Thread nD τ).loc main_arg3) (ix2 0 j)
def aW (h : Fin 8) (t s : Fin 128) : EReal := m ((c : Thread nD τ).loc main_arg4) (ix4 0 h t s)
def aS (t : Fin 128) (h : Fin 8) : EReal := m ((c : Thread nD τ).loc main_arg5) (ix3 0 h t)

/-- The chunk of a grid point. -/
def pt (t : Fin cfg0.N) : Fin 64 := t.cast N_0

theorem e0 : ∀ t : Fin cfg0.N, win0_0.index t = ![t.val, 0] := (by decide +kernel : ∀ t : Fin grid0.N, _)
theorem e1 : ∀ t : Fin cfg0.N, win0_1.index t = ![t.val, 1] := (by decide +kernel : ∀ t : Fin grid0.N, _)
theorem e2 : ∀ t : Fin cfg0.N, win0_2.index t = ![t.val, 2] := (by decide +kernel : ∀ t : Fin grid0.N, _)
theorem e3 : ∀ t : Fin cfg0.N, win0_3.index t = ![t.val, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![0, 0] := (by decide +kernel : ∀ t : Fin grid0.N, _)
theorem e6 : ∀ t : Fin cfg0.N, win0_6.index t = ![0, 0, 0] := (by decide +kernel : ∀ t : Fin grid0.N, _)
theorem e7 : ∀ t : Fin cfg0.N, win0_7.index t = ![0, 0] := (by decide +kernel : ∀ t : Fin grid0.N, _)

theorem row_val (t : Fin cfg0.N) (r : Fin 128) : (rowOf (pt t) r).val = 128 * t.val + r.val := rfl

theorem blk0 (t : Fin cfg0.N) : chunk (iblk m c 0 t) = Uc (aH m c) (pt t) := by
  funext r j
  show (iblk m c 0 t : Vec Ideal S128x2048 .f32) (ix2 r j) = m ((c : Thread nD τ).loc main_arg0) (ix2 _ _)
  unfold iblk
  blk_simp
  show V m c main_arg0 _ = _
  rw [V_main_arg0]
  congr 1
  blk_ext [e0, row_val]

theorem blk1 (t : Fin cfg0.N) : chunk (iblk m c 1 t) = Vc (aH m c) (pt t) := by
  funext r j
  show (iblk m c 1 t : Vec Ideal S128x2048 .f32) (ix2 r j) = m ((c : Thread nD τ).loc main_arg0) (ix2 _ _)
  unfold iblk
  blk_simp
  show V m c main_arg0 _ = _
  rw [V_main_arg0]
  congr 1
  blk_ext [e1, row_val]

theorem blk2 (t : Fin cfg0.N) : chunk (iblk m c 2 t) = Zc (aH m c) (pt t) := by
  funext r j
  show (iblk m c 2 t : Vec Ideal S128x2048 .f32) (ix2 r j) = m ((c : Thread nD τ).loc main_arg0) (ix2 _ _)
  unfold iblk
  blk_simp
  show V m c main_arg0 _ = _
  rw [V_main_arg0]
  congr 1
  blk_ext [e2, row_val]

theorem blk3 (t : Fin cfg0.N) : chunk (iblk m c 3 t) = Yc (aD m c) (pt t) := by
  funext r j
  show (iblk m c 3 t : Vec Ideal S128x2048 .f32) (ix2 r j) = m ((c : Thread nD τ).loc main_arg1) (ix2 _ _)
  unfold iblk
  blk_simp
  show V m c main_arg1 _ = _
  rw [V_main_arg1]
  congr 1
  blk_ext [e3, row_val]

theorem blk4 (t : Fin cfg0.N) : row (iblk m c 4 t) = aG m c := by
  funext j
  show (iblk m c 4 t : Vec Ideal S1x2048 .f32) (ix2 0 j) = m ((c : Thread nD τ).loc main_arg2) (ix2 0 j)
  unfold iblk
  blk_simp
  show V m c main_arg2 _ = _
  rw [V_main_arg2]
  congr 1
  blk_ext [e4]

theorem blk5 (t : Fin cfg0.N) : row (iblk m c 5 t) = aB m c := by
  funext j
  show (iblk m c 5 t : Vec Ideal S1x2048 .f32) (ix2 0 j) = m ((c : Thread nD τ).loc main_arg3) (ix2 0 j)
  unfold iblk
  blk_simp
  show V m c main_arg3 _ = _
  rw [V_main_arg3]
  congr 1
  blk_ext [e5]

theorem ws_at (x : Vec Ideal S1x8x128x128 .f32) (h : Fin 8) (r s : Fin 128) :
    shapeCast S8x128x128 x shapeCasts_S1x8x128x128_S8x128x128 (ix3 h r s) = x (ix4 0 h r s) := by pointwise

theorem bs_at (x : Vec Ideal S1x8x128 .f32) (r : Fin 128) (h : Fin 8) :
    transpose S128x8 [1, 0] (shapeCast S8x128 x shapeCasts_S1x8x128_S8x128) transposes_S8x128_S128x8_1_0 (ix2 r h)
      = x (ix3 0 h r) := by pointwise

theorem V_ws : (V m c main_v0 : Vec Ideal S8x128x128 .f32)
    = shapeCast S8x128x128 (m ((c : Thread nD τ).loc main_arg4)) shapeCasts_S1x8x128x128_S8x128x128 := by
  show StableHlo.after hostOps0 (fun b => m (c, b)) main_v0 = _
  after_results
  rfl

theorem V_bs : (V m c main_v2 : Vec Ideal S128x8 .f32)
    = transpose S128x8 [1, 0] (shapeCast S8x128 (m ((c : Thread nD τ).loc main_arg5)) shapeCasts_S1x8x128_S8x128)
        transposes_S8x128_S128x8_1_0 := by
  show StableHlo.after hostOps0 (fun b => m (c, b)) main_v2 = _
  after_results
  rfl

theorem blk6 (t : Fin cfg0.N) : mats (iblk m c 6 t) = aW m c := by
  funext h r s
  show (iblk m c 6 t : Vec Ideal S8x128x128 .f32) (ix3 h r s) = m ((c : Thread nD τ).loc main_arg4) (ix4 0 h r s)
  unfold iblk
  blk_simp
  show (V m c main_v0 : Vec Ideal S8x128x128 .f32) _ = _
  rw [show ∀ i : S8x128x128.Idx, i = ix3 h r s → (V m c main_v0 : Vec Ideal S8x128x128 .f32) i = V m c main_v0 (ix3 h r s) from
    fun i hi => by rw [hi]]
  · rw [V_ws, ws_at]
  · blk_ext [e6]

theorem blk7 (t : Fin cfg0.N) : bias (iblk m c 7 t) = aS m c := by
  funext r h
  show (iblk m c 7 t : Vec Ideal S128x8 .f32) (ix2 r h) = m ((c : Thread nD τ).loc main_arg5) (ix3 0 h r)
  unfold iblk
  blk_simp
  show (V m c main_v2 : Vec Ideal S128x8 .f32) _ = _
  rw [show ∀ i : S128x8.Idx, i = ix2 r h → (V m c main_v2 : Vec Ideal S128x8 .f32) i = V m c main_v2 (ix2 r h) from
    fun i hi => by rw [hi]]
  · rw [V_bs, bs_at]
  · blk_ext [e7]

end Cert.KernelIdeal.Blocks

end
-- ==== Proof.Arrays.lean ====
/-
  What the kernel's run leaves in its five result arrays, over the extended reals: the row blocks of the column groups'
  gradients, and the parameters' gradients summed over the 64 chunks.
-/
module

public import proofs.«01_k».proof.Proof.Blocks

@[expose] public section

set_option maxRecDepth 16384

noncomputable section

namespace Cert.KernelIdeal.Arrays

open Cert.KernelIdeal Cert.KernelIdeal.Gen Cert.KernelIdeal.Body Cert.KernelIdeal.Point Cert.KernelIdeal.Blocks Cert.Spec
open Idealize.ShloMosaic Idealize.ShloMosaic.TcCoe Idealize.SL.Sem
open scoped BigOperators

variable (m : (ℓ : Loc nD τ sig) → Buf (Elt Ideal) ℓ) (c : Dev nD)

/-! ### One more term of each running sum -/

theorem zero76 (j : Fin 2048) : (k0_pay76 (F := Ideal)) (ix2 0 j) = 0 := by pointwise [k0_pay76]
theorem zero77 (j : Fin 2048) : (k0_pay77 (F := Ideal)) (ix2 0 j) = 0 := by pointwise [k0_pay77]
theorem zero78 (h : Fin 8) (r s : Fin 128) : (k0_pay78 (F := Ideal)) (ix3 h r s) = 0 := by pointwise [k0_pay78]
theorem zero79 (r : Fin 128) (h : Fin 8) : (k0_pay79 (F := Ideal)) (ix2 r h) = 0 := by pointwise [k0_pay79]

theorem add80 (x y : Vec Ideal S1x2048 .f32) (j : Fin 2048) : k0_pay80 x y (ix2 0 j) = y (ix2 0 j) + x (ix2 0 j) := by
  pointwise [k0_pay80]
theorem add81 (x y : Vec Ideal S1x2048 .f32) (j : Fin 2048) : k0_pay81 x y (ix2 0 j) = y (ix2 0 j) + x (ix2 0 j) := by
  pointwise [k0_pay81]
theorem add1 (x y : Vec Ideal S8x128x128 .f32) (h : Fin 8) (r s : Fin 128) :
    k0_pay1 k0_pay3 x y (ix3 h r s) = y (ix3 h r s) + if s.val ≤ r.val then x (ix3 h r s) else 0 := by
  pointwise [k0_pay1, k0_pay3]
  rw [sge_word]
theorem add2 (x y : Vec Ideal S128x8 .f32) (r : Fin 128) (h : Fin 8) : k0_pay2 x y (ix2 r h) = y (ix2 r h) + x (ix2 r h) := by
  pointwise [k0_pay2]

/-! ### The running sums after a point -/

/-- The chunk of a point's number. -/
def chk (n : ℕ) : Fin 64 := ⟨n % 64, Nat.mod_lt _ (by decide)⟩
theorem pt_eq (t : Fin cfg0.N) : pt t = chk t.val := by
  have h : t.val < 64 := N_0 ▸ t.isLt
  exact Fin.ext (Nat.mod_eq_of_lt h).symm
theorem sum_chk (f : Fin 64 → EReal) : ∑ k ∈ Finset.range 64, f (chk k) = ∑ k : Fin 64, f k := by
  rw [Finset.sum_range]
  exact Finset.sum_congr rfl fun k _ => congrArg f (Fin.ext (Nat.mod_eq_of_lt k.isLt))

abbrev sU (k : Fin 64) := Uc (aH m c) k
abbrev sV (k : Fin 64) := Vc (aH m c) k
abbrev sZ (k : Fin 64) := Zc (aH m c) k
abbrev sY (k : Fin 64) := Yc (aD m c) k

theorem acc9 (j : Fin 2048) : ∀ (n : ℕ) (hn : n < cfg0.N),
    ((outsAt0 m c n hn).2.1 : Vec Ideal S1x2048 .f32) (ix2 0 j) = ∑ k ∈ Finset.range (n + 1), dg (sU m c (chk k)) (sV m c (chk k)) (sZ m c (chk k)) (sY m c (chk k)) (aW m c) j
  | 0, hn => by
    rw [show outsAt0 m c 0 hn = _ from outsAt0_A m c ⟨0, hn⟩ rfl]
    dsimp only
    rw [out_A_9, add80, zero76, dg_at, blk0 m c, blk1 m c, blk2 m c, blk3 m c, blk6 m c, pt_eq, zero_add, Finset.sum_range_one]
  | n + 1, hn => by
    have hN : cfg0.N = 64 := N_0
    have hB : ¬(⟨n + 1, hn⟩ : Fin cfg0.N).val % 64 = 0 := by dsimp only; omega
    rw [show outsAt0 m c (n + 1) hn = _ from outsAt0_B m c ⟨n + 1, hn⟩ hB]
    dsimp only
    rw [out_B_9, add80, dg_at, blk0 m c, blk1 m c, blk2 m c, blk3 m c, blk6 m c, pt_eq, Finset.sum_range_succ]
    congr 1
    exact acc9 j n _

theorem acc10 (j : Fin 2048) : ∀ (n : ℕ) (hn : n < cfg0.N),
    ((outsAt0 m c n hn).2.2.1 : Vec Ideal S1x2048 .f32) (ix2 0 j) = ∑ k ∈ Finset.range (n + 1), db (sU m c (chk k)) (sZ m c (chk k)) (sY m c (chk k)) (aW m c) j
  | 0, hn => by
    rw [show outsAt0 m c 0 hn = _ from outsAt0_A m c ⟨0, hn⟩ rfl]
    dsimp only
    rw [out_A_10, add81, zero77, db_at, blk0 m c, blk2 m c, blk3 m c, blk6 m c, pt_eq, zero_add, Finset.sum_range_one]
  | n + 1, hn => by
    have hN : cfg0.N = 64 := N_0
    have hB : ¬(⟨n + 1, hn⟩ : Fin cfg0.N).val % 64 = 0 := by dsimp only; omega
    rw [show outsAt0 m c (n + 1) hn = _ from outsAt0_B m c ⟨n + 1, hn⟩ hB]
    dsimp only
    rw [out_B_10, add81, db_at, blk0 m c, blk2 m c, blk3 m c, blk6 m c, pt_eq, Finset.sum_range_succ]
    congr 1
    exact acc10 j n _

theorem acc11 (h : Fin 8) (r s : Fin 128) : ∀ (n : ℕ) (hn : n < cfg0.N),
    ((outsAt0 m c n hn).2.2.2.1 : Vec Ideal S8x128x128 .f32) (ix3 h r s) = ∑ k ∈ Finset.range (n + 1), (if s.val ≤ r.val then dW (aG m c) (aB m c) (sU m c (chk k)) (sV m c (chk k)) (sZ m c (chk k)) (sY m c (chk k)) h r s else 0)
  | 0, hn => by
    rw [show outsAt0 m c 0 hn = _ from outsAt0_A m c ⟨0, hn⟩ rfl]
    dsimp only
    rw [out_A_11, add1, zero78, dW_at, blk0 m c, blk1 m c, blk2 m c, blk3 m c, blk4 m c, blk5 m c, pt_eq, zero_add, Finset.sum_range_one]
  | n + 1, hn => by
    have hN : cfg0.N = 64 := N_0
    have hB : ¬(⟨n + 1, hn⟩ : Fin cfg0.N).val % 64 = 0 := by dsimp only; omega
    rw [show outsAt0 m c (n + 1) hn = _ from outsAt0_B m c ⟨n + 1, hn⟩ hB]
    dsimp only
    rw [out_B_11, add1, dW_at, blk0 m c, blk1 m c, blk2 m c, blk3 m c, blk4 m c, blk5 m c, pt_eq, Finset.sum_range_succ]
    congr 1
    exact acc11 h r s n _

theorem acc12 (r : Fin 128) (h : Fin 8) : ∀ (n : ℕ) (hn : n < cfg0.N),
    ((outsAt0 m c n hn).2.2.2.2 : Vec Ideal S128x8 .f32) (ix2 r h) = ∑ k ∈ Finset.range (n + 1), dB (sU m c (chk k)) (sZ m c (chk k)) (sY m c (chk k)) r h
  | 0, hn => by
    rw [show outsAt0 m c 0 hn = _ from outsAt0_A m c ⟨0, hn⟩ rfl]
    dsimp only
    rw [out_A_12, add2, zero79, dB_at, blk0 m c, blk2 m c, blk3 m c, pt_eq, zero_add, Finset.sum_range_one]
  | n + 1, hn => by
    have hN : cfg0.N = 64 := N_0
    have hB : ¬(⟨n + 1, hn⟩ : Fin cfg0.N).val % 64 = 0 := by dsimp only; omega
    rw [show outsAt0 m c (n + 1) hn = _ from outsAt0_B m c ⟨n + 1, hn⟩ hB]
    dsimp only
    rw [out_B_12, add2, dB_at, blk0 m c, blk2 m c, blk3 m c, pt_eq, Finset.sum_range_succ]
    congr 1
    exact acc12 r h n _

/-- The last point. -/
def tl : Fin cfg0.N := ⟨63, by decide⟩

theorem arr9 (j : Fin 2048) : ((dats m 0 c).arrAt 9 cfg0.N : Vec Ideal S1x2048 .f32) (ix2 0 j) = gradG (aH m c) (aD m c) (aW m c) j := by
  refine ((dats m 0 c).arrAt_emb_eq_after_last 9 tl (by decide +kernel) ((ix2 0 j) : S1x2048.Idx)).trans ?_
  rw [after0_9]
  refine (acc9 m c j 63 tl.isLt).trans ?_
  rw [show 63 + 1 = 64 from rfl, sum_chk fun k => dg (sU m c k) (sV m c k) (sZ m c k) (sY m c k) (aW m c) j]
  rfl

theorem arr10 (j : Fin 2048) : ((dats m 0 c).arrAt 10 cfg0.N : Vec Ideal S1x2048 .f32) (ix2 0 j) = gradB (aH m c) (aD m c) (aW m c) j := by
  refine ((dats m 0 c).arrAt_emb_eq_after_last 10 tl (by decide +kernel) ((ix2 0 j) : S1x2048.Idx)).trans ?_
  rw [after0_10]
  refine (acc10 m c j 63 tl.isLt).trans ?_
  rw [show 63 + 1 = 64 from rfl, sum_chk fun k => db (sU m c k) (sZ m c k) (sY m c k) (aW m c) j]
  rfl

theorem arr11 (h : Fin 8) (r s : Fin 128) : ((dats m 0 c).arrAt 11 cfg0.N : Vec Ideal S8x128x128 .f32) (ix3 h r s) = gradW (aH m c) (aD m c) (aG m c) (aB m c) h r s := by
  refine ((dats m 0 c).arrAt_emb_eq_after_last 11 tl (by decide +kernel) ((ix3 h r s) : S8x128x128.Idx)).trans ?_
  rw [after0_11]
  refine (acc11 m c h r s 63 tl.isLt).trans ?_
  rw [show 63 + 1 = 64 from rfl, sum_chk fun k => (if s.val ≤ r.val then dW (aG m c) (aB m c) (sU m c k) (sV m c k) (sZ m c k) (sY m c k) h r s else 0)]
  unfold gradW
  split
  · rfl
  · exact Finset.sum_const_zero

theorem arr12 (r : Fin 128) (h : Fin 8) : ((dats m 0 c).arrAt 12 cfg0.N : Vec Ideal S128x8 .f32) (ix2 r h) = gradS (aH m c) (aD m c) r h := by
  refine ((dats m 0 c).arrAt_emb_eq_after_last 12 tl (by decide +kernel) ((ix2 r h) : S128x8.Idx)).trans ?_
  rw [after0_12]
  refine (acc12 m c r h 63 tl.isLt).trans ?_
  rw [show 63 + 1 = 64 from rfl, sum_chk fun k => dB (sU m c k) (sZ m c k) (sY m c k) r h]
  rfl

/-! ### The row blocks -/

section
variable (x0 x1 x2 x3 : Vec Ideal S128x2048 .f32) (x4 x5 : Vec Ideal S1x2048 .f32) (x6 : Vec Ideal S8x128x128 .f32) (x7 : Vec Ideal S128x8 .f32)

theorem canonZ (r : Fin 128) (j : Fin 2048) (hj : 4096 + j.val < 6144) :
    View.canon (stores x0 x1 x2 x3 x4 x5 x6 x7) (ix2 r ⟨4096 + j.val, hj⟩) = dzP x0 x1 x2 x3 x4 x5 x6 x7 (ix2 r j) := by
  have e : (ix2 r ⟨4096 + j.val, hj⟩ : S128x6144.Idx)
      = (Rect.unit (s := S128x6144) ![0, 4096] S128x2048.size inb_S128x6144_S128x2048_0_4096).emb (ix2 r j : S128x2048.Idx) := by
    blk_ext
  rw [e]
  exact View.canon_cons_emb _ _ _ _

theorem canonV (r : Fin 128) (j : Fin 2048) (hj : 2048 + j.val < 6144) :
    View.canon (stores x0 x1 x2 x3 x4 x5 x6 x7) (ix2 r ⟨2048 + j.val, hj⟩) = dvP x0 x1 x2 x3 x4 x6 (ix2 r j) := by
  have e : (ix2 r ⟨2048 + j.val, hj⟩ : S128x6144.Idx)
      = (Rect.unit (s := S128x6144) ![0, 2048] S128x2048.size inb_S128x6144_S128x2048_0_2048).emb (ix2 r j : S128x2048.Idx) := by
    blk_ext
  refine (View.canon_cons_of_not_mem _ _ ?_).trans ?_
  · rw [Rect.mem_set_unit]
    intro h
    have h1 : 4096 ≤ 2048 + j.val := (h 1).1
    omega
  · rw [e]
    exact View.canon_cons_emb _ _ _ _

theorem canonU (r : Fin 128) (j : Fin 2048) (hj : j.val < 6144) :
    View.canon (stores x0 x1 x2 x3 x4 x5 x6 x7) (ix2 r ⟨j.val, hj⟩) = duP x1 x2 x3 x4 x5 x6 x7 (ix2 r j) := by
  have e : (ix2 r ⟨j.val, hj⟩ : S128x6144.Idx)
      = (Rect.unit (s := S128x6144) ![0, 0] S128x2048.size inb_S128x6144_S128x2048_0_0).emb (ix2 r j : S128x2048.Idx) := by
    blk_ext
  refine (View.canon_cons_of_not_mem _ _ ?_).trans ?_
  · rw [Rect.mem_set_unit]
    intro h
    have h1 : 4096 ≤ j.val := (h 1).1
    omega
  refine (View.canon_cons_of_not_mem _ _ ?_).trans ?_
  · rw [Rect.mem_set_unit]
    intro h
    have h1 : 2048 ≤ j.val := (h 1).1
    omega
  · rw [e]
    exact View.canon_cons_emb _ _ _ _
end

/-- What any point leaves in the row block's window. -/
theorem outs8 (t : Fin cfg0.N) : (outsAt0 m c t.val t.isLt).1
    = View.canon (stores (iblk m c 0 t) (iblk m c 1 t) (iblk m c 2 t) (iblk m c 3 t) (iblk m c 4 t) (iblk m c 5 t) (iblk m c 6 t)
        (iblk m c 7 t)) := by
  by_cases h0 : t.val % 64 = 0
  · rw [outsAt0_A m c t h0]; dsimp only; rw [out_A_8]
  · rw [outsAt0_B m c t h0]; dsimp only; rw [out_B_8]

theorem e8 : ∀ t : Fin cfg0.N, win0_8.index t = ![t.val, 0] := (by decide +kernel : ∀ t : Fin grid0.N, _)
theorem f8 : ∀ t : Fin cfg0.N, (cfg0.win 8).flush t = true := (by decide +kernel : ∀ t : Fin grid0.N, _)

theorem arr8 (t : Fin cfg0.N) (r : Fin 128) (j : Fin 6144) :
    ((dats m 0 c).arrAt 8 cfg0.N : Vec Ideal S8192x12288 .bf16) (ix2 (rowOf (pt t) r) ⟨j.val, by have := j.isLt; omega⟩)
      = View.canon (stores (iblk m c 0 t) (iblk m c 1 t) (iblk m c 2 t) (iblk m c 3 t) (iblk m c 4 t) (iblk m c 5 t) (iblk m c 6 t)
        (iblk m c 7 t)) (ix2 r j) := by
  have h := (dats m 0 c).arrAt_emb_eq_flushed 8 (Cert.KernelIdeal.Value.disjoint8) t (f8 t) (ix2 r j : S128x6144.Idx)
  have e : ((cfg0.win 8).blk t).view.emb (ix2 r j : S128x6144.Idx)
      = (ix2 (rowOf (pt t) r) ⟨j.val, by have := j.isLt; omega⟩ : S8192x12288.Idx) := by
    blk_ext [e8, row_val]
  rw [e] at h
  refine h.trans ?_
  rw [← outs8, ← after0_8]
  rfl

theorem arrU (t : Fin cfg0.N) (r : Fin 128) (j : Fin 2048) :
    ((dats m 0 c).arrAt 8 cfg0.N : Vec Ideal S8192x12288 .bf16) (ix2 (rowOf (pt t) r) ⟨j.val, by have := j.isLt; omega⟩)
      = gradU (aH m c) (aD m c) (aG m c) (aB m c) (aW m c) (aS m c) (pt t) r j := by
  refine (arr8 m c t r ⟨j.val, by have := j.isLt; omega⟩).trans ?_
  rw [canonU, du_at, blk1 m c, blk2 m c, blk3 m c, blk4 m c, blk5 m c, blk6 m c, blk7 m c]
  rfl
theorem arrV (t : Fin cfg0.N) (r : Fin 128) (j : Fin 2048) :
    ((dats m 0 c).arrAt 8 cfg0.N : Vec Ideal S8192x12288 .bf16) (ix2 (rowOf (pt t) r) ⟨2048 + j.val, by have := j.isLt; omega⟩)
      = gradV (aH m c) (aD m c) (aG m c) (aW m c) (pt t) r j := by
  refine (arr8 m c t r ⟨2048 + j.val, by have := j.isLt; omega⟩).trans ?_
  rw [canonV, dv_at, blk0 m c, blk1 m c, blk2 m c, blk3 m c, blk4 m c, blk6 m c]
  rfl
theorem arrZ (t : Fin cfg0.N) (r : Fin 128) (j : Fin 2048) :
    ((dats m 0 c).arrAt 8 cfg0.N : Vec Ideal S8192x12288 .bf16) (ix2 (rowOf (pt t) r) ⟨4096 + j.val, by have := j.isLt; omega⟩)
      = gradZ (aH m c) (aD m c) (aG m c) (aB m c) (aW m c) (aS m c) (pt t) r j := by
  refine (arr8 m c t r ⟨4096 + j.val, by have := j.isLt; omega⟩).trans ?_
  rw [canonZ, dz_at, blk0 m c, blk1 m c, blk2 m c, blk3 m c, blk4 m c, blk5 m c, blk6 m c, blk7 m c]
  rfl

end Cert.KernelIdeal.Arrays

end
-- ==== Proof.RefRows.lean ====
/-
  The reference's run, one named value at a time: each at an index, as the entry of the gradient it is.
-/
module

public import proofs.«01_k».proof.Proof.Gen.ReferenceIdeal.Read
public import proofs.«01_k».proof.Proof.Result
public import Idealize.ShloMosaic.Lib.Pointwise

@[expose] public section

set_option maxRecDepth 16384

noncomputable section

namespace Cert.ReferenceIdeal.Rows

open Cert.ReferenceIdeal Cert.ReferenceIdeal.Gen Cert.ReferenceIdeal.Read Cert.Spec
open Idealize.ShloMosaic Idealize.ShloMosaic.TcCoe Idealize.SL.Sem
open scoped BigOperators

variable (x0 : Vec Ideal S8192x12288 .f32) (x1 : Vec Ideal S8192x4096 .f32) (x2 x3 : Vec Ideal S1x2048 .f32)
  (x4 : Vec Ideal S1x8x128x128 .f32) (x5 : Vec Ideal S1x8x128 .f32)

/-- The arguments, entry by entry. -/
abbrev rH (i : Fin 8192) (j : Fin 12288) : EReal := x0 (ix2 i j)
abbrev rD (i : Fin 8192) (j : Fin 4096) : EReal := x1 (ix2 i j)
abbrev rG (j : Fin 2048) : EReal := x2 (ix2 0 j)
abbrev rW (h : Fin 8) (t s : Fin 128) : EReal := x4 (ix4 0 h t s)
abbrev rS (t : Fin 128) (h : Fin 8) : EReal := x5 (ix3 0 h t)

/-- A row of the second column group. -/
def vrow (i : Fin 8192) : Row := fun j => x0 (ix2 i ⟨2048 + j.val, by have := j.isLt; omega⟩)

theorem v4_at (i : Fin 8192) (j : Fin 2048) : val_main_v4 (F := Ideal) x0 (ix2 i j) = vrow x0 i j := by
  pointwise [val_main_v4, val_main_v0]
  rfl
theorem v11_at (i : Fin 8192) (j : Fin 2048) : val_main_v11 (F := Ideal) x0 (ix2 i j) = cen (vrow x0 i) j := by
  pointwise [val_main_v11, val_main_v10, val_main_v9, val_main_v8, val_main_v7, val_main_v6, val_main_cst, val_main_cst_0]
  simp only [v4_at]
  rfl
theorem v18_at (i : Fin 8192) : val_main_v18 (F := Ideal) x0 (ix2 i 0) = var (vrow x0 i) := by
  pointwise [val_main_v18, val_main_v17, val_main_v16, val_main_v15, val_main_v14, val_main_v13, val_main_v12, val_main_cst_1, val_main_cst_2, val_main_cst_3]
  simp only [v11_at]
  rfl
theorem v19_at (i : Fin 8192) : val_main_v19 (F := Ideal) x0 (ix2 i 0) = rs (vrow x0 i) := by
  pointwise [val_main_v19]
  simp only [v18_at]
  rfl
theorem v22_at (i : Fin 8192) : val_main_v22 (F := Ideal) x0 (ix2 i 0) = drs (vrow x0 i) := by
  pointwise [val_main_v22, val_main_v21, val_main_v20, val_main_cst_4]
  simp only [v18_at, v19_at]
  rfl
theorem v24_at (i : Fin 8192) (j : Fin 2048) : val_main_v24 (F := Ideal) x0 (ix2 i j) = nrm (vrow x0 i) j := by
  pointwise [val_main_v24, val_main_v23]
  simp only [v11_at, v19_at]
  rfl
theorem v28_at (i : Fin 8192) (j : Fin 2048) :
    val_main_v28 (F := Ideal) x0 x2 x3 (ix2 i j) = ln (rG x2) (rG x3) (vrow x0 i) j := by
  pointwise [val_main_v28, val_main_v27, val_main_v26, val_main_v25]
  simp only [v24_at]
  rfl

/-! ### The mixing matrices and the mixed values -/

theorem sge_word (t s : Fin 128) (a b : EReal) :
    Scalar.select (Scalar.select (IntOp.cmpi .sge (IntOp.addi (BitVec.ofNat 32 t.val) 0#32) (BitVec.ofNat 32 s.val)) 1#1 0#1) a b
      = if s.val ≤ t.val then a else b := by
  have h : (BitVec.ofNat 32 s.val).sle (BitVec.ofNat 32 t.val) = decide (s.val ≤ t.val) := by
    have := t.isLt; have := s.isLt
    rw [BitVec.sle_eq_decide, decide_eq_decide, BitVec.toInt_eq_toNat_of_lt, BitVec.toInt_eq_toNat_of_lt] <;>
      simp only [BitVec.toNat_ofNat] <;> omega
  by_cases hst : s.val ≤ t.val
  · simp [Scalar.select, IntOp.cmpi, IntOp.addi, h, hst]
  · simp [Scalar.select, IntOp.cmpi, IntOp.addi, h, hst]

theorem v32_at (h : Fin 8) (t s : Fin 128) : val_main_v32_0 (F := Ideal) x4 (ix3 h t s) = low (rW x4) h t s := by
  pointwise [val_main_v32_0, val_main_v32_1, val_main_v31, val_main_v30, val_main_v29, val_main_v1, val_main_call0_v0, val_main_call0_c, val_main_call0_v1,
    val_main_call0_v2, val_main_call0_v3, val_main_call0_v4, val_main_call0_c_0, val_main_call0_v5, val_main_c, val_main_cst_5]
  rw [sge_word]
  rfl

/-- A rank-two array at a row of a chunk and a column of a group. -/
theorem at_cell (x : Vec Ideal S8192x2048 .f32) (k : Fin 64) (t : Fin 128) (h : Fin 8) (d : Fin 256) (i : Fin 8192) (j : Fin 2048)
    (hi : i.val = k.val * 128 + t.val) (hj : j.val = h.val * 256 + d.val) : x (ix2 i j) = x (ix2 (rowOf k t) (col h d)) := by
  obtain rfl : i = rowOf k t := Fin.ext (by rw [hi]; show _ = 128 * k.val + t.val; omega)
  obtain rfl : j = col h d := Fin.ext (by rw [hj]; show _ = 256 * h.val + d.val; omega)
  rfl

theorem grp_col (h : Fin 8) (d : Fin 256) : grp (col h d) = h :=
  Fin.ext (by show (256 * h.val + d.val) / 256 = h.val; have := d.isLt; omega)

theorem v33_at (k : Fin 64) (t : Fin 128) (h : Fin 8) (d : Fin 256) :
    val_main_v33 (F := Ideal) x0 x2 x3 (ix4 k t h d) = ln (rG x2) (rG x3) (vrow x0 (rowOf k t)) (col h d) := by
  pointwise [val_main_v33]
  exact (at_cell (val_main_v28 (F := Ideal) x0 x2 x3) k t h d _ _ rfl rfl).trans (v28_at ..)
theorem v39_at (k : Fin 64) (t : Fin 128) (h : Fin 8) (d : Fin 256) :
    val_main_v39 (F := Ideal) x0 x2 x3 x4 x5 (ix4 k t h d) = mix (rG x2) (rG x3) (Vc (rH x0) k) (rW x4) (rS x5) t (col h d) := by
  pointwise [val_main_v39, val_main_v38, val_main_v37, val_main_v36, val_main_v35, val_main_v34, val_main_v2]
  simp only [v33_at, v32_at, mix, grp_col]
  congr 1
  exact Finset.sum_congr rfl fun s _ => mul_comm _ _

/-- A column is its group's column at its place in the group. -/
def sub (j : Fin 2048) : Fin 256 := ⟨j.val % 256, Nat.mod_lt _ (by decide)⟩
theorem col_sub (j : Fin 2048) : col (grp j) (sub j) = j :=
  Fin.ext (by show 256 * (j.val / 256) + j.val % 256 = j.val; omega)

/-- A rank-four array of chunks and groups at the cell of a row and a column. -/
theorem at_four (x : Vec Ideal S64x128x8x256 .f32) (k : Fin 64) (t : Fin 128) (j : Fin 2048) (a : Fin 64) (b : Fin 128) (e : Fin 8) (f : Fin 256)
    (ha : a.val = k.val) (hb : b.val = t.val) (he : e.val = j.val / 256) (hf : f.val = j.val % 256) :
    x (ix4 a b e f) = x (ix4 k t (grp j) (sub j)) := by
  obtain rfl : a = k := Fin.ext ha
  obtain rfl : b = t := Fin.ext hb
  obtain rfl : e = grp j := Fin.ext he
  obtain rfl : f = sub j := Fin.ext hf
  rfl

theorem v41_at (k : Fin 64) (t : Fin 128) (j : Fin 2048) :
    val_main_v41 (F := Ideal) x0 x2 x3 x4 x5 (ix2 (rowOf k t) j) = mix (rG x2) (rG x3) (Vc (rH x0) k) (rW x4) (rS x5) t j := by
  have hk := k.isLt; have ht := t.isLt; have hj := j.isLt
  have hr : (rowOf k t).val = 128 * k.val + t.val := rfl
  pointwise [val_main_v41]
  refine (at_four (val_main_v39 (F := Ideal) x0 x2 x3 x4 x5) k t j _ _ _ _ (by dsimp only; omega) (by dsimp only; omega) rfl rfl).trans ?_
  rw [v39_at, col_sub]

/-! ### The gate -/

theorem v40_at (i : Fin 8192) (j : Fin 2048) :
    val_main_v40_2 (F := Ideal) x0 (ix2 i j) = sg (x0 (ix2 i ⟨4096 + j.val, by have := j.isLt; omega⟩)) := by
  pointwise [val_main_v40_2, val_main_call2_v4, val_main_call2_v3, val_main_call2_v2, val_main_call2_v1, val_main_call2_v0,
    val_main_call2_cst, val_main_call2_cst_0, val_main_v5, val_main_v0]
  rfl
theorem v45_at (k : Fin 64) (t : Fin 128) (j : Fin 2048) :
    val_main_v45 (F := Ideal) x0 x1 (ix2 (rowOf k t) j) = gy (Zc (rH x0) k) (Yc (rD x1) k) t j := by
  pointwise [val_main_v45, val_main_v44, val_main_v40_0, val_main_v5, val_main_v0]
  simp only [v40_at]
  rfl
theorem v47_at (k : Fin 64) (t : Fin 128) (j : Fin 2048) :
    val_main_v47 (F := Ideal) x0 x1 (ix2 (rowOf k t) j) = dmix (Uc (rH x0) k) (Zc (rH x0) k) (Yc (rD x1) k) t j := by
  pointwise [val_main_v47, val_main_v3, val_main_v0]
  rw [v45_at]
  rfl
theorem v48_at (k : Fin 64) (t : Fin 128) (j : Fin 2048) :
    val_main_v48 (F := Ideal) x0 x1 x2 x3 x4 x5 (ix2 (rowOf k t) j) = gradU (rH x0) (rD x1) (rG x2) (rG x3) (rW x4) (rS x5) k t j := by
  pointwise [val_main_v48]
  rw [v45_at, v41_at]
  rfl
theorem v50_at (k : Fin 64) (t : Fin 128) (j : Fin 2048) :
    val_main_v50 (F := Ideal) x0 x1 x2 x3 x4 x5 (ix2 (rowOf k t) j) = gradZ (rH x0) (rD x1) (rG x2) (rG x3) (rW x4) (rS x5) k t j := by
  pointwise [val_main_v50, val_main_call3_v0, val_main_call3_v1, val_main_call3_v2, val_main_v46, val_main_v44, val_main_v42, val_main_v40_1,
    val_main_v3, val_main_v5, val_main_v0, val_main_call2_v7, val_main_call2_v6, val_main_call2_cst_1]
  simp only [v41_at, v40_at]
  rfl

/-! ### The mixing's gradients -/

theorem v49_at (k : Fin 64) (t : Fin 128) (h : Fin 8) (d : Fin 256) :
    val_main_v49 (F := Ideal) x0 x1 (ix4 k t h d) = dmix (Uc (rH x0) k) (Zc (rH x0) k) (Yc (rD x1) k) t (col h d) := by
  pointwise [val_main_v49]
  exact (at_cell (val_main_v47 (F := Ideal) x0 x1) k t h d _ _ rfl rfl).trans (v47_at ..)
theorem v59_at (k : Fin 64) (s : Fin 128) (j : Fin 2048) :
    val_main_v59 (F := Ideal) x0 x1 x4 (ix2 (rowOf k s) j) = dln (Uc (rH x0) k) (Zc (rH x0) k) (Yc (rD x1) k) (rW x4) s j := by
  have hk := k.isLt; have ht := s.isLt; have hj := j.isLt
  have hr : (rowOf k s).val = 128 * k.val + s.val := rfl
  pointwise [val_main_v59]
  refine (at_four (val_main_v58 (F := Ideal) x0 x1 x4) k s j _ _ _ _ (by dsimp only; omega) (by dsimp only; omega) rfl rfl).trans ?_
  pointwise [val_main_v58, val_main_v57, val_main_v55]
  simp only [v49_at, v32_at, col_sub]
  rfl

theorem v60_at (h : Fin 8) (t s : Fin 128) : val_main_v60 (F := Ideal) x0 x1 x2 x3 (ix3 h t s)
    = gradW (rH x0) (rD x1) (rG x2) (rG x3) h t s := by
  pointwise [val_main_v60, val_main_v56, val_main_v55, val_main_call4_v0, val_main_call4_cst, val_main_v32_1, val_main_v30, val_main_v29,
    val_main_call0_v0, val_main_call0_c, val_main_call0_v1,
    val_main_call0_v2, val_main_call0_v3, val_main_call0_v4, val_main_call0_c_0, val_main_call0_v5, val_main_c]
  rw [sge_word]
  simp only [v49_at, v33_at]
  rfl

/-- A sum over a rank-four array's first and last axes. -/
theorem sum_ends {a b c d : ℕ} (h : (⟨4, ![a, b, c, d]⟩ : Shape).ReducesTo [0, 3] ⟨2, ![b, c]⟩)
    (v : (⟨4, ![a, b, c, d]⟩ : Shape).Idx → EReal) (init : EReal) (t : Fin b) (g : Fin c) :
    Ideal.hostReduceAdd h v init (ix2 t g) = init + ∑ k : Fin a, ∑ e : Fin d, v (ix4 k t g e) := by
  unfold Ideal.hostReduceAdd
  congr 1
  rw [← Fintype.sum_prod_type' (f := fun (k : Fin a) (e : Fin d) => v (ix4 k t g e))]
  refine Finset.sum_nbij' (fun i => ((i 0, i 3) : Fin a × Fin d)) (fun p => ix4 p.1 t g p.2) (fun _ _ => Finset.mem_univ _) ?_ ?_ ?_ ?_
  · intro p _
    refine Finset.mem_filter.mpr ⟨Finset.mem_univ _, ?_⟩
    funext x
    match x with
    | ⟨0, _⟩ => rfl
    | ⟨1, _⟩ => rfl
  · intro i hi
    have h0 := congrFun (Finset.mem_filter.mp hi).2 0
    have h1 := congrFun (Finset.mem_filter.mp hi).2 1
    funext x
    match x with
    | ⟨0, _⟩ => rfl
    | ⟨1, _⟩ => exact Fin.ext (congrArg Fin.val h0).symm
    | ⟨2, _⟩ => exact Fin.ext (congrArg Fin.val h1).symm
    | ⟨3, _⟩ => rfl
  · intro p _
    rfl
  · intro i hi
    have h0 := congrFun (Finset.mem_filter.mp hi).2 0
    have h1 := congrFun (Finset.mem_filter.mp hi).2 1
    congr 1
    funext x
    match x with
    | ⟨0, _⟩ => rfl
    | ⟨1, _⟩ => exact Fin.ext (congrArg Fin.val h0)
    | ⟨2, _⟩ => exact Fin.ext (congrArg Fin.val h1)
    | ⟨3, _⟩ => rfl

theorem v51_at (t : Fin 128) (h : Fin 8) :
    val_main_v51 (F := Ideal) x0 x1 (ix2 t h) = gradS (rH x0) (rD x1) t h := by
  unfold val_main_v51
  refine (sum_ends reducesTo_S64x128x8x256_S128x8_d0_3 (val_main_v49 (F := Ideal) x0 x1) _ t h).trans ?_
  simp only [v49_at]
  pointwise [val_main_cst_6]
  rfl
theorem v53_at (t : Fin 128) (h : Fin 8) :
    val_main_v53 (F := Ideal) x0 x1 (ix2 t h) = gradS (rH x0) (rD x1) t h := by
  unfold val_main_v53
  refine (sum_ends reducesTo_S1x128x8x1_S128x8_d0_3 (val_main_v52 (F := Ideal) x0 x1) _ t h).trans ?_
  simp only [Fin.sum_univ_one]
  pointwise [val_main_v52, val_main_cst_7]
  rw [← v51_at]
theorem v93_at (t : Fin 128) (h : Fin 8) : val_main_v93 (F := Ideal) x0 x1 (ix2 t h) = gradS (rH x0) (rD x1) t h := by
  pointwise [val_main_v93, val_main_v54]
  rw [v53_at]

/-! ### The layer norm's gradients -/

/-- The rows are the chunks' rows. -/
theorem sum_rows (f : Fin 8192 → EReal) : ∑ i, f i = ∑ k : Fin 64, ∑ t : Fin 128, f (rowOf k t) := by
  rw [← Fintype.sum_prod_type' (f := fun (k : Fin 64) (t : Fin 128) => f (rowOf k t))]
  refine Finset.sum_nbij' (fun i : Fin 8192 => ((⟨i.val / 128, by have := i.isLt; omega⟩, ⟨i.val % 128, Nat.mod_lt _ (by decide)⟩) : Fin 64 × Fin 128))
    (fun p => rowOf p.1 p.2) (fun _ _ => Finset.mem_univ _) (fun _ _ => Finset.mem_univ _) ?_ ?_ ?_
  · intro i _
    exact Fin.ext (by show 128 * (i.val / 128) + i.val % 128 = i.val; omega)
  · rintro ⟨k, t⟩ _
    have := t.isLt
    exact Prod.ext (Fin.ext (by show (128 * k.val + t.val) / 128 = k.val; omega)) (Fin.ext (by show (128 * k.val + t.val) % 128 = t.val; omega))
  · intro i _
    exact congrArg f (Fin.ext (by show i.val = 128 * (i.val / 128) + i.val % 128; omega))

theorem v62_at (j : Fin 2048) : val_main_v62 (F := Ideal) x0 x1 x4 (ix2 0 j) = gradB (rH x0) (rD x1) (rW x4) j := by
  pointwise [val_main_v62, val_main_v61, val_main_cst_8]
  rw [sum_rows]
  simp only [v59_at]
  rfl
theorem v65_at (j : Fin 2048) : val_main_v65 (F := Ideal) x0 x1 x4 (ix2 0 j) = gradG (rH x0) (rD x1) (rW x4) j := by
  pointwise [val_main_v65, val_main_v64, val_main_v63, val_main_cst_9]
  rw [sum_rows]
  simp only [v59_at, v24_at]
  rfl

/-- The cotangent of a normalised row. -/
def yrow (k : Fin 64) (t : Fin 128) : Row := fun j => dln (Uc (rH x0) k) (Zc (rH x0) k) (Yc (rD x1) k) (rW x4) t j * rG x2 j

theorem v67_at (k : Fin 64) (t : Fin 128) (j : Fin 2048) : val_main_v67 (F := Ideal) x0 x1 x2 x4 (ix2 (rowOf k t) j) = yrow x0 x1 x2 x4 k t j := by
  pointwise [val_main_v67, val_main_v66]
  rw [v59_at]
  rfl
theorem v76_at (k : Fin 64) (t : Fin 128) :
    val_main_v76 (F := Ideal) x0 x1 x2 x4 (ix1 (rowOf k t)) = coef (vrow x0 (rowOf k t)) (yrow x0 x1 x2 x4 k t) := by
  pointwise [val_main_v76, val_main_v75, val_main_v74, val_main_v73, val_main_v70, val_main_v69, val_main_v68, val_main_cst_10, val_main_cst_11,
    val_main_cst_12]
  simp only [v67_at, v11_at, v22_at, Fin.sum_univ_one]
  rfl
theorem v81_at (k : Fin 64) (t : Fin 128) (j : Fin 2048) :
    val_main_v81 (F := Ideal) x0 x1 x2 x4 (ix2 (rowOf k t) j) = dcen (vrow x0 (rowOf k t)) (yrow x0 x1 x2 x4 k t) j := by
  pointwise [val_main_v81, val_main_v80, val_main_v79, val_main_v78, val_main_v77, val_main_v72, val_main_v71]
  simp only [v67_at, v11_at, v19_at, v76_at]
  rfl
theorem v89_at (k : Fin 64) (t : Fin 128) (j : Fin 2048) :
    val_main_v89 (F := Ideal) x0 x1 x2 x4 (ix2 (rowOf k t) j) = gradV (rH x0) (rD x1) (rG x2) (rW x4) k t j := by
  pointwise [val_main_v89, val_main_v88, val_main_v87, val_main_v86, val_main_v85, val_main_v84, val_main_v83, val_main_v82, val_main_cst_13,
    val_main_cst_14, val_main_cst_15]
  simp only [v81_at, Fin.sum_univ_one]
  rfl

/-! ### The gradients of the column groups, side by side and padded -/

section
variable (k : Fin 64) (t : Fin 128) (j : Fin 2048)

theorem v92_U (hj : j.val < 12288) : val_main_v92 (F := Ideal) x0 x1 x2 x3 x4 x5 (ix2 (rowOf k t) ⟨j.val, hj⟩)
    = gradU (rH x0) (rD x1) (rG x2) (rG x3) (rW x4) (rS x5) k t j := by
  have := j.isLt
  pointwise [val_main_v92, val_main_v91, val_main_v90]
  rw [dif_pos (by omega)]
  exact v48_at ..
theorem v92_V (hj : 2048 + j.val < 12288) : val_main_v92 (F := Ideal) x0 x1 x2 x3 x4 x5 (ix2 (rowOf k t) ⟨2048 + j.val, hj⟩)
    = gradV (rH x0) (rD x1) (rG x2) (rW x4) k t j := by
  have := j.isLt
  pointwise [val_main_v92, val_main_v91, val_main_v90]
  rw [dif_pos (by omega)]
  exact v89_at ..
theorem v92_Z (hj : 4096 + j.val < 12288) : val_main_v92 (F := Ideal) x0 x1 x2 x3 x4 x5 (ix2 (rowOf k t) ⟨4096 + j.val, hj⟩)
    = gradZ (rH x0) (rD x1) (rG x2) (rG x3) (rW x4) (rS x5) k t j := by
  have := j.isLt
  pointwise [val_main_v92, val_main_v91, val_main_v90]
  rw [dif_pos (by omega), dif_neg (by omega), dif_neg (by omega)]
  rw [show ∀ h', (⟨4096 + j.val - 2048 - 2048, h'⟩ : Fin 2048) = j from fun _ => Fin.ext (by dsimp only; omega)]
  exact v50_at ..
end

end Cert.ReferenceIdeal.Rows

end
-- ==== Proof.Gradient.lean ====
/-
  The kernel's five results and the reference's are the same arrays, on the columns the kernel writes.
-/
module

public import proofs.«01_k».proof.Proof.Arrays
public import proofs.«01_k».proof.Proof.RefRows
public import proofs.«01_k».proof.Proof.Gen.KernelIdeal.Value
public import proofs.«01_k».proof.Proof.Gen.ReferenceIdeal.Run
public import proofs.«01_k».proof.Proof.Gen.On_uvz_columns
public import proofs.«01_k».proof.Defs
public import Idealize.ShloMosaic.Lib.Quiescent

@[expose] public section

set_option maxRecDepth 16384

noncomputable section

namespace Cert.Gradient

open Cert.KernelIdeal Cert.KernelIdeal.Gen Cert.Spec Cert.KernelIdeal.Blocks Cert.KernelIdeal.Arrays Cert.ReferenceIdeal.Read
  Cert.ReferenceIdeal.Rows
open Idealize.ShloMosaic Idealize.ShloMosaic.TcCoe Idealize.SL.Sem
open scoped BigOperators

/-- The mask of the first result at an index: the column lies in the three groups. -/
theorem mask_at {F : FTy → Type} [FloatOps F] (x0 : FVec F S8192x12288 .f32) (x1 : FVec F S8192x4096 .f32)
    (x2 x3 : FVec F S1x2048 .f32) (x4 : FVec F S1x8x128x128 .f32) (x5 : FVec F S1x8x128 .f32) (i : S8192x12288.Idx) :
    (Cert.On_uvz_columns.fn (F := F) x0 x1 x2 x3 x4 x5).1 i = 1#1 ↔ (i 1 : Nat) < 6144 := by
  show IntOp.cmpi .slt (BitVec.ofNat 32 (i 1 : Nat)) 6144#32 = 1#1 ↔ _
  have h : (i 1 : Nat) < 12288 := (i 1).isLt
  generalize (i 1 : Nat) = n at h
  have e : (BitVec.ofNat 32 n).toInt = n := by
    rw [BitVec.toInt_eq_toNat_of_lt] <;> rw [BitVec.toNat_ofNat, Nat.mod_eq_of_lt (by omega)]
    omega
  have e' : (6144#32).toInt = 6144 := by decide
  simp only [IntOp.cmpi, BitVec.slt, e, e']
  by_cases hn : n < 6144
  · simp [hn]
  · simp [hn]

/-- A row as a row of a chunk. -/
theorem row_split (i : Fin 8192) : ∃ (t : Fin cfg0.N) (r : Fin 128), i = rowOf (pt t) r := by
  refine ⟨Fin.cast N_0.symm ⟨i.val / 128, by have := i.isLt; omega⟩, ⟨i.val % 128, Nat.mod_lt _ (by decide)⟩, Fin.ext ?_⟩
  show i.val = 128 * (i.val / 128) + i.val % 128
  omega

variable (m : (ℓ : Loc nD τ sig) → Buf (Elt Ideal) ℓ) (c : Dev nD)

/-- The argument arrays of one device. -/
abbrev a0 : Vec Ideal S8192x12288 .f32 := m ((c : Thread nD τ).loc main_arg0)
abbrev a1 : Vec Ideal S8192x4096 .f32 := m ((c : Thread nD τ).loc main_arg1)
abbrev a2 : Vec Ideal S1x2048 .f32 := m ((c : Thread nD τ).loc main_arg2)
abbrev a3 : Vec Ideal S1x2048 .f32 := m ((c : Thread nD τ).loc main_arg3)
abbrev a4 : Vec Ideal S1x8x128x128 .f32 := m ((c : Thread nD τ).loc main_arg4)
abbrev a5 : Vec Ideal S1x8x128 .f32 := m ((c : Thread nD τ).loc main_arg5)

theorem same0 (i : S8192x12288.Idx) (hi : (i 1 : Nat) < 6144) :
    ((dats m 0 c).arrAt 8 cfg0.N : Vec Ideal S8192x12288 .bf16) i
      = val_main_v92 (F := Ideal) (a0 m c) (a1 m c) (a2 m c) (a3 m c) (a4 m c) (a5 m c) i := by
  obtain ⟨i, j, rfl⟩ : ∃ (a : Fin 8192) (b : Fin 12288), i = ix2 a b := ⟨i 0, i 1, eq_ix2 i⟩
  obtain ⟨t, r, rfl⟩ := row_split i
  replace hi : j.val < 6144 := hi
  by_cases h1 : j.val < 2048
  · exact (arrU m c t r ⟨j.val, h1⟩).trans (v92_U _ _ _ _ _ _ (pt t) r ⟨j.val, h1⟩ j.isLt).symm
  by_cases h2 : j.val < 4096
  · obtain ⟨l, hl⟩ : ∃ l : Fin 2048, j.val = 2048 + l.val := ⟨⟨j.val - 2048, by omega⟩, by dsimp only; omega⟩
    rw [show j = ⟨2048 + l.val, by have := l.isLt; omega⟩ from Fin.ext hl]
    exact (arrV m c t r l).trans (v92_V _ _ _ _ _ _ (pt t) r l (by have := l.isLt; omega)).symm
  · obtain ⟨l, hl⟩ : ∃ l : Fin 2048, j.val = 4096 + l.val := ⟨⟨j.val - 4096, by omega⟩, by dsimp only; omega⟩
    rw [show j = ⟨4096 + l.val, by have := l.isLt; omega⟩ from Fin.ext hl]
    exact (arrZ m c t r l).trans (v92_Z _ _ _ _ _ _ (pt t) r l (by have := l.isLt; omega)).symm

theorem same1 : ((dats m 0 c).arrAt 9 cfg0.N : Vec Ideal S1x2048 .f32) = val_main_v65 (F := Ideal) (a0 m c) (a1 m c) (a4 m c) := by
  funext i
  obtain ⟨z, j, rfl⟩ : ∃ (a : Fin 1) (b : Fin 2048), i = ix2 a b := ⟨i 0, i 1, eq_ix2 i⟩
  obtain rfl : z = 0 := Subsingleton.elim _ _
  exact (arr9 m c j).trans (v65_at _ _ _ j).symm

theorem same2 : ((dats m 0 c).arrAt 10 cfg0.N : Vec Ideal S1x2048 .f32) = val_main_v62 (F := Ideal) (a0 m c) (a1 m c) (a4 m c) := by
  funext i
  obtain ⟨z, j, rfl⟩ : ∃ (a : Fin 1) (b : Fin 2048), i = ix2 a b := ⟨i 0, i 1, eq_ix2 i⟩
  obtain rfl : z = 0 := Subsingleton.elim _ _
  exact (arr10 m c j).trans (v62_at _ _ _ j).symm

theorem same3 : ((dats m 0 c).arrAt 11 cfg0.N : Vec Ideal S8x128x128 .f32)
    = val_main_v60 (F := Ideal) (a0 m c) (a1 m c) (a2 m c) (a3 m c) := by
  funext i
  obtain ⟨h, r, s, rfl⟩ : ∃ (a : Fin 8) (b d : Fin 128), i = ix3 a b d := ⟨i 0, i 1, i 2, eq_ix3 i⟩
  exact (arr11 m c h r s).trans (v60_at _ _ _ _ h r s).symm

theorem same4 : ((dats m 0 c).arrAt 12 cfg0.N : Vec Ideal S128x8 .f32) = val_main_v93 (F := Ideal) (a0 m c) (a1 m c) := by
  funext i
  obtain ⟨r, h, rfl⟩ : ∃ (a : Fin 128) (b : Fin 8), i = ix2 a b := ⟨i 0, i 1, eq_ix2 i⟩
  exact (arr12 m c r h).trans (v93_at _ _ r h).symm

/-- The reference leaves its arguments as they were. -/
theorem frame_reference : Cert.quiescent_ReferenceIdeal := fun m ρ _ =>
  (θ_run Cert.ReferenceIdeal.defs _ _).mono (fun r h => ⟨fun c => (h c).2.2.2.2.2, sem_eq_zero_of_no_sems (by decide) r.2⟩)
    (Cert.ReferenceIdeal.Value.run (F := Ideal) m ρ)

/-- Kernel and reference end with the same five arrays. -/
theorem algebraic : Cert.algebraic_KernelIdeal_ReferenceIdeal_on_uvz_columns := by
  intro m ρ m' ρ' _ ha
  refine ⟨fun c => (dats m 0 c).arrAt 8 cfg0.N, fun c => (dats m 0 c).arrAt 9 cfg0.N, fun c => (dats m 0 c).arrAt 10 cfg0.N,
    fun c => (dats m 0 c).arrAt 11 cfg0.N, fun c => (dats m 0 c).arrAt 12 cfg0.N, ?_, ?_⟩
  · exact (θ_run Cert.KernelIdeal.defs _ _).mono (fun _ h c => by
      obtain ⟨h0, h1, h2, h3, h4, hk⟩ := h c
      exact ⟨fun i _ => congrFun h0 i, fun i _ => congrFun h1 i, fun i _ => congrFun h2 i, fun i _ => congrFun h3 i,
        fun i _ => congrFun h4 i, hk⟩) (Cert.KernelIdeal.Value.run_blocks (F := Ideal) m ρ)
  · refine (θ_run Cert.ReferenceIdeal.defs _ _).mono (fun _ h c => ?_) (Cert.ReferenceIdeal.Value.run (F := Ideal) m' ρ')
    obtain ⟨h0, h1, h2, h3, h4, hk⟩ := h c
    obtain ⟨e0, e1, e2, e3, e4, e5⟩ := ha c
    refine ⟨fun i hi => ?_, fun i _ => ?_, fun i _ => ?_, fun i _ => ?_, fun i _ => ?_, hk⟩
    · refine (congrFun (h0.trans (val_main_v92_eq m' c)) i).trans ?_
      rw [e0, e1, e2, e3, e4, e5]
      exact (same0 m c i ((mask_at ..).mp hi)).symm
    · refine (congrFun (h1.trans (val_main_v65_eq m' c)) i).trans ?_
      rw [e0, e1, e4]
      exact (congrFun (same1 m c) i).symm
    · refine (congrFun (h2.trans (val_main_v62_eq ..)) i).trans ?_
      rw [e0, e1, e4]
      exact (congrFun (same2 m c) i).symm
    · refine (congrFun (h3.trans (val_main_v60_eq m' c)) i).trans ?_
      rw [e0, e1, e2, e3]
      exact (congrFun (same3 m c) i).symm
    · refine (congrFun (h4.trans (val_main_v93_eq ..)) i).trans ?_
      rw [e0, e1]
      exact (congrFun (same4 m c) i).symm

end Cert.Gradient

end
-- ==== Proof.OddInDw.lean ====
/-
  The gradient of the odd layers' input projection: each block of the result is a product over the 8192 rows, taken 2048 at
  a time into an accumulator; block `t` of the grid belongs to output block `t / 4` and rows `2048 (t % 4) …`.
-/
module

public import proofs.«01_k».proof.Defs
public import proofs.«01_k».proof.Proof.Sums
public import proofs.«01_k».proof.Proof.Gen.OddInDwIdeal.Value
public import proofs.«01_k».proof.Proof.Gen.OddInDwReferenceIdeal.Run
public import proofs.«01_k».proof.Proof.Gen.OddInDwReferenceIdeal.Read
public import Idealize.ShloMosaic.Lib.Pipeline.ValueKit

@[expose] public section

set_option maxRecDepth 16384

noncomputable section

namespace Cert.OddInDwValue

open Cert.OddInDwIdeal Cert.OddInDwIdeal.Gen Idealize.ShloMosaic Idealize.ShloMosaic.TcCoe Idealize.SL.Sem
open scoped BigOperators

theorem hz2 : (![0, 0] : Fin 2 → Nat) = fun _ => 0 := funext fun a => by fin_cases a <;> rfl
theorem hz4 : (![0, 0, 0, 0] : Fin 4 → Nat) = fun _ => 0 := funext fun a => by fin_cases a <;> rfl

section Point
variable {F : FTy → Type} [FloatOps F]

theorem first (c : Dev nD) (i : grid0.Coords) (a3 : Memref sig .tc .vmem S2048x1024 .bf16) (h3 : a3.IsWhole) (a4 : Memref sig .tc .vmem S2048x1024 .bf16) (h4 : a4.IsWhole)
    (a5 : Memref sig .tc .vmem S1x1x1024x1024 .f32) (h5 : a5.IsWhole) (a6 : Memref sig .tc .vmem S1024x1024 .f32) (h6 : a6.IsWhole)
    (hc0 : cond0_0 i) (hc1 : ¬cond0_1 i) (hc2 : ¬cond0_2 i) (x0 x1 : Vec F S2048x1024 .bf16) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero hz2]
  simp only [View.readAt_eq_ld, h3.read_unread, h4.read_unread, View.ld_unit_zero (S := S2048x1024) hz2, View.ld_unit_zero (S := S1024x1024) hz2]

theorem later (c : Dev nD) (i : grid0.Coords) (a3 : Memref sig .tc .vmem S2048x1024 .bf16) (h3 : a3.IsWhole) (a4 : Memref sig .tc .vmem S2048x1024 .bf16) (h4 : a4.IsWhole)
    (a5 : Memref sig .tc .vmem S1x1x1024x1024 .f32) (h5 : a5.IsWhole) (a6 : Memref sig .tc .vmem S1024x1024 .f32) (h6 : a6.IsWhole)
    (hc0 : ¬cond0_0 i) (hc1 : cond0_1 i) (hc2 : ¬cond0_2 i) (x0 x1 : Vec F S2048x1024 .bf16) (s : Vec F S1024x1024 .f32) :
    sout0_B_0 c i a3 h3 a4 h4 a5 h5 a6 h6 hc0 hc1 hc2 x0 x1 s = k0_pay2 s x0 x1 := by
  unfold sout0_B_0
  rw [View.read_writes_eq_canon _ _ _ (scover0_B_0 c i a3 h3 a4 h4 a5 h5 a6 h6 hc0 hc1 hc2 x0 x1 s)]
  unfold kernelRun0_B
  dsimp only
  sl_unfold_words
  rw [View.canon_unit_zero hz2]
  simp only [View.readAt_eq_ld, h3.read_unread, h4.read_unread, h6.read_unread, View.ld_unit_zero (S := S2048x1024) hz2, View.ld_unit_zero (S := S1024x1024) hz2]

theorem last (c : Dev nD) (i : grid0.Coords) (a3 : Memref sig .tc .vmem S2048x1024 .bf16) (h3 : a3.IsWhole) (a4 : Memref sig .tc .vmem S2048x1024 .bf16) (h4 : a4.IsWhole)
    (a5 : Memref sig .tc .vmem S1x1x1024x1024 .f32) (h5 : a5.IsWhole) (a6 : Memref sig .tc .vmem S1024x1024 .f32) (h6 : a6.IsWhole)
    (hc0 : ¬cond0_0 i) (hc1 : ¬cond0_1 i) (hc2 : cond0_2 i) (x0 x1 : Vec F S2048x1024 .bf16) (s : Vec F S1024x1024 .f32) :
    out0_C_2 c i a3 h3 a4 h4 a5 h5 a6 h6 hc0 hc1 hc2 x0 x1 s = k0_pay3 s x0 x1 := by
  unfold out0_C_2
  rw [View.read_writes_eq_canon _ _ _ (cover0_C_2 c i a3 h3 a4 h4 a5 h5 a6 h6 hc0 hc1 hc2 x0 x1 s)]
  unfold kernelRun0_C
  dsimp only
  sl_unfold_words
  rw [View.canon_unit_zero hz4]
  simp only [View.readAt_eq_ld, h3.read_unread, h4.read_unread, h6.read_unread, View.ld_unit_zero (S := S2048x1024) hz2, View.ld_unit_zero (S := S1024x1024) hz2]

end Point

section Payload
variable (x w : Vec Ideal S2048x1024 .bf16) (s : Vec Ideal S1024x1024 .f32) (r j : Fin 1024)

theorem pay1 : k0_pay1 x w (ix2 r j) = ∑ k : Fin 2048, x (ix2 k r) * w (ix2 k j) := by pointwise [k0_pay1]
theorem pay2 : k0_pay2 s x w (ix2 r j) = s (ix2 r j) + ∑ k : Fin 2048, x (ix2 k r) * w (ix2 k j) := by pointwise [k0_pay2]
theorem pay3 : k0_pay3 s x w (ix4 0 0 r j) = s (ix2 r j) + ∑ k : Fin 2048, x (ix2 k r) * w (ix2 k j) := by
  pointwise [k0_pay3]

end Payload

variable (m : (ℓ : Loc nD τ sig) → Buf (Elt Ideal) ℓ) (c : Dev nD)

/-- The arguments, entry by entry. -/
def aX (i : Fin 8192) (k : Fin 2048) : EReal := m ((c : Thread nD τ).loc main_arg0) (ix2 i k)
def aD (i : Fin 8192) (j : Fin 16384) : EReal := m ((c : Thread nD τ).loc main_arg1) (ix2 i j)

theorem e0 : ∀ t : Fin cfg0.N, win0_0.index t = ![t.val % 4, t.val / 64] := (by decide +kernel : ∀ t : Fin grid0.N, _)
theorem e1 : ∀ t : Fin cfg0.N, win0_1.index t = ![t.val % 4, t.val / 4 % 16] := (by decide +kernel : ∀ t : Fin grid0.N, _)
theorem e2 : ∀ t : Fin cfg0.N, win0_2.index t = ![t.val / 64, t.val / 16 % 4, 0, t.val / 4 % 4] :=
  (by decide +kernel : ∀ t : Fin grid0.N, _)

/-- Two points that write back write different blocks. -/
theorem disjoint2 (t t' : Fin cfg0.N) (ht : (cfg0.win 2).flush t = true) (ht' : (cfg0.win 2).flush t' = true) (hne : t ≠ t') :
    Disjoint ((cfg0.win 2).blk t).view.set ((cfg0.win 2).blk t').view.set :=
  (cfg0.win 2).disjoint_blk fun h => hne (by
    have hm := (flush0_2 t).mp ht
    have hm' := (flush0_2 t').mp ht'
    have hN : cfg0.N = 128 := N_0
    have hl := t.isLt
    have hl' := t'.isLt
    have h : win0_2.index t = win0_2.index t' := h
    rw [e2, e2] at h
    have q0 : t.val / 64 = t'.val / 64 := congrFun h 0
    have q1 : t.val / 16 % 4 = t'.val / 16 % 4 := congrFun h 1
    have q3 : t.val / 4 % 4 = t'.val / 4 % 4 := congrFun h 3
    exact Fin.ext (by omega))

theorem lt128 (t : Fin cfg0.N) : t.val < 128 := N_0 ▸ t.isLt

theorem blk0 (t : Fin cfg0.N) (k : Fin 2048) (r : Fin 1024) :
    (iblk m c 0 t : Vec Ideal S2048x1024 .bf16) (ix2 k r)
      = aX m c ⟨2048 * (t.val % 4) + k.val, by omega⟩ ⟨1024 * (t.val / 64) + r.val, by have := lt128 t; omega⟩ := by
  unfold iblk aX
  blk_simp
  show V m c main_arg0 _ = _
  congr 1
  blk_ext [e0]

theorem blk1 (t : Fin cfg0.N) (k : Fin 2048) (j : Fin 1024) :
    (iblk m c 1 t : Vec Ideal S2048x1024 .bf16) (ix2 k j)
      = aD m c ⟨2048 * (t.val % 4) + k.val, by omega⟩ ⟨1024 * (t.val / 4 % 16) + j.val, by omega⟩ := by
  unfold iblk aD
  blk_simp
  show V m c main_arg1 _ = _
  congr 1
  blk_ext [e1]

/-- The product of one block of rows for entry (`r`, `j`) of output block `g`. -/
def term (g : Fin 32) (r j : Fin 1024) (b : Fin 4) : EReal :=
  ∑ k : Fin 2048, aX m c ⟨2048 * b.val + k.val, by omega⟩ ⟨1024 * (g.val / 16) + r.val, by omega⟩
    * aD m c ⟨2048 * b.val + k.val, by omega⟩ ⟨1024 * (g.val % 16) + j.val, by omega⟩

/-- Point `b` of output block `g`. -/
def pt (g : Fin 32) (b : Fin 4) : Fin cfg0.N := ⟨4 * g.val + b.val, by have : cfg0.N = 128 := N_0; omega⟩

abbrev bX (t : Fin cfg0.N) : Vec Ideal S2048x1024 .bf16 := iblk m c 0 t
abbrev bD (t : Fin cfg0.N) : Vec Ideal S2048x1024 .bf16 := iblk m c 1 t

theorem prod_at (g : Fin 32) (b : Fin 4) (r j : Fin 1024) :
    ∑ k : Fin 2048, bX m c (pt g b) (ix2 k r) * bD m c (pt g b) (ix2 k j) = term m c g r j b := by
  refine Finset.sum_congr rfl fun k _ => ?_
  refine (congrArg₂ (fun a b : EReal => a * b) (blk0 m c (pt g b) k r) (blk1 m c (pt g b) k j)).trans ?_
  refine congrArg₂ (fun a b : EReal => a * b) (congrArg₂ (aX m c) (Fin.ext ?_) (Fin.ext ?_)) (congrArg₂ (aD m c) (Fin.ext ?_) (Fin.ext ?_)) <;>
    dsimp only [pt] <;> omega

/-! ### The accumulator after each of a block's first three points, and the block written at the fourth -/

theorem acc0 (g : Fin 32) (r j : Fin 1024) :
    (outsAt0 m c (pt g 0).val (pt g 0).isLt).2 (ix2 r j) = term m c g r j 0 := by
  rw [outsAt0_A m c (pt g 0) (by dsimp [pt]; omega) (by dsimp [pt]; omega) (by dsimp [pt]; omega)]
  dsimp only
  rw [first]
  exact (pay1 _ _ r j).trans (prod_at m c g 0 r j)

theorem acc1 (g : Fin 32) (r j : Fin 1024) :
    (outsAt0 m c (pt g 1).val (pt g 1).isLt).2 (ix2 r j) = term m c g r j 0 + term m c g r j 1 := by
  rw [outsAt0_B m c (pt g 1) (by dsimp [pt]; omega) (by dsimp [pt]; omega) (by dsimp [pt]; omega)]
  dsimp only
  rw [later]
  exact (pay2 _ _ _ r j).trans (congrArg₂ (· + ·) (acc0 m c g r j) (prod_at m c g 1 r j))

theorem acc2 (g : Fin 32) (r j : Fin 1024) :
    (outsAt0 m c (pt g 2).val (pt g 2).isLt).2 (ix2 r j) = (term m c g r j 0 + term m c g r j 1) + term m c g r j 2 := by
  rw [outsAt0_B m c (pt g 2) (by dsimp [pt]; omega) (by dsimp [pt]; omega) (by dsimp [pt]; omega)]
  dsimp only
  rw [later]
  exact (pay2 _ _ _ r j).trans (congrArg₂ (· + ·) (acc1 m c g r j) (prod_at m c g 2 r j))

theorem out3 (g : Fin 32) (r j : Fin 1024) :
    (outsAt0 m c (pt g 3).val (pt g 3).isLt).1 (ix4 0 0 r j)
      = ((term m c g r j 0 + term m c g r j 1) + term m c g r j 2) + term m c g r j 3 := by
  rw [outsAt0_C m c (pt g 3) (by dsimp [pt]; omega) (by dsimp [pt]; omega) (by dsimp [pt]; omega)]
  dsimp only
  rw [last]
  exact (pay3 _ _ _ r j).trans (congrArg₂ (· + ·) (acc2 m c g r j) (prod_at m c g 3 r j))

/-- The result, entry by entry. -/
theorem arr (i : Fin 2) (s : Fin 4) (p : Fin 1024) (q : Fin 4096) :
    ((dats m 0 c).arrAt 2 cfg0.N : Vec Ideal S2x4x1024x4096 .f32) (ix4 i s p q)
      = ∑ k : Fin 8192, aX m c k ⟨1024 * i.val + p.val, by omega⟩ * aD m c k ⟨4096 * s.val + q.val, by omega⟩ := by
  obtain ⟨g, hg⟩ : ∃ g : Fin 32, g.val = 16 * i.val + 4 * s.val + q.val / 1024 := ⟨⟨16 * i.val + 4 * s.val + q.val / 1024, by omega⟩, rfl⟩
  have h := (dats m 0 c).arrAt_emb_eq_flushed 2 (disjoint2) (pt g 3)
    ((Cert.OddInDwIdeal.Gen.flush0_2 _).mpr (by dsimp [pt]; omega))
    (ix4 0 0 p ⟨q.val % 1024, by omega⟩ : S1x1x1024x1024.Idx)
  have e : ((cfg0.win 2).blk (pt g 3)).view.emb (ix4 0 0 p ⟨q.val % 1024, by omega⟩ : S1x1x1024x1024.Idx)
      = (ix4 i s p q : S2x4x1024x4096.Idx) := by
    have hp : (pt g 3).val = 4 * g.val + 3 := rfl
    blk_ext [e2, hp]
  rw [e] at h
  refine h.trans ?_
  show (dats m 0 c).after 2 (pt g 3) (ix4 0 0 p ⟨q.val % 1024, by omega⟩) = _
  rw [after0_2]
  refine (out3 m c g p ⟨q.val % 1024, by omega⟩).trans ?_
  rw [Cert.Sums.sum4]
  unfold term
  have hx : ∀ k : Fin 8192, ∀ k' : Fin 8192, k.val = k'.val → aX m c k ⟨1024 * (g.val / 16) + p.val, by omega⟩
      * aD m c k ⟨1024 * (g.val % 16) + q.val % 1024, by omega⟩
      = aX m c k' ⟨1024 * i.val + p.val, by omega⟩ * aD m c k' ⟨4096 * s.val + q.val, by omega⟩ := fun k k' hk => by
    obtain rfl := Fin.ext hk
    refine congrArg₂ (· * ·) (congrArg (aX m c k) (Fin.ext ?_)) (congrArg (aD m c k) (Fin.ext ?_)) <;> dsimp only <;> omega
  refine congrArg₂ (· + ·) (congrArg₂ (· + ·) (congrArg₂ (· + ·) ?_ ?_) ?_) ?_ <;>
    exact Finset.sum_congr rfl fun k _ => hx _ _ (by simp)

section Reference
open Cert.OddInDwReferenceIdeal.Read

/-- What the reference computes of the same arguments. -/
theorem ref (x : Vec Ideal S8192x2048 .bf16) (w : Vec Ideal S8192x16384 .bf16) (i : Fin 2) (s : Fin 4) (p : Fin 1024) (q : Fin 4096) :
    val_main_v7 (F := Ideal) x w (ix4 i s p q)
      = ∑ k : Fin 8192, x (ix2 k ⟨1024 * i.val + p.val, by omega⟩) * w (ix2 k ⟨4096 * s.val + q.val, by omega⟩) := by
  rw [val_main_v7_apply, val_main_v6_apply, val_main_v5_apply]
  refine (val_main_v4_apply x w _).trans (Finset.sum_congr rfl fun k _ => ?_)
  rw [val_main_v3_apply, val_main_v1_apply]
  refine (mul_comm _ _).trans ?_
  refine congrArg₂ (· * ·) (congrArg x ?_) (congrArg w ?_) <;> funext a <;> fin_cases a <;>
    first | rfl | exact Fin.ext (by dsimp; omega)

theorem same : ((dats m 0 c).arrAt 2 cfg0.N : Vec Ideal S2x4x1024x4096 .f32)
    = val_main_v7 (F := Ideal) (m ((c : Thread nD τ).loc main_arg0)) (m ((c : Thread nD τ).loc main_arg1)) := by
  funext i
  obtain ⟨i, s, p, q, rfl⟩ : ∃ (a : Fin 2) (b : Fin 4) (d : Fin 1024) (e : Fin 4096), i = ix4 a b d e := ⟨i 0, i 1, i 2, i 3, eq_ix4 i⟩
  exact (arr m c i s p q).trans (ref _ _ i s p q).symm

theorem frame_reference : Cert.quiescent_OddInDwReferenceIdeal := fun m ρ _ =>
  (θ_run Cert.OddInDwReferenceIdeal.defs _ _).mono (fun r h => ⟨fun c => (h c).2, sem_eq_zero_of_no_sems (by decide) r.2⟩)
    (Cert.OddInDwReferenceIdeal.Value.run (F := Ideal) m ρ)

/-- Kernel and reference end with the same array. -/
theorem algebraic : Cert.algebraic_OddInDwIdeal_OddInDwReferenceIdeal := by
  intro m ρ m' ρ' _ ha
  refine ⟨fun c => (dats m 0 c).arrAt 2 cfg0.N,
    (θ_run Cert.OddInDwIdeal.defs _ _).mono (fun _ h c => ⟨(h c).1.trans (Cert.OddInDwIdeal.Value.final2 m c).symm, (h c).2⟩)
      (Cert.OddInDwIdeal.Value.run (F := Ideal) m ρ), ?_⟩
  refine (θ_run Cert.OddInDwReferenceIdeal.defs _ _).mono (fun _ h c => ⟨?_, (h c).2⟩) (Cert.OddInDwReferenceIdeal.Value.run (F := Ideal) m' ρ')
  refine (h c).1.trans ((val_main_v7_eq _ _).trans ?_)
  rw [(ha c).1, (ha c).2]
  exact (same m c).symm

end Reference

end Cert.OddInDwValue

end
-- ==== Proof.EvenInDw.lean ====
/-
  The gradient of the even layers' input projection: each block of the result is a product over the 8192 rows, taken 2048 at
  a time into an accumulator; block `t` of the grid belongs to output block `t / 4` and rows `2048 (t % 4) …`.
-/
module

public import proofs.«01_k».proof.Defs
public import proofs.«01_k».proof.Proof.Sums
public import proofs.«01_k».proof.Proof.Gen.EvenInDwIdeal.Value
public import proofs.«01_k».proof.Proof.Gen.EvenInDwReferenceIdeal.Run
public import proofs.«01_k».proof.Proof.Gen.EvenInDwReferenceIdeal.Read
public import Idealize.ShloMosaic.Lib.Pipeline.ValueKit

@[expose] public section

set_option maxRecDepth 12288

noncomputable section

namespace Cert.EvenInDwValue

open Cert.EvenInDwIdeal Cert.EvenInDwIdeal.Gen Idealize.ShloMosaic Idealize.ShloMosaic.TcCoe Idealize.SL.Sem
open scoped BigOperators

theorem hz2 : (![0, 0] : Fin 2 → Nat) = fun _ => 0 := funext fun a => by fin_cases a <;> rfl

section Point
variable {F : FTy → Type} [FloatOps F]

theorem first (c : Dev nD) (i : grid0.Coords) (a3 : Memref sig .tc .vmem S2048x1024 .bf16) (h3 : a3.IsWhole) (a4 : Memref sig .tc .vmem S2048x1024 .bf16) (h4 : a4.IsWhole)
    (a5 : Memref sig .tc .vmem S1024x1024 .f32) (h5 : a5.IsWhole) (a6 : Memref sig .tc .vmem S1024x1024 .f32) (h6 : a6.IsWhole)
    (hc0 : cond0_0 i) (hc1 : ¬cond0_1 i) (hc2 : ¬cond0_2 i) (x0 x1 : Vec F S2048x1024 .bf16) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero hz2]
  simp only [View.readAt_eq_ld, h3.read_unread, h4.read_unread, View.ld_unit_zero (S := S2048x1024) hz2, View.ld_unit_zero (S := S1024x1024) hz2]

theorem later (c : Dev nD) (i : grid0.Coords) (a3 : Memref sig .tc .vmem S2048x1024 .bf16) (h3 : a3.IsWhole) (a4 : Memref sig .tc .vmem S2048x1024 .bf16) (h4 : a4.IsWhole)
    (a5 : Memref sig .tc .vmem S1024x1024 .f32) (h5 : a5.IsWhole) (a6 : Memref sig .tc .vmem S1024x1024 .f32) (h6 : a6.IsWhole)
    (hc0 : ¬cond0_0 i) (hc1 : cond0_1 i) (hc2 : ¬cond0_2 i) (x0 x1 : Vec F S2048x1024 .bf16) (s : Vec F S1024x1024 .f32) :
    sout0_B_0 c i a3 h3 a4 h4 a5 h5 a6 h6 hc0 hc1 hc2 x0 x1 s = k0_pay2 s x0 x1 := by
  unfold sout0_B_0
  rw [View.read_writes_eq_canon _ _ _ (scover0_B_0 c i a3 h3 a4 h4 a5 h5 a6 h6 hc0 hc1 hc2 x0 x1 s)]
  unfold kernelRun0_B
  dsimp only
  sl_unfold_words
  rw [View.canon_unit_zero hz2]
  simp only [View.readAt_eq_ld, h3.read_unread, h4.read_unread, h6.read_unread, View.ld_unit_zero (S := S2048x1024) hz2, View.ld_unit_zero (S := S1024x1024) hz2]

theorem last (c : Dev nD) (i : grid0.Coords) (a3 : Memref sig .tc .vmem S2048x1024 .bf16) (h3 : a3.IsWhole) (a4 : Memref sig .tc .vmem S2048x1024 .bf16) (h4 : a4.IsWhole)
    (a5 : Memref sig .tc .vmem S1024x1024 .f32) (h5 : a5.IsWhole) (a6 : Memref sig .tc .vmem S1024x1024 .f32) (h6 : a6.IsWhole)
    (hc0 : ¬cond0_0 i) (hc1 : ¬cond0_1 i) (hc2 : cond0_2 i) (x0 x1 : Vec F S2048x1024 .bf16) (s : Vec F S1024x1024 .f32) :
    out0_C_2 c i a3 h3 a4 h4 a5 h5 a6 h6 hc0 hc1 hc2 x0 x1 s = k0_pay3 s x0 x1 := by
  unfold out0_C_2
  rw [View.read_writes_eq_canon _ _ _ (cover0_C_2 c i a3 h3 a4 h4 a5 h5 a6 h6 hc0 hc1 hc2 x0 x1 s)]
  unfold kernelRun0_C
  dsimp only
  sl_unfold_words
  rw [View.canon_unit_zero hz2]
  simp only [View.readAt_eq_ld, h3.read_unread, h4.read_unread, h6.read_unread, View.ld_unit_zero (S := S2048x1024) hz2, View.ld_unit_zero (S := S1024x1024) hz2]

end Point

section Payload
variable (x w : Vec Ideal S2048x1024 .bf16) (s : Vec Ideal S1024x1024 .f32) (r j : Fin 1024)

theorem pay1 : k0_pay1 x w (ix2 r j) = ∑ k : Fin 2048, x (ix2 k r) * w (ix2 k j) := by pointwise [k0_pay1]
theorem pay2 : k0_pay2 s x w (ix2 r j) = s (ix2 r j) + ∑ k : Fin 2048, x (ix2 k r) * w (ix2 k j) := by pointwise [k0_pay2]
theorem pay3 : k0_pay3 s x w (ix2 r j) = s (ix2 r j) + ∑ k : Fin 2048, x (ix2 k r) * w (ix2 k j) := by
  pointwise [k0_pay3]

end Payload

variable (m : (ℓ : Loc nD τ sig) → Buf (Elt Ideal) ℓ) (c : Dev nD)

/-- The arguments, entry by entry. -/
def aX (i : Fin 8192) (k : Fin 2048) : EReal := m ((c : Thread nD τ).loc main_arg0) (ix2 i k)
def aD (i : Fin 8192) (j : Fin 12288) : EReal := m ((c : Thread nD τ).loc main_arg1) (ix2 i j)

theorem e0 : ∀ t : Fin cfg0.N, win0_0.index t = ![t.val % 4, t.val / 48] := (by decide +kernel : ∀ t : Fin grid0.N, _)
theorem e1 : ∀ t : Fin cfg0.N, win0_1.index t = ![t.val % 4, t.val / 4 % 12] := (by decide +kernel : ∀ t : Fin grid0.N, _)
theorem e2 : ∀ t : Fin cfg0.N, win0_2.index t = ![t.val / 48, t.val / 4 % 12] := (by decide +kernel : ∀ t : Fin grid0.N, _)

/-- Two points that write back write different blocks. -/
theorem disjoint2 (t t' : Fin cfg0.N) (ht : (cfg0.win 2).flush t = true) (ht' : (cfg0.win 2).flush t' = true) (hne : t ≠ t') :
    Disjoint ((cfg0.win 2).blk t).view.set ((cfg0.win 2).blk t').view.set :=
  (cfg0.win 2).disjoint_blk fun h => hne (by
    have hm := (flush0_2 t).mp ht
    have hm' := (flush0_2 t').mp ht'
    have hN : cfg0.N = 96 := N_0
    have hl := t.isLt
    have hl' := t'.isLt
    have h : win0_2.index t = win0_2.index t' := h
    rw [e2, e2] at h
    have q0 : t.val / 48 = t'.val / 48 := congrFun h 0
    have q1 : t.val / 4 % 12 = t'.val / 4 % 12 := congrFun h 1
    exact Fin.ext (by omega))

theorem lt96 (t : Fin cfg0.N) : t.val < 96 := N_0 ▸ t.isLt

theorem blk0 (t : Fin cfg0.N) (k : Fin 2048) (r : Fin 1024) :
    (iblk m c 0 t : Vec Ideal S2048x1024 .bf16) (ix2 k r)
      = aX m c ⟨2048 * (t.val % 4) + k.val, by omega⟩ ⟨1024 * (t.val / 48) + r.val, by have := lt96 t; omega⟩ := by
  unfold iblk aX
  blk_simp
  show V m c main_arg0 _ = _
  congr 1
  blk_ext [e0]

theorem blk1 (t : Fin cfg0.N) (k : Fin 2048) (j : Fin 1024) :
    (iblk m c 1 t : Vec Ideal S2048x1024 .bf16) (ix2 k j)
      = aD m c ⟨2048 * (t.val % 4) + k.val, by omega⟩ ⟨1024 * (t.val / 4 % 12) + j.val, by omega⟩ := by
  unfold iblk aD
  blk_simp
  show V m c main_arg1 _ = _
  congr 1
  blk_ext [e1]

/-- The product of one block of rows for entry (`r`, `j`) of output block `g`. -/
def term (g : Fin 24) (r j : Fin 1024) (b : Fin 4) : EReal :=
  ∑ k : Fin 2048, aX m c ⟨2048 * b.val + k.val, by omega⟩ ⟨1024 * (g.val / 12) + r.val, by omega⟩
    * aD m c ⟨2048 * b.val + k.val, by omega⟩ ⟨1024 * (g.val % 12) + j.val, by omega⟩

/-- Point `b` of output block `g`. -/
def pt (g : Fin 24) (b : Fin 4) : Fin cfg0.N := ⟨4 * g.val + b.val, by have : cfg0.N = 96 := N_0; omega⟩

abbrev bX (t : Fin cfg0.N) : Vec Ideal S2048x1024 .bf16 := iblk m c 0 t
abbrev bD (t : Fin cfg0.N) : Vec Ideal S2048x1024 .bf16 := iblk m c 1 t

theorem prod_at (g : Fin 24) (b : Fin 4) (r j : Fin 1024) :
    ∑ k : Fin 2048, bX m c (pt g b) (ix2 k r) * bD m c (pt g b) (ix2 k j) = term m c g r j b := by
  refine Finset.sum_congr rfl fun k _ => ?_
  refine (congrArg₂ (fun a b : EReal => a * b) (blk0 m c (pt g b) k r) (blk1 m c (pt g b) k j)).trans ?_
  refine congrArg₂ (fun a b : EReal => a * b) (congrArg₂ (aX m c) (Fin.ext ?_) (Fin.ext ?_)) (congrArg₂ (aD m c) (Fin.ext ?_) (Fin.ext ?_)) <;>
    dsimp only [pt] <;> omega

/-! ### The accumulator after each of a block's first three points, and the block written at the fourth -/

theorem acc0 (g : Fin 24) (r j : Fin 1024) :
    (outsAt0 m c (pt g 0).val (pt g 0).isLt).2 (ix2 r j) = term m c g r j 0 := by
  rw [outsAt0_A m c (pt g 0) (by dsimp [pt]; omega) (by dsimp [pt]; omega) (by dsimp [pt]; omega)]
  dsimp only
  rw [first]
  exact (pay1 _ _ r j).trans (prod_at m c g 0 r j)

theorem acc1 (g : Fin 24) (r j : Fin 1024) :
    (outsAt0 m c (pt g 1).val (pt g 1).isLt).2 (ix2 r j) = term m c g r j 0 + term m c g r j 1 := by
  rw [outsAt0_B m c (pt g 1) (by dsimp [pt]; omega) (by dsimp [pt]; omega) (by dsimp [pt]; omega)]
  dsimp only
  rw [later]
  exact (pay2 _ _ _ r j).trans (congrArg₂ (· + ·) (acc0 m c g r j) (prod_at m c g 1 r j))

theorem acc2 (g : Fin 24) (r j : Fin 1024) :
    (outsAt0 m c (pt g 2).val (pt g 2).isLt).2 (ix2 r j) = (term m c g r j 0 + term m c g r j 1) + term m c g r j 2 := by
  rw [outsAt0_B m c (pt g 2) (by dsimp [pt]; omega) (by dsimp [pt]; omega) (by dsimp [pt]; omega)]
  dsimp only
  rw [later]
  exact (pay2 _ _ _ r j).trans (congrArg₂ (· + ·) (acc1 m c g r j) (prod_at m c g 2 r j))

theorem out3 (g : Fin 24) (r j : Fin 1024) :
    (outsAt0 m c (pt g 3).val (pt g 3).isLt).1 (ix2 r j)
      = ((term m c g r j 0 + term m c g r j 1) + term m c g r j 2) + term m c g r j 3 := by
  rw [outsAt0_C m c (pt g 3) (by dsimp [pt]; omega) (by dsimp [pt]; omega) (by dsimp [pt]; omega)]
  dsimp only
  rw [last]
  exact (pay3 _ _ _ r j).trans (congrArg₂ (· + ·) (acc2 m c g r j) (prod_at m c g 3 r j))

/-- The result, entry by entry. -/
theorem arr (p : Fin 2048) (q : Fin 12288) :
    ((dats m 0 c).arrAt 2 cfg0.N : Vec Ideal S2048x12288 .f32) (ix2 p q) = ∑ k : Fin 8192, aX m c k p * aD m c k q := by
  obtain ⟨g, hg⟩ : ∃ g : Fin 24, g.val = 12 * (p.val / 1024) + q.val / 1024 := ⟨⟨12 * (p.val / 1024) + q.val / 1024, by omega⟩, rfl⟩
  have h := (dats m 0 c).arrAt_emb_eq_flushed 2 disjoint2 (pt g 3) ((flush0_2 _).mpr (by dsimp [pt]; omega))
    (ix2 ⟨p.val % 1024, by omega⟩ ⟨q.val % 1024, by omega⟩ : S1024x1024.Idx)
  have e : ((cfg0.win 2).blk (pt g 3)).view.emb (ix2 ⟨p.val % 1024, by omega⟩ ⟨q.val % 1024, by omega⟩ : S1024x1024.Idx)
      = (ix2 p q : S2048x12288.Idx) := by
    have hp : (pt g 3).val = 4 * g.val + 3 := rfl
    blk_ext [e2, hp]
  rw [e] at h
  refine h.trans ?_
  show (dats m 0 c).after 2 (pt g 3) (ix2 ⟨p.val % 1024, by omega⟩ ⟨q.val % 1024, by omega⟩) = _
  rw [after0_2]
  refine (out3 m c g ⟨p.val % 1024, by omega⟩ ⟨q.val % 1024, by omega⟩).trans ?_
  rw [Cert.Sums.sum4]
  unfold term
  have hx : ∀ k : Fin 8192, ∀ k' : Fin 8192, k.val = k'.val → aX m c k ⟨1024 * (g.val / 12) + p.val % 1024, by omega⟩
      * aD m c k ⟨1024 * (g.val % 12) + q.val % 1024, by omega⟩ = aX m c k' p * aD m c k' q := fun k k' hk => by
    obtain rfl := Fin.ext hk
    refine congrArg₂ (· * ·) (congrArg (aX m c k) (Fin.ext ?_)) (congrArg (aD m c k) (Fin.ext ?_)) <;> dsimp only <;> omega
  refine congrArg₂ (· + ·) (congrArg₂ (· + ·) (congrArg₂ (· + ·) ?_ ?_) ?_) ?_ <;>
    exact Finset.sum_congr rfl fun k _ => hx _ _ (by simp)

section Reference
open Cert.EvenInDwReferenceIdeal.Read

/-- What the reference computes of the same arguments. -/
theorem ref (x : Vec Ideal S8192x2048 .bf16) (w : Vec Ideal S8192x12288 .bf16) (p : Fin 2048) (q : Fin 12288) :
    val_main_v5 (F := Ideal) x w (ix2 p q) = ∑ k : Fin 8192, x (ix2 k p) * w (ix2 k q) := by
  rw [val_main_v5_apply]
  refine (val_main_v4_apply x w _).trans (Finset.sum_congr rfl fun k _ => ?_)
  rw [val_main_v3_apply, val_main_v1_apply]
  refine (mul_comm _ _).trans ?_
  refine congrArg₂ (· * ·) (congrArg x ?_) (congrArg w ?_) <;> funext a <;> fin_cases a <;> rfl

theorem same : ((dats m 0 c).arrAt 2 cfg0.N : Vec Ideal S2048x12288 .f32)
    = val_main_v5 (F := Ideal) (m ((c : Thread nD τ).loc main_arg0)) (m ((c : Thread nD τ).loc main_arg1)) := by
  funext i
  obtain ⟨p, q, rfl⟩ : ∃ (a : Fin 2048) (b : Fin 12288), i = ix2 a b := ⟨i 0, i 1, eq_ix2 i⟩
  exact (arr m c p q).trans (ref _ _ p q).symm

theorem frame_reference : Cert.quiescent_EvenInDwReferenceIdeal := fun m ρ _ =>
  (θ_run Cert.EvenInDwReferenceIdeal.defs _ _).mono (fun r h => ⟨fun c => (h c).2, sem_eq_zero_of_no_sems (by decide) r.2⟩)
    (Cert.EvenInDwReferenceIdeal.Value.run (F := Ideal) m ρ)

/-- Kernel and reference end with the same array. -/
theorem algebraic : Cert.algebraic_EvenInDwIdeal_EvenInDwReferenceIdeal := by
  intro m ρ m' ρ' _ ha
  refine ⟨fun c => (dats m 0 c).arrAt 2 cfg0.N,
    (θ_run Cert.EvenInDwIdeal.defs _ _).mono (fun _ h c => ⟨(h c).1.trans (Cert.EvenInDwIdeal.Value.final2 m c).symm, (h c).2⟩)
      (Cert.EvenInDwIdeal.Value.run (F := Ideal) m ρ), ?_⟩
  refine (θ_run Cert.EvenInDwReferenceIdeal.defs _ _).mono (fun _ h c => ⟨?_, (h c).2⟩) (Cert.EvenInDwReferenceIdeal.Value.run (F := Ideal) m' ρ')
  refine (h c).1.trans ((val_main_v5_eq _ _).trans ?_)
  rw [(ha c).1, (ha c).2]
  exact (same m c).symm

end Reference

end Cert.EvenInDwValue

end
-- ==== Proof.OutDy.lean ====
/-
  The cotangent of a layer's output projection with respect to its input: one product per block, both factors contracted
  along their rows.
-/
module

public import proofs.«01_k».proof.Defs
public import proofs.«01_k».proof.Proof.Gen.OutDyIdeal.Value
public import proofs.«01_k».proof.Proof.Gen.OutDyReferenceIdeal.Run
public import proofs.«01_k».proof.Proof.Gen.OutDyReferenceIdeal.Read
public import Idealize.ShloMosaic.Lib.Pipeline.ValueKit
public import Idealize.ShloMosaic.Lib.Pointwise

@[expose] public section

set_option maxRecDepth 16384

noncomputable section

namespace Cert.OutDyValue

open Cert.OutDyIdeal Cert.OutDyIdeal.Gen Idealize.ShloMosaic Idealize.ShloMosaic.TcCoe Idealize.SL.Sem
open scoped BigOperators

variable (m : (ℓ : Loc nD τ sig) → Buf (Elt Ideal) ℓ) (c : Dev nD)

/-- The arguments, entry by entry. -/
def aX (i : Fin 8192) (k : Fin 2048) : EReal := m ((c : Thread nD τ).loc main_arg0) (ix2 i k)
def aW (j : Fin 4096) (k : Fin 2048) : EReal := m ((c : Thread nD τ).loc main_arg1) (ix2 j k)

theorem hz2 : (![0, 0] : Fin 2 → Nat) = fun _ => 0 := funext fun a => by fin_cases a <;> rfl

theorem e0 : ∀ t : Fin cfg0.N, win0_0.index t = ![t.val / 4, 0] := (by decide +kernel : ∀ t : Fin grid0.N, _)
theorem e1 : ∀ t : Fin cfg0.N, win0_1.index t = ![t.val % 4, 0] := (by decide +kernel : ∀ t : Fin grid0.N, _)
theorem e2 : ∀ t : Fin cfg0.N, win0_2.index t = ![t.val / 4, t.val % 4] := (by decide +kernel : ∀ t : Fin grid0.N, _)
theorem f2 : ∀ t : Fin cfg0.N, (cfg0.win 2).flush t = true := (by decide +kernel : ∀ t : Fin grid0.N, _)

theorem lt32 (t : Fin cfg0.N) : t.val < 32 := N_0 ▸ t.isLt

/-- The blocks a point reads. -/
theorem blk0 (t : Fin cfg0.N) (r : Fin 1024) (k : Fin 2048) :
    (iblk m c 0 t : Vec Ideal S1024x2048 .bf16) (ix2 r k)
      = aX m c ⟨1024 * (t.val / 4) + r.val, by have := lt32 t; omega⟩ k := by
  unfold iblk aX
  blk_simp
  show V m c main_arg0 _ = _
  congr 1
  blk_ext [e0]

theorem blk1 (t : Fin cfg0.N) (j : Fin 1024) (k : Fin 2048) :
    (iblk m c 1 t : Vec Ideal S1024x2048 .bf16) (ix2 j k) = aW m c ⟨1024 * (t.val % 4) + j.val, by omega⟩ k := by
  unfold iblk aW
  blk_simp
  show V m c main_arg1 _ = _
  congr 1
  blk_ext [e1]

theorem pay (x w : Vec Ideal S1024x2048 .bf16) (r j : Fin 1024) :
    k0_pay1 x w (ix2 r j) = ∑ k : Fin 2048, x (ix2 r k) * w (ix2 j k) := by
  pointwise [k0_pay1]

theorem out_at (x w : Vec Ideal S1024x2048 .bf16) : out0_2 x w = k0_pay1 x w := by
  unfold out0_2
  rw [View.canon_unit_zero hz2, View.ld_unit_zero hz2, View.ld_unit_zero hz2]

/-- The result, entry by entry. -/
theorem arr (r : Fin 8192) (q : Fin 4096) :
    ((dats m 0 c).arrAt 2 cfg0.N : Vec Ideal S8192x4096 .f32) (ix2 r q) = ∑ k : Fin 2048, aX m c r k * aW m c q k := by
  have hN : cfg0.N = 32 := N_0
  have ht : r.val / 1024 * 4 + q.val / 1024 < cfg0.N := by omega
  have h := (dats m 0 c).arrAt_emb_eq_flushed 2 (Cert.OutDyIdeal.Value.disjoint2) ⟨_, ht⟩ (f2 _)
    (ix2 ⟨r.val % 1024, by omega⟩ ⟨q.val % 1024, by omega⟩ : S1024x1024.Idx)
  have e : ((cfg0.win 2).blk ⟨_, ht⟩).view.emb (ix2 ⟨r.val % 1024, by omega⟩ ⟨q.val % 1024, by omega⟩ : S1024x1024.Idx)
      = (ix2 r q : S8192x4096.Idx) := by
    blk_ext [e2]
  rw [e] at h
  refine h.trans ?_
  rw [Cert.OutDyIdeal.Value.flushed2, out_at]
  refine (pay _ _ _ _).trans ?_
  refine Finset.sum_congr rfl fun k _ => ?_
  rw [blk0 m c, blk1 m c]
  refine congrArg₂ (· * ·) (congrArg (fun i => aX m c i k) (Fin.ext ?_)) (congrArg (fun j => aW m c j k) (Fin.ext ?_)) <;>
    dsimp only <;> omega

section Reference
open Cert.OutDyReferenceIdeal.Read

/-- What the reference computes of the same arguments. -/
theorem ref (x : Vec Ideal S8192x2048 .bf16) (w : Vec Ideal S4096x2048 .bf16) (r : Fin 8192) (q : Fin 4096) :
    val_main_v4 (F := Ideal) x w (ix2 r q) = ∑ k : Fin 2048, x (ix2 r k) * w (ix2 q k) := by
  refine (val_main_v4_apply x w _).trans (Finset.sum_congr rfl fun k _ => ?_)
  rw [val_main_v3_apply, val_main_v1_apply]
  refine congrArg₂ (· * ·) (congrArg x ?_) (congrArg w ?_) <;> funext a <;> fin_cases a <;> rfl

theorem same : ((dats m 0 c).arrAt 2 cfg0.N : Vec Ideal S8192x4096 .f32)
    = val_main_v4 (F := Ideal) (m ((c : Thread nD τ).loc main_arg0)) (m ((c : Thread nD τ).loc main_arg1)) := by
  funext i
  obtain ⟨r, q, rfl⟩ : ∃ (a : Fin 8192) (b : Fin 4096), i = ix2 a b := ⟨i 0, i 1, eq_ix2 i⟩
  exact (arr m c r q).trans (ref _ _ r q).symm

theorem frame_reference : Cert.quiescent_OutDyReferenceIdeal := fun m ρ _ =>
  (θ_run Cert.OutDyReferenceIdeal.defs _ _).mono (fun r h => ⟨fun c => (h c).2, sem_eq_zero_of_no_sems (by decide) r.2⟩)
    (Cert.OutDyReferenceIdeal.Value.run (F := Ideal) m ρ)

/-- Kernel and reference end with the same array. -/
theorem algebraic : Cert.algebraic_OutDyIdeal_OutDyReferenceIdeal := by
  intro m ρ m' ρ' _ ha
  refine ⟨fun c => (dats m 0 c).arrAt 2 cfg0.N, Cert.OutDyIdeal.Value.run_blocks (F := Ideal) m ρ, ?_⟩
  refine (θ_run Cert.OutDyReferenceIdeal.defs _ _).mono (fun _ h c => ⟨?_, (h c).2⟩) (Cert.OutDyReferenceIdeal.Value.run (F := Ideal) m' ρ')
  refine (h c).1.trans ((val_main_v4_eq _ _).trans ?_)
  rw [(ha c).1, (ha c).2]
  exact (same m c).symm

end Reference

end Cert.OutDyValue

end
-- ==== Proof.OddIn.lean ====
/-
  The odd layers' input projection: every block of the result is one product over all 2048 columns, and the reference
  contracts the same columns with the four shards of the weight laid side by side.
-/
module

public import proofs.«01_k».proof.Defs
public import proofs.«01_k».proof.Proof.Gen.OddInIdeal.Value
public import proofs.«01_k».proof.Proof.Gen.OddInReferenceIdeal.Run
public import proofs.«01_k».proof.Proof.Gen.OddInReferenceIdeal.Read
public import Idealize.ShloMosaic.Lib.Pipeline.ValueKit
public import Idealize.ShloMosaic.Lib.Pointwise

@[expose] public section

set_option maxRecDepth 16384

noncomputable section

namespace Cert.OddInValue

open Cert.OddInIdeal Cert.OddInIdeal.Gen Idealize.ShloMosaic Idealize.ShloMosaic.TcCoe Idealize.SL.Sem
open scoped BigOperators

variable (m : (ℓ : Loc nD τ sig) → Buf (Elt Ideal) ℓ) (c : Dev nD)

/-- The arguments, entry by entry. -/
def aX (i : Fin 8192) (k : Fin 2048) : EReal := m ((c : Thread nD τ).loc main_arg0) (ix2 i k)
def aW (s : Fin 4) (k : Fin 2048) (j : Fin 4096) : EReal := m ((c : Thread nD τ).loc main_arg1) (ix3 s k j)

theorem hz2 : (![0, 0] : Fin 2 → Nat) = fun _ => 0 := funext fun a => by fin_cases a <;> rfl
theorem hz3 : (![0, 0, 0] : Fin 3 → Nat) = fun _ => 0 := funext fun a => by fin_cases a <;> rfl

theorem e0 : ∀ t : Fin cfg0.N, win0_0.index t = ![t.val / 16, 0] := (by decide +kernel : ∀ t : Fin grid0.N, _)
theorem e1 : ∀ t : Fin cfg0.N, win0_1.index t = ![t.val % 16 / 4, 0, t.val % 4] := (by decide +kernel : ∀ t : Fin grid0.N, _)
theorem e2 : ∀ t : Fin cfg0.N, win0_2.index t = ![t.val / 16, t.val % 16] := (by decide +kernel : ∀ t : Fin grid0.N, _)
theorem f2 : ∀ t : Fin cfg0.N, (cfg0.win 2).flush t = true := (by decide +kernel : ∀ t : Fin grid0.N, _)

theorem lt128 (t : Fin cfg0.N) : t.val < 128 := N_0 ▸ t.isLt

/-- The blocks a point reads. -/
theorem blk0 (t : Fin cfg0.N) (r : Fin 1024) (k : Fin 2048) :
    (iblk m c 0 t : Vec Ideal S1024x2048 .bf16) (ix2 r k)
      = aX m c ⟨1024 * (t.val / 16) + r.val, by have := lt128 t; omega⟩ k := by
  unfold iblk aX
  blk_simp
  show V m c main_arg0 _ = _
  congr 1
  blk_ext [e0]

theorem blk1 (t : Fin cfg0.N) (k : Fin 2048) (j : Fin 1024) :
    (iblk m c 1 t : Vec Ideal S1x2048x1024 .bf16) (ix3 0 k j)
      = aW m c ⟨t.val % 16 / 4, by omega⟩ k ⟨1024 * (t.val % 4) + j.val, by omega⟩ := by
  unfold iblk aW
  blk_simp
  show V m c main_arg1 _ = _
  congr 1
  blk_ext [e1]

theorem pay (x : Vec Ideal S1024x2048 .bf16) (w : Vec Ideal S1x2048x1024 .bf16) (r j : Fin 1024) :
    k0_pay1 x w (ix2 r j) = ∑ k : Fin 2048, x (ix2 r k) * w (ix3 0 k j) := by
  pointwise [k0_pay1]

theorem out_at (x : Vec Ideal S1024x2048 .bf16) (w : Vec Ideal S1x2048x1024 .bf16) : out0_2 x w = k0_pay1 x w := by
  unfold out0_2
  rw [View.canon_unit_zero hz2, View.ld_unit_zero hz2, View.ld_unit_zero hz3]

/-- The result, entry by entry. -/
def want (r : Fin 8192) (q : Fin 16384) : EReal :=
  ∑ k : Fin 2048, aX m c r k * aW m c ⟨q.val / 4096, by omega⟩ k ⟨q.val % 4096, by omega⟩

theorem arr (r : Fin 8192) (q : Fin 16384) :
    ((dats m 0 c).arrAt 2 cfg0.N : Vec Ideal S8192x16384 .f32) (ix2 r q) = want m c r q := by
  have hN : cfg0.N = 128 := N_0
  have ht : r.val / 1024 * 16 + q.val / 1024 < cfg0.N := by omega
  have h := (dats m 0 c).arrAt_emb_eq_flushed 2 (Cert.OddInIdeal.Value.disjoint2) ⟨_, ht⟩ (f2 _)
    (ix2 ⟨r.val % 1024, by omega⟩ ⟨q.val % 1024, by omega⟩ : S1024x1024.Idx)
  have e : ((cfg0.win 2).blk ⟨_, ht⟩).view.emb (ix2 ⟨r.val % 1024, by omega⟩ ⟨q.val % 1024, by omega⟩ : S1024x1024.Idx)
      = (ix2 r q : S8192x16384.Idx) := by
    blk_ext [e2]
  rw [e] at h
  refine h.trans ?_
  rw [Cert.OddInIdeal.Value.flushed2, out_at]
  refine (pay _ _ _ _).trans ?_
  refine Finset.sum_congr rfl fun k _ => ?_
  rw [blk0 m c, blk1 m c]
  dsimp only
  refine congrArg₂ (· * ·) (congrArg (fun i => aX m c i k) (Fin.ext ?_))
    (congrArg₂ (fun s j => aW m c s k j) (Fin.ext ?_) (Fin.ext ?_)) <;> dsimp only <;> omega

section Reference
open Cert.OddInReferenceIdeal.Read

/-- What the reference computes of the same arguments. -/
theorem ref (x : Vec Ideal S8192x2048 .bf16) (w : Vec Ideal S4x2048x4096 .bf16) (r : Fin 8192) (q : Fin 16384) :
    val_main_v4 (F := Ideal) x w (ix2 r q)
      = ∑ k : Fin 2048, x (ix2 r k) * w (ix3 ⟨q.val / 4096, by omega⟩ k ⟨q.val % 4096, by omega⟩) := by
  refine (val_main_v4_apply x w _).trans (Finset.sum_congr rfl fun k _ => ?_)
  rw [val_main_v0_apply, val_main_v3_apply, val_main_v2_apply, val_main_v1_apply]
  refine congrArg₂ (· * ·) (congrArg x ?_) (congrArg w ?_)
  · funext a; fin_cases a <;> rfl
  · funext a; fin_cases a <;> exact Fin.ext (by dsimp; omega)

theorem same : ((dats m 0 c).arrAt 2 cfg0.N : Vec Ideal S8192x16384 .f32)
    = val_main_v4 (F := Ideal) (m ((c : Thread nD τ).loc main_arg0)) (m ((c : Thread nD τ).loc main_arg1)) := by
  funext i
  obtain ⟨r, q, rfl⟩ : ∃ (a : Fin 8192) (b : Fin 16384), i = ix2 a b := ⟨i 0, i 1, eq_ix2 i⟩
  exact (arr m c r q).trans (ref _ _ r q).symm

theorem frame_reference : Cert.quiescent_OddInReferenceIdeal := fun m ρ _ =>
  (θ_run Cert.OddInReferenceIdeal.defs _ _).mono (fun r h => ⟨fun c => (h c).2, sem_eq_zero_of_no_sems (by decide) r.2⟩)
    (Cert.OddInReferenceIdeal.Value.run (F := Ideal) m ρ)

/-- Kernel and reference end with the same array. -/
theorem algebraic : Cert.algebraic_OddInIdeal_OddInReferenceIdeal := by
  intro m ρ m' ρ' _ ha
  refine ⟨fun c => (dats m 0 c).arrAt 2 cfg0.N, Cert.OddInIdeal.Value.run_blocks (F := Ideal) m ρ, ?_⟩
  refine (θ_run Cert.OddInReferenceIdeal.defs _ _).mono (fun _ h c => ⟨?_, (h c).2⟩) (Cert.OddInReferenceIdeal.Value.run (F := Ideal) m' ρ')
  refine (h c).1.trans ((val_main_v4_eq _ _).trans ?_)
  rw [(ha c).1, (ha c).2]
  exact (same m c).symm

end Reference

end Cert.OddInValue

end
-- ==== Proof.Out.lean ====
/-
  A layer's output projection with its residual: each block of the result is the product of the first operand with the
  first 2048 rows of the weight, then that of the second operand with the other 2048, then the residual.
-/
module

public import proofs.«01_k».proof.Defs
public import proofs.«01_k».proof.Proof.Sums
public import proofs.«01_k».proof.Proof.Gen.OutIdeal.Value
public import proofs.«01_k».proof.Proof.Gen.OutReferenceIdeal.Run
public import proofs.«01_k».proof.Proof.Gen.OutReferenceIdeal.Read
public import Idealize.ShloMosaic.Lib.Pipeline.ValueKit

@[expose] public section

set_option maxRecDepth 16384

noncomputable section

namespace Cert.OutValue

open Cert.OutIdeal Cert.OutIdeal.Gen Idealize.ShloMosaic Idealize.ShloMosaic.TcCoe Idealize.SL.Sem
open scoped BigOperators

theorem hz2 : (![0, 0] : Fin 2 → Nat) = fun _ => 0 := funext fun a => by fin_cases a <;> rfl

section Point
variable {F : FTy → Type} [FloatOps F]

theorem first (c : Dev nD) (i : grid0.Coords) (a3 : Memref sig .tc .vmem S1024x2048 .bf16) (h3 : a3.IsWhole) (a4 : Memref sig .tc .vmem S1024x2048 .bf16) (h4 : a4.IsWhole)
    (a5 : Memref sig .tc .vmem S2048x1024 .bf16) (h5 : a5.IsWhole) (a6 : Memref sig .tc .vmem S1024x1024 .f32) (h6 : a6.IsWhole)
    (a7 : Memref sig .tc .vmem S1024x1024 .f32) (h7 : a7.IsWhole) (a8 : Memref sig .tc .vmem S1024x1024 .f32) (h8 : a8.IsWhole)
    (hc0 : cond0_0 i) (hc1 : ¬cond0_1 i) (x0 x1 : Vec F S1024x2048 .bf16) (x2 : Vec F S2048x1024 .bf16) (x3 : Vec F S1024x1024 .f32) :
    sout0_A_0 c i a3 h3 a4 h4 a5 h5 a6 h6 a7 h7 a8 h8 hc0 hc1 x0 x1 x2 x3 = k0_pay1 x0 x2 := by
  unfold sout0_A_0
  rw [View.read_writes_eq_canon _ _ _ (scover0_A_0 c i a3 h3 a4 h4 a5 h5 a6 h6 a7 h7 a8 h8 hc0 hc1 x0 x1 x2 x3)]
  unfold kernelRun0_A
  dsimp only
  sl_unfold_words
  rw [View.canon_unit_zero hz2]
  simp only [View.readAt_eq_ld, h3.read_unread, h5.read_unread, View.ld_unit_zero (S := S1024x2048) hz2, View.ld_unit_zero (S := S2048x1024) hz2]

theorem last (c : Dev nD) (i : grid0.Coords) (a3 : Memref sig .tc .vmem S1024x2048 .bf16) (h3 : a3.IsWhole) (a4 : Memref sig .tc .vmem S1024x2048 .bf16) (h4 : a4.IsWhole)
    (a5 : Memref sig .tc .vmem S2048x1024 .bf16) (h5 : a5.IsWhole) (a6 : Memref sig .tc .vmem S1024x1024 .f32) (h6 : a6.IsWhole)
    (a7 : Memref sig .tc .vmem S1024x1024 .f32) (h7 : a7.IsWhole) (a8 : Memref sig .tc .vmem S1024x1024 .f32) (h8 : a8.IsWhole)
    (hc0 : ¬cond0_0 i) (hc1 : cond0_1 i) (x0 x1 : Vec F S1024x2048 .bf16) (x2 : Vec F S2048x1024 .bf16) (x3 s : Vec F S1024x1024 .f32) :
    out0_B_4 c i a3 h3 a4 h4 a5 h5 a6 h6 a7 h7 a8 h8 hc0 hc1 x0 x1 x2 x3 s = k0_pay2 s x1 x2 x3 := by
  unfold out0_B_4
  rw [View.read_writes_eq_canon _ _ _ (cover0_B_4 c i a3 h3 a4 h4 a5 h5 a6 h6 a7 h7 a8 h8 hc0 hc1 x0 x1 x2 x3 s)]
  unfold kernelRun0_B
  dsimp only
  sl_unfold_words
  rw [View.canon_unit_zero hz2]
  simp only [View.readAt_eq_ld, h4.read_unread, h5.read_unread, h6.read_unread, h8.read_unread, View.ld_unit_zero (S := S1024x2048) hz2, View.ld_unit_zero (S := S2048x1024) hz2,
    View.ld_unit_zero (S := S1024x1024) hz2]

end Point

section Payload
variable (x : Vec Ideal S1024x2048 .bf16) (w : Vec Ideal S2048x1024 .bf16) (s y : Vec Ideal S1024x1024 .f32) (r j : Fin 1024)

theorem pay1 : k0_pay1 x w (ix2 r j) = ∑ k : Fin 2048, x (ix2 r k) * w (ix2 k j) := by pointwise [k0_pay1]
theorem pay2 : k0_pay2 s x w y (ix2 r j) = (s (ix2 r j) + ∑ k : Fin 2048, x (ix2 r k) * w (ix2 k j)) + y (ix2 r j) := by
  pointwise [k0_pay2]

end Payload

variable (m : (ℓ : Loc nD τ sig) → Buf (Elt Ideal) ℓ) (c : Dev nD)

/-- The arguments, entry by entry. -/
def aY (i : Fin 8192) (k : Fin 2048) : EReal := m ((c : Thread nD τ).loc main_arg0) (ix2 i k)
def aZ (i : Fin 8192) (k : Fin 2048) : EReal := m ((c : Thread nD τ).loc main_arg1) (ix2 i k)
def aW (k : Fin 4096) (j : Fin 2048) : EReal := m ((c : Thread nD τ).loc main_arg2) (ix2 k j)
def aX (i : Fin 8192) (j : Fin 2048) : EReal := m ((c : Thread nD τ).loc main_arg3) (ix2 i j)

theorem e0 : ∀ t : Fin cfg0.N, win0_0.index t = ![t.val / 4, 0] := (by decide +kernel : ∀ t : Fin grid0.N, _)
theorem e1 : ∀ t : Fin cfg0.N, win0_1.index t = ![t.val / 4, 0] := (by decide +kernel : ∀ t : Fin grid0.N, _)
theorem e2 : ∀ t : Fin cfg0.N, win0_2.index t = ![t.val % 2, t.val / 2 % 2] := (by decide +kernel : ∀ t : Fin grid0.N, _)
theorem e3 : ∀ t : Fin cfg0.N, win0_3.index t = ![t.val / 4, t.val / 2 % 2] := (by decide +kernel : ∀ t : Fin grid0.N, _)
theorem e4 : ∀ t : Fin cfg0.N, win0_4.index t = ![t.val / 4, t.val / 2 % 2] := (by decide +kernel : ∀ t : Fin grid0.N, _)

theorem lt32 (t : Fin cfg0.N) : t.val < 32 := N_0 ▸ t.isLt

/-- Two points that write back write different blocks. -/
theorem disjoint4 (t t' : Fin cfg0.N) (ht : (cfg0.win 4).flush t = true) (ht' : (cfg0.win 4).flush t' = true) (hne : t ≠ t') :
    Disjoint ((cfg0.win 4).blk t).view.set ((cfg0.win 4).blk t').view.set :=
  (cfg0.win 4).disjoint_blk fun h => hne (by
    have hm := (flush0_4 t).mp ht
    have hm' := (flush0_4 t').mp ht'
    have h : win0_4.index t = win0_4.index t' := h
    rw [e4, e4] at h
    have q0 : t.val / 4 = t'.val / 4 := congrFun h 0
    have q1 : t.val / 2 % 2 = t'.val / 2 % 2 := congrFun h 1
    exact Fin.ext (by omega))

theorem blk0 (t : Fin cfg0.N) (r : Fin 1024) (k : Fin 2048) :
    (iblk m c 0 t : Vec Ideal S1024x2048 .bf16) (ix2 r k) = aY m c ⟨1024 * (t.val / 4) + r.val, by have := lt32 t; omega⟩ k := by
  unfold iblk aY
  blk_simp
  show V m c main_arg0 _ = _
  congr 1
  blk_ext [e0]

theorem blk1 (t : Fin cfg0.N) (r : Fin 1024) (k : Fin 2048) :
    (iblk m c 1 t : Vec Ideal S1024x2048 .bf16) (ix2 r k) = aZ m c ⟨1024 * (t.val / 4) + r.val, by have := lt32 t; omega⟩ k := by
  unfold iblk aZ
  blk_simp
  show V m c main_arg1 _ = _
  congr 1
  blk_ext [e1]

theorem blk2 (t : Fin cfg0.N) (k : Fin 2048) (j : Fin 1024) :
    (iblk m c 2 t : Vec Ideal S2048x1024 .bf16) (ix2 k j)
      = aW m c ⟨2048 * (t.val % 2) + k.val, by omega⟩ ⟨1024 * (t.val / 2 % 2) + j.val, by omega⟩ := by
  unfold iblk aW
  blk_simp
  show V m c main_arg2 _ = _
  congr 1
  blk_ext [e2]

theorem blk3 (t : Fin cfg0.N) (r j : Fin 1024) :
    (iblk m c 3 t : Vec Ideal S1024x1024 .f32) (ix2 r j)
      = aX m c ⟨1024 * (t.val / 4) + r.val, by have := lt32 t; omega⟩ ⟨1024 * (t.val / 2 % 2) + j.val, by omega⟩ := by
  unfold iblk aX
  blk_simp
  show V m c main_arg3 _ = _
  congr 1
  blk_ext [e3]

/-- Point `b` of output block `g`. -/
def pt (g : Fin 16) (b : Fin 2) : Fin cfg0.N := ⟨2 * g.val + b.val, by have : cfg0.N = 32 := N_0; omega⟩

theorem acc0 (g : Fin 16) (r j : Fin 1024) :
    (outsAt0 m c (pt g 0).val (pt g 0).isLt).2 (ix2 r j)
      = ∑ k : Fin 2048, aY m c ⟨1024 * (g.val / 2) + r.val, by omega⟩ k * aW m c ⟨k.val, by omega⟩ ⟨1024 * (g.val % 2) + j.val, by omega⟩ := by
  rw [outsAt0_A m c (pt g 0) (by dsimp [pt]; omega) (by dsimp [pt]; omega)]
  dsimp only
  rw [first]
  refine (pay1 _ _ r j).trans (Finset.sum_congr rfl fun k _ => ?_)
  refine (congrArg₂ (fun a b : EReal => a * b) (blk0 m c (pt g 0) r k) (blk2 m c (pt g 0) k j)).trans ?_
  refine congrArg₂ (fun a b : EReal => a * b) (congrArg (fun i => aY m c i k) (Fin.ext ?_)) (congrArg₂ (aW m c) (Fin.ext ?_) (Fin.ext ?_)) <;>
    dsimp [pt] <;> omega

theorem out1 (g : Fin 16) (r j : Fin 1024) :
    (outsAt0 m c (pt g 1).val (pt g 1).isLt).1 (ix2 r j)
      = ((∑ k : Fin 2048, aY m c ⟨1024 * (g.val / 2) + r.val, by omega⟩ k * aW m c ⟨k.val, by omega⟩ ⟨1024 * (g.val % 2) + j.val, by omega⟩)
        + ∑ k : Fin 2048, aZ m c ⟨1024 * (g.val / 2) + r.val, by omega⟩ k * aW m c ⟨2048 + k.val, by omega⟩ ⟨1024 * (g.val % 2) + j.val, by omega⟩)
        + aX m c ⟨1024 * (g.val / 2) + r.val, by omega⟩ ⟨1024 * (g.val % 2) + j.val, by omega⟩ := by
  rw [outsAt0_B m c (pt g 1) (by dsimp [pt]; omega) (by dsimp [pt]; omega)]
  dsimp only
  rw [last]
  refine (pay2 _ _ _ _ r j).trans (congrArg₂ (· + ·) (congrArg₂ (· + ·) (acc0 m c g r j) (Finset.sum_congr rfl fun k _ => ?_)) ?_)
  · refine (congrArg₂ (fun a b : EReal => a * b) (blk1 m c (pt g 1) r k) (blk2 m c (pt g 1) k j)).trans ?_
    refine congrArg₂ (fun a b : EReal => a * b) (congrArg (fun i => aZ m c i k) (Fin.ext ?_)) (congrArg₂ (aW m c) (Fin.ext ?_) (Fin.ext ?_)) <;>
      dsimp [pt] <;> omega
  · refine (blk3 m c (pt g 1) r j).trans (congrArg₂ (aX m c) (Fin.ext ?_) (Fin.ext ?_)) <;> dsimp [pt] <;> omega

/-- The result, entry by entry. -/
def want (r : Fin 8192) (q : Fin 2048) : EReal :=
  ((∑ k : Fin 2048, aY m c r k * aW m c ⟨k.val, by omega⟩ q) + ∑ k : Fin 2048, aZ m c r k * aW m c ⟨2048 + k.val, by omega⟩ q) + aX m c r q

theorem arr (r : Fin 8192) (q : Fin 2048) :
    ((dats m 0 c).arrAt 4 cfg0.N : Vec Ideal S8192x2048 .f32) (ix2 r q) = want m c r q := by
  obtain ⟨g, hg⟩ : ∃ g : Fin 16, g.val = 2 * (r.val / 1024) + q.val / 1024 := ⟨⟨2 * (r.val / 1024) + q.val / 1024, by omega⟩, rfl⟩
  have h := (dats m 0 c).arrAt_emb_eq_flushed 4 disjoint4 (pt g 1) ((flush0_4 _).mpr (by dsimp [pt]; omega))
    (ix2 ⟨r.val % 1024, by omega⟩ ⟨q.val % 1024, by omega⟩ : S1024x1024.Idx)
  have e : ((cfg0.win 4).blk (pt g 1)).view.emb (ix2 ⟨r.val % 1024, by omega⟩ ⟨q.val % 1024, by omega⟩ : S1024x1024.Idx)
      = (ix2 r q : S8192x2048.Idx) := by
    have hp : (pt g 1).val = 2 * g.val + 1 := rfl
    blk_ext [e4, hp]
  rw [e] at h
  refine h.trans ?_
  show (dats m 0 c).after 4 (pt g 1) (ix2 ⟨r.val % 1024, by omega⟩ ⟨q.val % 1024, by omega⟩) = _
  rw [after0_4]
  refine (out1 m c g ⟨r.val % 1024, by omega⟩ ⟨q.val % 1024, by omega⟩).trans ?_
  have hr : (⟨1024 * (g.val / 2) + r.val % 1024, by omega⟩ : Fin 8192) = r := Fin.ext (by dsimp only; omega)
  have hq : (⟨1024 * (g.val % 2) + q.val % 1024, by omega⟩ : Fin 2048) = q := Fin.ext (by dsimp only; omega)
  show ((∑ k : Fin 2048, aY m c ⟨1024 * (g.val / 2) + r.val % 1024, by omega⟩ k * aW m c ⟨k.val, by omega⟩ ⟨1024 * (g.val % 2) + q.val % 1024, by omega⟩)
    + ∑ k : Fin 2048, aZ m c ⟨1024 * (g.val / 2) + r.val % 1024, by omega⟩ k * aW m c ⟨2048 + k.val, by omega⟩ ⟨1024 * (g.val % 2) + q.val % 1024, by omega⟩)
    + aX m c ⟨1024 * (g.val / 2) + r.val % 1024, by omega⟩ ⟨1024 * (g.val % 2) + q.val % 1024, by omega⟩ = _
  rw [hr, hq]
  rfl

section Reference
open Cert.OutReferenceIdeal.Read

theorem cat_left (x y : Vec Ideal S8192x2048 .bf16) (r : Fin 8192) (k : Fin 2048) :
    val_main_v0 (F := Ideal) x y (ix2 r ⟨k.val, by omega⟩) = x (ix2 r k) := by
  pointwise [val_main_v0]

theorem cat_right (x y : Vec Ideal S8192x2048 .bf16) (r : Fin 8192) (k : Fin 2048) :
    val_main_v0 (F := Ideal) x y (ix2 r ⟨2048 + k.val, by omega⟩) = y (ix2 r k) := by
  pointwise [val_main_v0]

/-- What the reference computes of the same arguments. -/
theorem ref (x y : Vec Ideal S8192x2048 .bf16) (w : Vec Ideal S4096x2048 .bf16) (z : Vec Ideal S8192x2048 .f32) (r : Fin 8192) (q : Fin 2048) :
    val_main_v4 (F := Ideal) x y w z (ix2 r q)
      = ((∑ k : Fin 2048, x (ix2 r k) * w (ix2 ⟨k.val, by omega⟩ q)) + ∑ k : Fin 2048, y (ix2 r k) * w (ix2 ⟨2048 + k.val, by omega⟩ q)) + z (ix2 r q) := by
  rw [val_main_v4_apply]
  refine (add_comm _ _).trans (congrArg (· + z (ix2 r q)) ?_)
  refine (val_main_v3_apply x y w _).trans ((Cert.Sums.sum2 _).trans ?_)
  refine congrArg₂ (· + ·) (Finset.sum_congr rfl fun k _ => ?_) (Finset.sum_congr rfl fun k _ => ?_)
  · rw [val_main_v1_apply, val_main_v2_apply]
    refine congrArg₂ (· * ·) (Eq.trans (congrArg (val_main_v0 (F := Ideal) x y) ?_) (cat_left x y r k)) (congrArg w ?_) <;>
      funext a <;> fin_cases a <;> rfl
  · rw [val_main_v1_apply, val_main_v2_apply]
    refine congrArg₂ (· * ·) (Eq.trans (congrArg (val_main_v0 (F := Ideal) x y) ?_) (cat_right x y r k)) (congrArg w ?_) <;>
      funext a <;> fin_cases a <;> rfl

theorem same : ((dats m 0 c).arrAt 4 cfg0.N : Vec Ideal S8192x2048 .f32)
    = val_main_v4 (F := Ideal) (m ((c : Thread nD τ).loc main_arg0)) (m ((c : Thread nD τ).loc main_arg1)) (m ((c : Thread nD τ).loc main_arg2))
        (m ((c : Thread nD τ).loc main_arg3)) := by
  funext i
  obtain ⟨r, q, rfl⟩ : ∃ (a : Fin 8192) (b : Fin 2048), i = ix2 a b := ⟨i 0, i 1, eq_ix2 i⟩
  exact (arr m c r q).trans (ref _ _ _ _ r q).symm

theorem frame_reference : Cert.quiescent_OutReferenceIdeal := fun m ρ _ =>
  (θ_run Cert.OutReferenceIdeal.defs _ _).mono (fun r h => ⟨fun c => (h c).2, sem_eq_zero_of_no_sems (by decide) r.2⟩)
    (Cert.OutReferenceIdeal.Value.run (F := Ideal) m ρ)

/-- Kernel and reference end with the same array. -/
theorem algebraic : Cert.algebraic_OutIdeal_OutReferenceIdeal := by
  intro m ρ m' ρ' _ ha
  refine ⟨fun c => (dats m 0 c).arrAt 4 cfg0.N,
    (θ_run Cert.OutIdeal.defs _ _).mono (fun _ h c => ⟨(h c).1.trans (Cert.OutIdeal.Value.final4 m c).symm, (h c).2⟩)
      (Cert.OutIdeal.Value.run (F := Ideal) m ρ), ?_⟩
  refine (θ_run Cert.OutReferenceIdeal.defs _ _).mono (fun _ h c => ⟨?_, (h c).2⟩) (Cert.OutReferenceIdeal.Value.run (F := Ideal) m' ρ')
  refine (h c).1.trans ((val_main_v4_eq _ _ _ _).trans ?_)
  rw [(ha c).1, (ha c).2.1, (ha c).2.2.1, (ha c).2.2.2]
  exact (same m c).symm

end Reference

end Cert.OutValue

end
-- ==== Proof.NormFwd.lean ====
/- The RMS norm of a row: the kernel's blocks of 512 rows against the norm over all 8192 rows. -/
module

public import proofs.«01_k».proof.Defs
public import proofs.«01_k».proof.Proof.NormBwd
public import proofs.«01_k».proof.Proof.Gen.NormFwdIdeal.Value
public import proofs.«01_k».proof.Proof.Gen.NormFwdReferenceIdeal.Run
public import proofs.«01_k».proof.Proof.Gen.NormFwdReferenceIdeal.Read
public import Idealize.ShloMosaic.Lib.Pipeline.ValueKit
public import Idealize.ShloMosaic.Lib.Pointwise
public import Idealize.ShloMosaic.Lib.Quiescent

@[expose] public section

set_option maxRecDepth 16384

noncomputable section

namespace Cert.NormFwdValue

open Cert.NormFwdIdeal Cert.NormFwdIdeal.Gen Cert.Spec Idealize.ShloMosaic Idealize.ShloMosaic.TcCoe Idealize.SL.Sem
open Cert.NormBwdValue (ms rt rw_ sc row hz2)
open scoped BigOperators

/-- The norm of a row at a column. -/
def nm (x g : Row) (j : Fin 2048) : EReal := x j * rt x * g j

theorem out_at (x : Vec Ideal S512x2048 .f32) (g : Vec Ideal S1x2048 .f32) : out0_2 x g = k0_pay1 x g := by
  unfold out0_2
  rw [View.canon_unit_zero hz2, View.ld_unit_zero hz2, View.ld_unit_zero hz2]

theorem pay (x : Vec Ideal S512x2048 .f32) (g : Vec Ideal S1x2048 .f32) (r : Fin 512) (j : Fin 2048) :
    (show EReal from k0_pay1 x g (ix2 r j)) = nm (rw_ x r) (sc g) j := by
  pointwise [k0_pay1]
  rfl

variable (m : (ℓ : Loc nD τ sig) → Buf (Elt Ideal) ℓ) (c : Dev nD)

abbrev aX : Vec Ideal S8192x2048 .f32 := m ((c : Thread nD τ).loc main_arg0)
abbrev aG : Vec Ideal S1x2048 .f32 := m ((c : Thread nD τ).loc main_arg1)

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![t.val, 0] := (by decide +kernel : ∀ t : Fin grid0.N, _)
theorem f2 : ∀ t : Fin cfg0.N, (cfg0.win 2).flush t = true := (by decide +kernel : ∀ t : Fin grid0.N, _)

theorem row_lt (t : Fin cfg0.N) (r : Fin 512) : 512 * t.val + r.val < 8192 := by
  have h : t.val < 16 := N_0 ▸ t.isLt
  have := r.isLt
  omega

theorem blk0 (t : Fin cfg0.N) (r : Fin 512) : rw_ (iblk m c 0 t) r = row (aX m c) ⟨512 * t.val + r.val, row_lt t r⟩ := by
  funext j
  show (iblk m c 0 t : Vec Ideal S512x2048 .f32) (ix2 r j) = m ((c : Thread nD τ).loc main_arg0) (ix2 _ _)
  unfold iblk
  blk_simp
  show V m c main_arg0 _ = _
  rw [V_main_arg0]
  congr 1
  blk_ext [e0]
theorem blk1 (t : Fin cfg0.N) : sc (iblk m c 1 t) = sc (aG m c) := by
  funext j
  show (iblk m c 1 t : Vec Ideal S1x2048 .f32) (ix2 0 j) = m ((c : Thread nD τ).loc main_arg1) (ix2 0 j)
  unfold iblk
  blk_simp
  show V m c main_arg1 _ = _
  rw [V_main_arg1]
  congr 1
  blk_ext [e1]

/-- The result, entry by entry. -/
theorem arr (i : Fin 8192) (j : Fin 2048) :
    ((dats m 0 c).arrAt 2 cfg0.N : Vec Ideal S8192x2048 .bf16) (ix2 i j) = nm (row (aX m c) i) (sc (aG m c)) j := by
  have hN : cfg0.N = 16 := N_0
  have ht : i.val / 512 < cfg0.N := by omega
  have h := (dats m 0 c).arrAt_emb_eq_flushed 2 (Cert.NormFwdIdeal.Value.disjoint2) ⟨_, ht⟩ (f2 _)
    (ix2 ⟨i.val % 512, by omega⟩ j : S512x2048.Idx)
  have e : ((cfg0.win 2).blk ⟨_, ht⟩).view.emb (ix2 ⟨i.val % 512, by omega⟩ j : S512x2048.Idx) = (ix2 i j : S8192x2048.Idx) := by
    blk_ext [e2]
  rw [e] at h
  refine h.trans ?_
  rw [Cert.NormFwdIdeal.Value.flushed2, out_at]
  refine (pay _ _ _ _).trans ?_
  rw [blk0 m c, blk1 m c]
  exact congrArg (fun i => nm (row (aX m c) i) (sc (aG m c)) j) (Fin.ext (by dsimp only; omega))

section Reference
open Cert.NormFwdReferenceIdeal.Read

/-- What the reference computes of the same arguments. -/
theorem ref (x : Vec Ideal S8192x2048 .f32) (g : Vec Ideal S1x2048 .f32) (i : Fin 8192) (j : Fin 2048) :
    (show EReal from val_main_v12 (F := Ideal) x g (ix2 i j)) = nm (row x i) (sc g) j := by
  pointwise [val_main_v12, val_main_v11, val_main_v10, val_main_v9, val_main_v8, val_main_v7, val_main_v6, val_main_v5, val_main_v4,
    val_main_v3, val_main_v2, val_main_v1, val_main_v0, val_main_cst, val_main_cst_0, val_main_cst_1]
  rfl

theorem same : ((dats m 0 c).arrAt 2 cfg0.N : Vec Ideal S8192x2048 .bf16)
    = val_main_v12 (F := Ideal) (m ((c : Thread nD τ).loc main_arg0)) (m ((c : Thread nD τ).loc main_arg1)) := by
  funext i
  obtain ⟨r, q, rfl⟩ : ∃ (a : Fin 8192) (b : Fin 2048), i = ix2 a b := ⟨i 0, i 1, eq_ix2 i⟩
  exact (arr m c r q).trans (ref _ _ r q).symm

theorem frame_reference : Cert.quiescent_NormFwdReferenceIdeal := fun m ρ _ =>
  (θ_run Cert.NormFwdReferenceIdeal.defs _ _).mono (fun r h => ⟨fun c => (h c).2, sem_eq_zero_of_no_sems (by decide) r.2⟩)
    (Cert.NormFwdReferenceIdeal.Value.run (F := Ideal) m ρ)

/-- Kernel and reference end with the same array. -/
theorem algebraic : Cert.algebraic_NormFwdIdeal_NormFwdReferenceIdeal := by
  intro m ρ m' ρ' _ ha
  refine ⟨fun c => (dats m 0 c).arrAt 2 cfg0.N, Cert.NormFwdIdeal.Value.run_blocks (F := Ideal) m ρ, ?_⟩
  refine (θ_run Cert.NormFwdReferenceIdeal.defs _ _).mono (fun _ h c => ⟨?_, (h c).2⟩) (Cert.NormFwdReferenceIdeal.Value.run (F := Ideal) m' ρ')
  refine (h c).1.trans ((val_main_v12_eq _ _).trans ?_)
  rw [(ha c).1, (ha c).2]
  exact (same m c).symm

end Reference

end Cert.NormFwdValue

end
-- ==== Proof.SconvFwd.lean ====
/-
  The short convolution with its gate: the kernel's blocks of 256 rows by 512 lanes, with the eight rows before each, against
  the sum of the three shifted products over the whole columns.
-/
module

public import proofs.«01_k».proof.Defs
public import proofs.«01_k».proof.Proof.SconvBwd
public import proofs.«01_k».proof.Proof.Gen.SconvFwdIdeal.Value
public import proofs.«01_k».proof.Proof.Gen.SconvFwdReferenceIdeal.Run
public import proofs.«01_k».proof.Proof.Gen.SconvFwdReferenceIdeal.Read
public import Idealize.ShloMosaic.Lib.Pipeline.ValueKit
public import Idealize.ShloMosaic.Lib.Pointwise
public import Idealize.ShloMosaic.Lib.Quiescent

@[expose] public section

set_option maxRecDepth 16384

noncomputable section

namespace Cert.SconvFwdValue

open Cert.SconvFwdIdeal Cert.SconvFwdIdeal.Gen Cert.Spec Idealize.ShloMosaic Idealize.ShloMosaic.TcCoe Idealize.SL.Sem
open Cert.SconvValue (hz2 sg_eq lane lane_val bg cg hx zz wt chCol conv convC late ext_at back back1_col back2_col)
open scoped BigOperators

/-- The gated convolution at a row of a lane. -/
def gatedConv (h : Vec Ideal S8192x16384 .f32) (f : Vec Ideal S3x2048 .f32) (J : Fin 2048) (R : Fin 8192) : EReal :=
  zz h J R * sg (zz h J R) * (bg h J R * conv h f J R)

/-! ### A point's values at an index -/

section Pay
variable (i : grid0.Coords) (x0 x1 x2 x3 : Vec Ideal S256x512 .f32) (x4 x5 : Vec Ideal S8x512 .f32) (x6 : Vec Ideal S3x512 .f32)
  (r : Fin 256) (q : Fin 8) (j : Fin 512)

/-- The block's result. -/
def tOut : Vec Ideal S256x512 .bf16 :=
  k0_pay1 (k0_pay4 i x4 x5 x1 x2 x6) (k0_pay5 x6) (k0_pay6 x1 x2) (k0_pay7 i x4 x5) (k0_pay8 x1 x2) k0_pay9 x3 x0

theorem out_at : out0_7 i x0 x1 x2 x3 x4 x5 x6 = tOut i x0 x1 x2 x3 x4 x5 x6 := by
  unfold out0_7 tOut
  rw [View.canon_unit_zero hz2]
  simp only [View.ld_unit_zero (S := S256x512) hz2, View.ld_unit_zero (S := S8x512) hz2, View.ld_unit_zero (S := S3x512) hz2]

theorem ch_at : k0_pay2 x1 x2 (ix2 r j) = x1 (ix2 r j) * x2 (ix2 r j) := by
  pointwise [k0_pay2]
theorem halo_at : k0_pay3 i x4 x5 (ix2 q j) = if (i 1).val = 0 then 0 else x4 (ix2 q j) * x5 (ix2 q j) := by
  pointwise [k0_pay3]
  have hi : (i 1).val < 2 ^ 32 := lt_trans (i 1).isLt (by decide)
  by_cases h : (i 1).val = 0
  · simp [Scalar.select, Scalar.cmpi, IntOp.cmpi, h]
  · have e : ¬ BitVec.ofNat 32 (i 1).val = 0#32 := fun e => h (by
      have := congrArg BitVec.toNat e; rw [BitVec.toNat_ofNat, Nat.mod_eq_of_lt hi] at this; exact this)
    have eb : (BitVec.ofNat 32 (i 1).val == 0#32) = false := beq_eq_false_iff_ne.mpr e
    simp [Scalar.select, Scalar.cmpi, IntOp.cmpi, h, eb]
theorem tOut_at : (show EReal from tOut i x0 x1 x2 x3 x4 x5 x6 (ix2 r j)) =
    x3 (ix2 r j) * sg (x3 (ix2 r j)) * (x0 (ix2 r j) * (x6 (ix2 2 j) * k0_pay2 x1 x2 (ix2 r j)
      + x6 (ix2 1 j) * back (F := Ideal) 1#32 (k0_pay2 x1 x2) (k0_pay3 i x4 x5) (ix2 r j)
      + x6 (ix2 0 j) * back (F := Ideal) 2#32 (k0_pay2 x1 x2) (k0_pay3 i x4 x5) (ix2 r j))) := by
  show truncf .bf16 (mulf (mulf x3 (logistic x3)) (mulf x0
    (addf (addf (mulf (broadcastTo S256x512 (extractStridedSlice S1x512 ![2, 0] x6 slices_S3x512_o2_0_S1x512) broadcasts_S1x512_S256x512)
      (k0_pay2 x1 x2))
      (mulf (broadcastTo S256x512 (extractStridedSlice S1x512 ![1, 0] x6 slices_S3x512_o1_0_S1x512) broadcasts_S1x512_S256x512)
        (back (F := Ideal) 1#32 (k0_pay2 x1 x2) (k0_pay3 i x4 x5))))
    (mulf (broadcastTo S256x512 (extractStridedSlice S1x512 ![0, 0] x6 slices_S3x512_o0_0_S1x512) broadcasts_S1x512_S256x512)
      (back (F := Ideal) 2#32 (k0_pay2 x1 x2) (k0_pay3 i x4 x5)))))) bitsLt_bf16_f32 (ix2 r j) = _
  pointwise []
  rw [sg_eq]
end Pay

/-! ### The blocks -/

variable (m : (ℓ : Loc nD τ sig) → Buf (Elt Ideal) ℓ) (c : Dev nD)

abbrev aH : Vec Ideal S8192x16384 .f32 := m ((c : Thread nD τ).loc main_arg0)
abbrev aF : Vec Ideal S3x2048 .f32 := m ((c : Thread nD τ).loc main_arg1)

/-- Row `r` and lane `j` of the point's block, and the eight rows before it (of the first block, its own first eight). -/
def rowT (t : Fin cfg0.N) (r : Fin 256) : Fin 8192 := ⟨256 * (t.val % 32) + r.val, by have := r.isLt; omega⟩
theorem rowT_val (t : Fin cfg0.N) (r : Fin 256) : (rowT t r).val = 256 * (t.val % 32) + r.val := rfl
def col (t : Fin cfg0.N) (j : Fin 512) : Fin 2048 :=
  ⟨512 * (t.val / 32) + j.val, by have := j.isLt; have h : t.val < 128 := N_0 ▸ t.isLt; omega⟩
theorem col_val (t : Fin cfg0.N) (j : Fin 512) : (col t j).val = 512 * (t.val / 32) + j.val := rfl
def rowH (t : Fin cfg0.N) (q : Fin 8) : Fin 8192 := ⟨8 * (t.val % 32 * 32 - 1) + q.val, by have := q.isLt; omega⟩
theorem rowH_val (t : Fin cfg0.N) (q : Fin 8) : (rowH t q).val = 8 * (t.val % 32 * 32 - 1) + q.val := rfl

theorem coord1 : ∀ t : Fin cfg0.N, (grid0.coords t 1).val = t.val % 32 := (by decide +kernel : ∀ t : Fin grid0.N, _)
theorem e0 : ∀ t : Fin cfg0.N, win0_0.index t = ![t.val % 32, t.val / 32] := (by decide +kernel : ∀ t : Fin grid0.N, _)
theorem e1 : ∀ t : Fin cfg0.N, win0_1.index t = ![t.val % 32, 4 + t.val / 32] := (by decide +kernel : ∀ t : Fin grid0.N, _)
theorem e2 : ∀ t : Fin cfg0.N, win0_2.index t = ![t.val % 32, 8 + t.val / 32] := (by decide +kernel : ∀ t : Fin grid0.N, _)
theorem e3 : ∀ t : Fin cfg0.N, win0_3.index t = ![t.val % 32, 12 + t.val / 32] := (by decide +kernel : ∀ t : Fin grid0.N, _)
theorem e4 : ∀ t : Fin cfg0.N, win0_4.index t = ![t.val % 32 * 32 - 1, 4 + t.val / 32] := (by decide +kernel : ∀ t : Fin grid0.N, _)
theorem e5 : ∀ t : Fin cfg0.N, win0_5.index t = ![t.val % 32 * 32 - 1, 8 + t.val / 32] := (by decide +kernel : ∀ t : Fin grid0.N, _)
theorem e6 : ∀ t : Fin cfg0.N, win0_6.index t = ![0, t.val / 32] := (by decide +kernel : ∀ t : Fin grid0.N, _)
theorem e7 : ∀ t : Fin cfg0.N, win0_7.index t = ![t.val % 32, t.val / 32] := (by decide +kernel : ∀ t : Fin grid0.N, _)
theorem f7 : ∀ t : Fin cfg0.N, (cfg0.win 7).flush t = true := (by decide +kernel : ∀ t : Fin grid0.N, _)

theorem blk0 (t : Fin cfg0.N) (r : Fin 256) (j : Fin 512) :
    (iblk m c 0 t : Vec Ideal S256x512 .f32) (ix2 r j) = bg (aH m c) (col t j) (rowT t r) := by
  show _ = m ((c : Thread nD τ).loc main_arg0) (ix2 (rowT t r) (lane 0 (col t j)))
  unfold iblk
  blk_simp
  show V m c main_arg0 _ = _
  rw [V_main_arg0]
  congr 1
  blk_ext [e0, rowT_val, lane_val, col_val]
theorem blk1 (t : Fin cfg0.N) (r : Fin 256) (j : Fin 512) :
    (iblk m c 1 t : Vec Ideal S256x512 .f32) (ix2 r j) = cg (aH m c) (col t j) (rowT t r) := by
  show _ = m ((c : Thread nD τ).loc main_arg0) (ix2 (rowT t r) (lane 1 (col t j)))
  unfold iblk
  blk_simp
  show V m c main_arg0 _ = _
  rw [V_main_arg0]
  congr 1
  blk_ext [e1, rowT_val, lane_val, col_val]
theorem blk2 (t : Fin cfg0.N) (r : Fin 256) (j : Fin 512) :
    (iblk m c 2 t : Vec Ideal S256x512 .f32) (ix2 r j) = hx (aH m c) (col t j) (rowT t r) := by
  show _ = m ((c : Thread nD τ).loc main_arg0) (ix2 (rowT t r) (lane 2 (col t j)))
  unfold iblk
  blk_simp
  show V m c main_arg0 _ = _
  rw [V_main_arg0]
  congr 1
  blk_ext [e2, rowT_val, lane_val, col_val]
theorem blk3 (t : Fin cfg0.N) (r : Fin 256) (j : Fin 512) :
    (iblk m c 3 t : Vec Ideal S256x512 .f32) (ix2 r j) = zz (aH m c) (col t j) (rowT t r) := by
  show _ = m ((c : Thread nD τ).loc main_arg0) (ix2 (rowT t r) (lane 3 (col t j)))
  unfold iblk
  blk_simp
  show V m c main_arg0 _ = _
  rw [V_main_arg0]
  congr 1
  blk_ext [e3, rowT_val, lane_val, col_val]
theorem blk4 (t : Fin cfg0.N) (q : Fin 8) (j : Fin 512) :
    (iblk m c 4 t : Vec Ideal S8x512 .f32) (ix2 q j) = cg (aH m c) (col t j) (rowH t q) := by
  show _ = m ((c : Thread nD τ).loc main_arg0) (ix2 (rowH t q) (lane 1 (col t j)))
  unfold iblk
  blk_simp
  show V m c main_arg0 _ = _
  rw [V_main_arg0]
  congr 1
  blk_ext [e4, rowH_val, lane_val, col_val]
theorem blk5 (t : Fin cfg0.N) (q : Fin 8) (j : Fin 512) :
    (iblk m c 5 t : Vec Ideal S8x512 .f32) (ix2 q j) = hx (aH m c) (col t j) (rowH t q) := by
  show _ = m ((c : Thread nD τ).loc main_arg0) (ix2 (rowH t q) (lane 2 (col t j)))
  unfold iblk
  blk_simp
  show V m c main_arg0 _ = _
  rw [V_main_arg0]
  congr 1
  blk_ext [e5, rowH_val, lane_val, col_val]
theorem blk6 (t : Fin cfg0.N) (k : Fin 3) (j : Fin 512) :
    (iblk m c 6 t : Vec Ideal S3x512 .f32) (ix2 k j) = wt (aF m c) (col t j) k := by
  show _ = m ((c : Thread nD τ).loc main_arg1) (ix2 k (col t j))
  unfold iblk
  blk_simp
  show V m c main_arg1 _ = _
  rw [V_main_arg1]
  congr 1
  blk_ext [e6, col_val]

/-! ### The result, entry by entry -/

theorem ch_blk (t : Fin cfg0.N) (j : Fin 512) (r : Fin 256) :
    k0_pay2 (iblk m c 1 t) (iblk m c 2 t) (ix2 r j) = chCol (aH m c) (col t j) (256 * (t.val % 32) + r.val) := by
  refine (ch_at ..).trans ?_
  rw [blk1, blk2]
  exact (ext_at (fun R => cg (aH m c) (col t j) R * hx (aH m c) (col t j) R) (rowT t r)).symm
theorem halo_blk (t : Fin cfg0.N) (j : Fin 512) (q : Fin 8) :
    k0_pay3 (grid0.coords t) (iblk m c 4 t) (iblk m c 5 t) (ix2 q j)
      = if t.val % 32 = 0 then 0 else chCol (aH m c) (col t j) (256 * (t.val % 32) - 8 + q.val) := by
  refine (halo_at ..).trans ?_
  rw [coord1, blk4, blk5]
  by_cases h : t.val % 32 = 0
  · rw [if_pos h, if_pos h]
  · rw [if_neg h, if_neg h, show 256 * (t.val % 32) - 8 + q.val = (rowH t q).val by rw [rowH_val]; omega]
    exact (ext_at (fun R => cg (aH m c) (col t j) R * hx (aH m c) (col t j) R) (rowH t q)).symm
theorem tOut_blk (t : Fin cfg0.N) (j : Fin 512) (r : Fin 256) :
    (show EReal from tOut (grid0.coords t) (iblk m c 0 t) (iblk m c 1 t) (iblk m c 2 t) (iblk m c 3 t) (iblk m c 4 t) (iblk m c 5 t)
      (iblk m c 6 t) (ix2 r j)) = gatedConv (aH m c) (aF m c) (col t j) (rowT t r) := by
  refine (tOut_at ..).trans ?_
  rw [back1_col (t.val % 32) _ _ (chCol (aH m c) (col t j)) j r (ch_blk m c t j) (halo_blk m c t j),
    back2_col (t.val % 32) _ _ (chCol (aH m c) (col t j)) j r (ch_blk m c t j) (halo_blk m c t j), ch_blk, blk0, blk3, blk6, blk6, blk6]
  rfl

theorem arr (R : Fin 8192) (J : Fin 2048) :
    ((dats m 0 c).arrAt 7 cfg0.N : Vec Ideal S8192x2048 .bf16) (ix2 R J) = gatedConv (aH m c) (aF m c) J R := by
  have hN : cfg0.N = 128 := N_0
  have ht : J.val / 512 * 32 + R.val / 256 < cfg0.N := by omega
  have h := (dats m 0 c).arrAt_emb_eq_flushed 7 (Cert.SconvFwdIdeal.Value.disjoint7) ⟨_, ht⟩ (f7 _)
    (ix2 ⟨R.val % 256, by omega⟩ ⟨J.val % 512, by omega⟩ : S256x512.Idx)
  have e : ((cfg0.win 7).blk ⟨_, ht⟩).view.emb (ix2 ⟨R.val % 256, by omega⟩ ⟨J.val % 512, by omega⟩ : S256x512.Idx)
      = (ix2 R J : S8192x2048.Idx) := by
    blk_ext [e7]
  rw [e] at h
  refine h.trans ?_
  rw [Cert.SconvFwdIdeal.Value.flushed7, out_at]
  refine (tOut_blk m c _ _ _).trans ?_
  exact congrArg₂ (gatedConv (aH m c) (aF m c)) (Fin.ext (by rw [col_val]; dsimp only; omega)) (Fin.ext (by rw [rowT_val]; dsimp only; omega))

/-! ### The reference -/

section Ref
open Cert.SconvFwdReferenceIdeal.Read
variable (h : Vec Ideal S8192x16384 .f32) (f : Vec Ideal S3x2048 .f32) (R : Fin 8192) (J : Fin 2048)

theorem v1_at : val_main_v1 (F := Ideal) h (ix2 R J) = bg h J R := by
  pointwise [val_main_v1, val_main_v0]
  exact congrArg (fun a => h (ix2 R a)) (Fin.ext (by simp [lane]))
theorem v2_at : val_main_v2 (F := Ideal) h (ix2 R J) = cg h J R := by
  pointwise [val_main_v2, val_main_v0]
  exact congrArg (fun a => h (ix2 R a)) (Fin.ext (by simp [lane]))
theorem v3_at : val_main_v3 (F := Ideal) h (ix2 R J) = hx h J R := by
  pointwise [val_main_v3, val_main_v0]
  exact congrArg (fun a => h (ix2 R a)) (Fin.ext (by simp [lane]))
theorem v4_at : val_main_v4 (F := Ideal) h (ix2 R J) = zz h J R := by
  pointwise [val_main_v4, val_main_v0]
  exact congrArg (fun a => h (ix2 R a)) (Fin.ext (by simp [lane]))
theorem v5_at : val_main_v5 (F := Ideal) h (ix2 R J) = zz h J R * sg (zz h J R) := by
  pointwise [val_main_v5, val_main_call0_v5, val_main_call0_v4, val_main_call0_v3, val_main_call0_v2, val_main_call0_v1, val_main_call0_v0,
    val_main_call0_cst, val_main_call0_cst_0]
  rw [v4_at]
  rfl
theorem v6_at : val_main_v6 (F := Ideal) h (ix2 R J) = cg h J R * hx h J R := by
  pointwise [val_main_v6]
  rw [v2_at, v3_at]
theorem v10_at : val_main_v10 (F := Ideal) h (ix2 R J) = late 2 (chCol h J) R.val := by
  pointwise [val_main_v10, val_main_v8, val_main_v7, val_main_cst]
  rw [late]
  by_cases h2 : R.val < 2
  · exact (dif_pos h2).trans (if_neg (by omega)).symm
  · refine (dif_neg h2).trans ((v6_at h _ J).trans (Eq.trans ?_ (if_pos (by omega)).symm))
    exact (ext_at (fun R => cg h J R * hx h J R) ⟨R.val - 2, by omega⟩).symm
theorem v14_at : val_main_v14 (F := Ideal) h (ix2 R J) = late 1 (chCol h J) R.val := by
  pointwise [val_main_v14, val_main_v8, val_main_v7, val_main_cst]
  rw [late]
  by_cases h2 : 1 + R.val < 2
  · exact (dif_pos h2).trans (if_neg (by omega)).symm
  · refine (dif_neg h2).trans ((v6_at h _ J).trans (Eq.trans ?_ (if_pos (by omega)).symm))
    rw [show R.val - 1 = 1 + R.val - 2 by omega]
    exact (ext_at (fun R => cg h J R * hx h J R) ⟨1 + R.val - 2, by omega⟩).symm
theorem v19_at : val_main_v19 (F := Ideal) h (ix2 R J) = chCol h J R.val := by
  pointwise [val_main_v19, val_main_v8, val_main_v7, val_main_cst]
  rw [v6_at]
  exact (ext_at (fun R => cg h J R * hx h J R) R).symm
theorem v22_at : val_main_v22 (F := Ideal) h f (ix2 R J) = conv h f J R := by
  pointwise [val_main_v22, val_main_v21, val_main_v20, val_main_v18, val_main_v17, val_main_v16, val_main_v15, val_main_v13, val_main_v12,
    val_main_v11, val_main_v9]
  rw [v10_at, v14_at, v19_at]
  unfold conv convC
  exact (add_comm _ _).trans (by rw [add_comm (_ * _) (_ * late 1 _ _), ← add_assoc]; rfl)
theorem v25_at : (show EReal from val_main_v25 (F := Ideal) h f (ix2 R J)) = gatedConv h f J R := by
  pointwise [val_main_v25, val_main_v24, val_main_v23]
  rw [v5_at, v1_at, v22_at]
  rfl

theorem same : ((dats m 0 c).arrAt 7 cfg0.N : Vec Ideal S8192x2048 .bf16)
    = val_main_v25 (F := Ideal) (m ((c : Thread nD τ).loc main_arg0)) (m ((c : Thread nD τ).loc main_arg1)) := by
  funext i
  obtain ⟨R, J, rfl⟩ : ∃ (a : Fin 8192) (b : Fin 2048), i = ix2 a b := ⟨i 0, i 1, eq_ix2 i⟩
  exact (arr m c R J).trans (v25_at _ _ R J).symm

theorem frame_reference : Cert.quiescent_SconvFwdReferenceIdeal := fun m ρ _ =>
  (θ_run Cert.SconvFwdReferenceIdeal.defs _ _).mono (fun r h => ⟨fun c => (h c).2, sem_eq_zero_of_no_sems (by decide) r.2⟩)
    (Cert.SconvFwdReferenceIdeal.Value.run (F := Ideal) m ρ)

/-- Kernel and reference end with the same array. -/
theorem algebraic : Cert.algebraic_SconvFwdIdeal_SconvFwdReferenceIdeal := by
  intro m ρ m' ρ' _ ha
  refine ⟨fun c => (dats m 0 c).arrAt 7 cfg0.N, Cert.SconvFwdIdeal.Value.run_blocks (F := Ideal) m ρ, ?_⟩
  refine (θ_run Cert.SconvFwdReferenceIdeal.defs _ _).mono (fun _ h c => ⟨?_, (h c).2⟩) (Cert.SconvFwdReferenceIdeal.Value.run (F := Ideal) m' ρ')
  refine (h c).1.trans ((val_main_v25_eq _ _).trans ?_)
  rw [(ha c).1, (ha c).2]
  exact (same m c).symm
end Ref

end Cert.SconvFwdValue

end
-- ==== Proof.GmlpFwd.lean ====
/-
  The gated spatial mixing: the kernel's chunks of 128 rows against the normalised columns mixed within each chunk and group
  over the whole arrays.
-/
module

public import proofs.«01_k».proof.Defs
public import proofs.«01_k».proof.Proof.Body
public import proofs.«01_k».proof.Proof.RefRows
public import proofs.«01_k».proof.Proof.SconvPay
public import proofs.«01_k».proof.Proof.Gen.GmlpFwdIdeal.Value
public import proofs.«01_k».proof.Proof.Gen.GmlpFwdReferenceIdeal.Run
public import proofs.«01_k».proof.Proof.Gen.GmlpFwdReferenceIdeal.Read
public import Idealize.ShloMosaic.Lib.Pipeline.ValueKit
public import Idealize.ShloMosaic.Lib.Pointwise
public import Idealize.ShloMosaic.Lib.Quiescent

@[expose] public section

set_option maxRecDepth 16384

noncomputable section

namespace Cert.GmlpFwdValue

open Cert.GmlpFwdIdeal Cert.GmlpFwdIdeal.Gen Cert.Spec Idealize.ShloMosaic Idealize.ShloMosaic.TcCoe Idealize.SL.Sem
open Cert.KernelIdeal.Body (chunk row mats bias groups grp_eq)
open Cert.ReferenceIdeal.Rows (rH rG rW rS vrow at_cell at_four grp_col sub col_sub)
open scoped BigOperators

/-- The gated mixing of a chunk. -/
def fwd (g b : Row) (U V Z : Chunk) (W : Fin 8 → Fin 128 → Fin 128 → EReal) (B : Fin 128 → Fin 8 → EReal) (t : Fin 128) (j : Fin 2048) : EReal :=
  Z t j * sg (Z t j) * (U t j * mix g b V W B t j)

/-! ### A point's values at an index -/

theorem hz2 : (![0, 0] : Fin 2 → Nat) = fun _ => 0 := funext fun a => by fin_cases a <;> rfl
theorem hz3 : (![0, 0, 0] : Fin 3 → Nat) = fun _ => 0 := funext fun a => by fin_cases a <;> rfl

section Pay
variable (x0 x1 x2 : Vec Ideal S128x2048 .f32) (x3 x4 : Vec Ideal S1x2048 .f32) (x5 : Vec Ideal S8x128x128 .f32) (x6 : Vec Ideal S128x8 .f32)
  (t : Fin 128) (j : Fin 2048)

/-- The block's result. -/
def tOut : Vec Ideal S128x2048 .bf16 :=
  k0_pay1 (k0_pay2 x5) x0 x2 (k0_pay3 x6) (k0_pay4 x1 x3 x4) (k0_pay6 (k0_pay3 x6) (k0_pay4 x1 x3 x4) (k0_pay5 x5))
    (k0_pay7 (k0_pay2 x5) (k0_pay3 x6) (k0_pay4 x1 x3 x4)) (k0_pay8 (k0_pay2 x5) (k0_pay3 x6) (k0_pay4 x1 x3 x4))
    (k0_pay9 (k0_pay2 x5) (k0_pay3 x6) (k0_pay4 x1 x3 x4)) (k0_pay10 (k0_pay2 x5) (k0_pay3 x6) (k0_pay4 x1 x3 x4))
    (k0_pay11 (k0_pay2 x5) (k0_pay3 x6) (k0_pay4 x1 x3 x4)) (k0_pay12 (k0_pay2 x5))

theorem out_at : out0_7 x0 x1 x2 x3 x4 x5 x6 = tOut x0 x1 x2 x3 x4 x5 x6 := by
  unfold out0_7 tOut k0_pay13 k0_pay14 k0_pay15
  rw [View.canon_unit_zero hz2]
  simp only [View.ld_unit_zero (S := S128x2048) hz2, View.ld_unit_zero (S := S1x2048) hz2, View.ld_unit_zero (S := S128x8) hz2,
    View.ld_unit_zero (S := S8x128x128) hz3]

theorem ln_at : k0_pay4 x1 x3 x4 (ix2 t j) = ln (row x3) (row x4) (chunk x1 t) j := by
  pointwise [k0_pay4]
  rfl
theorem low_at (k : Fin 8) (t s : Fin 128) : k0_pay2 x5 (ix3 k t s) = low (mats x5) k t s := by
  pointwise [k0_pay2]
  rw [Cert.KernelIdeal.Body.sge_word]
  rfl

theorem tOut_at : (show EReal from tOut x0 x1 x2 x3 x4 x5 x6 (ix2 t j)) =
    fwd (row x3) (row x4) (chunk x0) (chunk x1) (chunk x2) (mats x5) (bias x6) t j := by
  have hB : ∀ (t : Fin 128) (k : Fin 8), k0_pay3 x6 (ix2 t k) = bias x6 t k := fun t k => by pointwise [k0_pay3]
  have hj := j.isLt
  pointwise [tOut, k0_pay1, k0_pay5, k0_pay6, k0_pay7, k0_pay8, k0_pay9, k0_pay10, k0_pay11, k0_pay12]
  simp only [low_at, ln_at, hB]
  rw [Cert.SconvValue.sg_eq]
  refine congrArg (fun a : EReal => x2 (ix2 t j) * sg (x2 (ix2 t j)) * (x0 (ix2 t j) * a)) ?_
  unfold mix
  obtain h | h | h | h | h | h | h | h := groups j
  all_goals simp (disch := omega) only [dif_pos, dif_neg]
  · rw [grp_eq (k := 0) h]
  · rw [grp_eq (k := 1) h]
    exact congrArg (· + _) (Finset.sum_congr rfl fun s _ => congrArg (fun i => _ * ln _ _ _ i) (Fin.ext (by dsimp only; omega)))
  · rw [grp_eq (k := 2) h]
    exact congrArg (· + _) (Finset.sum_congr rfl fun s _ => congrArg (fun i => _ * ln _ _ _ i) (Fin.ext (by dsimp only; omega)))
  · rw [grp_eq (k := 3) h]
    exact congrArg (· + _) (Finset.sum_congr rfl fun s _ => congrArg (fun i => _ * ln _ _ _ i) (Fin.ext (by dsimp only; omega)))
  · rw [grp_eq (k := 4) h]
    exact congrArg (· + _) (Finset.sum_congr rfl fun s _ => congrArg (fun i => _ * ln _ _ _ i) (Fin.ext (by dsimp only; omega)))
  · rw [grp_eq (k := 5) h]
    exact congrArg (· + _) (Finset.sum_congr rfl fun s _ => congrArg (fun i => _ * ln _ _ _ i) (Fin.ext (by dsimp only; omega)))
  · rw [grp_eq (k := 6) h]
    exact congrArg (· + _) (Finset.sum_congr rfl fun s _ => congrArg (fun i => _ * ln _ _ _ i) (Fin.ext (by dsimp only; omega)))
  · rw [grp_eq (k := 7) h]
    exact congrArg (· + _) (Finset.sum_congr rfl fun s _ => congrArg (fun i => _ * ln _ _ _ i) (Fin.ext (by dsimp only; omega)))
end Pay

/-! ### The blocks -/

variable (m : (ℓ : Loc nD τ sig) → Buf (Elt Ideal) ℓ) (c : Dev nD)

abbrev a0 : Vec Ideal S8192x12288 .f32 := m ((c : Thread nD τ).loc main_arg0)
abbrev a1 : Vec Ideal S1x2048 .f32 := m ((c : Thread nD τ).loc main_arg1)
abbrev a2 : Vec Ideal S1x2048 .f32 := m ((c : Thread nD τ).loc main_arg2)
abbrev a3 : Vec Ideal S1x8x128x128 .f32 := m ((c : Thread nD τ).loc main_arg3)
abbrev a4 : Vec Ideal S1x8x128 .f32 := m ((c : Thread nD τ).loc main_arg4)

/-- The chunk of a grid point. -/
def pt (t : Fin cfg0.N) : Fin 64 := t.cast N_0
theorem row_val (t : Fin cfg0.N) (r : Fin 128) : (rowOf (pt t) r).val = 128 * t.val + r.val := rfl

theorem e0 : ∀ t : Fin cfg0.N, win0_0.index t = ![t.val, 0] := (by decide +kernel : ∀ t : Fin grid0.N, _)
theorem e1 : ∀ t : Fin cfg0.N, win0_1.index t = ![t.val, 1] := (by decide +kernel : ∀ t : Fin grid0.N, _)
theorem e2 : ∀ t : Fin cfg0.N, win0_2.index t = ![t.val, 2] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![0, 0, 0] := (by decide +kernel : ∀ t : Fin grid0.N, _)
theorem e6 : ∀ t : Fin cfg0.N, win0_6.index t = ![0, 0] := (by decide +kernel : ∀ t : Fin grid0.N, _)
theorem e7 : ∀ t : Fin cfg0.N, win0_7.index t = ![t.val, 0] := (by decide +kernel : ∀ t : Fin grid0.N, _)
theorem f7 : ∀ t : Fin cfg0.N, (cfg0.win 7).flush t = true := (by decide +kernel : ∀ t : Fin grid0.N, _)

theorem blk0 (t : Fin cfg0.N) : chunk (iblk m c 0 t) = Uc (rH (a0 m c)) (pt t) := by
  funext r j
  show (iblk m c 0 t : Vec Ideal S128x2048 .f32) (ix2 r j) = m ((c : Thread nD τ).loc main_arg0) (ix2 _ _)
  unfold iblk
  blk_simp
  show V m c main_arg0 _ = _
  rw [V_main_arg0]
  congr 1
  blk_ext [e0, row_val]
theorem blk1 (t : Fin cfg0.N) : chunk (iblk m c 1 t) = Vc (rH (a0 m c)) (pt t) := by
  funext r j
  show (iblk m c 1 t : Vec Ideal S128x2048 .f32) (ix2 r j) = m ((c : Thread nD τ).loc main_arg0) (ix2 _ _)
  unfold iblk
  blk_simp
  show V m c main_arg0 _ = _
  rw [V_main_arg0]
  congr 1
  blk_ext [e1, row_val]
theorem blk2 (t : Fin cfg0.N) : chunk (iblk m c 2 t) = Zc (rH (a0 m c)) (pt t) := by
  funext r j
  show (iblk m c 2 t : Vec Ideal S128x2048 .f32) (ix2 r j) = m ((c : Thread nD τ).loc main_arg0) (ix2 _ _)
  unfold iblk
  blk_simp
  show V m c main_arg0 _ = _
  rw [V_main_arg0]
  congr 1
  blk_ext [e2, row_val]
theorem blk3 (t : Fin cfg0.N) : row (iblk m c 3 t) = rG (a1 m c) := by
  funext j
  show (iblk m c 3 t : Vec Ideal S1x2048 .f32) (ix2 0 j) = m ((c : Thread nD τ).loc main_arg1) (ix2 0 j)
  unfold iblk
  blk_simp
  show V m c main_arg1 _ = _
  rw [V_main_arg1]
  congr 1
  blk_ext [e3]
theorem blk4 (t : Fin cfg0.N) : row (iblk m c 4 t) = rG (a2 m c) := by
  funext j
  show (iblk m c 4 t : Vec Ideal S1x2048 .f32) (ix2 0 j) = m ((c : Thread nD τ).loc main_arg2) (ix2 0 j)
  unfold iblk
  blk_simp
  show V m c main_arg2 _ = _
  rw [V_main_arg2]
  congr 1
  blk_ext [e4]

theorem ws_at (x : Vec Ideal S1x8x128x128 .f32) (h : Fin 8) (r s : Fin 128) :
    shapeCast S8x128x128 x shapeCasts_S1x8x128x128_S8x128x128 (ix3 h r s) = x (ix4 0 h r s) := by pointwise
theorem bs_at (x : Vec Ideal S1x8x128 .f32) (r : Fin 128) (h : Fin 8) :
    transpose S128x8 [1, 0] (shapeCast S8x128 x shapeCasts_S1x8x128_S8x128) transposes_S8x128_S128x8_1_0 (ix2 r h)
      = x (ix3 0 h r) := by pointwise
theorem V_ws : (V m c main_v0 : Vec Ideal S8x128x128 .f32)
    = shapeCast S8x128x128 (m ((c : Thread nD τ).loc main_arg3)) shapeCasts_S1x8x128x128_S8x128x128 := by
  show StableHlo.after hostOps0 (fun b => m (c, b)) main_v0 = _
  after_results
  rfl
theorem V_bs : (V m c main_v2 : Vec Ideal S128x8 .f32)
    = transpose S128x8 [1, 0] (shapeCast S8x128 (m ((c : Thread nD τ).loc main_arg4)) shapeCasts_S1x8x128_S8x128)
        transposes_S8x128_S128x8_1_0 := by
  show StableHlo.after hostOps0 (fun b => m (c, b)) main_v2 = _
  after_results
  rfl
theorem blk5 (t : Fin cfg0.N) : mats (iblk m c 5 t) = rW (a3 m c) := by
  funext h r s
  show (iblk m c 5 t : Vec Ideal S8x128x128 .f32) (ix3 h r s) = m ((c : Thread nD τ).loc main_arg3) (ix4 0 h r s)
  unfold iblk
  blk_simp
  show (V m c main_v0 : Vec Ideal S8x128x128 .f32) _ = _
  rw [show ∀ i : S8x128x128.Idx, i = ix3 h r s → (V m c main_v0 : Vec Ideal S8x128x128 .f32) i = V m c main_v0 (ix3 h r s) from
    fun i hi => by rw [hi]]
  · rw [V_ws, ws_at]
  · blk_ext [e5]
theorem blk6 (t : Fin cfg0.N) : bias (iblk m c 6 t) = rS (a4 m c) := by
  funext r h
  show (iblk m c 6 t : Vec Ideal S128x8 .f32) (ix2 r h) = m ((c : Thread nD τ).loc main_arg4) (ix3 0 h r)
  unfold iblk
  blk_simp
  show (V m c main_v2 : Vec Ideal S128x8 .f32) _ = _
  rw [show ∀ i : S128x8.Idx, i = ix2 r h → (V m c main_v2 : Vec Ideal S128x8 .f32) i = V m c main_v2 (ix2 r h) from
    fun i hi => by rw [hi]]
  · rw [V_bs, bs_at]
  · blk_ext [e6]

/-! ### The result, entry by entry -/

/-- The chunk's result from the whole arrays. -/
abbrev fwdOf (x0 : Vec Ideal S8192x12288 .f32) (x1 x2 : Vec Ideal S1x2048 .f32) (x3 : Vec Ideal S1x8x128x128 .f32) (x4 : Vec Ideal S1x8x128 .f32)
    (k : Fin 64) (t : Fin 128) (j : Fin 2048) : EReal :=
  fwd (rG x1) (rG x2) (Uc (rH x0) k) (Vc (rH x0) k) (Zc (rH x0) k) (rW x3) (rS x4) t j

theorem arr (t : Fin cfg0.N) (r : Fin 128) (j : Fin 2048) :
    ((dats m 0 c).arrAt 7 cfg0.N : Vec Ideal S8192x2048 .bf16) (ix2 (rowOf (pt t) r) j)
      = fwdOf (a0 m c) (a1 m c) (a2 m c) (a3 m c) (a4 m c) (pt t) r j := by
  have h := (dats m 0 c).arrAt_emb_eq_flushed 7 (Cert.GmlpFwdIdeal.Value.disjoint7) t (f7 t) (ix2 r j : S128x2048.Idx)
  have e : ((cfg0.win 7).blk t).view.emb (ix2 r j : S128x2048.Idx) = (ix2 (rowOf (pt t) r) j : S8192x2048.Idx) := by
    blk_ext [e7, row_val]
  rw [e] at h
  refine h.trans ?_
  rw [Cert.GmlpFwdIdeal.Value.flushed7, out_at]
  refine (tOut_at ..).trans ?_
  rw [blk0, blk1, blk2, blk3, blk4, blk5, blk6]

/-! ### The reference -/

section Ref
open Cert.GmlpFwdReferenceIdeal.Read
variable (x0 : Vec Ideal S8192x12288 .f32) (x1 x2 : Vec Ideal S1x2048 .f32) (x3 : Vec Ideal S1x8x128x128 .f32) (x4 : Vec Ideal S1x8x128 .f32)

theorem v4_at (i : Fin 8192) (j : Fin 2048) : val_main_v4 (F := Ideal) x0 (ix2 i j) = vrow x0 i j := by
  pointwise [val_main_v4, val_main_v0]
  rfl
theorem v11_at (i : Fin 8192) (j : Fin 2048) : val_main_v11 (F := Ideal) x0 (ix2 i j) = cen (vrow x0 i) j := by
  pointwise [val_main_v11, val_main_v10, val_main_v9, val_main_v8, val_main_v7, val_main_v6, val_main_cst, val_main_cst_0]
  simp only [v4_at]
  rfl
theorem v19_at (i : Fin 8192) : val_main_v19 (F := Ideal) x0 (ix2 i 0) = rs (vrow x0 i) := by
  pointwise [val_main_v19, val_main_v18, val_main_v17, val_main_v16, val_main_v15, val_main_v14, val_main_v13, val_main_v12, val_main_cst_1,
    val_main_cst_2, val_main_cst_3]
  simp only [v11_at]
  rfl
theorem v25_at (i : Fin 8192) (j : Fin 2048) :
    val_main_v25 (F := Ideal) x0 x1 x2 (ix2 i j) = ln (rG x1) (rG x2) (vrow x0 i) j := by
  pointwise [val_main_v25, val_main_v24, val_main_v23, val_main_v22, val_main_v21, val_main_v20]
  simp only [v11_at, v19_at]
  rfl
theorem v29_at (h : Fin 8) (t s : Fin 128) : val_main_v29 (F := Ideal) x3 (ix3 h t s) = low (rW x3) h t s := by
  pointwise [val_main_v29, val_main_call1_v0, val_main_v28, val_main_v27, val_main_v26, val_main_v1, val_main_call0_v0, val_main_call0_c,
    val_main_call0_v1, val_main_call0_v2, val_main_call0_v3, val_main_call0_v4, val_main_call0_c_0, val_main_call0_v5, val_main_c, val_main_cst_4]
  rw [Cert.ReferenceIdeal.Rows.sge_word]
  rfl
theorem v30_at (k : Fin 64) (t : Fin 128) (h : Fin 8) (d : Fin 256) :
    val_main_v30 (F := Ideal) x0 x1 x2 (ix4 k t h d) = ln (rG x1) (rG x2) (vrow x0 (rowOf k t)) (col h d) := by
  pointwise [val_main_v30]
  exact (at_cell (val_main_v25 (F := Ideal) x0 x1 x2) k t h d _ _ rfl rfl).trans (v25_at ..)
theorem v36_at (k : Fin 64) (t : Fin 128) (h : Fin 8) (d : Fin 256) :
    val_main_v36 (F := Ideal) x0 x1 x2 x3 x4 (ix4 k t h d) = mix (rG x1) (rG x2) (Vc (rH x0) k) (rW x3) (rS x4) t (col h d) := by
  pointwise [val_main_v36, val_main_v35, val_main_v34, val_main_v33, val_main_v32, val_main_v31, val_main_v2]
  simp only [v30_at, v29_at, mix, grp_col]
  congr 1
  exact Finset.sum_congr rfl fun s _ => mul_comm _ _
theorem v38_at (k : Fin 64) (t : Fin 128) (j : Fin 2048) :
    val_main_v38 (F := Ideal) x0 x1 x2 x3 x4 (ix2 (rowOf k t) j) = mix (rG x1) (rG x2) (Vc (rH x0) k) (rW x3) (rS x4) t j := by
  have hk := k.isLt; have ht := t.isLt; have hj := j.isLt
  have hr : (rowOf k t).val = 128 * k.val + t.val := rfl
  pointwise [val_main_v38]
  refine (at_four (val_main_v36 (F := Ideal) x0 x1 x2 x3 x4) k t j _ _ _ _ (by dsimp only; omega) (by dsimp only; omega) rfl rfl).trans ?_
  rw [v36_at, col_sub]
theorem v41_at (k : Fin 64) (t : Fin 128) (j : Fin 2048) :
    (show EReal from val_main_v41 (F := Ideal) x0 x1 x2 x3 x4 (ix2 (rowOf k t) j)) = fwdOf x0 x1 x2 x3 x4 k t j := by
  pointwise [val_main_v41, val_main_v40, val_main_v39, val_main_v37, val_main_call2_v5, val_main_call2_v4, val_main_call2_v3, val_main_call2_v2,
    val_main_call2_v1, val_main_call2_v0, val_main_call2_cst, val_main_call2_cst_0, val_main_v5, val_main_v3, val_main_v0]
  rw [v38_at]
  rfl

theorem row_split (i : Fin 8192) : ∃ (t : Fin cfg0.N) (r : Fin 128), i = rowOf (pt t) r := by
  refine ⟨Fin.cast N_0.symm ⟨i.val / 128, by have := i.isLt; omega⟩, ⟨i.val % 128, Nat.mod_lt _ (by decide)⟩, Fin.ext ?_⟩
  show i.val = 128 * (i.val / 128) + i.val % 128
  omega

theorem same : ((dats m 0 c).arrAt 7 cfg0.N : Vec Ideal S8192x2048 .bf16) = val_main_v41 (F := Ideal) (a0 m c) (a1 m c) (a2 m c) (a3 m c) (a4 m c) := by
  funext i
  obtain ⟨R, j, rfl⟩ : ∃ (a : Fin 8192) (b : Fin 2048), i = ix2 a b := ⟨i 0, i 1, eq_ix2 i⟩
  obtain ⟨t, r, rfl⟩ := row_split R
  exact (arr m c t r j).trans (v41_at _ _ _ _ _ (pt t) r j).symm

theorem frame_reference : Cert.quiescent_GmlpFwdReferenceIdeal := fun m ρ _ =>
  (θ_run Cert.GmlpFwdReferenceIdeal.defs _ _).mono (fun r h => ⟨fun c => (h c).2, sem_eq_zero_of_no_sems (by decide) r.2⟩)
    (Cert.GmlpFwdReferenceIdeal.Value.run (F := Ideal) m ρ)

/-- Kernel and reference end with the same array. -/
theorem algebraic : Cert.algebraic_GmlpFwdIdeal_GmlpFwdReferenceIdeal := by
  intro m ρ m' ρ' _ ha
  refine ⟨fun c => (dats m 0 c).arrAt 7 cfg0.N, Cert.GmlpFwdIdeal.Value.run_blocks (F := Ideal) m ρ, ?_⟩
  refine (θ_run Cert.GmlpFwdReferenceIdeal.defs _ _).mono (fun _ h c => ⟨?_, (h c).2⟩) (Cert.GmlpFwdReferenceIdeal.Value.run (F := Ideal) m' ρ')
  refine (h c).1.trans ((val_main_v41_eq _ _).trans ?_)
  obtain ⟨e0, e1, e2, e3, e4⟩ := ha c
  rw [e0, e1, e2, e3, e4]
  exact (same m c).symm
end Ref

end Cert.GmlpFwdValue

end
-- ==== Proof.SsdConvFwd.lean ====
/-
  The convolution of four rows with its bias and SiLU: the kernel's blocks of 256 rows by 512 lanes, with the eight rows
  before each, against the sum of the four shifted products over the whole columns.
-/
module

public import proofs.«01_k».proof.Defs
public import proofs.«01_k».proof.Proof.SconvBwd
public import proofs.«01_k».proof.Proof.Gen.SsdConvFwdIdeal.Value
public import proofs.«01_k».proof.Proof.Gen.SsdConvFwdReferenceIdeal.Run
public import proofs.«01_k».proof.Proof.Gen.SsdConvFwdReferenceIdeal.Read
public import Idealize.ShloMosaic.Lib.Pipeline.ValueKit
public import Idealize.ShloMosaic.Lib.Pointwise
public import Idealize.ShloMosaic.Lib.Quiescent

@[expose] public section

set_option maxRecDepth 16384

noncomputable section

namespace Cert.SsdConvFwdValue

open Cert.SsdConvFwdIdeal Cert.SsdConvFwdIdeal.Gen Cert.Spec Idealize.ShloMosaic Idealize.ShloMosaic.TcCoe Idealize.SL.Sem
open Cert.SconvValue (hz2 sg_eq late ext ext_at back back1_col back2_col slt_word row_eq)
open scoped BigOperators

/-! ### The columns -/

section Cols
variable (h : Vec Ideal S8192x12288 .f32) (f : Vec Ideal S4x4096 .f32) (b : Vec Ideal S1x4096 .f32) (J : Fin 4096) (R : Fin 8192)

/-- Lane `J` of the convolution's input. -/
def lane (J : Fin 4096) : Fin 12288 := ⟨8192 + J.val, by have := J.isLt; omega⟩
theorem lane_val (J : Fin 4096) : (lane J).val = 8192 + J.val := rfl
def xx : EReal := h (ix2 R (lane J))
def xCol : Nat → EReal := ext fun R => xx h J R
def wt : Fin 4 → EReal := fun k => f (ix2 k J)
def bi : EReal := b (ix2 0 J)
/-- The convolution with its bias. -/
def conv : EReal :=
  wt f J 3 * xCol h J R.val + wt f J 2 * late 1 (xCol h J) R.val + wt f J 1 * late 2 (xCol h J) R.val
    + wt f J 0 * late 3 (xCol h J) R.val + bi b J
def act : EReal := conv h f b J R * sg (conv h f b J R)
end Cols

/-! ### The rows three earlier -/

theorem back3_at (X : Vec Ideal S256x512 .f32) (H : Vec Ideal S8x512 .f32) (r : Fin 256) (j : Fin 512) :
    back (F := Ideal) 3#32 X H (ix2 r j) =
    if h : r.val < 3 then H (ix2 ⟨r.val + 5, by omega⟩ j) else X (ix2 ⟨r.val - 3, by omega⟩ j) := by
  pointwise [back]
  by_cases h : r.val < 8
  · refine (dif_pos h).trans ((slt_word r.val 3 r.isLt (by decide) _ _).trans ?_)
    by_cases h2 : r.val < 3
    · rw [if_pos h2, dif_pos h2]; exact row_eq j _ (by dsimp only; omega)
    · rw [if_neg h2, dif_neg h2]; exact row_eq j _ (by dsimp only; omega)
  · rw [dif_neg h, dif_neg (by omega)]; exact row_eq j _ (by dsimp only; omega)
theorem back3_col (b : Nat) (X : Vec Ideal S256x512 .f32) (H : Vec Ideal S8x512 .f32) (c : Nat → EReal) (j : Fin 512) (r : Fin 256)
    (hX : ∀ r : Fin 256, X (ix2 r j) = c (256 * b + r.val))
    (hH : ∀ q : Fin 8, H (ix2 q j) = if b = 0 then 0 else c (256 * b - 8 + q.val)) :
    back (F := Ideal) 3#32 X H (ix2 r j) = late 3 c (256 * b + r.val) := by
  rw [back3_at, late]
  by_cases h : r.val < 3
  · rw [dif_pos h, hH]
    by_cases hb : b = 0
    · rw [if_pos hb, if_neg (by omega)]
    · rw [if_neg hb, if_pos (by omega)]; congr 1; dsimp only; omega
  · rw [dif_neg h, hX, if_pos (by omega)]; congr 1; dsimp only; omega

/-! ### A point's values at an index -/

section Pay
variable (i : grid0.Coords) (x0 : Vec Ideal S256x512 .f32) (x1 : Vec Ideal S8x512 .f32) (x2 : Vec Ideal S4x512 .f32)
  (x3 : Vec Ideal S1x512 .f32) (r : Fin 256) (q : Fin 8) (j : Fin 512)

/-- The block's convolution with its bias. -/
def tConv : FVec Ideal S256x512 .f32 :=
  addf (addf (addf (addf (mulf (broadcastTo S256x512 (extractStridedSlice S1x512 ![3, 0] x2 slices_S4x512_o3_0_S1x512) broadcasts_S1x512_S256x512) x0)
    (mulf (broadcastTo S256x512 (extractStridedSlice S1x512 ![2, 0] x2 slices_S4x512_o2_0_S1x512) broadcasts_S1x512_S256x512)
      (back (F := Ideal) 1#32 x0 (k0_pay2 i x1))))
    (mulf (broadcastTo S256x512 (extractStridedSlice S1x512 ![1, 0] x2 slices_S4x512_o1_0_S1x512) broadcasts_S1x512_S256x512)
      (back (F := Ideal) 2#32 x0 (k0_pay2 i x1))))
    (mulf (broadcastTo S256x512 (extractStridedSlice S1x512 ![0, 0] x2 slices_S4x512_o0_0_S1x512) broadcasts_S1x512_S256x512)
      (back (F := Ideal) 3#32 x0 (k0_pay2 i x1))))
    (broadcastTo S256x512 x3 broadcasts_S1x512_S256x512)

/-- The block's result. -/
def tOut : FVec Ideal S256x512 .f32 := mulf (tConv i x0 x1 x2 x3) (logistic (tConv i x0 x1 x2 x3))

theorem out_at : out0_4 i x0 x1 x2 x3 = tOut i x0 x1 x2 x3 := by
  unfold out0_4
  rw [View.canon_unit_zero hz2]
  simp only [View.ld_unit_zero (S := S256x512) hz2, View.ld_unit_zero (S := S8x512) hz2, View.ld_unit_zero (S := S4x512) hz2,
    View.ld_unit_zero (S := S1x512) hz2]
  rfl

theorem halo_at : k0_pay2 i x1 (ix2 q j) = if (i 1).val = 0 then 0 else x1 (ix2 q j) := by
  pointwise [k0_pay2]
  have hi : (i 1).val < 32 := (i 1).isLt
  have e : (0#32).slt (BitVec.ofNat 32 (i 1).val) = decide (0 < (i 1).val) := by
    rw [BitVec.slt_eq_decide, decide_eq_decide, BitVec.toInt_eq_toNat_of_lt, BitVec.toInt_eq_toNat_of_lt] <;>
      simp only [BitVec.toNat_ofNat] <;> omega
  by_cases h : (i 1).val = 0
  · simp [Scalar.select, Scalar.cmpi, IntOp.cmpi, h]
  · simp [Scalar.select, Scalar.cmpi, IntOp.cmpi, h, e, Nat.pos_of_ne_zero h]
theorem tConv_at : tConv i x0 x1 x2 x3 (ix2 r j) =
    x2 (ix2 3 j) * x0 (ix2 r j) + x2 (ix2 2 j) * back (F := Ideal) 1#32 x0 (k0_pay2 i x1) (ix2 r j)
      + x2 (ix2 1 j) * back (F := Ideal) 2#32 x0 (k0_pay2 i x1) (ix2 r j)
      + x2 (ix2 0 j) * back (F := Ideal) 3#32 x0 (k0_pay2 i x1) (ix2 r j) + x3 (ix2 0 j) := by
  pointwise [tConv]
theorem tOut_at : tOut i x0 x1 x2 x3 (ix2 r j) = tConv i x0 x1 x2 x3 (ix2 r j) * sg (tConv i x0 x1 x2 x3 (ix2 r j)) := by
  pointwise [tOut]
  rw [sg_eq]
end Pay

/-! ### The blocks -/

variable (m : (ℓ : Loc nD τ sig) → Buf (Elt Ideal) ℓ) (c : Dev nD)

abbrev aH : Vec Ideal S8192x12288 .f32 := m ((c : Thread nD τ).loc main_arg0)
abbrev aF : Vec Ideal S4x4096 .f32 := m ((c : Thread nD τ).loc main_arg1)
abbrev aB : Vec Ideal S1x4096 .f32 := m ((c : Thread nD τ).loc main_arg2)

/-- Row `r` and lane `j` of the point's block, and the eight rows before it (of the first block, its own first eight). -/
def rowT (t : Fin cfg0.N) (r : Fin 256) : Fin 8192 := ⟨256 * (t.val % 32) + r.val, by have := r.isLt; omega⟩
theorem rowT_val (t : Fin cfg0.N) (r : Fin 256) : (rowT t r).val = 256 * (t.val % 32) + r.val := rfl
def col (t : Fin cfg0.N) (j : Fin 512) : Fin 4096 :=
  ⟨512 * (t.val / 32) + j.val, by have := j.isLt; have h : t.val < 256 := N_0 ▸ t.isLt; omega⟩
theorem col_val (t : Fin cfg0.N) (j : Fin 512) : (col t j).val = 512 * (t.val / 32) + j.val := rfl
def rowH (t : Fin cfg0.N) (q : Fin 8) : Fin 8192 := ⟨8 * (t.val % 32 * 32 - 1) + q.val, by have := q.isLt; omega⟩
theorem rowH_val (t : Fin cfg0.N) (q : Fin 8) : (rowH t q).val = 8 * (t.val % 32 * 32 - 1) + q.val := rfl

theorem coord1 : ∀ t : Fin cfg0.N, (grid0.coords t 1).val = t.val % 32 := (by decide +kernel : ∀ t : Fin grid0.N, _)
theorem e0 : ∀ t : Fin cfg0.N, win0_0.index t = ![t.val % 32, 16 + t.val / 32] := (by decide +kernel : ∀ t : Fin grid0.N, _)
theorem e1 : ∀ t : Fin cfg0.N, win0_1.index t = ![t.val % 32 * 32 - 1, 16 + t.val / 32] := (by decide +kernel : ∀ t : Fin grid0.N, _)
theorem e2 : ∀ t : Fin cfg0.N, win0_2.index t = ![0, t.val / 32] := (by decide +kernel : ∀ t : Fin grid0.N, _)
theorem e3 : ∀ t : Fin cfg0.N, win0_3.index t = ![0, t.val / 32] := (by decide +kernel : ∀ t : Fin grid0.N, _)
theorem e4 : ∀ t : Fin cfg0.N, win0_4.index t = ![t.val % 32, t.val / 32] := (by decide +kernel : ∀ t : Fin grid0.N, _)
theorem f4 : ∀ t : Fin cfg0.N, (cfg0.win 4).flush t = true := (by decide +kernel : ∀ t : Fin grid0.N, _)

theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (Fin.ext (by
    have h' : (![t.val % 32, t.val / 32] : Fin 2 → Nat) = ![t'.val % 32, t'.val / 32] := (e4 t).symm.trans (h.trans (e4 t'))
    have h0 : t.val % 32 = t'.val % 32 := congrFun h' 0
    have h1 : t.val / 32 = t'.val / 32 := congrFun h' 1
    omega))

theorem blk0 (t : Fin cfg0.N) (r : Fin 256) (j : Fin 512) :
    (iblk m c 0 t : Vec Ideal S256x512 .f32) (ix2 r j) = xx (aH m c) (col t j) (rowT t r) := by
  show _ = m ((c : Thread nD τ).loc main_arg0) (ix2 (rowT t r) (lane (col t j)))
  unfold iblk
  blk_simp
  show V m c main_arg0 _ = _
  rw [V_main_arg0]
  congr 1
  blk_ext [e0, rowT_val, lane_val, col_val]
theorem blk1 (t : Fin cfg0.N) (q : Fin 8) (j : Fin 512) :
    (iblk m c 1 t : Vec Ideal S8x512 .f32) (ix2 q j) = xx (aH m c) (col t j) (rowH t q) := by
  show _ = m ((c : Thread nD τ).loc main_arg0) (ix2 (rowH t q) (lane (col t j)))
  unfold iblk
  blk_simp
  show V m c main_arg0 _ = _
  rw [V_main_arg0]
  congr 1
  blk_ext [e1, rowH_val, lane_val, col_val]
theorem blk2 (t : Fin cfg0.N) (k : Fin 4) (j : Fin 512) :
    (iblk m c 2 t : Vec Ideal S4x512 .f32) (ix2 k j) = wt (aF m c) (col t j) k := by
  show _ = m ((c : Thread nD τ).loc main_arg1) (ix2 k (col t j))
  unfold iblk
  blk_simp
  show V m c main_arg1 _ = _
  rw [V_main_arg1]
  congr 1
  blk_ext [e2, col_val]
theorem blk3 (t : Fin cfg0.N) (j : Fin 512) :
    (iblk m c 3 t : Vec Ideal S1x512 .f32) (ix2 0 j) = bi (aB m c) (col t j) := by
  show _ = m ((c : Thread nD τ).loc main_arg2) (ix2 0 (col t j))
  unfold iblk
  blk_simp
  show V m c main_arg2 _ = _
  rw [V_main_arg2]
  congr 1
  blk_ext [e3, col_val]

/-! ### The result, entry by entry -/

theorem x_blk (t : Fin cfg0.N) (j : Fin 512) (r : Fin 256) :
    (iblk m c 0 t : Vec Ideal S256x512 .f32) (ix2 r j) = xCol (aH m c) (col t j) (256 * (t.val % 32) + r.val) :=
  (blk0 m c t r j).trans (ext_at (fun R => xx (aH m c) (col t j) R) (rowT t r)).symm
theorem halo_blk (t : Fin cfg0.N) (j : Fin 512) (q : Fin 8) :
    k0_pay2 (grid0.coords t) (iblk m c 1 t) (ix2 q j)
      = if t.val % 32 = 0 then 0 else xCol (aH m c) (col t j) (256 * (t.val % 32) - 8 + q.val) := by
  refine (halo_at ..).trans ?_
  rw [coord1, blk1]
  by_cases h : t.val % 32 = 0
  · rw [if_pos h, if_pos h]
  · rw [if_neg h, if_neg h, show 256 * (t.val % 32) - 8 + q.val = (rowH t q).val by rw [rowH_val]; omega]
    exact (ext_at (fun R => xx (aH m c) (col t j) R) (rowH t q)).symm
theorem conv_blk (t : Fin cfg0.N) (j : Fin 512) (r : Fin 256) :
    tConv (grid0.coords t) (iblk m c 0 t) (iblk m c 1 t) (iblk m c 2 t) (iblk m c 3 t) (ix2 r j)
      = conv (aH m c) (aF m c) (aB m c) (col t j) (rowT t r) := by
  refine (tConv_at ..).trans ?_
  rw [back1_col (t.val % 32) _ _ (xCol (aH m c) (col t j)) j r (x_blk m c t j) (halo_blk m c t j),
    back2_col (t.val % 32) _ _ (xCol (aH m c) (col t j)) j r (x_blk m c t j) (halo_blk m c t j),
    back3_col (t.val % 32) _ _ (xCol (aH m c) (col t j)) j r (x_blk m c t j) (halo_blk m c t j), x_blk, blk2, blk2, blk2, blk2, blk3]
  rfl

theorem arr (R : Fin 8192) (J : Fin 4096) :
    ((dats m 0 c).arrAt 4 cfg0.N : Vec Ideal S8192x4096 .f32) (ix2 R J) = act (aH m c) (aF m c) (aB m c) J R := by
  have hN : cfg0.N = 256 := N_0
  have ht : J.val / 512 * 32 + R.val / 256 < cfg0.N := by omega
  have h := (dats m 0 c).arrAt_emb_eq_flushed 4 disjoint4 ⟨_, ht⟩ (f4 _)
    (ix2 ⟨R.val % 256, by omega⟩ ⟨J.val % 512, by omega⟩ : S256x512.Idx)
  have e : ((cfg0.win 4).blk ⟨_, ht⟩).view.emb (ix2 ⟨R.val % 256, by omega⟩ ⟨J.val % 512, by omega⟩ : S256x512.Idx)
      = (ix2 R J : S8192x4096.Idx) := by
    blk_ext [e4]
  rw [e] at h
  refine h.trans ?_
  rw [Cert.SsdConvFwdIdeal.Value.flushed4, out_at]
  refine (tOut_at ..).trans ?_
  rw [conv_blk]
  exact congrArg₂ (act (aH m c) (aF m c) (aB m c)) (Fin.ext (by rw [col_val]; dsimp only; omega)) (Fin.ext (by rw [rowT_val]; dsimp only; omega))

/-! ### The reference -/

section Ref
open Cert.SsdConvFwdReferenceIdeal.Read
variable (h : Vec Ideal S8192x12288 .f32) (f : Vec Ideal S4x4096 .f32) (b : Vec Ideal S1x4096 .f32) (R : Fin 8192) (J : Fin 4096)

theorem v0_at : val_main_v0 (F := Ideal) h (ix2 R J) = xx h J R := by
  pointwise [val_main_v0]
  exact congrArg (fun a => h (ix2 R a)) (Fin.ext (by simp [lane]))
/-- The column with three zeros before it. -/
theorem v2_at (n : Fin 8195) : val_main_v2 (F := Ideal) h (ix2 n J) = if 3 ≤ n.val then xCol h J (n.val - 3) else 0 := by
  pointwise [val_main_v2, val_main_v1, val_main_cst]
  by_cases h3 : n.val < 3
  · exact (dif_pos h3).trans (if_neg (by omega)).symm
  · refine (dif_neg h3).trans ((v0_at h _ J).trans (Eq.trans ?_ (if_pos (by omega)).symm))
    exact (ext_at (fun R => xx h J R) ⟨n.val - 3, by omega⟩).symm
theorem v4_at : val_main_v4 (F := Ideal) h (ix2 R J) = late 3 (xCol h J) R.val := by
  pointwise [val_main_v4]
  exact v2_at h J _
theorem v8_at : val_main_v8 (F := Ideal) h (ix2 R J) = late 2 (xCol h J) R.val := by
  pointwise [val_main_v8]
  refine (v2_at h J _).trans ?_
  rw [late]
  by_cases h2 : 2 ≤ R.val
  · rw [if_pos h2, if_pos (by dsimp only; omega)]; congr 1; dsimp only; omega
  · rw [if_neg h2, if_neg (by dsimp only; omega)]
theorem v13_at : val_main_v13 (F := Ideal) h (ix2 R J) = late 1 (xCol h J) R.val := by
  pointwise [val_main_v13]
  refine (v2_at h J _).trans ?_
  rw [late]
  by_cases h2 : 1 ≤ R.val
  · rw [if_pos h2, if_pos (by dsimp only; omega)]; congr 1; dsimp only; omega
  · rw [if_neg h2, if_neg (by dsimp only; omega)]
theorem v18_at : val_main_v18 (F := Ideal) h (ix2 R J) = xCol h J R.val := by
  pointwise [val_main_v18]
  refine (v2_at h J _).trans ((if_pos (by dsimp only; omega)).trans ?_)
  congr 1
  dsimp only
  omega
theorem v23_at : val_main_v23 (F := Ideal) h f b (ix2 R J) = conv h f b J R := by
  pointwise [val_main_v23, val_main_v22, val_main_v21, val_main_v20, val_main_v19, val_main_v17, val_main_v16, val_main_v15, val_main_v14,
    val_main_v12, val_main_v11, val_main_v10, val_main_v9, val_main_v7, val_main_v6, val_main_v5, val_main_v3]
  rw [v4_at, v8_at, v13_at, v18_at]
  unfold conv
  refine congrArg (fun a : EReal => a + _) ?_
  show wt f J 0 * _ + wt f J 1 * _ + wt f J 2 * _ + wt f J 3 * _ = _
  abel
theorem v24_at : val_main_v24 (F := Ideal) h f b (ix2 R J) = act h f b J R := by
  pointwise [val_main_v24, val_main_call0_v5, val_main_call0_v4, val_main_call0_v3, val_main_call0_v2, val_main_call0_v1, val_main_call0_v0,
    val_main_call0_cst, val_main_call0_cst_0]
  rw [v23_at]
  rfl

theorem same : ((dats m 0 c).arrAt 4 cfg0.N : Vec Ideal S8192x4096 .f32)
    = val_main_v24 (F := Ideal) (m ((c : Thread nD τ).loc main_arg0)) (m ((c : Thread nD τ).loc main_arg1)) (m ((c : Thread nD τ).loc main_arg2)) := by
  funext i
  obtain ⟨R, J, rfl⟩ : ∃ (a : Fin 8192) (b : Fin 4096), i = ix2 a b := ⟨i 0, i 1, eq_ix2 i⟩
  exact (arr m c R J).trans (v24_at _ _ _ R J).symm

theorem frame_reference : Cert.quiescent_SsdConvFwdReferenceIdeal := fun m ρ _ =>
  (θ_run Cert.SsdConvFwdReferenceIdeal.defs _ _).mono (fun r h => ⟨fun c => (h c).2, sem_eq_zero_of_no_sems (by decide) r.2⟩)
    (Cert.SsdConvFwdReferenceIdeal.Value.run (F := Ideal) m ρ)

/-- Kernel and reference end with the same array. -/
theorem algebraic : Cert.algebraic_SsdConvFwdIdeal_SsdConvFwdReferenceIdeal := by
  intro m ρ m' ρ' _ ha
  refine ⟨fun c => (dats m 0 c).arrAt 4 cfg0.N, Cert.SsdConvFwdIdeal.Value.run_blocks (F := Ideal) m ρ, ?_⟩
  refine (θ_run Cert.SsdConvFwdReferenceIdeal.defs _ _).mono (fun _ h c => ⟨?_, (h c).2⟩) (Cert.SsdConvFwdReferenceIdeal.Value.run (F := Ideal) m' ρ')
  refine (h c).1.trans ((val_main_v24_eq _ _).trans ?_)
  rw [(ha c).1, (ha c).2.1, (ha c).2.2]
  exact (same m c).symm
end Ref

end Cert.SsdConvFwdValue

end
-- ==== Proof.Adam.lean ====
/-
  The update of a weight from its summed gradient. Kernel and reference apply the same operations to each entry, in the
  same order, so that one entry's result is the other's by the definitions: for the three shapes the weights have.
-/
module

public import proofs.«01_k».proof.Defs
public import proofs.«01_k».proof.Proof.Gen.AdamOutIdeal.Value
public import proofs.«01_k».proof.Proof.Gen.AdamOutReferenceIdeal.Run
public import proofs.«01_k».proof.Proof.Gen.AdamOutReferenceIdeal.Read
public import proofs.«01_k».proof.Proof.Gen.AdamInIdeal.Value
public import proofs.«01_k».proof.Proof.Gen.AdamInReferenceIdeal.Run
public import proofs.«01_k».proof.Proof.Gen.AdamInReferenceIdeal.Read
public import proofs.«01_k».proof.Proof.Gen.AdamRowIdeal.Value
public import proofs.«01_k».proof.Proof.Gen.AdamRowReferenceIdeal.Run
public import proofs.«01_k».proof.Proof.Gen.AdamRowReferenceIdeal.Read
public import Idealize.ShloMosaic.Lib.Quiescent

@[expose] public section

noncomputable section

namespace Cert.AdamValue

open Idealize.ShloMosaic Idealize.ShloMosaic.TcCoe Idealize.SL.Sem

/-! ### The weight of an output projection -/

section Out
open Cert.AdamOutIdeal Cert.AdamOutIdeal.Value Cert.AdamOutReferenceIdeal.Read
variable (w g m v : Vec Ideal S1024x2048 .f32)

theorem out_delta : G4 (F := Ideal) g m v w = val_main_v23 w g m v := funext fun _ => rfl
theorem out_m : G5 (F := Ideal) g m = val_main_v4 g m := funext fun _ => rfl
theorem out_v : G6 (F := Ideal) g v = val_main_v10 g v := funext fun _ => rfl

theorem frame_out_reference : Cert.quiescent_AdamOutReferenceIdeal := fun m ρ _ =>
  (θ_run Cert.AdamOutReferenceIdeal.defs _ _).mono (fun r h => ⟨fun c => (h c).2.2.2, sem_eq_zero_of_no_sems (by decide) r.2⟩)
    (Cert.AdamOutReferenceIdeal.Value.run (F := Ideal) m ρ)

theorem out_algebraic : Cert.algebraic_AdamOutIdeal_AdamOutReferenceIdeal := by
  intro m ρ m' ρ' _ ha
  refine ⟨_, _, _, Cert.AdamOutIdeal.Value.run (F := Ideal) m ρ, ?_⟩
  refine (θ_run Cert.AdamOutReferenceIdeal.defs _ _).mono (fun _ h c => ?_) (Cert.AdamOutReferenceIdeal.Value.run (F := Ideal) m' ρ')
  obtain ⟨h0, h1, h2, hk⟩ := h c
  obtain ⟨e0, e1, e2, e3⟩ := ha c
  refine ⟨(h0.trans (val_main_v23_eq ..)).trans ?_, (h1.trans (val_main_v4_eq ..)).trans ?_, (h2.trans (val_main_v10_eq ..)).trans ?_, hk⟩
  · rw [e0, e1, e2, e3]; exact (out_delta _ _ _ _).symm
  · rw [e1, e2]; exact (out_m _ _).symm
  · rw [e1, e3]; exact (out_v _ _).symm
end Out

/-! ### The weight of an input projection -/

section In
open Cert.AdamInIdeal Cert.AdamInIdeal.Value Cert.AdamInReferenceIdeal.Read
variable (w g m v : Vec Ideal S2048x4096 .f32)

theorem in_delta : G4 (F := Ideal) g m v w = val_main_v23 w g m v := funext fun _ => rfl
theorem in_m : G5 (F := Ideal) g m = val_main_v4 g m := funext fun _ => rfl
theorem in_v : G6 (F := Ideal) g v = val_main_v10 g v := funext fun _ => rfl

theorem frame_in_reference : Cert.quiescent_AdamInReferenceIdeal := fun m ρ _ =>
  (θ_run Cert.AdamInReferenceIdeal.defs _ _).mono (fun r h => ⟨fun c => (h c).2.2.2, sem_eq_zero_of_no_sems (by decide) r.2⟩)
    (Cert.AdamInReferenceIdeal.Value.run (F := Ideal) m ρ)

theorem in_algebraic : Cert.algebraic_AdamInIdeal_AdamInReferenceIdeal := by
  intro m ρ m' ρ' _ ha
  refine ⟨_, _, _, Cert.AdamInIdeal.Value.run (F := Ideal) m ρ, ?_⟩
  refine (θ_run Cert.AdamInReferenceIdeal.defs _ _).mono (fun _ h c => ?_) (Cert.AdamInReferenceIdeal.Value.run (F := Ideal) m' ρ')
  obtain ⟨h0, h1, h2, hk⟩ := h c
  obtain ⟨e0, e1, e2, e3⟩ := ha c
  refine ⟨(h0.trans (val_main_v23_eq ..)).trans ?_, (h1.trans (val_main_v4_eq ..)).trans ?_, (h2.trans (val_main_v10_eq ..)).trans ?_, hk⟩
  · rw [e0, e1, e2, e3]; exact (in_delta _ _ _ _).symm
  · rw [e1, e2]; exact (in_m _ _).symm
  · rw [e1, e3]; exact (in_v _ _).symm
end In

/-! ### A weight of one row -/

section Row
open Cert.AdamRowIdeal Cert.AdamRowIdeal.Value Cert.AdamRowReferenceIdeal.Read
variable (w g m v : Vec Ideal S1x2048 .f32)

theorem row_delta : G4 (F := Ideal) g m v w = val_main_v23 w g m v := funext fun _ => rfl
theorem row_m : G5 (F := Ideal) g m = val_main_v4 g m := funext fun _ => rfl
theorem row_v : G6 (F := Ideal) g v = val_main_v10 g v := funext fun _ => rfl

theorem frame_row_reference : Cert.quiescent_AdamRowReferenceIdeal := fun m ρ _ =>
  (θ_run Cert.AdamRowReferenceIdeal.defs _ _).mono (fun r h => ⟨fun c => (h c).2.2.2, sem_eq_zero_of_no_sems (by decide) r.2⟩)
    (Cert.AdamRowReferenceIdeal.Value.run (F := Ideal) m ρ)

theorem row_algebraic : Cert.algebraic_AdamRowIdeal_AdamRowReferenceIdeal := by
  intro m ρ m' ρ' _ ha
  refine ⟨_, _, _, Cert.AdamRowIdeal.Value.run (F := Ideal) m ρ, ?_⟩
  refine (θ_run Cert.AdamRowReferenceIdeal.defs _ _).mono (fun _ h c => ?_) (Cert.AdamRowReferenceIdeal.Value.run (F := Ideal) m' ρ')
  obtain ⟨h0, h1, h2, hk⟩ := h c
  obtain ⟨e0, e1, e2, e3⟩ := ha c
  refine ⟨(h0.trans (val_main_v23_eq ..)).trans ?_, (h1.trans (val_main_v4_eq ..)).trans ?_, (h2.trans (val_main_v10_eq ..)).trans ?_, hk⟩
  · rw [e0, e1, e2, e3]; exact (row_delta _ _ _ _).symm
  · rw [e1, e2]; exact (row_m _ _).symm
  · rw [e1, e3]; exact (row_v _ _).symm
end Row

end Cert.AdamValue

end
-- ==== Proof.lean ====
/- The claims put together: of each program its frames, its idealization, and its equality with the reference. -/
module

public import proofs.«01_k».proof.Proof.Gen.NormBwdIdeal.Value
public import proofs.«01_k».proof.Proof.Gen.NormBwdReferenceIdeal.Run
public import proofs.«01_k».proof.Proof.Gen.NormBwdReferenceIdeal.Read
public import proofs.«01_k».proof.Proof.Gen.NormBwd.Frame
public import proofs.«01_k».proof.Proof.Gen.On_all_but_dz
public import proofs.«01_k».proof.Proof.Gen.Pre_finite
public import proofs.«01_k».proof.Proof.NormBwd
public import proofs.«01_k».proof.Proof.SconvBits
public import proofs.«01_k».proof.Proof.SconvBwd
public import proofs.«01_k».proof.Proof.Gen.SconvBwdReferenceIdeal.Run
public import proofs.«01_k».proof.Proof.Gen.SconvBwdReferenceIdeal.Read
public import proofs.«01_k».proof.Defs
public import proofs.«01_k».proof.Proof.OutDw
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.On_uvz_columns
public import proofs.«01_k».proof.Proof.Gen.NormFwdIdeal.Value
public import proofs.«01_k».proof.Proof.Gen.NormFwdReferenceIdeal.Run
public import proofs.«01_k».proof.Proof.Gen.NormFwdReferenceIdeal.Read
public import proofs.«01_k».proof.Proof.Gen.NormFwd.Frame
public import proofs.«01_k».proof.Proof.Gen.SconvFwdIdeal.Value
public import proofs.«01_k».proof.Proof.Gen.SconvFwdReferenceIdeal.Run
public import proofs.«01_k».proof.Proof.Gen.SconvFwdReferenceIdeal.Read
public import proofs.«01_k».proof.Proof.Gen.SconvFwd.Frame
public import proofs.«01_k».proof.Proof.Gen.GmlpFwdIdeal.Value
public import proofs.«01_k».proof.Proof.Gen.GmlpFwdReferenceIdeal.Run
public import proofs.«01_k».proof.Proof.Gen.GmlpFwdReferenceIdeal.Read
public import proofs.«01_k».proof.Proof.Gen.GmlpFwd.Frame
public import proofs.«01_k».proof.Proof.Gen.SsdConvFwdIdeal.Value
public import proofs.«01_k».proof.Proof.Gen.SsdConvFwdReferenceIdeal.Run
public import proofs.«01_k».proof.Proof.Gen.SsdConvFwdReferenceIdeal.Read
public import proofs.«01_k».proof.Proof.Gen.SsdConvFwd.Frame
public import proofs.«01_k».proof.Proof.Gen.AdamOutIdeal.Value
public import proofs.«01_k».proof.Proof.Gen.AdamOutReferenceIdeal.Run
public import proofs.«01_k».proof.Proof.Gen.AdamOutReferenceIdeal.Read
public import proofs.«01_k».proof.Proof.Gen.AdamOut.Frame
public import proofs.«01_k».proof.Proof.Gen.AdamInIdeal.Value
public import proofs.«01_k».proof.Proof.Gen.AdamInReferenceIdeal.Run
public import proofs.«01_k».proof.Proof.Gen.AdamInReferenceIdeal.Read
public import proofs.«01_k».proof.Proof.Gen.AdamIn.Frame
public import proofs.«01_k».proof.Proof.Gen.AdamRowIdeal.Value
public import proofs.«01_k».proof.Proof.Gen.AdamRowReferenceIdeal.Run
public import proofs.«01_k».proof.Proof.Gen.AdamRowReferenceIdeal.Read
public import proofs.«01_k».proof.Proof.Gen.AdamRow.Frame
public import proofs.«01_k».proof.Proof.Gradient
public import proofs.«01_k».proof.Proof.OddInDw
public import proofs.«01_k».proof.Proof.Gen.OddInDw.Frame
public import proofs.«01_k».proof.Proof.EvenInDw
public import proofs.«01_k».proof.Proof.Gen.EvenInDw.Frame
public import proofs.«01_k».proof.Proof.OutDy
public import proofs.«01_k».proof.Proof.Gen.OutDy.Frame
public import proofs.«01_k».proof.Proof.OddIn
public import proofs.«01_k».proof.Proof.Gen.OddIn.Frame
public import proofs.«01_k».proof.Proof.Out
public import proofs.«01_k».proof.Proof.Gen.Out.Frame
public import proofs.«01_k».proof.Proof.NormFwd
public import proofs.«01_k».proof.Proof.SconvFwd
public import proofs.«01_k».proof.Proof.GmlpFwd
public import proofs.«01_k».proof.Proof.SsdConvFwd
public import proofs.«01_k».proof.Proof.Adam
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
   Cert.OddInDw.Gen.facts, Cert.OddInDwIdeal.Gen.facts, Cert.OddInDwReferenceIdeal.Gen.facts,
   Cert.EvenInDw.Gen.facts, Cert.EvenInDwIdeal.Gen.facts, Cert.EvenInDwReferenceIdeal.Gen.facts,
   Cert.OutDw.Gen.facts, Cert.OutDwIdeal.Gen.facts, Cert.OutDwReferenceIdeal.Gen.facts,
   Cert.OutDy.Gen.facts, Cert.OutDyIdeal.Gen.facts, Cert.OutDyReferenceIdeal.Gen.facts,
   Cert.OddIn.Gen.facts, Cert.OddInIdeal.Gen.facts, Cert.OddInReferenceIdeal.Gen.facts,
   Cert.Out.Gen.facts, Cert.OutIdeal.Gen.facts, Cert.OutReferenceIdeal.Gen.facts,
   Cert.NormBwd.Gen.facts, Cert.NormBwdIdeal.Gen.facts, Cert.NormBwdReferenceIdeal.Gen.facts,
   Cert.SconvBwd.Gen.facts, Cert.SconvBwdIdeal.Gen.facts, Cert.SconvBwdReferenceIdeal.Gen.facts,
   Cert.NormFwd.Gen.facts, Cert.NormFwdIdeal.Gen.facts, Cert.NormFwdReferenceIdeal.Gen.facts,
   Cert.SconvFwd.Gen.facts, Cert.SconvFwdIdeal.Gen.facts, Cert.SconvFwdReferenceIdeal.Gen.facts,
   Cert.GmlpFwd.Gen.facts, Cert.GmlpFwdIdeal.Gen.facts, Cert.GmlpFwdReferenceIdeal.Gen.facts,
   Cert.SsdConvFwd.Gen.facts, Cert.SsdConvFwdIdeal.Gen.facts, Cert.SsdConvFwdReferenceIdeal.Gen.facts,
   Cert.AdamOut.Gen.facts, Cert.AdamOutIdeal.Gen.facts, Cert.AdamOutReferenceIdeal.Gen.facts,
   Cert.AdamIn.Gen.facts, Cert.AdamInIdeal.Gen.facts, Cert.AdamInReferenceIdeal.Gen.facts,
   Cert.AdamRow.Gen.facts, Cert.AdamRowIdeal.Gen.facts, Cert.AdamRowReferenceIdeal.Gen.facts,
   Cert.Pre_finite.Gen.facts, Cert.On_uvz_columns.Gen.facts, Cert.On_all_but_dz.Gen.facts,
   fun m ρ _ => Cert.Kernel.Gen.frame m ρ, fun m ρ _ => Cert.KernelIdeal.Gen.frame m ρ, Cert.Gradient.frame_reference,
   fun m ρ _ => Cert.OddInDw.Gen.frame m ρ, fun m ρ _ => Cert.OddInDwIdeal.Gen.frame m ρ, Cert.OddInDwValue.frame_reference,
   fun m ρ _ => Cert.EvenInDw.Gen.frame m ρ, fun m ρ _ => Cert.EvenInDwIdeal.Gen.frame m ρ, Cert.EvenInDwValue.frame_reference,
   Cert.OutDwValue.frame_kernel, Cert.OutDwValue.frame_ideal, Cert.OutDwValue.frame_reference,
   fun m ρ _ => Cert.OutDy.Gen.frame m ρ, fun m ρ _ => Cert.OutDyIdeal.Gen.frame m ρ, Cert.OutDyValue.frame_reference,
   fun m ρ _ => Cert.OddIn.Gen.frame m ρ, fun m ρ _ => Cert.OddInIdeal.Gen.frame m ρ, Cert.OddInValue.frame_reference,
   fun m ρ _ => Cert.Out.Gen.frame m ρ, fun m ρ _ => Cert.OutIdeal.Gen.frame m ρ, Cert.OutValue.frame_reference,
   fun m ρ _ => Cert.NormBwd.Gen.frame m ρ, fun m ρ _ => Cert.NormBwdIdeal.Gen.frame m ρ, Cert.NormBwdValue.frame_reference,
   Cert.SconvFrame.frame_kernel, Cert.SconvFrame.frame_ideal, fun m ρ _ => Cert.SconvFrame.frame m ρ,
   Cert.SconvValue.frame_reference, fun m ρ _ => Cert.SconvValue.frame_reference m ρ trivial,
   fun m ρ _ => Cert.NormFwd.Gen.frame m ρ, fun m ρ _ => Cert.NormFwdIdeal.Gen.frame m ρ, Cert.NormFwdValue.frame_reference,
   fun m ρ _ => Cert.SconvFwd.Gen.frame m ρ, fun m ρ _ => Cert.SconvFwdIdeal.Gen.frame m ρ, Cert.SconvFwdValue.frame_reference,
   fun m ρ _ => Cert.GmlpFwd.Gen.frame m ρ, fun m ρ _ => Cert.GmlpFwdIdeal.Gen.frame m ρ, Cert.GmlpFwdValue.frame_reference,
   fun m ρ _ => Cert.SsdConvFwd.Gen.frame m ρ, fun m ρ _ => Cert.SsdConvFwdIdeal.Gen.frame m ρ, Cert.SsdConvFwdValue.frame_reference,
   fun m ρ _ => Cert.AdamOut.Gen.frame m ρ, fun m ρ _ => Cert.AdamOutIdeal.Gen.frame m ρ, Cert.AdamValue.frame_out_reference,
   fun m ρ _ => Cert.AdamIn.Gen.frame m ρ, fun m ρ _ => Cert.AdamInIdeal.Gen.frame m ρ, Cert.AdamValue.frame_in_reference,
   fun m ρ _ => Cert.AdamRow.Gen.frame m ρ, fun m ρ _ => Cert.AdamRowIdeal.Gen.frame m ρ, Cert.AdamValue.frame_row_reference,
   trivial, Cert.Gradient.algebraic, trivial, Cert.OddInDwValue.algebraic, trivial, Cert.EvenInDwValue.algebraic,
   trivial, Cert.OutDwValue.algebraic, trivial, Cert.OutDyValue.algebraic,
   trivial, Cert.OddInValue.algebraic, trivial, Cert.OutValue.algebraic, trivial, Cert.NormBwdValue.algebraic,
   trivial, Cert.SconvValue.algebraic_but_dz, Cert.SconvValue.algebraic,
   trivial, Cert.NormFwdValue.algebraic, trivial, Cert.SconvFwdValue.algebraic,
   trivial, Cert.GmlpFwdValue.algebraic, trivial, Cert.SsdConvFwdValue.algebraic,
   trivial, Cert.AdamValue.out_algebraic, trivial, Cert.AdamValue.in_algebraic,
   trivial, Cert.AdamValue.row_algebraic⟩

end Cert.Proof

end
